-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def Pre_Gather [hPre_rows_in_table : Cert.Pre_rows_in_table.Facts] (m : (ℓ : Loc Cert.Gather.nD Cert.Gather.τ Cert.Gather.sig) → Buf (Elt Bits) ℓ) : Prop :=
  ∀ c : Dev Cert.Gather.nD,
    (Cert.Pre_rows_in_table.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_rows_in_table : Cert.Pre_rows_in_table.Facts] (m : (ℓ : Loc Cert.GatherIdeal.nD Cert.GatherIdeal.τ Cert.GatherIdeal.sig) → Buf (Elt Ideal) ℓ) : Prop :=
  ∀ c : Dev Cert.GatherIdeal.nD,
    (Cert.Pre_rows_in_table.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_RowsIdeal (m : (ℓ : Loc Cert.RowsIdeal.nD Cert.RowsIdeal.τ Cert.RowsIdeal.sig) → Buf (Elt Ideal) ℓ) : Prop :=
  True

def Pre_RowsIdeal_rows_in_table [hPre_rows_in_table : Cert.Pre_rows_in_table.Facts] (m : (ℓ : Loc Cert.RowsIdeal.nD Cert.RowsIdeal.τ Cert.RowsIdeal.sig) → Buf (Elt Ideal) ℓ) : Prop :=
  ∀ c : Dev Cert.RowsIdeal.nD,
    (Cert.Pre_rows_in_table.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1))) = (fun _ => 1#1)

def Pre_Network (m : (ℓ : Loc Cert.Network.nD Cert.Network.τ Cert.Network.sig) → Buf (Elt Bits) ℓ) : Prop :=
  True

def Pre_NetworkIdeal (m : (ℓ : Loc Cert.NetworkIdeal.nD Cert.NetworkIdeal.τ Cert.NetworkIdeal.sig) → Buf (Elt Ideal) ℓ) : Prop :=
  True

def Pre_HeadsIdeal (m : (ℓ : Loc Cert.HeadsIdeal.nD Cert.HeadsIdeal.τ Cert.HeadsIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_Gather [hGather : Cert.Gather.Facts] [hPre_rows_in_table : Cert.Pre_rows_in_table.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_rows_in_table : Cert.Pre_rows_in_table.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsIdeal_pre_rows_in_table [hRowsIdeal : Cert.RowsIdeal.Facts] [hPre_rows_in_table : Cert.Pre_rows_in_table.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal_rows_in_table m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_Network [hNetwork : Cert.Network.Facts] : Prop :=
  ∀ (m : (ℓ : Loc Cert.Network.nD Cert.Network.τ Cert.Network.sig) → Buf (Elt Bits) ℓ) (g : Dev Cert.Network.nD → PrngReg), Pre_Network m →
    θ_run (Cert.Network.defs (F := Bits)) (onTc (τ := Cert.Network.τ) (Cert.Network.main (F := Bits))) ⟨m, fun _ => 0, g⟩ (fun r => (∀ c : Dev Cert.Network.nD,
      r.2.mem ((c.tc : Thread Cert.Network.nD Cert.Network.τ).loc Cert.Network.main_arg0) = m ((c.tc : Thread Cert.Network.nD Cert.Network.τ).loc Cert.Network.main_arg0)
      ∧ r.2.mem ((c.tc : Thread Cert.Network.nD Cert.Network.τ).loc Cert.Network.main_arg1) = m ((c.tc : Thread Cert.Network.nD Cert.Network.τ).loc Cert.Network.main_arg1)
      ∧ r.2.mem ((c.tc : Thread Cert.Network.nD Cert.Network.τ).loc Cert.Network.main_arg2) = m ((c.tc : Thread Cert.Network.nD Cert.Network.τ).loc Cert.Network.main_arg2)
      ∧ r.2.mem ((c.tc : Thread Cert.Network.nD Cert.Network.τ).loc Cert.Network.main_arg3) = m ((c.tc : Thread Cert.Network.nD Cert.Network.τ).loc Cert.Network.main_arg3)
      ∧ r.2.mem ((c.tc : Thread Cert.Network.nD Cert.Network.τ).loc Cert.Network.main_arg4) = m ((c.tc : Thread Cert.Network.nD Cert.Network.τ).loc Cert.Network.main_arg4)
      ∧ r.2.mem ((c.tc : Thread Cert.Network.nD Cert.Network.τ).loc Cert.Network.main_arg5) = m ((c.tc : Thread Cert.Network.nD Cert.Network.τ).loc Cert.Network.main_arg5)
      ∧ r.2.mem ((c.tc : Thread Cert.Network.nD Cert.Network.τ).loc Cert.Network.main_arg6) = m ((c.tc : Thread Cert.Network.nD Cert.Network.τ).loc Cert.Network.main_arg6)
      ∧ r.2.mem ((c.tc : Thread Cert.Network.nD Cert.Network.τ).loc Cert.Network.main_arg7) = m ((c.tc : Thread Cert.Network.nD Cert.Network.τ).loc Cert.Network.main_arg7)
      ∧ r.2.mem ((c.tc : Thread Cert.Network.nD Cert.Network.τ).loc Cert.Network.main_arg8) = m ((c.tc : Thread Cert.Network.nD Cert.Network.τ).loc Cert.Network.main_arg8)
      ∧ r.2.mem ((c.tc : Thread Cert.Network.nD Cert.Network.τ).loc Cert.Network.main_arg9) = m ((c.tc : Thread Cert.Network.nD Cert.Network.τ).loc Cert.Network.main_arg9)
      ∧ r.2.mem ((c.tc : Thread Cert.Network.nD Cert.Network.τ).loc Cert.Network.main_arg10) = m ((c.tc : Thread Cert.Network.nD Cert.Network.τ).loc Cert.Network.main_arg10)
      ∧ r.2.mem ((c.tc : Thread Cert.Network.nD Cert.Network.τ).loc Cert.Network.main_arg11) = m ((c.tc : Thread Cert.Network.nD Cert.Network.τ).loc Cert.Network.main_arg11)
      ∧ r.2.mem ((c.tc : Thread Cert.Network.nD Cert.Network.τ).loc Cert.Network.main_arg12) = m ((c.tc : Thread Cert.Network.nD Cert.Network.τ).loc Cert.Network.main_arg12)
      ∧ r.2.mem ((c.tc : Thread Cert.Network.nD Cert.Network.τ).loc Cert.Network.main_arg13) = m ((c.tc : Thread Cert.Network.nD Cert.Network.τ).loc Cert.Network.main_arg13)
      ∧ r.2.mem ((c.tc : Thread Cert.Network.nD Cert.Network.τ).loc Cert.Network.main_arg14) = m ((c.tc : Thread Cert.Network.nD Cert.Network.τ).loc Cert.Network.main_arg14)
      ∧ r.2.mem ((c.tc : Thread Cert.Network.nD Cert.Network.τ).loc Cert.Network.main_arg15) = m ((c.tc : Thread Cert.Network.nD Cert.Network.τ).loc Cert.Network.main_arg15)
      ∧ r.2.mem ((c.tc : Thread Cert.Network.nD Cert.Network.τ).loc Cert.Network.main_arg16) = m ((c.tc : Thread Cert.Network.nD Cert.Network.τ).loc Cert.Network.main_arg16)
      ∧ r.2.mem ((c.tc : Thread Cert.Network.nD Cert.Network.τ).loc Cert.Network.main_arg17) = m ((c.tc : Thread Cert.Network.nD Cert.Network.τ).loc Cert.Network.main_arg17)
      ∧ r.2.mem ((c.tc : Thread Cert.Network.nD Cert.Network.τ).loc Cert.Network.main_arg18) = m ((c.tc : Thread Cert.Network.nD Cert.Network.τ).loc Cert.Network.main_arg18)
      ∧ r.2.mem ((c.tc : Thread Cert.Network.nD Cert.Network.τ).loc Cert.Network.main_arg19) = m ((c.tc : Thread Cert.Network.nD Cert.Network.τ).loc Cert.Network.main_arg19)
      ∧ r.2.mem ((c.tc : Thread Cert.Network.nD Cert.Network.τ).loc Cert.Network.main_arg20) = m ((c.tc : Thread Cert.Network.nD Cert.Network.τ).loc Cert.Network.main_arg20)
      ∧ r.2.mem ((c.tc : Thread Cert.Network.nD Cert.Network.τ).loc Cert.Network.main_arg21) = m ((c.tc : Thread Cert.Network.nD Cert.Network.τ).loc Cert.Network.main_arg21)
      ∧ r.2.mem ((c.tc : Thread Cert.Network.nD Cert.Network.τ).loc Cert.Network.main_arg22) = m ((c.tc : Thread Cert.Network.nD Cert.Network.τ).loc Cert.Network.main_arg22)
      ∧ r.2.mem ((c.tc : Thread Cert.Network.nD Cert.Network.τ).loc Cert.Network.main_arg23) = m ((c.tc : Thread Cert.Network.nD Cert.Network.τ).loc Cert.Network.main_arg23)
      ∧ r.2.mem ((c.tc : Thread Cert.Network.nD Cert.Network.τ).loc Cert.Network.main_arg24) = m ((c.tc : Thread Cert.Network.nD Cert.Network.τ).loc Cert.Network.main_arg24))
      ∧ r.2.sem = fun _ => 0)

def quiescent_NetworkIdeal [hNetworkIdeal : Cert.NetworkIdeal.Facts] : Prop :=
  ∀ (m : (ℓ : Loc Cert.NetworkIdeal.nD Cert.NetworkIdeal.τ Cert.NetworkIdeal.sig) → Buf (Elt Ideal) ℓ) (g : Dev Cert.NetworkIdeal.nD → PrngReg), Pre_NetworkIdeal m →
    θ_run (Cert.NetworkIdeal.defs (F := Ideal)) (onTc (τ := Cert.NetworkIdeal.τ) (Cert.NetworkIdeal.main (F := Ideal))) ⟨m, fun _ => 0, g⟩ (fun r => (∀ c : Dev Cert.NetworkIdeal.nD,
      r.2.mem ((c.tc : Thread Cert.NetworkIdeal.nD Cert.NetworkIdeal.τ).loc Cert.NetworkIdeal.main_arg0) = m ((c.tc : Thread Cert.NetworkIdeal.nD Cert.NetworkIdeal.τ).loc Cert.NetworkIdeal.main_arg0)
      ∧ r.2.mem ((c.tc : Thread Cert.NetworkIdeal.nD Cert.NetworkIdeal.τ).loc Cert.NetworkIdeal.main_arg1) = m ((c.tc : Thread Cert.NetworkIdeal.nD Cert.NetworkIdeal.τ).loc Cert.NetworkIdeal.main_arg1)
      ∧ r.2.mem ((c.tc : Thread Cert.NetworkIdeal.nD Cert.NetworkIdeal.τ).loc Cert.NetworkIdeal.main_arg2) = m ((c.tc : Thread Cert.NetworkIdeal.nD Cert.NetworkIdeal.τ).loc Cert.NetworkIdeal.main_arg2)
      ∧ r.2.mem ((c.tc : Thread Cert.NetworkIdeal.nD Cert.NetworkIdeal.τ).loc Cert.NetworkIdeal.main_arg3) = m ((c.tc : Thread Cert.NetworkIdeal.nD Cert.NetworkIdeal.τ).loc Cert.NetworkIdeal.main_arg3)
      ∧ r.2.mem ((c.tc : Thread Cert.NetworkIdeal.nD Cert.NetworkIdeal.τ).loc Cert.NetworkIdeal.main_arg4) = m ((c.tc : Thread Cert.NetworkIdeal.nD Cert.NetworkIdeal.τ).loc Cert.NetworkIdeal.main_arg4)
      ∧ r.2.mem ((c.tc : Thread Cert.NetworkIdeal.nD Cert.NetworkIdeal.τ).loc Cert.NetworkIdeal.main_arg5) = m ((c.tc : Thread Cert.NetworkIdeal.nD Cert.NetworkIdeal.τ).loc Cert.NetworkIdeal.main_arg5)
      ∧ r.2.mem ((c.tc : Thread Cert.NetworkIdeal.nD Cert.NetworkIdeal.τ).loc Cert.NetworkIdeal.main_arg6) = m ((c.tc : Thread Cert.NetworkIdeal.nD Cert.NetworkIdeal.τ).loc Cert.NetworkIdeal.main_arg6)
      ∧ r.2.mem ((c.tc : Thread Cert.NetworkIdeal.nD Cert.NetworkIdeal.τ).loc Cert.NetworkIdeal.main_arg7) = m ((c.tc : Thread Cert.NetworkIdeal.nD Cert.NetworkIdeal.τ).loc Cert.NetworkIdeal.main_arg7)
      ∧ r.2.mem ((c.tc : Thread Cert.NetworkIdeal.nD Cert.NetworkIdeal.τ).loc Cert.NetworkIdeal.main_arg8) = m ((c.tc : Thread Cert.NetworkIdeal.nD Cert.NetworkIdeal.τ).loc Cert.NetworkIdeal.main_arg8)
      ∧ r.2.mem ((c.tc : Thread Cert.NetworkIdeal.nD Cert.NetworkIdeal.τ).loc Cert.NetworkIdeal.main_arg9) = m ((c.tc : Thread Cert.NetworkIdeal.nD Cert.NetworkIdeal.τ).loc Cert.NetworkIdeal.main_arg9)
      ∧ r.2.mem ((c.tc : Thread Cert.NetworkIdeal.nD Cert.NetworkIdeal.τ).loc Cert.NetworkIdeal.main_arg10) = m ((c.tc : Thread Cert.NetworkIdeal.nD Cert.NetworkIdeal.τ).loc Cert.NetworkIdeal.main_arg10)
      ∧ r.2.mem ((c.tc : Thread Cert.NetworkIdeal.nD Cert.NetworkIdeal.τ).loc Cert.NetworkIdeal.main_arg11) = m ((c.tc : Thread Cert.NetworkIdeal.nD Cert.NetworkIdeal.τ).loc Cert.NetworkIdeal.main_arg11)
      ∧ r.2.mem ((c.tc : Thread Cert.NetworkIdeal.nD Cert.NetworkIdeal.τ).loc Cert.NetworkIdeal.main_arg12) = m ((c.tc : Thread Cert.NetworkIdeal.nD Cert.NetworkIdeal.τ).loc Cert.NetworkIdeal.main_arg12)
      ∧ r.2.mem ((c.tc : Thread Cert.NetworkIdeal.nD Cert.NetworkIdeal.τ).loc Cert.NetworkIdeal.main_arg13) = m ((c.tc : Thread Cert.NetworkIdeal.nD Cert.NetworkIdeal.τ).loc Cert.NetworkIdeal.main_arg13)
      ∧ r.2.mem ((c.tc : Thread Cert.NetworkIdeal.nD Cert.NetworkIdeal.τ).loc Cert.NetworkIdeal.main_arg14) = m ((c.tc : Thread Cert.NetworkIdeal.nD Cert.NetworkIdeal.τ).loc Cert.NetworkIdeal.main_arg14)
      ∧ r.2.mem ((c.tc : Thread Cert.NetworkIdeal.nD Cert.NetworkIdeal.τ).loc Cert.NetworkIdeal.main_arg15) = m ((c.tc : Thread Cert.NetworkIdeal.nD Cert.NetworkIdeal.τ).loc Cert.NetworkIdeal.main_arg15)
      ∧ r.2.mem ((c.tc : Thread Cert.NetworkIdeal.nD Cert.NetworkIdeal.τ).loc Cert.NetworkIdeal.main_arg16) = m ((c.tc : Thread Cert.NetworkIdeal.nD Cert.NetworkIdeal.τ).loc Cert.NetworkIdeal.main_arg16)
      ∧ r.2.mem ((c.tc : Thread Cert.NetworkIdeal.nD Cert.NetworkIdeal.τ).loc Cert.NetworkIdeal.main_arg17) = m ((c.tc : Thread Cert.NetworkIdeal.nD Cert.NetworkIdeal.τ).loc Cert.NetworkIdeal.main_arg17)
      ∧ r.2.mem ((c.tc : Thread Cert.NetworkIdeal.nD Cert.NetworkIdeal.τ).loc Cert.NetworkIdeal.main_arg18) = m ((c.tc : Thread Cert.NetworkIdeal.nD Cert.NetworkIdeal.τ).loc Cert.NetworkIdeal.main_arg18)
      ∧ r.2.mem ((c.tc : Thread Cert.NetworkIdeal.nD Cert.NetworkIdeal.τ).loc Cert.NetworkIdeal.main_arg19) = m ((c.tc : Thread Cert.NetworkIdeal.nD Cert.NetworkIdeal.τ).loc Cert.NetworkIdeal.main_arg19)
      ∧ r.2.mem ((c.tc : Thread Cert.NetworkIdeal.nD Cert.NetworkIdeal.τ).loc Cert.NetworkIdeal.main_arg20) = m ((c.tc : Thread Cert.NetworkIdeal.nD Cert.NetworkIdeal.τ).loc Cert.NetworkIdeal.main_arg20)
      ∧ r.2.mem ((c.tc : Thread Cert.NetworkIdeal.nD Cert.NetworkIdeal.τ).loc Cert.NetworkIdeal.main_arg21) = m ((c.tc : Thread Cert.NetworkIdeal.nD Cert.NetworkIdeal.τ).loc Cert.NetworkIdeal.main_arg21)
      ∧ r.2.mem ((c.tc : Thread Cert.NetworkIdeal.nD Cert.NetworkIdeal.τ).loc Cert.NetworkIdeal.main_arg22) = m ((c.tc : Thread Cert.NetworkIdeal.nD Cert.NetworkIdeal.τ).loc Cert.NetworkIdeal.main_arg22)
      ∧ r.2.mem ((c.tc : Thread Cert.NetworkIdeal.nD Cert.NetworkIdeal.τ).loc Cert.NetworkIdeal.main_arg23) = m ((c.tc : Thread Cert.NetworkIdeal.nD Cert.NetworkIdeal.τ).loc Cert.NetworkIdeal.main_arg23)
      ∧ r.2.mem ((c.tc : Thread Cert.NetworkIdeal.nD Cert.NetworkIdeal.τ).loc Cert.NetworkIdeal.main_arg24) = m ((c.tc : Thread Cert.NetworkIdeal.nD Cert.NetworkIdeal.τ).loc Cert.NetworkIdeal.main_arg24))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
      ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7)
      ∧ r.2.mem ((c.tc : Thread Cert.HeadsIdeal.nD Cert.HeadsIdeal.τ).loc Cert.HeadsIdeal.main_arg8) = m ((c.tc : Thread Cert.HeadsIdeal.nD Cert.HeadsIdeal.τ).loc Cert.HeadsIdeal.main_arg8)
      ∧ r.2.mem ((c.tc : Thread Cert.HeadsIdeal.nD Cert.HeadsIdeal.τ).loc Cert.HeadsIdeal.main_arg9) = m ((c.tc : Thread Cert.HeadsIdeal.nD Cert.HeadsIdeal.τ).loc Cert.HeadsIdeal.main_arg9)
      ∧ r.2.mem ((c.tc : Thread Cert.HeadsIdeal.nD Cert.HeadsIdeal.τ).loc Cert.HeadsIdeal.main_arg10) = m ((c.tc : Thread Cert.HeadsIdeal.nD Cert.HeadsIdeal.τ).loc Cert.HeadsIdeal.main_arg10)
      ∧ r.2.mem ((c.tc : Thread Cert.HeadsIdeal.nD Cert.HeadsIdeal.τ).loc Cert.HeadsIdeal.main_arg11) = m ((c.tc : Thread Cert.HeadsIdeal.nD Cert.HeadsIdeal.τ).loc Cert.HeadsIdeal.main_arg11)
      ∧ r.2.mem ((c.tc : Thread Cert.HeadsIdeal.nD Cert.HeadsIdeal.τ).loc Cert.HeadsIdeal.main_arg12) = m ((c.tc : Thread Cert.HeadsIdeal.nD Cert.HeadsIdeal.τ).loc Cert.HeadsIdeal.main_arg12)
      ∧ r.2.mem ((c.tc : Thread Cert.HeadsIdeal.nD Cert.HeadsIdeal.τ).loc Cert.HeadsIdeal.main_arg13) = m ((c.tc : Thread Cert.HeadsIdeal.nD Cert.HeadsIdeal.τ).loc Cert.HeadsIdeal.main_arg13)
      ∧ r.2.mem ((c.tc : Thread Cert.HeadsIdeal.nD Cert.HeadsIdeal.τ).loc Cert.HeadsIdeal.main_arg14) = m ((c.tc : Thread Cert.HeadsIdeal.nD Cert.HeadsIdeal.τ).loc Cert.HeadsIdeal.main_arg14)
      ∧ r.2.mem ((c.tc : Thread Cert.HeadsIdeal.nD Cert.HeadsIdeal.τ).loc Cert.HeadsIdeal.main_arg15) = m ((c.tc : Thread Cert.HeadsIdeal.nD Cert.HeadsIdeal.τ).loc Cert.HeadsIdeal.main_arg15)
      ∧ r.2.mem ((c.tc : Thread Cert.HeadsIdeal.nD Cert.HeadsIdeal.τ).loc Cert.HeadsIdeal.main_arg16) = m ((c.tc : Thread Cert.HeadsIdeal.nD Cert.HeadsIdeal.τ).loc Cert.HeadsIdeal.main_arg16)
      ∧ r.2.mem ((c.tc : Thread Cert.HeadsIdeal.nD Cert.HeadsIdeal.τ).loc Cert.HeadsIdeal.main_arg17) = m ((c.tc : Thread Cert.HeadsIdeal.nD Cert.HeadsIdeal.τ).loc Cert.HeadsIdeal.main_arg17)
      ∧ r.2.mem ((c.tc : Thread Cert.HeadsIdeal.nD Cert.HeadsIdeal.τ).loc Cert.HeadsIdeal.main_arg18) = m ((c.tc : Thread Cert.HeadsIdeal.nD Cert.HeadsIdeal.τ).loc Cert.HeadsIdeal.main_arg18)
      ∧ r.2.mem ((c.tc : Thread Cert.HeadsIdeal.nD Cert.HeadsIdeal.τ).loc Cert.HeadsIdeal.main_arg19) = m ((c.tc : Thread Cert.HeadsIdeal.nD Cert.HeadsIdeal.τ).loc Cert.HeadsIdeal.main_arg19)
      ∧ r.2.mem ((c.tc : Thread Cert.HeadsIdeal.nD Cert.HeadsIdeal.τ).loc Cert.HeadsIdeal.main_arg20) = m ((c.tc : Thread Cert.HeadsIdeal.nD Cert.HeadsIdeal.τ).loc Cert.HeadsIdeal.main_arg20)
      ∧ r.2.mem ((c.tc : Thread Cert.HeadsIdeal.nD Cert.HeadsIdeal.τ).loc Cert.HeadsIdeal.main_arg21) = m ((c.tc : Thread Cert.HeadsIdeal.nD Cert.HeadsIdeal.τ).loc Cert.HeadsIdeal.main_arg21)
      ∧ r.2.mem ((c.tc : Thread Cert.HeadsIdeal.nD Cert.HeadsIdeal.τ).loc Cert.HeadsIdeal.main_arg22) = m ((c.tc : Thread Cert.HeadsIdeal.nD Cert.HeadsIdeal.τ).loc Cert.HeadsIdeal.main_arg22)
      ∧ r.2.mem ((c.tc : Thread Cert.HeadsIdeal.nD Cert.HeadsIdeal.τ).loc Cert.HeadsIdeal.main_arg23) = m ((c.tc : Thread Cert.HeadsIdeal.nD Cert.HeadsIdeal.τ).loc Cert.HeadsIdeal.main_arg23)
      ∧ r.2.mem ((c.tc : Thread Cert.HeadsIdeal.nD Cert.HeadsIdeal.τ).loc Cert.HeadsIdeal.main_arg24) = m ((c.tc : Thread Cert.HeadsIdeal.nD Cert.HeadsIdeal.τ).loc Cert.HeadsIdeal.main_arg24))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def preserves_Gather_GatherIdeal : Prop :=
  True

def algebraic_GatherIdeal_RowsIdeal [hGatherIdeal : Cert.GatherIdeal.Facts] [hRowsIdeal : Cert.RowsIdeal.Facts] [hPre_rows_in_table : Cert.Pre_rows_in_table.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.RowsIdeal.nD Cert.RowsIdeal.τ Cert.RowsIdeal.sig) → Buf (Elt Ideal) ℓ) (g' : Dev Cert.RowsIdeal.nD → PrngReg), Pre_GatherIdeal m →
    (∀ c : Dev Cert.GatherIdeal.nD,
      m' ((c.tc : Thread Cert.RowsIdeal.nD Cert.RowsIdeal.τ).loc Cert.RowsIdeal.main_arg0) = m ((c.tc : Thread Cert.GatherIdeal.nD Cert.GatherIdeal.τ).loc Cert.GatherIdeal.main_arg0)
      ∧ m' ((c.tc : Thread Cert.RowsIdeal.nD Cert.RowsIdeal.τ).loc Cert.RowsIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.RowsIdeal.defs (F := Ideal)) (onTc (τ := Cert.RowsIdeal.τ) (Cert.RowsIdeal.main (F := Ideal))) ⟨m', fun _ => 0, g'⟩ (fun r => ∀ c : Dev Cert.RowsIdeal.nD,
          r.2.mem ((c.tc : Thread Cert.RowsIdeal.nD Cert.RowsIdeal.τ).loc Cert.RowsIdeal.main_v6) = v0 c
          ∧ r.2.mem ((c.tc : Thread Cert.RowsIdeal.nD Cert.RowsIdeal.τ).loc Cert.RowsIdeal.main_arg0) = m' ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m' ((c.tc : Thread Cert.RowsIdeal.nD Cert.RowsIdeal.τ).loc Cert.RowsIdeal.main_arg1))

def preserves_Network_NetworkIdeal : Prop :=
  True

def algebraic_NetworkIdeal_HeadsIdeal [hNetworkIdeal : Cert.NetworkIdeal.Facts] [hHeadsIdeal : Cert.HeadsIdeal.Facts] : Prop :=
  ∀ (m : (ℓ : Loc Cert.NetworkIdeal.nD Cert.NetworkIdeal.τ Cert.NetworkIdeal.sig) → Buf (Elt Ideal) ℓ) (g : Dev Cert.NetworkIdeal.nD → PrngReg)
    (m' : (ℓ : Loc Cert.HeadsIdeal.nD Cert.HeadsIdeal.τ Cert.HeadsIdeal.sig) → Buf (Elt Ideal) ℓ) (g' : Dev Cert.HeadsIdeal.nD → PrngReg), Pre_NetworkIdeal m →
    (∀ c : Dev Cert.NetworkIdeal.nD,
      m' ((c.tc : Thread Cert.HeadsIdeal.nD Cert.HeadsIdeal.τ).loc Cert.HeadsIdeal.main_arg0) = m ((c.tc : Thread Cert.NetworkIdeal.nD Cert.NetworkIdeal.τ).loc Cert.NetworkIdeal.main_arg0)
      ∧ m' ((c.tc : Thread Cert.HeadsIdeal.nD Cert.HeadsIdeal.τ).loc Cert.HeadsIdeal.main_arg1) = m ((c.tc : Thread Cert.NetworkIdeal.nD Cert.NetworkIdeal.τ).loc Cert.NetworkIdeal.main_arg1)
      ∧ m' ((c.tc : Thread Cert.HeadsIdeal.nD Cert.HeadsIdeal.τ).loc Cert.HeadsIdeal.main_arg2) = m ((c.tc : Thread Cert.NetworkIdeal.nD Cert.NetworkIdeal.τ).loc Cert.NetworkIdeal.main_arg2)
      ∧ m' ((c.tc : Thread Cert.HeadsIdeal.nD Cert.HeadsIdeal.τ).loc Cert.HeadsIdeal.main_arg3) = m ((c.tc : Thread Cert.NetworkIdeal.nD Cert.NetworkIdeal.τ).loc Cert.NetworkIdeal.main_arg3)
      ∧ m' ((c.tc : Thread Cert.HeadsIdeal.nD Cert.HeadsIdeal.τ).loc Cert.HeadsIdeal.main_arg4) = m ((c.tc : Thread Cert.NetworkIdeal.nD Cert.NetworkIdeal.τ).loc Cert.NetworkIdeal.main_arg4)
      ∧ m' ((c.tc : Thread Cert.HeadsIdeal.nD Cert.HeadsIdeal.τ).loc Cert.HeadsIdeal.main_arg5) = m ((c.tc : Thread Cert.NetworkIdeal.nD Cert.NetworkIdeal.τ).loc Cert.NetworkIdeal.main_arg5)
      ∧ m' ((c.tc : Thread Cert.HeadsIdeal.nD Cert.HeadsIdeal.τ).loc Cert.HeadsIdeal.main_arg6) = m ((c.tc : Thread Cert.NetworkIdeal.nD Cert.NetworkIdeal.τ).loc Cert.NetworkIdeal.main_arg6)
      ∧ m' ((c.tc : Thread Cert.HeadsIdeal.nD Cert.HeadsIdeal.τ).loc Cert.HeadsIdeal.main_arg7) = m ((c.tc : Thread Cert.NetworkIdeal.nD Cert.NetworkIdeal.τ).loc Cert.NetworkIdeal.main_arg7)
      ∧ m' ((c.tc : Thread Cert.HeadsIdeal.nD Cert.HeadsIdeal.τ).loc Cert.HeadsIdeal.main_arg8) = m ((c.tc : Thread Cert.NetworkIdeal.nD Cert.NetworkIdeal.τ).loc Cert.NetworkIdeal.main_arg8)
      ∧ m' ((c.tc : Thread Cert.HeadsIdeal.nD Cert.HeadsIdeal.τ).loc Cert.HeadsIdeal.main_arg9) = m ((c.tc : Thread Cert.NetworkIdeal.nD Cert.NetworkIdeal.τ).loc Cert.NetworkIdeal.main_arg9)
      ∧ m' ((c.tc : Thread Cert.HeadsIdeal.nD Cert.HeadsIdeal.τ).loc Cert.HeadsIdeal.main_arg10) = m ((c.tc : Thread Cert.NetworkIdeal.nD Cert.NetworkIdeal.τ).loc Cert.NetworkIdeal.main_arg10)
      ∧ m' ((c.tc : Thread Cert.HeadsIdeal.nD Cert.HeadsIdeal.τ).loc Cert.HeadsIdeal.main_arg11) = m ((c.tc : Thread Cert.NetworkIdeal.nD Cert.NetworkIdeal.τ).loc Cert.NetworkIdeal.main_arg11)
      ∧ m' ((c.tc : Thread Cert.HeadsIdeal.nD Cert.HeadsIdeal.τ).loc Cert.HeadsIdeal.main_arg12) = m ((c.tc : Thread Cert.NetworkIdeal.nD Cert.NetworkIdeal.τ).loc Cert.NetworkIdeal.main_arg12)
      ∧ m' ((c.tc : Thread Cert.HeadsIdeal.nD Cert.HeadsIdeal.τ).loc Cert.HeadsIdeal.main_arg13) = m ((c.tc : Thread Cert.NetworkIdeal.nD Cert.NetworkIdeal.τ).loc Cert.NetworkIdeal.main_arg13)
      ∧ m' ((c.tc : Thread Cert.HeadsIdeal.nD Cert.HeadsIdeal.τ).loc Cert.HeadsIdeal.main_arg14) = m ((c.tc : Thread Cert.NetworkIdeal.nD Cert.NetworkIdeal.τ).loc Cert.NetworkIdeal.main_arg14)
      ∧ m' ((c.tc : Thread Cert.HeadsIdeal.nD Cert.HeadsIdeal.τ).loc Cert.HeadsIdeal.main_arg15) = m ((c.tc : Thread Cert.NetworkIdeal.nD Cert.NetworkIdeal.τ).loc Cert.NetworkIdeal.main_arg15)
      ∧ m' ((c.tc : Thread Cert.HeadsIdeal.nD Cert.HeadsIdeal.τ).loc Cert.HeadsIdeal.main_arg16) = m ((c.tc : Thread Cert.NetworkIdeal.nD Cert.NetworkIdeal.τ).loc Cert.NetworkIdeal.main_arg16)
      ∧ m' ((c.tc : Thread Cert.HeadsIdeal.nD Cert.HeadsIdeal.τ).loc Cert.HeadsIdeal.main_arg17) = m ((c.tc : Thread Cert.NetworkIdeal.nD Cert.NetworkIdeal.τ).loc Cert.NetworkIdeal.main_arg17)
      ∧ m' ((c.tc : Thread Cert.HeadsIdeal.nD Cert.HeadsIdeal.τ).loc Cert.HeadsIdeal.main_arg18) = m ((c.tc : Thread Cert.NetworkIdeal.nD Cert.NetworkIdeal.τ).loc Cert.NetworkIdeal.main_arg18)
      ∧ m' ((c.tc : Thread Cert.HeadsIdeal.nD Cert.HeadsIdeal.τ).loc Cert.HeadsIdeal.main_arg19) = m ((c.tc : Thread Cert.NetworkIdeal.nD Cert.NetworkIdeal.τ).loc Cert.NetworkIdeal.main_arg19)
      ∧ m' ((c.tc : Thread Cert.HeadsIdeal.nD Cert.HeadsIdeal.τ).loc Cert.HeadsIdeal.main_arg20) = m ((c.tc : Thread Cert.NetworkIdeal.nD Cert.NetworkIdeal.τ).loc Cert.NetworkIdeal.main_arg20)
      ∧ m' ((c.tc : Thread Cert.HeadsIdeal.nD Cert.HeadsIdeal.τ).loc Cert.HeadsIdeal.main_arg21) = m ((c.tc : Thread Cert.NetworkIdeal.nD Cert.NetworkIdeal.τ).loc Cert.NetworkIdeal.main_arg21)
      ∧ m' ((c.tc : Thread Cert.HeadsIdeal.nD Cert.HeadsIdeal.τ).loc Cert.HeadsIdeal.main_arg22) = m ((c.tc : Thread Cert.NetworkIdeal.nD Cert.NetworkIdeal.τ).loc Cert.NetworkIdeal.main_arg22)
      ∧ m' ((c.tc : Thread Cert.HeadsIdeal.nD Cert.HeadsIdeal.τ).loc Cert.HeadsIdeal.main_arg23) = m ((c.tc : Thread Cert.NetworkIdeal.nD Cert.NetworkIdeal.τ).loc Cert.NetworkIdeal.main_arg23)
      ∧ m' ((c.tc : Thread Cert.HeadsIdeal.nD Cert.HeadsIdeal.τ).loc Cert.HeadsIdeal.main_arg24) = m ((c.tc : Thread Cert.NetworkIdeal.nD Cert.NetworkIdeal.τ).loc Cert.NetworkIdeal.main_arg24)) →
    ∃ (v0 : (c : Dev Cert.NetworkIdeal.nD) → Buf (Elt Ideal) ((c.tc : Thread Cert.NetworkIdeal.nD Cert.NetworkIdeal.τ).loc Cert.NetworkIdeal.main_v0_0)) (v1 : (c : Dev Cert.NetworkIdeal.nD) → Buf (Elt Ideal) ((c.tc : Thread Cert.NetworkIdeal.nD Cert.NetworkIdeal.τ).loc Cert.NetworkIdeal.main_v0_1)),
      θ_run (Cert.NetworkIdeal.defs (F := Ideal)) (onTc (τ := Cert.NetworkIdeal.τ) (Cert.NetworkIdeal.main (F := Ideal))) ⟨m, fun _ => 0, g⟩ (fun r => ∀ c : Dev Cert.NetworkIdeal.nD,
          r.2.mem ((c.tc : Thread Cert.NetworkIdeal.nD Cert.NetworkIdeal.τ).loc Cert.NetworkIdeal.main_v0_0) = v0 c
          ∧ r.2.mem ((c.tc : Thread Cert.NetworkIdeal.nD Cert.NetworkIdeal.τ).loc Cert.NetworkIdeal.main_v0_1) = v1 c
          ∧ r.2.mem ((c.tc : Thread Cert.NetworkIdeal.nD Cert.NetworkIdeal.τ).loc Cert.NetworkIdeal.main_arg0) = m ((c.tc : Thread Cert.NetworkIdeal.nD Cert.NetworkIdeal.τ).loc Cert.NetworkIdeal.main_arg0)
          ∧ r.2.mem ((c.tc : Thread Cert.NetworkIdeal.nD Cert.NetworkIdeal.τ).loc Cert.NetworkIdeal.main_arg1) = m ((c.tc : Thread Cert.NetworkIdeal.nD Cert.NetworkIdeal.τ).loc Cert.NetworkIdeal.main_arg1)
          ∧ r.2.mem ((c.tc : Thread Cert.NetworkIdeal.nD Cert.NetworkIdeal.τ).loc Cert.NetworkIdeal.main_arg2) = m ((c.tc : Thread Cert.NetworkIdeal.nD Cert.NetworkIdeal.τ).loc Cert.NetworkIdeal.main_arg2)
          ∧ r.2.mem ((c.tc : Thread Cert.NetworkIdeal.nD Cert.NetworkIdeal.τ).loc Cert.NetworkIdeal.main_arg3) = m ((c.tc : Thread Cert.NetworkIdeal.nD Cert.NetworkIdeal.τ).loc Cert.NetworkIdeal.main_arg3)
          ∧ r.2.mem ((c.tc : Thread Cert.NetworkIdeal.nD Cert.NetworkIdeal.τ).loc Cert.NetworkIdeal.main_arg4) = m ((c.tc : Thread Cert.NetworkIdeal.nD Cert.NetworkIdeal.τ).loc Cert.NetworkIdeal.main_arg4)
          ∧ r.2.mem ((c.tc : Thread Cert.NetworkIdeal.nD Cert.NetworkIdeal.τ).loc Cert.NetworkIdeal.main_arg5) = m ((c.tc : Thread Cert.NetworkIdeal.nD Cert.NetworkIdeal.τ).loc Cert.NetworkIdeal.main_arg5)
          ∧ r.2.mem ((c.tc : Thread Cert.NetworkIdeal.nD Cert.NetworkIdeal.τ).loc Cert.NetworkIdeal.main_arg6) = m ((c.tc : Thread Cert.NetworkIdeal.nD Cert.NetworkIdeal.τ).loc Cert.NetworkIdeal.main_arg6)
          ∧ r.2.mem ((c.tc : Thread Cert.NetworkIdeal.nD Cert.NetworkIdeal.τ).loc Cert.NetworkIdeal.main_arg7) = m ((c.tc : Thread Cert.NetworkIdeal.nD Cert.NetworkIdeal.τ).loc Cert.NetworkIdeal.main_arg7)
          ∧ r.2.mem ((c.tc : Thread Cert.NetworkIdeal.nD Cert.NetworkIdeal.τ).loc Cert.NetworkIdeal.main_arg8) = m ((c.tc : Thread Cert.NetworkIdeal.nD Cert.NetworkIdeal.τ).loc Cert.NetworkIdeal.main_arg8)
          ∧ r.2.mem ((c.tc : Thread Cert.NetworkIdeal.nD Cert.NetworkIdeal.τ).loc Cert.NetworkIdeal.main_arg9) = m ((c.tc : Thread Cert.NetworkIdeal.nD Cert.NetworkIdeal.τ).loc Cert.NetworkIdeal.main_arg9)
          ∧ r.2.mem ((c.tc : Thread Cert.NetworkIdeal.nD Cert.NetworkIdeal.τ).loc Cert.NetworkIdeal.main_arg10) = m ((c.tc : Thread Cert.NetworkIdeal.nD Cert.NetworkIdeal.τ).loc Cert.NetworkIdeal.main_arg10)
          ∧ r.2.mem ((c.tc : Thread Cert.NetworkIdeal.nD Cert.NetworkIdeal.τ).loc Cert.NetworkIdeal.main_arg11) = m ((c.tc : Thread Cert.NetworkIdeal.nD Cert.NetworkIdeal.τ).loc Cert.NetworkIdeal.main_arg11)
          ∧ r.2.mem ((c.tc : Thread Cert.NetworkIdeal.nD Cert.NetworkIdeal.τ).loc Cert.NetworkIdeal.main_arg12) = m ((c.tc : Thread Cert.NetworkIdeal.nD Cert.NetworkIdeal.τ).loc Cert.NetworkIdeal.main_arg12)
          ∧ r.2.mem ((c.tc : Thread Cert.NetworkIdeal.nD Cert.NetworkIdeal.τ).loc Cert.NetworkIdeal.main_arg13) = m ((c.tc : Thread Cert.NetworkIdeal.nD Cert.NetworkIdeal.τ).loc Cert.NetworkIdeal.main_arg13)
          ∧ r.2.mem ((c.tc : Thread Cert.NetworkIdeal.nD Cert.NetworkIdeal.τ).loc Cert.NetworkIdeal.main_arg14) = m ((c.tc : Thread Cert.NetworkIdeal.nD Cert.NetworkIdeal.τ).loc Cert.NetworkIdeal.main_arg14)
          ∧ r.2.mem ((c.tc : Thread Cert.NetworkIdeal.nD Cert.NetworkIdeal.τ).loc Cert.NetworkIdeal.main_arg15) = m ((c.tc : Thread Cert.NetworkIdeal.nD Cert.NetworkIdeal.τ).loc Cert.NetworkIdeal.main_arg15)
          ∧ r.2.mem ((c.tc : Thread Cert.NetworkIdeal.nD Cert.NetworkIdeal.τ).loc Cert.NetworkIdeal.main_arg16) = m ((c.tc : Thread Cert.NetworkIdeal.nD Cert.NetworkIdeal.τ).loc Cert.NetworkIdeal.main_arg16)
          ∧ r.2.mem ((c.tc : Thread Cert.NetworkIdeal.nD Cert.NetworkIdeal.τ).loc Cert.NetworkIdeal.main_arg17) = m ((c.tc : Thread Cert.NetworkIdeal.nD Cert.NetworkIdeal.τ).loc Cert.NetworkIdeal.main_arg17)
          ∧ r.2.mem ((c.tc : Thread Cert.NetworkIdeal.nD Cert.NetworkIdeal.τ).loc Cert.NetworkIdeal.main_arg18) = m ((c.tc : Thread Cert.NetworkIdeal.nD Cert.NetworkIdeal.τ).loc Cert.NetworkIdeal.main_arg18)
          ∧ r.2.mem ((c.tc : Thread Cert.NetworkIdeal.nD Cert.NetworkIdeal.τ).loc Cert.NetworkIdeal.main_arg19) = m ((c.tc : Thread Cert.NetworkIdeal.nD Cert.NetworkIdeal.τ).loc Cert.NetworkIdeal.main_arg19)
          ∧ r.2.mem ((c.tc : Thread Cert.NetworkIdeal.nD Cert.NetworkIdeal.τ).loc Cert.NetworkIdeal.main_arg20) = m ((c.tc : Thread Cert.NetworkIdeal.nD Cert.NetworkIdeal.τ).loc Cert.NetworkIdeal.main_arg20)
          ∧ r.2.mem ((c.tc : Thread Cert.NetworkIdeal.nD Cert.NetworkIdeal.τ).loc Cert.NetworkIdeal.main_arg21) = m ((c.tc : Thread Cert.NetworkIdeal.nD Cert.NetworkIdeal.τ).loc Cert.NetworkIdeal.main_arg21)
          ∧ r.2.mem ((c.tc : Thread Cert.NetworkIdeal.nD Cert.NetworkIdeal.τ).loc Cert.NetworkIdeal.main_arg22) = m ((c.tc : Thread Cert.NetworkIdeal.nD Cert.NetworkIdeal.τ).loc Cert.NetworkIdeal.main_arg22)
          ∧ r.2.mem ((c.tc : Thread Cert.NetworkIdeal.nD Cert.NetworkIdeal.τ).loc Cert.NetworkIdeal.main_arg23) = m ((c.tc : Thread Cert.NetworkIdeal.nD Cert.NetworkIdeal.τ).loc Cert.NetworkIdeal.main_arg23)
          ∧ r.2.mem ((c.tc : Thread Cert.NetworkIdeal.nD Cert.NetworkIdeal.τ).loc Cert.NetworkIdeal.main_arg24) = m ((c.tc : Thread Cert.NetworkIdeal.nD Cert.NetworkIdeal.τ).loc Cert.NetworkIdeal.main_arg24))
      ∧ θ_run (Cert.HeadsIdeal.defs (F := Ideal)) (onTc (τ := Cert.HeadsIdeal.τ) (Cert.HeadsIdeal.main (F := Ideal))) ⟨m', fun _ => 0, g'⟩ (fun r => ∀ c : Dev Cert.HeadsIdeal.nD,
          r.2.mem ((c.tc : Thread Cert.HeadsIdeal.nD Cert.HeadsIdeal.τ).loc Cert.HeadsIdeal.main_v119) = v0 c
          ∧ r.2.mem ((c.tc : Thread Cert.HeadsIdeal.nD Cert.HeadsIdeal.τ).loc Cert.HeadsIdeal.main_v92) = v1 c
          ∧ r.2.mem ((c.tc : Thread Cert.HeadsIdeal.nD Cert.HeadsIdeal.τ).loc Cert.HeadsIdeal.main_arg0) = m' ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m' ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m' ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m' ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m' ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m' ((c.tc : Thread Cert.HeadsIdeal.nD Cert.HeadsIdeal.τ).loc Cert.HeadsIdeal.main_arg5)
          ∧ r.2.mem ((c.tc : Thread Cert.HeadsIdeal.nD Cert.HeadsIdeal.τ).loc Cert.HeadsIdeal.main_arg6) = m' ((c.tc : Thread Cert.HeadsIdeal.nD Cert.HeadsIdeal.τ).loc Cert.HeadsIdeal.main_arg6)
          ∧ r.2.mem ((c.tc : Thread Cert.HeadsIdeal.nD Cert.HeadsIdeal.τ).loc Cert.HeadsIdeal.main_arg7) = m' ((c.tc : Thread Cert.HeadsIdeal.nD Cert.HeadsIdeal.τ).loc Cert.HeadsIdeal.main_arg7)
          ∧ r.2.mem ((c.tc : Thread Cert.HeadsIdeal.nD Cert.HeadsIdeal.τ).loc Cert.HeadsIdeal.main_arg8) = m' ((c.tc : Thread Cert.HeadsIdeal.nD Cert.HeadsIdeal.τ).loc Cert.HeadsIdeal.main_arg8)
          ∧ r.2.mem ((c.tc : Thread Cert.HeadsIdeal.nD Cert.HeadsIdeal.τ).loc Cert.HeadsIdeal.main_arg9) = m' ((c.tc : Thread Cert.HeadsIdeal.nD Cert.HeadsIdeal.τ).loc Cert.HeadsIdeal.main_arg9)
          ∧ r.2.mem ((c.tc : Thread Cert.HeadsIdeal.nD Cert.HeadsIdeal.τ).loc Cert.HeadsIdeal.main_arg10) = m' ((c.tc : Thread Cert.HeadsIdeal.nD Cert.HeadsIdeal.τ).loc Cert.HeadsIdeal.main_arg10)
          ∧ r.2.mem ((c.tc : Thread Cert.HeadsIdeal.nD Cert.HeadsIdeal.τ).loc Cert.HeadsIdeal.main_arg11) = m' ((c.tc : Thread Cert.HeadsIdeal.nD Cert.HeadsIdeal.τ).loc Cert.HeadsIdeal.main_arg11)
          ∧ r.2.mem ((c.tc : Thread Cert.HeadsIdeal.nD Cert.HeadsIdeal.τ).loc Cert.HeadsIdeal.main_arg12) = m' ((c.tc : Thread Cert.HeadsIdeal.nD Cert.HeadsIdeal.τ).loc Cert.HeadsIdeal.main_arg12)
          ∧ r.2.mem ((c.tc : Thread Cert.HeadsIdeal.nD Cert.HeadsIdeal.τ).loc Cert.HeadsIdeal.main_arg13) = m' ((c.tc : Thread Cert.HeadsIdeal.nD Cert.HeadsIdeal.τ).loc Cert.HeadsIdeal.main_arg13)
          ∧ r.2.mem ((c.tc : Thread Cert.HeadsIdeal.nD Cert.HeadsIdeal.τ).loc Cert.HeadsIdeal.main_arg14) = m' ((c.tc : Thread Cert.HeadsIdeal.nD Cert.HeadsIdeal.τ).loc Cert.HeadsIdeal.main_arg14)
          ∧ r.2.mem ((c.tc : Thread Cert.HeadsIdeal.nD Cert.HeadsIdeal.τ).loc Cert.HeadsIdeal.main_arg15) = m' ((c.tc : Thread Cert.HeadsIdeal.nD Cert.HeadsIdeal.τ).loc Cert.HeadsIdeal.main_arg15)
          ∧ r.2.mem ((c.tc : Thread Cert.HeadsIdeal.nD Cert.HeadsIdeal.τ).loc Cert.HeadsIdeal.main_arg16) = m' ((c.tc : Thread Cert.HeadsIdeal.nD Cert.HeadsIdeal.τ).loc Cert.HeadsIdeal.main_arg16)
          ∧ r.2.mem ((c.tc : Thread Cert.HeadsIdeal.nD Cert.HeadsIdeal.τ).loc Cert.HeadsIdeal.main_arg17) = m' ((c.tc : Thread Cert.HeadsIdeal.nD Cert.HeadsIdeal.τ).loc Cert.HeadsIdeal.main_arg17)
          ∧ r.2.mem ((c.tc : Thread Cert.HeadsIdeal.nD Cert.HeadsIdeal.τ).loc Cert.HeadsIdeal.main_arg18) = m' ((c.tc : Thread Cert.HeadsIdeal.nD Cert.HeadsIdeal.τ).loc Cert.HeadsIdeal.main_arg18)
          ∧ r.2.mem ((c.tc : Thread Cert.HeadsIdeal.nD Cert.HeadsIdeal.τ).loc Cert.HeadsIdeal.main_arg19) = m' ((c.tc : Thread Cert.HeadsIdeal.nD Cert.HeadsIdeal.τ).loc Cert.HeadsIdeal.main_arg19)
          ∧ r.2.mem ((c.tc : Thread Cert.HeadsIdeal.nD Cert.HeadsIdeal.τ).loc Cert.HeadsIdeal.main_arg20) = m' ((c.tc : Thread Cert.HeadsIdeal.nD Cert.HeadsIdeal.τ).loc Cert.HeadsIdeal.main_arg20)
          ∧ r.2.mem ((c.tc : Thread Cert.HeadsIdeal.nD Cert.HeadsIdeal.τ).loc Cert.HeadsIdeal.main_arg21) = m' ((c.tc : Thread Cert.HeadsIdeal.nD Cert.HeadsIdeal.τ).loc Cert.HeadsIdeal.main_arg21)
          ∧ r.2.mem ((c.tc : Thread Cert.HeadsIdeal.nD Cert.HeadsIdeal.τ).loc Cert.HeadsIdeal.main_arg22) = m' ((c.tc : Thread Cert.HeadsIdeal.nD Cert.HeadsIdeal.τ).loc Cert.HeadsIdeal.main_arg22)
          ∧ r.2.mem ((c.tc : Thread Cert.HeadsIdeal.nD Cert.HeadsIdeal.τ).loc Cert.HeadsIdeal.main_arg23) = m' ((c.tc : Thread Cert.HeadsIdeal.nD Cert.HeadsIdeal.τ).loc Cert.HeadsIdeal.main_arg23)
          ∧ r.2.mem ((c.tc : Thread Cert.HeadsIdeal.nD Cert.HeadsIdeal.τ).loc Cert.HeadsIdeal.main_arg24) = m' ((c.tc : Thread Cert.HeadsIdeal.nD Cert.HeadsIdeal.τ).loc Cert.HeadsIdeal.main_arg24))

def Claim : Prop :=
  ∃ (hKernelIdeal : Cert.KernelIdeal.Facts) (hReferenceIdeal : Cert.ReferenceIdeal.Facts) (hGather : Cert.Gather.Facts) (hGatherIdeal : Cert.GatherIdeal.Facts) (hRowsIdeal : Cert.RowsIdeal.Facts) (hNetwork : Cert.Network.Facts) (hNetworkIdeal : Cert.NetworkIdeal.Facts) (hHeadsIdeal : Cert.HeadsIdeal.Facts) (hPre_finite : Cert.Pre_finite.Facts) (hPre_rows_in_table : Cert.Pre_rows_in_table.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gather (hGather := hGather) (hPre_rows_in_table := hPre_rows_in_table)
    ∧ quiescent_GatherIdeal (hGatherIdeal := hGatherIdeal) (hPre_rows_in_table := hPre_rows_in_table)
    ∧ quiescent_RowsIdeal (hRowsIdeal := hRowsIdeal)
    ∧ quiescent_RowsIdeal_pre_rows_in_table (hRowsIdeal := hRowsIdeal) (hPre_rows_in_table := hPre_rows_in_table)
    ∧ quiescent_Network (hNetwork := hNetwork)
    ∧ quiescent_NetworkIdeal (hNetworkIdeal := hNetworkIdeal)
    ∧ quiescent_HeadsIdeal (hHeadsIdeal := hHeadsIdeal)
    ∧ algebraic_KernelIdeal_ReferenceIdeal_pre_finite (hKernelIdeal := hKernelIdeal) (hReferenceIdeal := hReferenceIdeal) (hPre_finite := hPre_finite)
    ∧ preserves_Gather_GatherIdeal
    ∧ algebraic_GatherIdeal_RowsIdeal (hGatherIdeal := hGatherIdeal) (hRowsIdeal := hRowsIdeal) (hPre_rows_in_table := hPre_rows_in_table)
    ∧ preserves_Network_NetworkIdeal
    ∧ algebraic_NetworkIdeal_HeadsIdeal (hNetworkIdeal := hNetworkIdeal) (hHeadsIdeal := hHeadsIdeal)
-- ==== Pre_finite.lean ====
abbrev S8x2048x3 : Shape := ⟨3, ![8, 2048, 3]⟩
abbrev S8x2048x128 : Shape := ⟨3, ![8, 2048, 128]⟩
abbrev S10x64 : Shape := ⟨2, ![10, 64]⟩
abbrev S64 : Shape := ⟨1, ![64]⟩
abbrev S64x64 : Shape := ⟨2, ![64, 64]⟩
abbrev S128x64 : Shape := ⟨2, ![128, 64]⟩
abbrev S128x32 : Shape := ⟨2, ![128, 32]⟩
abbrev S32 : Shape := ⟨1, ![32]⟩
abbrev S32x1 : Shape := ⟨2, ![32, 1]⟩
abbrev S1 : Shape := ⟨1, ![1]⟩
abbrev S256x128 : Shape := ⟨2, ![256, 128]⟩
abbrev S128 : Shape := ⟨1, ![128]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S8x2048x3 .f32) (main_arg1 : FVec F S8x2048x128 .f32) (main_arg2 : FVec F S8x2048x3 .f32) (main_arg3 : FVec F S8x2048x3 .f32) (main_arg4 : FVec F S10x64 .f32) (main_arg5 : FVec F S64 .f32) (main_arg6 : FVec F S64 .f32) (main_arg7 : FVec F S64 .f32) (main_arg8 : FVec F S64x64 .f32) (main_arg9 : FVec F S64 .f32) (main_arg10 : FVec F S128x64 .f32) (main_arg11 : FVec F S64 .f32) (main_arg12 : FVec F S64 .f32) (main_arg13 : FVec F S64 .f32) (main_arg14 : FVec F S64x64 .f32) (main_arg15 : FVec F S64 .f32) (main_arg16 : FVec F S128x32 .f32) (main_arg17 : FVec F S32 .f32) (main_arg18 : FVec F S32x1 .f32) (main_arg19 : FVec F S1 .f32) (main_arg20 : FVec F S256x128 .f32) (main_arg21 : FVec F S128 .f32) (main_arg22 : FVec F S128 .f32) (main_arg23 : FVec F S128 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S128x64 .f32 := Host.absf main_arg10
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  main_v8
-- ==== Pre_rows_in_table.lean ====
abbrev S16384x128 : Shape := ⟨2, ![16384, 128]⟩
abbrev S262144 : Shape := ⟨1, ![262144]⟩
abbrev S_ : Shape := ⟨0, ![]⟩

class Facts : Prop where
  bcast_S_S262144 : S_.BroadcastsInDim S262144 (![] : Fin 0 → Fin S262144.rank)

variable [Facts]

def fn {F : FTy → Type} [FloatOps F] (main_arg0 : FVec F S16384x128 .f32) (main_arg1 : IVec S262144 32) : IVec S262144 1 :=
  let main_c : IVec S_ 32 := constantI S_ 32 0#32
  let main_v0 : IVec S262144 32 := broadcastInDim S262144 ![] bcast_S_S262144 main_c
  let main_v1 : IVec S262144 1 := cmpi .sge main_arg1 main_v0
  let main_c_0 : IVec S_ 32 := constantI S_ 32 16384#32
  let main_v2 : IVec S262144 32 := broadcastInDim S262144 ![] bcast_S_S262144 main_c_0
  let main_v3 : IVec S262144 1 := cmpi .slt main_arg1 main_v2
  let main_v4 : IVec S262144 1 := andi main_v1 main_v3
  main_v4
-- ==== KernelIdeal.lean ====
abbrev S8x2048x3 : Shape := ⟨3, ![8, 2048, 3]⟩
abbrev S8x2048x128 : Shape := ⟨3, ![8, 2048, 128]⟩
abbrev S10x64 : Shape := ⟨2, ![10, 64]⟩
abbrev S64 : Shape := ⟨1, ![64]⟩
abbrev S64x64 : Shape := ⟨2, ![64, 64]⟩
abbrev S128x64 : Shape := ⟨2, ![128, 64]⟩
abbrev S128x32 : Shape := ⟨2, ![128, 32]⟩
abbrev S32 : Shape := ⟨1, ![32]⟩
abbrev S32x1 : Shape := ⟨2, ![32, 1]⟩
abbrev S1 : Shape := ⟨1, ![1]⟩
abbrev S256x128 : Shape := ⟨2, ![256, 128]⟩
abbrev S128 : Shape := ⟨1, ![128]⟩
abbrev S8x3x2048 : Shape := ⟨3, ![8, 3, 2048]⟩
abbrev S8x2048x16 : Shape := ⟨3, ![8, 2048, 16]⟩
abbrev S1x3x2048 : Shape := ⟨3, ![1, 3, 2048]⟩
abbrev S1x256x3 : Shape := ⟨3, ![1, 256, 3]⟩
abbrev S1x256x128 : Shape := ⟨3, ![1, 256, 128]⟩
abbrev S1x256x16 : Shape := ⟨3, ![1, 256, 16]⟩
abbrev S256x3 : Shape := ⟨2, ![256, 3]⟩
abbrev S3x2048 : Shape := ⟨2, ![3, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩
abbrev S256x2048 : Shape := ⟨2, ![256, 2048]⟩
abbrev S1x256x1 : Shape := ⟨3, ![1, 256, 1]⟩
abbrev S256x61 : Shape := ⟨2, ![256, 61]⟩
abbrev S1x256x61 : Shape := ⟨3, ![1, 256, 61]⟩
abbrev S256x64 : Shape := ⟨2, ![256, 64]⟩
abbrev S1x256x64 : Shape := ⟨3, ![1, 256, 64]⟩
abbrev S16384x128 : Shape := ⟨2, ![16384, 128]⟩
abbrev S262144 : Shape := ⟨1, ![262144]⟩
abbrev S262144x128 : Shape := ⟨2, ![262144, 128]⟩
abbrev S512 : Shape := ⟨1, ![512]⟩
abbrev S512x128 : Shape := ⟨2, ![512, 128]⟩
abbrev S_ : Shape := ⟨0, ![]⟩
abbrev S128x128 : Shape := ⟨2, ![128, 128]⟩
abbrev S16384x16x128 : Shape := ⟨3, ![16384, 16, 128]⟩
abbrev S1x32 : Shape := ⟨2, ![1, 32]⟩
abbrev S16384x3 : Shape := ⟨2, ![16384, 3]⟩
abbrev S16384x1 : Shape := ⟨2, ![16384, 1]⟩
abbrev S128x16x128 : Shape := ⟨3, ![128, 16, 128]⟩
abbrev S128x3 : Shape := ⟨2, ![128, 3]⟩
abbrev S128x1 : Shape := ⟨2, ![128, 1]⟩
abbrev S128x16x3 : Shape := ⟨3, ![128, 16, 3]⟩
abbrev S128x1x3 : Shape := ⟨3, ![128, 1, 3]⟩
abbrev S128x16x1 : Shape := ⟨3, ![128, 16, 1]⟩
abbrev S128x16 : Shape := ⟨2, ![128, 16]⟩
abbrev S128x10 : Shape := ⟨2, ![128, 10]⟩
abbrev S1x64 : Shape := ⟨2, ![1, 64]⟩
abbrev S128x16x64 : Shape := ⟨3, ![128, 16, 64]⟩
abbrev S128x1x64 : Shape := ⟨3, ![128, 1, 64]⟩
abbrev S1x1x64 : Shape := ⟨3, ![1, 1, 64]⟩
abbrev S2048x64 : Shape := ⟨2, ![2048, 64]⟩
abbrev S1x1 : Shape := ⟨2, ![1, 1]⟩
abbrev S128x256 : Shape := ⟨2, ![128, 256]⟩
abbrev S1x128 : Shape := ⟨2, ![1, 128]⟩
abbrev S8x2048x1 : Shape := ⟨3, ![8, 2048, 1]⟩

abbrev nBuf : Table → Nat
  | .hbm => 40
  | .local .tc .vmem => 46
  | .local .scVector .vmem => 2
  | _ => 0

abbrev bufTy : (tb : Table) → Fin (nBuf tb) → BufTy
  | .hbm, ⟨0, _⟩ => ⟨S8x2048x3, .f32⟩
  | .hbm, ⟨1, _⟩ => ⟨S8x2048x128, .f32⟩
  | .hbm, ⟨2, _⟩ => ⟨S8x2048x3, .f32⟩
  | .hbm, ⟨3, _⟩ => ⟨S8x2048x3, .f32⟩
  | .hbm, ⟨4, _⟩ => ⟨S10x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S128x32, .f32⟩
  | .hbm, ⟨17, _⟩ => ⟨S32, .f32⟩
  | .hbm, ⟨18, _⟩ => ⟨S32x1, .f32⟩
  | .hbm, ⟨19, _⟩ => ⟨S1, .f32⟩
  | .hbm, ⟨20, _⟩ => ⟨S256x128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S8x3x2048, .f32⟩
  | .hbm, ⟨25, _⟩ => ⟨S8x2048x16, .i32⟩
  | .hbm, ⟨26, _⟩ => ⟨S8x2048x128, .f32⟩
  | .hbm, ⟨27, _⟩ => ⟨S16384x128, .f32⟩
  | .hbm, ⟨28, _⟩ => ⟨S262144, .i32⟩
  | .hbm, ⟨29, _⟩ => ⟨S262144x128, .f32⟩
  | .hbm, ⟨30, _⟩ => ⟨S16384x16x128, .f32⟩
  | .hbm, ⟨31, _⟩ => ⟨S1x32, .f32⟩
  | .hbm, ⟨32, _⟩ => ⟨S16384x3, .f32⟩
  | .hbm, ⟨33, _⟩ => ⟨S16384x128, .f32⟩
  | .hbm, ⟨34, _⟩ => ⟨S16384x3, .f32⟩
  | .hbm, ⟨35, _⟩ => ⟨S16384x3, .f32⟩
  | .hbm, ⟨36, _⟩ => ⟨S16384x128, .f32⟩
  | .hbm, ⟨37, _⟩ => ⟨S16384x1, .f32⟩
  | .hbm, ⟨38, _⟩ => ⟨S8x2048x128, .f32⟩
  | .hbm, ⟨39, _⟩ => ⟨S8x2048x1, .f32⟩
  | .local .tc .vmem, ⟨0, _⟩ => ⟨S1x3x2048, .f32⟩
  | .local .tc .vmem, ⟨1, _⟩ => ⟨S1x3x2048, .f32⟩
  | .local .tc .vmem, ⟨2, _⟩ => ⟨S1x256x3, .f32⟩
  | .local .tc .vmem, ⟨3, _⟩ => ⟨S1x256x3, .f32⟩
  | .local .tc .vmem, ⟨4, _⟩ => ⟨S1x256x128, .f32⟩
  | .local .tc .vmem, ⟨5, _⟩ => ⟨S1x256x128, .f32⟩
  | .local .tc .vmem, ⟨6, _⟩ => ⟨S128x64, .f32⟩
  | .local .tc .vmem, ⟨7, _⟩ => ⟨S1x256x16, .i32⟩
  | .local .tc .vmem, ⟨8, _⟩ => ⟨S1x256x16, .i32⟩
  | .local .tc .vmem, ⟨9, _⟩ => ⟨S1x256x128, .f32⟩
  | .local .tc .vmem, ⟨10, _⟩ => ⟨S1x256x128, .f32⟩
  | .local .tc .vmem, ⟨11, _⟩ => ⟨S128x16x128, .f32⟩
  | .local .tc .vmem, ⟨12, _⟩ => ⟨S128x16x128, .f32⟩
  | .local .tc .vmem, ⟨13, _⟩ => ⟨S128x128, .f32⟩
  | .local .tc .vmem, ⟨14, _⟩ => ⟨S128x128, .f32⟩
  | .local .tc .vmem, ⟨15, _⟩ => ⟨S128x3, .f32⟩
  | .local .tc .vmem, ⟨16, _⟩ => ⟨S128x3, .f32⟩
  | .local .tc .vmem, ⟨17, _⟩ => ⟨S128x128, .f32⟩
  | .local .tc .vmem, ⟨18, _⟩ => ⟨S128x128, .f32⟩
  | .local .tc .vmem, ⟨19, _⟩ => ⟨S128x3, .f32⟩
  | .local .tc .vmem, ⟨20, _⟩ => ⟨S128x3, .f32⟩
  | .local .tc .vmem, ⟨21, _⟩ => ⟨S128x3, .f32⟩
  | .local .tc .vmem, ⟨22, _⟩ => ⟨S128x3, .f32⟩
  | .local .tc .vmem, ⟨23, _⟩ => ⟨S10x64, .f32⟩
  | .local .tc .vmem, ⟨24, _⟩ => ⟨S64, .f32⟩
  | .local .tc .vmem, ⟨25, _⟩ => ⟨S64, .f32⟩
  | .local .tc .vmem, ⟨26, _⟩ => ⟨S64, .f32⟩
  | .local .tc .vmem, ⟨27, _⟩ => ⟨S64x64, .f32⟩
  | .local .tc .vmem, ⟨28, _⟩ => ⟨S64, .f32⟩
  | .local .tc .vmem, ⟨29, _⟩ => ⟨S64, .f32⟩
  | .local .tc .vmem, ⟨30, _⟩ => ⟨S64, .f32⟩
  | .local .tc .vmem, ⟨31, _⟩ => ⟨S64, .f32⟩
  | .local .tc .vmem, ⟨32, _⟩ => ⟨S64x64, .f32⟩
  | .local .tc .vmem, ⟨33, _⟩ => ⟨S64, .f32⟩
  | .local .tc .vmem, ⟨34, _⟩ => ⟨S128x32, .f32⟩
  | .local .tc .vmem, ⟨35, _⟩ => ⟨S32, .f32⟩
  | .local .tc .vmem, ⟨36, _⟩ => ⟨S1x32, .f32⟩
  | .local .tc .vmem, ⟨37, _⟩ => ⟨S1, .f32⟩
  | .local .tc .vmem, ⟨38, _⟩ => ⟨S256x128, .f32⟩
  | .local .tc .vmem, ⟨39, _⟩ => ⟨S128, .f32⟩
  | .local .tc .vmem, ⟨40, _⟩ => ⟨S128, .f32⟩
  | .local .tc .vmem, ⟨41, _⟩ => ⟨S128, .f32⟩
  | .local .tc .vmem, ⟨42, _⟩ => ⟨S128x128, .f32⟩
  | .local .tc .vmem, ⟨43, _⟩ => ⟨S128x128, .f32⟩
  | .local .tc .vmem, ⟨44, _⟩ => ⟨S128x1, .f32⟩
  | .local .tc .vmem, ⟨45, _⟩ => ⟨S128x1, .f32⟩
  | .local .scVector .vmem, ⟨0, _⟩ => ⟨S512, .i32⟩
  | .local .scVector .vmem, ⟨1, _⟩ => ⟨S512x128, .f32⟩
  | _, _ => ⟨S8x2048x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTables nBuf rfl bufTy 4 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1_0 : Ref sig .tc := ⟨.hbm, 25, rfl⟩
abbrev main_v1_1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11_0 : Ref sig .tc := ⟨.hbm, 36, rfl⟩
abbrev main_v11_1 : Ref sig .tc := ⟨.hbm, 37, rfl⟩
abbrev main_v12 : Ref sig .tc := ⟨.hbm, 38, rfl⟩
abbrev main_v13 : Ref sig .tc := ⟨.hbm, 39, rfl⟩
abbrev main_v2_scv : Ref sig .scVector := ⟨.hbm, 27, rfl⟩
abbrev main_v3_scv : Ref sig .scVector := ⟨.hbm, 28, rfl⟩
abbrev main_v4_scv : Ref sig .scVector := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_stg12_0 : Ref sig .tc := ⟨.vmem, 29, rfl⟩
abbrev cc2_stg13_0 : Ref sig .tc := ⟨.vmem, 30, rfl⟩
abbrev cc2_stg14_0 : Ref sig .tc := ⟨.vmem, 31, rfl⟩
abbrev cc2_stg15_0 : Ref sig .tc := ⟨.vmem, 32, rfl⟩
abbrev cc2_stg16_0 : Ref sig .tc := ⟨.vmem, 33, rfl⟩
abbrev cc2_stg17_0 : Ref sig .tc := ⟨.vmem, 34, rfl⟩
abbrev cc2_stg18_0 : Ref sig .tc := ⟨.vmem, 35, rfl⟩
abbrev cc2_stg19_0 : Ref sig .tc := ⟨.vmem, 36, rfl⟩
abbrev cc2_stg20_0 : Ref sig .tc := ⟨.vmem, 37, rfl⟩
abbrev cc2_stg21_0 : Ref sig .tc := ⟨.vmem, 38, rfl⟩
abbrev cc2_stg22_0 : Ref sig .tc := ⟨.vmem, 39, rfl⟩
abbrev cc2_stg23_0 : Ref sig .tc := ⟨.vmem, 40, rfl⟩
abbrev cc2_stg24_0 : Ref sig .tc := ⟨.vmem, 41, rfl⟩
abbrev cc2_stg25_0 : Ref sig .tc := ⟨.vmem, 42, rfl⟩
abbrev cc2_stg25_1 : Ref sig .tc := ⟨.vmem, 43, rfl⟩
abbrev cc2_stg26_0 : Ref sig .tc := ⟨.vmem, 44, rfl⟩
abbrev cc2_stg26_1 : Ref sig .tc := ⟨.vmem, 45, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem12_0 : DmaSem sig := 32
abbrev cc2_sem13_0 : DmaSem sig := 33
abbrev cc2_sem14_0 : DmaSem sig := 34
abbrev cc2_sem15_0 : DmaSem sig := 35
abbrev cc2_sem16_0 : DmaSem sig := 36
abbrev cc2_sem17_0 : DmaSem sig := 37
abbrev cc2_sem18_0 : DmaSem sig := 38
abbrev cc2_sem19_0 : DmaSem sig := 39
abbrev cc2_sem20_0 : DmaSem sig := 40
abbrev cc2_sem21_0 : DmaSem sig := 41
abbrev cc2_sem22_0 : DmaSem sig := 42
abbrev cc2_sem23_0 : DmaSem sig := 43
abbrev cc2_sem24_0 : DmaSem sig := 44
abbrev cc2_sem25_0 : DmaSem sig := 45
abbrev cc2_sem25_1 : DmaSem sig := 46
abbrev cc2_sem26_0 : DmaSem sig := 47
abbrev cc2_sem26_1 : DmaSem sig := 48
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x16 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 16], ![false, false]⟩

@[reducible] def k1_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k1_t1
  let c512_i32 : BitVec 32 := 512#32
  let v4 : BitVec 32 := Scalar.muli arg8 c512_i32
  let v5 : BitVec 32 := Scalar.addi v2 v4
  ![v5.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k1_t1
  let c512_i32 : BitVec 32 := 512#32
  let v4 : BitVec 32 := Scalar.muli arg8 c512_i32
  let v5 : BitVec 32 := Scalar.addi v2 v4
  let c0_i32_39_r1 : BitVec 32 := 0#32
  ![v5.toNat, 0]
abbrev grid2 : Pipeline.Grid := ⟨1, ![128], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_14 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_19 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_20 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_21 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_22 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_23 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_24 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_25 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_26 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x16x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x3 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x3 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S10x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S64x64 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S64 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S128x32 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S32 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S1x32 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 1 → Memref sig .tc .vmem S1 .f32 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))
abbrev reads2_20 : Fin grid2.rank → Bool := ![false]

abbrev stage2_21 : Fin 1 → Memref sig .tc .vmem S256x128 .f32 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))
abbrev reads2_21 : Fin grid2.rank → Bool := ![false]

abbrev stage2_22 : Fin 1 → Memref sig .tc .vmem S128 .f32 := fun | 0 => Memref.whole cc2_stg22_0 | ⟨_ + 1, h⟩ => absurd h (Nat.not_lt.2 (Nat.le_add_left _ _))
abbrev sem2_22 : Fin 1 → DmaSem sig := fun | 0 => cc2_sem22_0 | ⟨_ + 1, h⟩ => absurd h (Nat.not_lt.2 (Nat.le_add_left _ _))
abbrev reads2_22 : Fin grid2.rank → Bool := ![false]

abbrev stage2_23 : Fin 1 → Memref sig .tc .vmem S128 .f32 := fun | 0 => Memref.whole cc2_stg23_0 | ⟨_ + 1, h⟩ => absurd h (Nat.not_lt.2 (Nat.le_add_left _ _))
abbrev sem2_23 : Fin 1 → DmaSem sig := fun | 0 => cc2_sem23_0 | ⟨_ + 1, h⟩ => absurd h (Nat.not_lt.2 (Nat.le_add_left _ _))
abbrev reads2_23 : Fin grid2.rank → Bool := ![false]

abbrev stage2_24 : Fin 1 → Memref sig .tc .vmem S128 .f32 := fun | 0 => Memref.whole cc2_stg24_0 | ⟨_ + 1, h⟩ => absurd h (Nat.not_lt.2 (Nat.le_add_left _ _))
abbrev sem2_24 : Fin 1 → DmaSem sig := fun | 0 => cc2_sem24_0 | ⟨_ + 1, h⟩ => absurd h (Nat.not_lt.2 (Nat.le_add_left _ _))
abbrev reads2_24 : Fin grid2.rank → Bool := ![false]

abbrev stage2_25 : Fin 2 → Memref sig .tc .vmem S128x128 .f32 := fun | 0 => Memref.whole cc2_stg25_0 | 1 => Memref.whole cc2_stg25_1 | ⟨_ + 2, h⟩ => absurd h (Nat.not_lt.2 (Nat.le_add_left _ _))
abbrev sem2_25 : Fin 2 → DmaSem sig := fun | 0 => cc2_sem25_0 | 1 => cc2_sem25_1 | ⟨_ + 2, h⟩ => absurd h (Nat.not_lt.2 (Nat.le_add_left _ _))
abbrev reads2_25 : Fin grid2.rank → Bool := ![true]

abbrev stage2_26 : Fin 2 → Memref sig .tc .vmem S128x1 .f32 := fun | 0 => Memref.whole cc2_stg26_0 | 1 => Memref.whole cc2_stg26_1 | ⟨_ + 2, h⟩ => absurd h (Nat.not_lt.2 (Nat.le_add_left _ _))
abbrev sem2_26 : Fin 2 → DmaSem sig := fun | 0 => cc2_sem26_0 | 1 => cc2_sem26_1 | ⟨_ + 2, h⟩ => absurd h (Nat.not_lt.2 (Nat.le_add_left _ _))
abbrev reads2_26 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x2048x3 : Shape := ⟨3, ![8, 2048, 3]⟩
abbrev S8x2048x128 : Shape := ⟨3, ![8, 2048, 128]⟩
abbrev S10x64 : Shape := ⟨2, ![10, 64]⟩
abbrev S64 : Shape := ⟨1, ![64]⟩
abbrev S64x64 : Shape := ⟨2, ![64, 64]⟩
abbrev S128x64 : Shape := ⟨2, ![128, 64]⟩
abbrev S128x32 : Shape := ⟨2, ![128, 32]⟩
abbrev S32 : Shape := ⟨1, ![32]⟩
abbrev S32x1 : Shape := ⟨2, ![32, 1]⟩
abbrev S1 : Shape := ⟨1, ![1]⟩
abbrev S256x128 : Shape := ⟨2, ![256, 128]⟩
abbrev S128 : Shape := ⟨1, ![128]⟩
abbrev S8x3x2048 : Shape := ⟨3, ![8, 3, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x16 : Shape := ⟨3, ![8, 2048, 16]⟩
abbrev S8x2048x16x1 : Shape := ⟨4, ![8, 2048, 16, 1]⟩
abbrev S8x2048x16x3 : Shape := ⟨4, ![8, 2048, 16, 3]⟩
abbrev S8x2048x1x3 : Shape := ⟨4, ![8, 2048, 1, 3]⟩
abbrev S8x2048x10 : Shape := ⟨3, ![8, 2048, 10]⟩
abbrev S8x2048x64 : Shape := ⟨3, ![8, 2048, 64]⟩
abbrev S1x1x64 : Shape := ⟨3, ![1, 1, 64]⟩
abbrev S8x2048x16x128 : Shape := ⟨4, ![8, 2048, 16, 128]⟩
abbrev S8x2048x1x128 : Shape := ⟨4, ![8, 2048, 1, 128]⟩
abbrev S8x2048x16x64 : Shape := ⟨4, ![8, 2048, 16, 64]⟩
abbrev S1x1x1x64 : Shape := ⟨4, ![1, 1, 1, 64]⟩
abbrev S8x2048x32 : Shape := ⟨3, ![8, 2048, 32]⟩
abbrev S1x1x32 : Shape := ⟨3, ![1, 1, 32]⟩
abbrev S1x1x1 : Shape := ⟨3, ![1, 1, 1]⟩
abbrev S8x2048x256 : Shape := ⟨3, ![8, 2048, 256]⟩
abbrev S1x1x128 : Shape := ⟨3, ![1, 1, 128]⟩

abbrev nBuf : Space → Nat
  | .hbm => 288
  | .vmem => 0
  | .smem => 0
  | _ => 0

abbrev hbmTy0_0 (i : Nat) : BufTy := match i % 128 with
  | 0 => ⟨S8x2048x3, .f32⟩
  | 1 => ⟨S8x2048x128, .f32⟩
  | 2 => ⟨S8x2048x3, .f32⟩
  | 3 => ⟨S8x2048x3, .f32⟩
  | 4 => ⟨S10x64, .f32⟩
  | 5 => ⟨S64, .f32⟩
  | 6 => ⟨S64, .f32⟩
  | 7 => ⟨S64, .f32⟩
  | 8 => ⟨S64x64, .f32⟩
  | 9 => ⟨S64, .f32⟩
  | 10 => ⟨S128x64, .f32⟩
  | 11 => ⟨S64, .f32⟩
  | 12 => ⟨S64, .f32⟩
  | 13 => ⟨S64, .f32⟩
  | 14 => ⟨S64x64, .f32⟩
  | 15 => ⟨S64, .f32⟩
  | 16 => ⟨S128x32, .f32⟩
  | 17 => ⟨S32, .f32⟩
  | 18 => ⟨S32x1, .f32⟩
  | 19 => ⟨S1, .f32⟩
  | 20 => ⟨S256x128, .f32⟩
  | 21 => ⟨S128, .f32⟩
  | 22 => ⟨S128, .f32⟩
  | 23 => ⟨S128, .f32⟩
  | 24 => ⟨S8x3x2048, .f32⟩
  | 25 => ⟨S8x2048x2048, .f32⟩
  | 26 => ⟨S_, .f32⟩
  | 27 => ⟨S8x2048x2048, .f32⟩
  | 28 => ⟨S8x2048x2048, .f32⟩
  | 29 => ⟨S8x2048x3, .f32⟩
  | 30 => ⟨S_, .f32⟩
  | 31 => ⟨S8x2048, .f32⟩
  | 32 => ⟨S8x2048x1, .f32⟩
  | 33 => ⟨S8x2048x1, .f32⟩
  | 34 => ⟨S8x2048x2048, .f32⟩
  | 35 => ⟨S8x2048x2048, .f32⟩
  | 36 => ⟨S8x1x2048, .f32⟩
  | 37 => ⟨S8x2048x2048, .f32⟩
  | 38 => ⟨S8x2048x2048, .f32⟩
  | 39 => ⟨S8x2048x16, .f32⟩
  | 40 => ⟨S8x2048x16, .i32⟩
  | 41 => ⟨S_, .i32⟩
  | 42 => ⟨S8x2048x16, .i32⟩
  | 43 => ⟨S8x2048x16, .i1⟩
  | 44 => ⟨S_, .i32⟩
  | 45 => ⟨S8x2048x16, .i32⟩
  | 46 => ⟨S8x2048x16, .i32⟩
  | 47 => ⟨S8x2048x16, .i32⟩
  | 48 => ⟨S8x2048x16x1, .i32⟩
  | 49 => ⟨S8x2048x16x3, .f32⟩
  | 50 => ⟨S8x2048x1x3, .f32⟩
  | 51 => ⟨S8x2048x16x3, .f32⟩
  | 52 => ⟨S8x2048x16x3, .f32⟩
  | 53 => ⟨S_, .f32⟩
  | 54 => ⟨S8x2048x3, .f32⟩
  | 55 => ⟨S_, .f32⟩
  | 56 => ⟨S8x2048x3, .f32⟩
  | 57 => ⟨S8x2048x3, .f32⟩
  | 58 => ⟨S8x2048x16x3, .f32⟩
  | 59 => ⟨S_, .f32⟩
  | 60 => ⟨S8x2048x16, .f32⟩
  | 61 => ⟨S_, .f32⟩
  | 62 => ⟨S8x2048x16, .f32⟩
  | 63 => ⟨S8x2048x16, .f32⟩
  | 64 => ⟨S8x2048x16, .f32⟩
  | 65 => ⟨S_, .f32⟩
  | 66 => ⟨S8x2048, .f32⟩
  | 67 => ⟨S8x2048x1, .f32⟩
  | 68 => ⟨S_, .f32⟩
  | 69 => ⟨S8x2048x1, .f32⟩
  | 70 => ⟨S8x2048x1, .f32⟩
  | 71 => ⟨S8x2048x10, .f32⟩
  | 72 => ⟨S8x2048x64, .f32⟩
  | 73 => ⟨S1x1x64, .f32⟩
  | 74 => ⟨S8x2048x64, .f32⟩
  | 75 => ⟨S8x2048x64, .f32⟩
  | 76 => ⟨S_, .f32⟩
  | 77 => ⟨S8x2048, .f32⟩
  | 78 => ⟨S8x2048x1, .f32⟩
  | 79 => ⟨S_, .f32⟩
  | 80 => ⟨S8x2048x1, .f32⟩
  | 81 => ⟨S8x2048x1, .f32⟩
  | 82 => ⟨S_, .i32⟩
  | 83 => ⟨S_, .f32⟩
  | 84 => ⟨S8x2048, .f32⟩
  | 85 => ⟨S8x2048x1, .f32⟩
  | 86 => ⟨S_, .f32⟩
  | 87 => ⟨S8x2048x1, .f32⟩
  | 88 => ⟨S8x2048x1, .f32⟩
  | 89 => ⟨S8x2048x64, .f32⟩
  | 90 => ⟨S8x2048x64, .f32⟩
  | 91 => ⟨S8x2048x64, .f32⟩
  | 92 => ⟨S_, .f32⟩
  | 93 => ⟨S_, .f32⟩
  | 94 => ⟨S_, .f32⟩
  | 95 => ⟨S_, .f32⟩
  | 96 => ⟨S8x2048, .f32⟩
  | 97 => ⟨S8x2048x1, .f32⟩
  | 98 => ⟨S8x2048x1, .f32⟩
  | 99 => ⟨S8x2048x1, .f32⟩
  | 100 => ⟨S_, .f32⟩
  | 101 => ⟨S_, .i1⟩
  | 102 => ⟨S_, .f32⟩
  | 103 => ⟨S_, .f32⟩
  | 104 => ⟨S8x2048x1, .f32⟩
  | 105 => ⟨S8x2048x1, .f32⟩
  | 106 => ⟨S8x2048x64, .f32⟩
  | 107 => ⟨S8x2048x64, .f32⟩
  | 108 => ⟨S_, .f32⟩
  | 109 => ⟨S8x2048x1, .f32⟩
  | 110 => ⟨S8x2048x1, .f32⟩
  | 111 => ⟨S8x2048x1, .f32⟩
  | 112 => ⟨S8x2048x64, .f32⟩
  | 113 => ⟨S8x2048x64, .f32⟩
  | 114 => ⟨S1x1x64, .f32⟩
  | 115 => ⟨S8x2048x64, .f32⟩
  | 116 => ⟨S8x2048x64, .f32⟩
  | 117 => ⟨S1x1x64, .f32⟩
  | 118 => ⟨S8x2048x64, .f32⟩
  | 119 => ⟨S8x2048x64, .f32⟩
  | 120 => ⟨S_, .f32⟩
  | 121 => ⟨S8x2048x64, .f32⟩
  | 122 => ⟨S8x2048x64, .f32⟩
  | 123 => ⟨S8x2048x64, .f32⟩
  | 124 => ⟨S1x1x64, .f32⟩
  | 125 => ⟨S8x2048x64, .f32⟩
  | 126 => ⟨S8x2048x64, .f32⟩
  | 127 => ⟨S8x3x2048, .f32⟩
  | _ => ⟨S8x2048x3, .f32⟩

abbrev hbmTy0_1 (i : Nat) : BufTy := match i % 128 with
  | 0 => ⟨S8x2048x2048, .f32⟩
  | 1 => ⟨S_, .f32⟩
  | 2 => ⟨S8x2048x2048, .f32⟩
  | 3 => ⟨S8x2048x2048, .f32⟩
  | 4 => ⟨S8x2048x3, .f32⟩
  | 5 => ⟨S_, .f32⟩
  | 6 => ⟨S8x2048, .f32⟩
  | 7 => ⟨S8x2048x1, .f32⟩
  | 8 => ⟨S8x2048x1, .f32⟩
  | 9 => ⟨S8x2048x2048, .f32⟩
  | 10 => ⟨S8x2048x2048, .f32⟩
  | 11 => ⟨S8x1x2048, .f32⟩
  | 12 => ⟨S8x2048x2048, .f32⟩
  | 13 => ⟨S8x2048x2048, .f32⟩
  | 14 => ⟨S8x2048x16, .f32⟩
  | 15 => ⟨S8x2048x16, .i32⟩
  | 16 => ⟨S_, .i32⟩
  | 17 => ⟨S8x2048x16, .i32⟩
  | 18 => ⟨S8x2048x16, .i1⟩
  | 19 => ⟨S_, .i32⟩
  | 20 => ⟨S8x2048x16, .i32⟩
  | 21 => ⟨S8x2048x16, .i32⟩
  | 22 => ⟨S8x2048x16, .i32⟩
  | 23 => ⟨S8x2048x16x1, .i32⟩
  | 24 => ⟨S8x2048x16x128, .f32⟩
  | 25 => ⟨S8x2048x1x128, .f32⟩
  | 26 => ⟨S8x2048x16x128, .f32⟩
  | 27 => ⟨S8x2048x16x128, .f32⟩
  | 28 => ⟨S8x2048x16x64, .f32⟩
  | 29 => ⟨S1x1x1x64, .f32⟩
  | 30 => ⟨S8x2048x16x64, .f32⟩
  | 31 => ⟨S8x2048x16x64, .f32⟩
  | 32 => ⟨S_, .f32⟩
  | 33 => ⟨S8x2048x16, .f32⟩
  | 34 => ⟨S8x2048x16x1, .f32⟩
  | 35 => ⟨S_, .f32⟩
  | 36 => ⟨S8x2048x16x1, .f32⟩
  | 37 => ⟨S8x2048x16x1, .f32⟩
  | 38 => ⟨S_, .i32⟩
  | 39 => ⟨S_, .f32⟩
  | 40 => ⟨S8x2048x16, .f32⟩
  | 41 => ⟨S8x2048x16x1, .f32⟩
  | 42 => ⟨S_, .f32⟩
  | 43 => ⟨S8x2048x16x1, .f32⟩
  | 44 => ⟨S8x2048x16x1, .f32⟩
  | 45 => ⟨S8x2048x16x64, .f32⟩
  | 46 => ⟨S8x2048x16x64, .f32⟩
  | 47 => ⟨S8x2048x16x64, .f32⟩
  | 48 => ⟨S_, .f32⟩
  | 49 => ⟨S_, .f32⟩
  | 50 => ⟨S_, .f32⟩
  | 51 => ⟨S_, .f32⟩
  | 52 => ⟨S8x2048x16, .f32⟩
  | 53 => ⟨S8x2048x16x1, .f32⟩
  | 54 => ⟨S8x2048x16x1, .f32⟩
  | 55 => ⟨S8x2048x16x1, .f32⟩
  | 56 => ⟨S_, .f32⟩
  | 57 => ⟨S_, .i1⟩
  | 58 => ⟨S_, .f32⟩
  | 59 => ⟨S_, .f32⟩
  | 60 => ⟨S8x2048x16x1, .f32⟩
  | 61 => ⟨S8x2048x16x1, .f32⟩
  | 62 => ⟨S8x2048x16x64, .f32⟩
  | 63 => ⟨S8x2048x16x64, .f32⟩
  | 64 => ⟨S_, .f32⟩
  | 65 => ⟨S8x2048x16x1, .f32⟩
  | 66 => ⟨S8x2048x16x1, .f32⟩
  | 67 => ⟨S8x2048x16x1, .f32⟩
  | 68 => ⟨S8x2048x16x64, .f32⟩
  | 69 => ⟨S8x2048x16x64, .f32⟩
  | 70 => ⟨S1x1x1x64, .f32⟩
  | 71 => ⟨S8x2048x16x64, .f32⟩
  | 72 => ⟨S8x2048x16x64, .f32⟩
  | 73 => ⟨S1x1x1x64, .f32⟩
  | 74 => ⟨S8x2048x16x64, .f32⟩
  | 75 => ⟨S8x2048x16x64, .f32⟩
  | 76 => ⟨S_, .f32⟩
  | 77 => ⟨S8x2048x16x64, .f32⟩
  | 78 => ⟨S8x2048x16x64, .f32⟩
  | 79 => ⟨S8x2048x16x64, .f32⟩
  | 80 => ⟨S1x1x1x64, .f32⟩
  | 81 => ⟨S8x2048x16x64, .f32⟩
  | 82 => ⟨S8x2048x16x64, .f32⟩
  | 83 => ⟨S_, .f32⟩
  | 84 => ⟨S8x2048x64, .f32⟩
  | 85 => ⟨S8x2048x128, .f32⟩
  | 86 => ⟨S8x2048x32, .f32⟩
  | 87 => ⟨S1x1x32, .f32⟩
  | 88 => ⟨S8x2048x32, .f32⟩
  | 89 => ⟨S8x2048x32, .f32⟩
  | 90 => ⟨S_, .f32⟩
  | 91 => ⟨S8x2048x32, .f32⟩
  | 92 => ⟨S8x2048x32, .f32⟩
  | 93 => ⟨S8x2048x1, .f32⟩
  | 94 => ⟨S1x1x1, .f32⟩
  | 95 => ⟨S8x2048x1, .f32⟩
  | 96 => ⟨S8x2048x1, .f32⟩
  | 97 => ⟨S8x2048x1, .f32⟩
  | 98 => ⟨S8x2048x1, .f32⟩
  | 99 => ⟨S_, .f32⟩
  | 100 => ⟨S8x2048x1, .f32⟩
  | 101 => ⟨S8x2048x1, .f32⟩
  | 102 => ⟨S_, .f32⟩
  | 103 => ⟨S8x2048x1, .f32⟩
  | 104 => ⟨S8x2048x1, .f32⟩
  | 105 => ⟨S8x2048x256, .f32⟩
  | 106 => ⟨S8x2048x128, .f32⟩
  | 107 => ⟨S1x1x128, .f32⟩
  | 108 => ⟨S8x2048x128, .f32⟩
  | 109 => ⟨S8x2048x128, .f32⟩
  | 110 => ⟨S_, .f32⟩
  | 111 => ⟨S8x2048, .f32⟩
  | 112 => ⟨S8x2048x1, .f32⟩
  | 113 => ⟨S_, .f32⟩
  | 114 => ⟨S8x2048x1, .f32⟩
  | 115 => ⟨S8x2048x1, .f32⟩
  | 116 => ⟨S_, .i32⟩
  | 117 => ⟨S_, .f32⟩
  | 118 => ⟨S8x2048, .f32⟩
  | 119 => ⟨S8x2048x1, .f32⟩
  | 120 => ⟨S_, .f32⟩
  | 121 => ⟨S8x2048x1, .f32⟩
  | 122 => ⟨S8x2048x1, .f32⟩
  | 123 => ⟨S8x2048x128, .f32⟩
  | 124 => ⟨S8x2048x128, .f32⟩
  | 125 => ⟨S8x2048x128, .f32⟩
  | 126 => ⟨S_, .f32⟩
  | 127 => ⟨S_, .f32⟩
  | _ => ⟨S8x2048x3, .f32⟩

abbrev hbmTy0_2 (i : Nat) : BufTy := match i % 128 with
  | 0 => ⟨S_, .f32⟩
  | 1 => ⟨S_, .f32⟩
  | 2 => ⟨S8x2048, .f32⟩
  | 3 => ⟨S8x2048x1, .f32⟩
  | 4 => ⟨S8x2048x1, .f32⟩
  | 5 => ⟨S8x2048x1, .f32⟩
  | 6 => ⟨S_, .f32⟩
  | 7 => ⟨S_, .i1⟩
  | 8 => ⟨S_, .f32⟩
  | 9 => ⟨S_, .f32⟩
  | 10 => ⟨S8x2048x1, .f32⟩
  | 11 => ⟨S8x2048x1, .f32⟩
  | 12 => ⟨S8x2048x128, .f32⟩
  | 13 => ⟨S8x2048x128, .f32⟩
  | 14 => ⟨S_, .f32⟩
  | 15 => ⟨S8x2048x1, .f32⟩
  | 16 => ⟨S8x2048x1, .f32⟩
  | 17 => ⟨S8x2048x1, .f32⟩
  | 18 => ⟨S8x2048x128, .f32⟩
  | 19 => ⟨S8x2048x128, .f32⟩
  | 20 => ⟨S1x1x128, .f32⟩
  | 21 => ⟨S8x2048x128, .f32⟩
  | 22 => ⟨S8x2048x128, .f32⟩
  | 23 => ⟨S1x1x128, .f32⟩
  | 24 => ⟨S8x2048x128, .f32⟩
  | 25 => ⟨S8x2048x128, .f32⟩
  | 26 => ⟨S_, .f32⟩
  | 27 => ⟨S8x2048x128, .f32⟩
  | 28 => ⟨S8x2048x128, .f32⟩
  | 29 => ⟨S8x2048x128, .f32⟩
  | 30 => ⟨S8x2048x128, .f32⟩
  | 31 => ⟨S8x2048x128, .f32⟩
  | _ => ⟨S8x2048x3, .f32⟩

abbrev hbmTy (i : Nat) : BufTy := match i / 128 with
  | 0 => hbmTy0_0 i
  | 1 => hbmTy0_1 i
  | 2 => hbmTy0_2 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_values : Ref sig .tc := ⟨.hbm, 39, rfl⟩
abbrev main_indices : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_2 : Ref sig .tc := ⟨.hbm, 53, rfl⟩
abbrev main_v23 : Ref sig .tc := ⟨.hbm, 54, rfl⟩
abbrev main_cst_3 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_4 : Ref sig .tc := ⟨.hbm, 59, rfl⟩
abbrev main_v27 : Ref sig .tc := ⟨.hbm, 60, rfl⟩
abbrev main_cst_5 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_6 : Ref sig .tc := ⟨.hbm, 65, rfl⟩
abbrev main_v31 : Ref sig .tc := ⟨.hbm, 66, rfl⟩
abbrev main_v32 : Ref sig .tc := ⟨.hbm, 67, rfl⟩
abbrev main_cst_7 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_8 : Ref sig .tc := ⟨.hbm, 76, rfl⟩
abbrev main_v40 : Ref sig .tc := ⟨.hbm, 77, rfl⟩
abbrev main_v41 : Ref sig .tc := ⟨.hbm, 78, rfl⟩
abbrev main_cst_9 : Ref sig .tc := ⟨.hbm, 79, rfl⟩
abbrev main_v42 : Ref sig .tc := ⟨.hbm, 80, rfl⟩
abbrev main_v43 : Ref sig .tc := ⟨.hbm, 81, rfl⟩
abbrev main_c_10 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_cst_0 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_cst_1 : Ref sig .tc := ⟨.hbm, 93, rfl⟩
abbrev main_call0_v8 : Ref sig .tc := ⟨.hbm, 94, rfl⟩
abbrev main_call0_cst_2 : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_call0_v12 : Ref sig .tc := ⟨.hbm, 99, rfl⟩
abbrev main_call0_cst_3 : Ref sig .tc := ⟨.hbm, 100, rfl⟩
abbrev main_call0_v13 : Ref sig .tc := ⟨.hbm, 101, rfl⟩
abbrev main_call0_cst_4 : Ref sig .tc := ⟨.hbm, 102, rfl⟩
abbrev main_call0_call0_v0 : Ref sig .tc := ⟨.hbm, 103, rfl⟩
abbrev main_call0_call0_v1 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_cst_11 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_call1_cst : Ref sig .tc := ⟨.hbm, 120, rfl⟩
abbrev main_call1_v0 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_cst_12 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_cst_13 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_values_14 : Ref sig .tc := ⟨.hbm, 142, rfl⟩
abbrev main_indices_15 : Ref sig .tc := ⟨.hbm, 143, rfl⟩
abbrev main_c_16 : Ref sig .tc := ⟨.hbm, 144, rfl⟩
abbrev main_v76 : Ref sig .tc := ⟨.hbm, 145, rfl⟩
abbrev main_v77 : Ref sig .tc := ⟨.hbm, 146, rfl⟩
abbrev main_c_17 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_cst_18 : Ref sig .tc := ⟨.hbm, 160, rfl⟩
abbrev main_v90 : Ref sig .tc := ⟨.hbm, 161, rfl⟩
abbrev main_v91 : Ref sig .tc := ⟨.hbm, 162, rfl⟩
abbrev main_cst_19 : Ref sig .tc := ⟨.hbm, 163, rfl⟩
abbrev main_v92 : Ref sig .tc := ⟨.hbm, 164, rfl⟩
abbrev main_v93 : Ref sig .tc := ⟨.hbm, 165, rfl⟩
abbrev main_c_20 : Ref sig .tc := ⟨.hbm, 166, rfl⟩
abbrev main_call2_cst : Ref sig .tc := ⟨.hbm, 167, rfl⟩
abbrev main_call2_v0 : Ref sig .tc := ⟨.hbm, 168, rfl⟩
abbrev main_call2_v1 : Ref sig .tc := ⟨.hbm, 169, rfl⟩
abbrev main_call2_cst_0 : Ref sig .tc := ⟨.hbm, 170, rfl⟩
abbrev main_call2_v2 : Ref sig .tc := ⟨.hbm, 171, rfl⟩
abbrev main_call2_v3 : Ref sig .tc := ⟨.hbm, 172, rfl⟩
abbrev main_call2_v4 : Ref sig .tc := ⟨.hbm, 173, rfl⟩
abbrev main_call2_v5 : Ref sig .tc := ⟨.hbm, 174, rfl⟩
abbrev main_call2_v6 : Ref sig .tc := ⟨.hbm, 175, rfl⟩
abbrev main_call2_v7 : Ref sig .tc := ⟨.hbm, 176, rfl⟩
abbrev main_call2_cst_1 : Ref sig .tc := ⟨.hbm, 177, rfl⟩
abbrev main_call2_v8 : Ref sig .tc := ⟨.hbm, 178, rfl⟩
abbrev main_call2_cst_2 : Ref sig .tc := ⟨.hbm, 179, rfl⟩
abbrev main_call2_v9 : Ref sig .tc := ⟨.hbm, 180, rfl⟩
abbrev main_call2_v10 : Ref sig .tc := ⟨.hbm, 181, rfl⟩
abbrev main_call2_v11 : Ref sig .tc := ⟨.hbm, 182, rfl⟩
abbrev main_call2_v12 : Ref sig .tc := ⟨.hbm, 183, rfl⟩
abbrev main_call2_cst_3 : Ref sig .tc := ⟨.hbm, 184, rfl⟩
abbrev main_call2_v13 : Ref sig .tc := ⟨.hbm, 185, rfl⟩
abbrev main_call2_cst_4 : Ref sig .tc := ⟨.hbm, 186, rfl⟩
abbrev main_call2_call0_v0 : Ref sig .tc := ⟨.hbm, 187, rfl⟩
abbrev main_call2_call0_v1 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_cst_21 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_call3_cst : Ref sig .tc := ⟨.hbm, 204, rfl⟩
abbrev main_call3_v0 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_cst_22 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_call4_cst : Ref sig .tc := ⟨.hbm, 218, rfl⟩
abbrev main_call4_v0 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_cst_23 : Ref sig .tc := ⟨.hbm, 227, rfl⟩
abbrev main_v126 : Ref sig .tc := ⟨.hbm, 228, rfl⟩
abbrev main_v127 : Ref sig .tc := ⟨.hbm, 229, rfl⟩
abbrev main_cst_24 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_cst_25 : Ref sig .tc := ⟨.hbm, 238, rfl⟩
abbrev main_v135 : Ref sig .tc := ⟨.hbm, 239, rfl⟩
abbrev main_v136 : Ref sig .tc := ⟨.hbm, 240, rfl⟩
abbrev main_cst_26 : Ref sig .tc := ⟨.hbm, 241, rfl⟩
abbrev main_v137 : Ref sig .tc := ⟨.hbm, 242, rfl⟩
abbrev main_v138 : Ref sig .tc := ⟨.hbm, 243, rfl⟩
abbrev main_c_27 : Ref sig .tc := ⟨.hbm, 244, rfl⟩
abbrev main_call5_cst : Ref sig .tc := ⟨.hbm, 245, rfl⟩
abbrev main_call5_v0 : Ref sig .tc := ⟨.hbm, 246, rfl⟩
abbrev main_call5_v1 : Ref sig .tc := ⟨.hbm, 247, rfl⟩
abbrev main_call5_cst_0 : Ref sig .tc := ⟨.hbm, 248, rfl⟩
abbrev main_call5_v2 : Ref sig .tc := ⟨.hbm, 249, rfl⟩
abbrev main_call5_v3 : Ref sig .tc := ⟨.hbm, 250, rfl⟩
abbrev main_call5_v4 : Ref sig .tc := ⟨.hbm, 251, rfl⟩
abbrev main_call5_v5 : Ref sig .tc := ⟨.hbm, 252, rfl⟩
abbrev main_call5_v6 : Ref sig .tc := ⟨.hbm, 253, rfl⟩
abbrev main_call5_v7 : Ref sig .tc := ⟨.hbm, 254, rfl⟩
abbrev main_call5_cst_1 : Ref sig .tc := ⟨.hbm, 255, rfl⟩
abbrev main_call5_v8 : Ref sig .tc := ⟨.hbm, 256, rfl⟩
abbrev main_call5_cst_2 : Ref sig .tc := ⟨.hbm, 257, rfl⟩
abbrev main_call5_v9 : Ref sig .tc := ⟨.hbm, 258, rfl⟩
abbrev main_call5_v10 : Ref sig .tc := ⟨.hbm, 259, rfl⟩
abbrev main_call5_v11 : Ref sig .tc := ⟨.hbm, 260, rfl⟩
abbrev main_call5_v12 : Ref sig .tc := ⟨.hbm, 261, rfl⟩
abbrev main_call5_cst_3 : Ref sig .tc := ⟨.hbm, 262, rfl⟩
abbrev main_call5_v13 : Ref sig .tc := ⟨.hbm, 263, rfl⟩
abbrev main_call5_cst_4 : Ref sig .tc := ⟨.hbm, 264, rfl⟩
abbrev main_call5_call0_v0 : Ref sig .tc := ⟨.hbm, 265, rfl⟩
abbrev main_call5_call0_v1 : Ref sig .tc := ⟨.hbm, 266, rfl⟩
abbrev main_v139 : Ref sig .tc := ⟨.hbm, 267, rfl⟩
abbrev main_v140 : Ref sig .tc := ⟨.hbm, 268, rfl⟩
abbrev main_v141 : Ref sig .tc := ⟨.hbm, 269, rfl⟩
abbrev main_cst_28 : Ref sig .tc := ⟨.hbm, 270, rfl⟩
abbrev main_v142 : Ref sig .tc := ⟨.hbm, 271, rfl⟩
abbrev main_v143 : Ref sig .tc := ⟨.hbm, 272, rfl⟩
abbrev main_v144 : Ref sig .tc := ⟨.hbm, 273, rfl⟩
abbrev main_v145 : Ref sig .tc := ⟨.hbm, 274, rfl⟩
abbrev main_v146 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_call6_cst : Ref sig .tc := ⟨.hbm, 282, rfl⟩
abbrev main_call6_v0 : Ref sig .tc := ⟨.hbm, 283, rfl⟩
abbrev main_v153 : Ref sig .tc := ⟨.hbm, 284, rfl⟩
abbrev main_v154 : Ref sig .tc := ⟨.hbm, 285, rfl⟩
abbrev main_v155 : Ref sig .tc := ⟨.hbm, 286, rfl⟩
abbrev main_v156 : Ref sig .tc := ⟨.hbm, 287, rfl⟩

abbrev nD : Nat := 1
abbrev τ : Topo := Topo.v7x

variable {F : FTy → Type} [FloatOps F]
-- ==== Gather.lean ====
abbrev S16384x128 : Shape := ⟨2, ![16384, 128]⟩
abbrev S262144 : Shape := ⟨1, ![262144]⟩
abbrev S262144x128 : Shape := ⟨2, ![262144, 128]⟩
abbrev S512 : Shape := ⟨1, ![512]⟩
abbrev S512x128 : Shape := ⟨2, ![512, 128]⟩
abbrev S_ : Shape := ⟨0, ![]⟩
abbrev S128x128 : Shape := ⟨2, ![128, 128]⟩
abbrev S128 : Shape := ⟨1, ![128]⟩

abbrev nBuf : Table → Nat
  | .hbm => 3
  | .local .scVector .vmem => 2
  | _ => 0

abbrev bufTy : (tb : Table) → Fin (nBuf tb) → BufTy
  | .hbm, ⟨0, _⟩ => ⟨S16384x128, .f32⟩
  | .hbm, ⟨1, _⟩ => ⟨S262144, .i32⟩
  | .hbm, ⟨2, _⟩ => ⟨S262144x128, .f32⟩
  | .local .scVector .vmem, ⟨0, _⟩ => ⟨S512, .i32⟩
  | .local .scVector .vmem, ⟨1, _⟩ => ⟨S512x128, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k0_t1
  let c512_i32 : BitVec 32 := 512#32
  let v4 : BitVec 32 := Scalar.muli arg8 c512_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k0_t1
  let c512_i32 : BitVec 32 := 512#32
  let v4 : BitVec 32 := Scalar.muli arg8 c512_i32
  let v5 : BitVec 32 := Scalar.addi v2 v4
  let c0_i32_39_r1 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== RowsIdeal.lean ====
abbrev S16384x128 : Shape := ⟨2, ![16384, 128]⟩
abbrev S262144 : Shape := ⟨1, ![262144]⟩
abbrev S_ : Shape := ⟨0, ![]⟩
abbrev S262144x1 : Shape := ⟨2, ![262144, 1]⟩
abbrev S262144x128 : Shape := ⟨2, ![262144, 128]⟩

abbrev nBuf : Space → Nat
  | .hbm => 11
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S262144, .i32⟩
  | .hbm, ⟨2, _⟩ => ⟨S_, .i32⟩
  | .hbm, ⟨3, _⟩ => ⟨S262144, .i32⟩
  | .hbm, ⟨4, _⟩ => ⟨S262144, .i1⟩
  | .hbm, ⟨5, _⟩ => ⟨S_, .i32⟩
  | .hbm, ⟨6, _⟩ => ⟨S262144, .i32⟩
  | .hbm, ⟨7, _⟩ => ⟨S262144, .i32⟩
  | .hbm, ⟨8, _⟩ => ⟨S262144, .i32⟩
  | .hbm, ⟨9, _⟩ => ⟨S262144x1, .i32⟩
  | .hbm, ⟨10, _⟩ => ⟨S262144x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Network.lean ====
abbrev S16384x16x128 : Shape := ⟨3, ![16384, 16, 128]⟩
abbrev S16384x128 : Shape := ⟨2, ![16384, 128]⟩
abbrev S16384x3 : Shape := ⟨2, ![16384, 3]⟩
abbrev S10x64 : Shape := ⟨2, ![10, 64]⟩
abbrev S64 : Shape := ⟨1, ![64]⟩
abbrev S64x64 : Shape := ⟨2, ![64, 64]⟩
abbrev S128x32 : Shape := ⟨2, ![128, 32]⟩
abbrev S32 : Shape := ⟨1, ![32]⟩
abbrev S1x32 : Shape := ⟨2, ![1, 32]⟩
abbrev S1 : Shape := ⟨1, ![1]⟩
abbrev S256x128 : Shape := ⟨2, ![256, 128]⟩
abbrev S128 : Shape := ⟨1, ![128]⟩
abbrev S16384x1 : Shape := ⟨2, ![16384, 1]⟩
abbrev S128x16x128 : Shape := ⟨3, ![128, 16, 128]⟩
abbrev S128x128 : Shape := ⟨2, ![128, 128]⟩
abbrev S128x3 : Shape := ⟨2, ![128, 3]⟩
abbrev S128x1 : Shape := ⟨2, ![128, 1]⟩
abbrev S128x64 : Shape := ⟨2, ![128, 64]⟩
abbrev S128x16x3 : Shape := ⟨3, ![128, 16, 3]⟩
abbrev S128x1x3 : Shape := ⟨3, ![128, 1, 3]⟩
abbrev S128x16x1 : Shape := ⟨3, ![128, 16, 1]⟩
abbrev S128x16 : Shape := ⟨2, ![128, 16]⟩
abbrev S128x10 : Shape := ⟨2, ![128, 10]⟩
abbrev S1x64 : Shape := ⟨2, ![1, 64]⟩
abbrev S128x16x64 : Shape := ⟨3, ![128, 16, 64]⟩
abbrev S128x1x64 : Shape := ⟨3, ![128, 1, 64]⟩
abbrev S1x1x64 : Shape := ⟨3, ![1, 1, 64]⟩
abbrev S2048x64 : Shape := ⟨2, ![2048, 64]⟩
abbrev S1x1 : Shape := ⟨2, ![1, 1]⟩
abbrev S128x256 : Shape := ⟨2, ![128, 256]⟩
abbrev S1x128 : Shape := ⟨2, ![1, 128]⟩

abbrev nBuf : Space → Nat
  | .hbm => 27
  | .vmem => 35
  | .smem => 0
  | _ => 0

abbrev bufTy : (tb : Table) → Fin (tcTables nBuf tb) → BufTy
  | .hbm, ⟨0, _⟩ => ⟨S16384x16x128, .f32⟩
  | .hbm, ⟨1, _⟩ => ⟨S16384x128, .f32⟩
  | .hbm, ⟨2, _⟩ => ⟨S16384x3, .f32⟩
  | .hbm, ⟨3, _⟩ => ⟨S16384x128, .f32⟩
  | .hbm, ⟨4, _⟩ => ⟨S16384x3, .f32⟩
  | .hbm, ⟨5, _⟩ => ⟨S16384x3, .f32⟩
  | .hbm, ⟨6, _⟩ => ⟨S10x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S128x32, .f32⟩
  | .hbm, ⟨18, _⟩ => ⟨S32, .f32⟩
  | .hbm, ⟨19, _⟩ => ⟨S1x32, .f32⟩
  | .hbm, ⟨20, _⟩ => ⟨S1, .f32⟩
  | .hbm, ⟨21, _⟩ => ⟨S256x128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S16384x128, .f32⟩
  | .hbm, ⟨26, _⟩ => ⟨S16384x1, .f32⟩
  | .local _ .vmem, ⟨0, _⟩ => ⟨S128x16x128, .f32⟩
  | .local _ .vmem, ⟨1, _⟩ => ⟨S128x16x128, .f32⟩
  | .local _ .vmem, ⟨2, _⟩ => ⟨S128x128, .f32⟩
  | .local _ .vmem, ⟨3, _⟩ => ⟨S128x128, .f32⟩
  | .local _ .vmem, ⟨4, _⟩ => ⟨S128x3, .f32⟩
  | .local _ .vmem, ⟨5, _⟩ => ⟨S128x3, .f32⟩
  | .local _ .vmem, ⟨6, _⟩ => ⟨S128x128, .f32⟩
  | .local _ .vmem, ⟨7, _⟩ => ⟨S128x128, .f32⟩
  | .local _ .vmem, ⟨8, _⟩ => ⟨S128x3, .f32⟩
  | .local _ .vmem, ⟨9, _⟩ => ⟨S128x3, .f32⟩
  | .local _ .vmem, ⟨10, _⟩ => ⟨S128x3, .f32⟩
  | .local _ .vmem, ⟨11, _⟩ => ⟨S128x3, .f32⟩
  | .local _ .vmem, ⟨12, _⟩ => ⟨S10x64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S64, .f32⟩
  | .local _ .vmem, ⟨19, _⟩ => ⟨S64, .f32⟩
  | .local _ .vmem, ⟨20, _⟩ => ⟨S64, .f32⟩
  | .local _ .vmem, ⟨21, _⟩ => ⟨S64x64, .f32⟩
  | .local _ .vmem, ⟨22, _⟩ => ⟨S64, .f32⟩
  | .local _ .vmem, ⟨23, _⟩ => ⟨S128x32, .f32⟩
  | .local _ .vmem, ⟨24, _⟩ => ⟨S32, .f32⟩
  | .local _ .vmem, ⟨25, _⟩ => ⟨S1x32, .f32⟩
  | .local _ .vmem, ⟨26, _⟩ => ⟨S1, .f32⟩
  | .local _ .vmem, ⟨27, _⟩ => ⟨S256x128, .f32⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S128x128, .f32⟩
  | .local _ .vmem, ⟨32, _⟩ => ⟨S128x128, .f32⟩
  | .local _ .vmem, ⟨33, _⟩ => ⟨S128x1, .f32⟩
  | .local _ .vmem, ⟨34, _⟩ => ⟨S128x1, .f32⟩
  | _, _ => ⟨S16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0_0 : Ref sig .tc := ⟨.hbm, 25, rfl⟩
abbrev main_v0_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg25_1 : Ref sig .tc := ⟨.vmem, 32, rfl⟩
abbrev cc0_stg26_0 : Ref sig .tc := ⟨.vmem, 33, rfl⟩
abbrev cc0_stg26_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem25_1 : DmaSem sig := 32
abbrev cc0_sem26_0 : DmaSem sig := 33
abbrev cc0_sem26_1 : DmaSem sig := 34

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S10x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S128x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S128x1 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== HeadsIdeal.lean ====
abbrev S16384x16x128 : Shape := ⟨3, ![16384, 16, 128]⟩
abbrev S16384x128 : Shape := ⟨2, ![16384, 128]⟩
abbrev S16384x3 : Shape := ⟨2, ![16384, 3]⟩
abbrev S10x64 : Shape := ⟨2, ![10, 64]⟩
abbrev S64 : Shape := ⟨1, ![64]⟩
abbrev S64x64 : Shape := ⟨2, ![64, 64]⟩
abbrev S128x32 : Shape := ⟨2, ![128, 32]⟩
abbrev S32 : Shape := ⟨1, ![32]⟩
abbrev S1x32 : Shape := ⟨2, ![1, 32]⟩
abbrev S1 : Shape := ⟨1, ![1]⟩
abbrev S256x128 : Shape := ⟨2, ![256, 128]⟩
abbrev S128 : Shape := ⟨1, ![128]⟩
abbrev S16384x16x3 : Shape := ⟨3, ![16384, 16, 3]⟩
abbrev S16384x1x3 : Shape := ⟨3, ![16384, 1, 3]⟩
abbrev S_ : Shape := ⟨0, ![]⟩
abbrev S16384x16 : Shape := ⟨2, ![16384, 16]⟩
abbrev S16384 : Shape := ⟨1, ![16384]⟩
abbrev S16384x1 : Shape := ⟨2, ![16384, 1]⟩
abbrev S16384x10 : Shape := ⟨2, ![16384, 10]⟩
abbrev S16384x64 : Shape := ⟨2, ![16384, 64]⟩
abbrev S1x64 : Shape := ⟨2, ![1, 64]⟩
abbrev S16384x1x64 : Shape := ⟨3, ![16384, 1, 64]⟩
abbrev S16384x16x64 : Shape := ⟨3, ![16384, 16, 64]⟩
abbrev S1x1x64 : Shape := ⟨3, ![1, 1, 64]⟩
abbrev S16384x16x1 : Shape := ⟨3, ![16384, 16, 1]⟩
abbrev S16384x32 : Shape := ⟨2, ![16384, 32]⟩
abbrev S32x1 : Shape := ⟨2, ![32, 1]⟩
abbrev S1x1 : Shape := ⟨2, ![1, 1]⟩
abbrev S16384x256 : Shape := ⟨2, ![16384, 256]⟩
abbrev S1x128 : Shape := ⟨2, ![1, 128]⟩

abbrev nBuf : Space → Nat
  | .hbm => 240
  | .vmem => 0
  | .smem => 0
  | _ => 0

abbrev hbmTy0_0 (i : Nat) : BufTy := match i % 128 with
  | 0 => ⟨S16384x16x128, .f32⟩
  | 1 => ⟨S16384x128, .f32⟩
  | 2 => ⟨S16384x3, .f32⟩
  | 3 => ⟨S16384x128, .f32⟩
  | 4 => ⟨S16384x3, .f32⟩
  | 5 => ⟨S16384x3, .f32⟩
  | 6 => ⟨S10x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64, .f32⟩
  | 15 => ⟨S64x64, .f32⟩
  | 16 => ⟨S64, .f32⟩
  | 17 => ⟨S128x32, .f32⟩
  | 18 => ⟨S32, .f32⟩
  | 19 => ⟨S1x32, .f32⟩
  | 20 => ⟨S1, .f32⟩
  | 21 => ⟨S256x128, .f32⟩
  | 22 => ⟨S128, .f32⟩
  | 23 => ⟨S128, .f32⟩
  | 24 => ⟨S128, .f32⟩
  | 25 => ⟨S16384x16x3, .f32⟩
  | 26 => ⟨S16384x1x3, .f32⟩
  | 27 => ⟨S16384x16x3, .f32⟩
  | 28 => ⟨S16384x16x3, .f32⟩
  | 29 => ⟨S_, .f32⟩
  | 30 => ⟨S16384x3, .f32⟩
  | 31 => ⟨S_, .f32⟩
  | 32 => ⟨S16384x3, .f32⟩
  | 33 => ⟨S16384x3, .f32⟩
  | 34 => ⟨S16384x16x3, .f32⟩
  | 35 => ⟨S_, .f32⟩
  | 36 => ⟨S16384x16, .f32⟩
  | 37 => ⟨S_, .f32⟩
  | 38 => ⟨S16384x16, .f32⟩
  | 39 => ⟨S16384x16, .f32⟩
  | 40 => ⟨S16384x16, .f32⟩
  | 41 => ⟨S_, .f32⟩
  | 42 => ⟨S16384, .f32⟩
  | 43 => ⟨S16384x1, .f32⟩
  | 44 => ⟨S_, .f32⟩
  | 45 => ⟨S16384x1, .f32⟩
  | 46 => ⟨S16384x1, .f32⟩
  | 47 => ⟨S16384x10, .f32⟩
  | 48 => ⟨S16384x64, .f32⟩
  | 49 => ⟨S1x64, .f32⟩
  | 50 => ⟨S16384x64, .f32⟩
  | 51 => ⟨S16384x64, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S_, .i32⟩
  | 59 => ⟨S_, .f32⟩
  | 60 => ⟨S16384, .f32⟩
  | 61 => ⟨S16384x1, .f32⟩
  | 62 => ⟨S_, .f32⟩
  | 63 => ⟨S16384x1, .f32⟩
  | 64 => ⟨S16384x1, .f32⟩
  | 65 => ⟨S16384x64, .f32⟩
  | 66 => ⟨S16384x64, .f32⟩
  | 67 => ⟨S16384x64, .f32⟩
  | 68 => ⟨S_, .f32⟩
  | 69 => ⟨S_, .f32⟩
  | 70 => ⟨S_, .f32⟩
  | 71 => ⟨S_, .f32⟩
  | 72 => ⟨S16384, .f32⟩
  | 73 => ⟨S16384x1, .f32⟩
  | 74 => ⟨S16384x1, .f32⟩
  | 75 => ⟨S16384x1, .f32⟩
  | 76 => ⟨S_, .f32⟩
  | 77 => ⟨S_, .i1⟩
  | 78 => ⟨S_, .f32⟩
  | 79 => ⟨S_, .f32⟩
  | 80 => ⟨S16384x1, .f32⟩
  | 81 => ⟨S16384x1, .f32⟩
  | 82 => ⟨S16384x64, .f32⟩
  | 83 => ⟨S16384x64, .f32⟩
  | 84 => ⟨S_, .f32⟩
  | 85 => ⟨S16384x1, .f32⟩
  | 86 => ⟨S16384x1, .f32⟩
  | 87 => ⟨S16384x1, .f32⟩
  | 88 => ⟨S16384x64, .f32⟩
  | 89 => ⟨S16384x64, .f32⟩
  | 90 => ⟨S1x64, .f32⟩
  | 91 => ⟨S16384x64, .f32⟩
  | 92 => ⟨S16384x64, .f32⟩
  | 93 => ⟨S1x64, .f32⟩
  | 94 => ⟨S16384x64, .f32⟩
  | 95 => ⟨S16384x64, .f32⟩
  | 96 => ⟨S_, .f32⟩
  | 97 => ⟨S16384x64, .f32⟩
  | 98 => ⟨S16384x64, .f32⟩
  | 99 => ⟨S16384x64, .f32⟩
  | 100 => ⟨S1x64, .f32⟩
  | 101 => ⟨S16384x64, .f32⟩
  | 102 => ⟨S16384x64, .f32⟩
  | 103 => ⟨S16384x64, .f32⟩
  | 104 => ⟨S16384x1x64, .f32⟩
  | 105 => ⟨S16384x16x64, .f32⟩
  | 106 => ⟨S16384x16x64, .f32⟩
  | 107 => ⟨S16384x16x64, .f32⟩
  | 108 => ⟨S1x1x64, .f32⟩
  | 109 => ⟨S16384x16x64, .f32⟩
  | 110 => ⟨S16384x16x64, .f32⟩
  | 111 => ⟨S_, .f32⟩
  | 112 => ⟨S16384x16, .f32⟩
  | 113 => ⟨S16384x16x1, .f32⟩
  | 114 => ⟨S_, .f32⟩
  | 115 => ⟨S16384x16x1, .f32⟩
  | 116 => ⟨S16384x16x1, .f32⟩
  | 117 => ⟨S_, .i32⟩
  | 118 => ⟨S_, .f32⟩
  | 119 => ⟨S16384x16, .f32⟩
  | 120 => ⟨S16384x16x1, .f32⟩
  | 121 => ⟨S_, .f32⟩
  | 122 => ⟨S16384x16x1, .f32⟩
  | 123 => ⟨S16384x16x1, .f32⟩
  | 124 => ⟨S16384x16x64, .f32⟩
  | 125 => ⟨S16384x16x64, .f32⟩
  | 126 => ⟨S16384x16x64, .f32⟩
  | 127 => ⟨S_, .f32⟩
  | _ => ⟨S16384x16x128, .f32⟩

abbrev hbmTy0_1 (i : Nat) : BufTy := match i % 128 with
  | 0 => ⟨S_, .f32⟩
  | 1 => ⟨S_, .f32⟩
  | 2 => ⟨S_, .f32⟩
  | 3 => ⟨S16384x16, .f32⟩
  | 4 => ⟨S16384x16x1, .f32⟩
  | 5 => ⟨S16384x16x1, .f32⟩
  | 6 => ⟨S16384x16x1, .f32⟩
  | 7 => ⟨S_, .f32⟩
  | 8 => ⟨S_, .i1⟩
  | 9 => ⟨S_, .f32⟩
  | 10 => ⟨S_, .f32⟩
  | 11 => ⟨S16384x16x1, .f32⟩
  | 12 => ⟨S16384x16x1, .f32⟩
  | 13 => ⟨S16384x16x64, .f32⟩
  | 14 => ⟨S16384x16x64, .f32⟩
  | 15 => ⟨S_, .f32⟩
  | 16 => ⟨S16384x16x1, .f32⟩
  | 17 => ⟨S16384x16x1, .f32⟩
  | 18 => ⟨S16384x16x1, .f32⟩
  | 19 => ⟨S16384x16x64, .f32⟩
  | 20 => ⟨S16384x16x64, .f32⟩
  | 21 => ⟨S1x1x64, .f32⟩
  | 22 => ⟨S16384x16x64, .f32⟩
  | 23 => ⟨S16384x16x64, .f32⟩
  | 24 => ⟨S1x1x64, .f32⟩
  | 25 => ⟨S16384x16x64, .f32⟩
  | 26 => ⟨S16384x16x64, .f32⟩
  | 27 => ⟨S_, .f32⟩
  | 28 => ⟨S16384x16x64, .f32⟩
  | 29 => ⟨S16384x16x64, .f32⟩
  | 30 => ⟨S16384x16x64, .f32⟩
  | 31 => ⟨S1x1x64, .f32⟩
  | 32 => ⟨S16384x16x64, .f32⟩
  | 33 => ⟨S16384x16x64, .f32⟩
  | 34 => ⟨S_, .f32⟩
  | 35 => ⟨S16384x64, .f32⟩
  | 36 => ⟨S16384x128, .f32⟩
  | 37 => ⟨S16384x32, .f32⟩
  | 38 => ⟨S1x32, .f32⟩
  | 39 => ⟨S16384x32, .f32⟩
  | 40 => ⟨S16384x32, .f32⟩
  | 41 => ⟨S_, .f32⟩
  | 42 => ⟨S16384x32, .f32⟩
  | 43 => ⟨S16384x32, .f32⟩
  | 44 => ⟨S32x1, .f32⟩
  | 45 => ⟨S16384x1, .f32⟩
  | 46 => ⟨S1x1, .f32⟩
  | 47 => ⟨S16384x1, .f32⟩
  | 48 => ⟨S16384x1, .f32⟩
  | 49 => ⟨S16384x1, .f32⟩
  | 50 => ⟨S16384x1, .f32⟩
  | 51 => ⟨S_, .f32⟩
  | 52 => ⟨S16384x1, .f32⟩
  | 53 => ⟨S16384x1, .f32⟩
  | 54 => ⟨S_, .f32⟩
  | 55 => ⟨S16384x1, .f32⟩
  | 56 => ⟨S16384x1, .f32⟩
  | 57 => ⟨S16384x256, .f32⟩
  | 58 => ⟨S16384x128, .f32⟩
  | 59 => ⟨S1x128, .f32⟩
  | 60 => ⟨S16384x128, .f32⟩
  | 61 => ⟨S16384x128, .f32⟩
  | 62 => ⟨S_, .f32⟩
  | 63 => ⟨S16384, .f32⟩
  | 64 => ⟨S16384x1, .f32⟩
  | 65 => ⟨S_, .f32⟩
  | 66 => ⟨S16384x1, .f32⟩
  | 67 => ⟨S16384x1, .f32⟩
  | 68 => ⟨S_, .i32⟩
  | 69 => ⟨S_, .f32⟩
  | 70 => ⟨S16384, .f32⟩
  | 71 => ⟨S16384x1, .f32⟩
  | 72 => ⟨S_, .f32⟩
  | 73 => ⟨S16384x1, .f32⟩
  | 74 => ⟨S16384x1, .f32⟩
  | 75 => ⟨S16384x128, .f32⟩
  | 76 => ⟨S16384x128, .f32⟩
  | 77 => ⟨S16384x128, .f32⟩
  | 78 => ⟨S_, .f32⟩
  | 79 => ⟨S_, .f32⟩
  | 80 => ⟨S_, .f32⟩
  | 81 => ⟨S_, .f32⟩
  | 82 => ⟨S16384, .f32⟩
  | 83 => ⟨S16384x1, .f32⟩
  | 84 => ⟨S16384x1, .f32⟩
  | 85 => ⟨S16384x1, .f32⟩
  | 86 => ⟨S_, .f32⟩
  | 87 => ⟨S_, .i1⟩
  | 88 => ⟨S_, .f32⟩
  | 89 => ⟨S_, .f32⟩
  | 90 => ⟨S16384x1, .f32⟩
  | 91 => ⟨S16384x1, .f32⟩
  | 92 => ⟨S16384x128, .f32⟩
  | 93 => ⟨S16384x128, .f32⟩
  | 94 => ⟨S_, .f32⟩
  | 95 => ⟨S16384x1, .f32⟩
  | 96 => ⟨S16384x1, .f32⟩
  | 97 => ⟨S16384x1, .f32⟩
  | 98 => ⟨S16384x128, .f32⟩
  | 99 => ⟨S16384x128, .f32⟩
  | 100 => ⟨S1x128, .f32⟩
  | 101 => ⟨S16384x128, .f32⟩
  | 102 => ⟨S16384x128, .f32⟩
  | 103 => ⟨S1x128, .f32⟩
  | 104 => ⟨S16384x128, .f32⟩
  | 105 => ⟨S16384x128, .f32⟩
  | 106 => ⟨S_, .f32⟩
  | 107 => ⟨S16384x128, .f32⟩
  | 108 => ⟨S16384x128, .f32⟩
  | 109 => ⟨S16384x128, .f32⟩
  | 110 => ⟨S16384x128, .f32⟩
  | 111 => ⟨S16384x128, .f32⟩
  | _ => ⟨S16384x16x128, .f32⟩

abbrev hbmTy (i : Nat) : BufTy := match i / 128 with
  | 0 => hbmTy0_0 i
  | 1 => hbmTy0_1 i
  | _ => ⟨S16384x16x128, .f32⟩

abbrev bufTy : (tb : Table) → Fin (tcTables nBuf tb) → BufTy
  | .hbm, ⟨i, _⟩ => hbmTy i
  | _, _ => ⟨S16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_cst_2 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_3 : Ref sig .tc := ⟨.hbm, 41, rfl⟩
abbrev main_v12 : Ref sig .tc := ⟨.hbm, 42, rfl⟩
abbrev main_v13 : Ref sig .tc := ⟨.hbm, 43, rfl⟩
abbrev main_cst_4 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_5 : Ref sig .tc := ⟨.hbm, 52, rfl⟩
abbrev main_v21 : Ref sig .tc := ⟨.hbm, 53, rfl⟩
abbrev main_v22 : Ref sig .tc := ⟨.hbm, 54, rfl⟩
abbrev main_cst_6 : Ref sig .tc := ⟨.hbm, 55, rfl⟩
abbrev main_v23 : Ref sig .tc := ⟨.hbm, 56, rfl⟩
abbrev main_v24 : Ref sig .tc := ⟨.hbm, 57, rfl⟩
abbrev main_c : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_v12 : Ref sig .tc := ⟨.hbm, 75, rfl⟩
abbrev main_call0_cst_3 : Ref sig .tc := ⟨.hbm, 76, rfl⟩
abbrev main_call0_v13 : Ref sig .tc := ⟨.hbm, 77, rfl⟩
abbrev main_call0_cst_4 : Ref sig .tc := ⟨.hbm, 78, rfl⟩
abbrev main_call0_call0_v0 : Ref sig .tc := ⟨.hbm, 79, rfl⟩
abbrev main_call0_call0_v1 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_cst_7 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_call1_cst : Ref sig .tc := ⟨.hbm, 96, rfl⟩
abbrev main_call1_v0 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_cst_8 : Ref sig .tc := ⟨.hbm, 111, rfl⟩
abbrev main_v52 : Ref sig .tc := ⟨.hbm, 112, rfl⟩
abbrev main_v53 : Ref sig .tc := ⟨.hbm, 113, rfl⟩
abbrev main_cst_9 : Ref sig .tc := ⟨.hbm, 114, rfl⟩
abbrev main_v54 : Ref sig .tc := ⟨.hbm, 115, rfl⟩
abbrev main_v55 : Ref sig .tc := ⟨.hbm, 116, rfl⟩
abbrev main_c_10 : Ref sig .tc := ⟨.hbm, 117, rfl⟩
abbrev main_call2_cst : Ref sig .tc := ⟨.hbm, 118, rfl⟩
abbrev main_call2_v0 : Ref sig .tc := ⟨.hbm, 119, rfl⟩
abbrev main_call2_v1 : Ref sig .tc := ⟨.hbm, 120, rfl⟩
abbrev main_call2_cst_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_v7 : Ref sig .tc := ⟨.hbm, 127, rfl⟩
abbrev main_call2_cst_1 : Ref sig .tc := ⟨.hbm, 128, rfl⟩
abbrev main_call2_v8 : Ref sig .tc := ⟨.hbm, 129, rfl⟩
abbrev main_call2_cst_2 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_v12 : Ref sig .tc := ⟨.hbm, 134, rfl⟩
abbrev main_call2_cst_3 : Ref sig .tc := ⟨.hbm, 135, rfl⟩
abbrev main_call2_v13 : Ref sig .tc := ⟨.hbm, 136, rfl⟩
abbrev main_call2_cst_4 : Ref sig .tc := ⟨.hbm, 137, rfl⟩
abbrev main_call2_call0_v0 : Ref sig .tc := ⟨.hbm, 138, rfl⟩
abbrev main_call2_call0_v1 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_cst_11 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_call3_cst : Ref sig .tc := ⟨.hbm, 155, rfl⟩
abbrev main_call3_v0 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_cst_12 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_call4_cst : Ref sig .tc := ⟨.hbm, 169, rfl⟩
abbrev main_call4_v0 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_cst_13 : Ref sig .tc := ⟨.hbm, 179, rfl⟩
abbrev main_v89 : Ref sig .tc := ⟨.hbm, 180, rfl⟩
abbrev main_v90 : Ref sig .tc := ⟨.hbm, 181, rfl⟩
abbrev main_cst_14 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_cst_15 : Ref sig .tc := ⟨.hbm, 190, rfl⟩
abbrev main_v98 : Ref sig .tc := ⟨.hbm, 191, rfl⟩
abbrev main_v99 : Ref sig .tc := ⟨.hbm, 192, rfl⟩
abbrev main_cst_16 : Ref sig .tc := ⟨.hbm, 193, rfl⟩
abbrev main_v100 : Ref sig .tc := ⟨.hbm, 194, rfl⟩
abbrev main_v101 : Ref sig .tc := ⟨.hbm, 195, rfl⟩
abbrev main_c_17 : Ref sig .tc := ⟨.hbm, 196, rfl⟩
abbrev main_call5_cst : Ref sig .tc := ⟨.hbm, 197, rfl⟩
abbrev main_call5_v0 : Ref sig .tc := ⟨.hbm, 198, rfl⟩
abbrev main_call5_v1 : Ref sig .tc := ⟨.hbm, 199, rfl⟩
abbrev main_call5_cst_0 : Ref sig .tc := ⟨.hbm, 200, rfl⟩
abbrev main_call5_v2 : Ref sig .tc := ⟨.hbm, 201, rfl⟩
abbrev main_call5_v3 : Ref sig .tc := ⟨.hbm, 202, rfl⟩
abbrev main_call5_v4 : Ref sig .tc := ⟨.hbm, 203, rfl⟩
abbrev main_call5_v5 : Ref sig .tc := ⟨.hbm, 204, rfl⟩
abbrev main_call5_v6 : Ref sig .tc := ⟨.hbm, 205, rfl⟩
abbrev main_call5_v7 : Ref sig .tc := ⟨.hbm, 206, rfl⟩
abbrev main_call5_cst_1 : Ref sig .tc := ⟨.hbm, 207, rfl⟩
abbrev main_call5_v8 : Ref sig .tc := ⟨.hbm, 208, rfl⟩
abbrev main_call5_cst_2 : Ref sig .tc := ⟨.hbm, 209, rfl⟩
abbrev main_call5_v9 : Ref sig .tc := ⟨.hbm, 210, rfl⟩
abbrev main_call5_v10 : Ref sig .tc := ⟨.hbm, 211, rfl⟩
abbrev main_call5_v11 : Ref sig .tc := ⟨.hbm, 212, rfl⟩
abbrev main_call5_v12 : Ref sig .tc := ⟨.hbm, 213, rfl⟩
abbrev main_call5_cst_3 : Ref sig .tc := ⟨.hbm, 214, rfl⟩
abbrev main_call5_v13 : Ref sig .tc := ⟨.hbm, 215, rfl⟩
abbrev main_call5_cst_4 : Ref sig .tc := ⟨.hbm, 216, rfl⟩
abbrev main_call5_call0_v0 : Ref sig .tc := ⟨.hbm, 217, rfl⟩
abbrev main_call5_call0_v1 : Ref sig .tc := ⟨.hbm, 218, rfl⟩
abbrev main_v102 : Ref sig .tc := ⟨.hbm, 219, rfl⟩
abbrev main_v103 : Ref sig .tc := ⟨.hbm, 220, rfl⟩
abbrev main_v104 : Ref sig .tc := ⟨.hbm, 221, rfl⟩
abbrev main_cst_18 : Ref sig .tc := ⟨.hbm, 222, rfl⟩
abbrev main_v105 : Ref sig .tc := ⟨.hbm, 223, rfl⟩
abbrev main_v106 : Ref sig .tc := ⟨.hbm, 224, rfl⟩
abbrev main_v107 : Ref sig .tc := ⟨.hbm, 225, rfl⟩
abbrev main_v108 : Ref sig .tc := ⟨.hbm, 226, rfl⟩
abbrev main_v109 : Ref sig .tc := ⟨.hbm, 227, rfl⟩
abbrev main_v110 : Ref sig .tc := ⟨.hbm, 228, rfl⟩
abbrev main_v111 : Ref sig .tc := ⟨.hbm, 229, rfl⟩
abbrev main_v112 : Ref sig .tc := ⟨.hbm, 230, rfl⟩
abbrev main_v113 : Ref sig .tc := ⟨.hbm, 231, rfl⟩
abbrev main_v114 : Ref sig .tc := ⟨.hbm, 232, rfl⟩
abbrev main_v115 : Ref sig .tc := ⟨.hbm, 233, rfl⟩
abbrev main_call6_cst : Ref sig .tc := ⟨.hbm, 234, rfl⟩
abbrev main_call6_v0 : Ref sig .tc := ⟨.hbm, 235, rfl⟩
abbrev main_v116 : Ref sig .tc := ⟨.hbm, 236, rfl⟩
abbrev main_v117 : Ref sig .tc := ⟨.hbm, 237, rfl⟩
abbrev main_v118 : Ref sig .tc := ⟨.hbm, 238, rfl⟩
abbrev main_v119 : Ref sig .tc := ⟨.hbm, 239, rfl⟩

abbrev nD : Nat := 1
abbrev τ : Topo := Topo.v7x

variable {F : FTy → Type} [FloatOps F]
-- ==== Proof.BatchGather.lean ====
/-
  Several indirect gathers outstanding on ONE semaphore.  A tile issues a number of gathers back to back on one
  transfer semaphore and only then waits for them, so no wait but the last tells it anything: the rows of all the
  gathers are one counted batch (`Transfers.Batch`), a row being one transfer of the batch.  `wp_gather_into_batch`
  issues one gather into such a batch, its rows taking the next issue rights; `gather_rows_join` puts the delivered
  rows of one gather back together.
-/
module

public import Idealize.ShloMosaic.Lib.Batch
public import Idealize.ShloMosaic.Lib.SparseCore.Stream
public import Idealize.ShloMosaic.Lib.Tactic

@[expose] public section

noncomputable section

namespace Cert.Proof.BatchGather

open Idealize.ShloMosaic Idealize.ShloMosaic.SparseCore
open Idealize.SL
open Idealize.SL.BI (sProp Storable bigSep bigSep_insert)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

section Pending

variable {n : ℕ}

omit [Preorder Lvl] in
/-- The issue rights from `j` on are those of the next `o` transfers beside those from `j + o` on. -/
theorem pending_split (Φ : Fin n → sProp 𝕄) (j : ℕ) : ∀ (o : ℕ) (h : j + o ≤ n),
    bigSep (Transfers.pending j) Φ
      = iprop((bigSep Finset.univ fun k : Fin o => Φ ⟨j + k.val, lt_of_lt_of_le (Nat.add_lt_add_left k.isLt j) h⟩)
          ∗ bigSep (Transfers.pending (j + o)) Φ) := by
  intro o h
  have hinj : Function.Injective fun k : Fin o =>
      (⟨j + k.val, lt_of_lt_of_le (Nat.add_lt_add_left k.isLt j) h⟩ : Fin n) := fun a b hab => by
    have := congrArg Fin.val hab
    exact Fin.ext (Nat.add_left_cancel this)
  have hset : Transfers.pending (n := n) j = (Finset.univ.map ⟨_, hinj⟩) ∪ Transfers.pending (j + o) := by
    ext t
    simp only [Transfers.pending, Finset.mem_filter, Finset.mem_univ, _root_.true_and, Finset.mem_union, Finset.mem_map,
      Function.Embedding.coeFn_mk, Fin.ext_iff]
    constructor
    · intro ht
      by_cases h2 : j + o ≤ t.val
      · exact .inr h2
      · exact .inl ⟨⟨t.val - j, by omega⟩, by show j + (t.val - j) = t.val; omega⟩
    · rintro (⟨k, hk⟩ | h2)
      · exact hk ▸ Nat.le_add_right _ _
      · omega
  have hdis : Disjoint (Finset.univ.map ⟨_, hinj⟩) (Transfers.pending (n := n) (j + o)) := by
    rw [Finset.disjoint_left]
    intro t ht ht2
    simp only [Transfers.pending, Finset.mem_filter, Finset.mem_univ, _root_.true_and, Finset.mem_map,
      Function.Embedding.coeFn_mk, Fin.ext_iff] at ht ht2
    obtain ⟨k, hk⟩ := ht
    have := k.isLt
    omega
  rw [hset, BI.bigSep_union hdis, BI.bigSep_map]
  rfl

end Pending

section Gather

variable (c : Thread nD τ) {sp : Space} {s₀ s si : Shape} {e : EltTy} {a : Nat}

/-- What row `j` of a gather hands back: the destination's row `j` holding the source's row `r j`, entry `j` of the list
    of rows, and the piece of the source the row was read from. -/
def rowBack (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c))
    (fo : Buf (Elt F) (offs.view.loc c)) (r : Fin (s.size hg.axis') → Fin (s₀.size hg.axis)) (ho : 0 < s.size hg.axis')
    (j : Fin (s.size hg.axis')) : sProp 𝕄 :=
  iprop(((dst.view.loc c ↦[(dst.view.slice (s.rowRect hg.axis' j)).set]{fullShare}
        ((dst.view.slice (s.rowRect hg.axis' j)).write (Elt F) fd
          (fun i => src.view.read (Elt F) fs (hg.rowIdx (r j) i)) Finset.univ))
      ∗ (offs.view.loc c ↦[{offs.view.emb (si.rowMajor.symm (finCongr hn.symm j))}]{qo} fo))
    ∗ (src.view.loc c ↦[src.view.set]{pieceOf q _ ho j} fs))

instance rowBack_storable (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c))
    (fo : Buf (Elt F) (offs.view.loc c)) (r : Fin (s.size hg.axis') → Fin (s₀.size hg.axis)) (ho : 0 < s.size hg.axis')
    (j : Fin (s.size hg.axis')) :
    Storable (upEmb : UEmb _ 𝕄) (rowBack (Ix := Ix) (Name := Name) (U := U) (Lvl := Lvl) c src dst hg offs hn q qo fs fd fo r ho j) := by
  unfold rowBack; infer_instance

omit [Preorder Lvl] in
/-- Every row of a gather handed back is the destination written with the gathered rows, the source's share and the
    list's. -/
theorem gather_rows_join (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c))
    (fo : Buf (Elt F) (offs.view.loc c)) (r : Fin (s.size hg.axis') → Fin (s₀.size hg.axis)) (ho : 0 < s.size hg.axis') :
    bigSep Finset.univ (rowBack (Ix := Ix) (Name := Name) (U := U) (Lvl := Lvl) c src dst hg offs hn q qo fs fd fo r ho)
      ⊢ iprop((dst.view.loc c ↦[dst.view.set]{fullShare}
              (dst.view.write (Elt F) fd (gatherPayload hg (src.view.read (Elt F) fs) r) Finset.univ))
          ∗ (src.view.loc c ↦[src.view.set]{q} fs) ∗ (offs.view.loc c ↦[offs.view.set]{qo} fo)) := by
  unfold rowBack
  have hen : Function.Bijective fun j => si.rowMajor.symm (finCongr hn.symm j) :=
    si.rowMajor.symm.bijective.comp (finCongr hn.symm).bijective
  have hrows := pointsTo_rows_write (Ix := Ix) (Name := Name) (U := U) (Lvl := Lvl) c dst.view hg.axis' fd
    (fun j i => src.view.read (Elt F) fs (hg.rowIdx (r j) i)) (gatherPayload hg (src.view.read (Elt F) fs) r)
    (fun j i => by unfold gatherPayload; rw [Shape.Gathers.idx_rowRect_emb])
  have hsrc := Entails.of_eq (pointsTo_piecesOf (Ix := Ix) (Name := Name) (U := U) (Lvl := Lvl) src.view.set fs ho q).symm
  have hent := Entails.of_eq (pointsTo_entries (Ix := Ix) (Name := Name) (U := U) (Lvl := Lvl) c offs.view _ hen qo fo).symm
  refine (Transfers.bigSep_sep_out _ _ _).trans
    ((sep_mono ((Transfers.bigSep_sep_out _ _ _).trans (sep_mono hrows hent)) hsrc).trans ?_)
  iintro ⟨⟨Hrow, Hent⟩, Hsrc⟩
  isplitl [Hrow]; · iexact Hrow
  isplitl [Hsrc] <;> iassumption

variable {defs : Defs nD τ sig (Elt F) Λ} (EC : UEmb Counters (MT nD τ sig Ix (Elt F) Name U Lvl)) (𝒱 : Variants)
  (bd : Option 𝒱.V) {α : Type} {Q : α → sProp (MT nD τ sig Ix (Elt F) Name U Lvl)} {n : ℕ}

/-- One gather issued into a batch whose transfers are rows of credit `N`, `j` of them issued: its rows take the next
    issue rights, and the batch goes on with them issued.  Row `k` hands back `rowBack … k`, which must give what the
    batch says of its transfer `j + k`. -/
theorem wp_gather_into_batch [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {D : Fin n → sProp 𝕄} {j u : ℕ} (hu : u ≤ j * N) (hj : j + s.size hg.axis' ≤ n)
    (hD : ∀ i : Fin (s.size hg.axis'),
      rowBack c src dst hg offs hn q qo fs fd fo (rows (offs.view.read (Elt F) fo) hn hin) ho i
        ⊢ D ⟨j + i.val, lt_of_lt_of_le (Nat.add_lt_add_left i.isLt j) hj⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let fam := fun (i : Fin (s.size hg.axis')) (w : Elt F .i32) =>
    (rowOf (s₀.size hg.axis) w).map (gatherRow (F := F) c src dst hg sem hsrc he hsp hr i)
  let S : Stream nD τ sig (Elt F) := Stream.issued c offs.view hn sem fam 0
  let rd : Fin (s.size hg.axis') → RowDma τ sig (Elt F) c.2 sem := fun i =>
    gatherRow c src dst hg sem hsrc he hsp hr i (rows (offs.view.read (Elt F) fo) hn hin i)
  have hagree : S.RowsAgree := by
    intro i x x' ρ ρ' h1 h2
    obtain ⟨_, _, rfl⟩ := Option.map_eq_some_iff.mp h1
    obtain ⟨_, _, rfl⟩ := Option.map_eq_some_iff.mp h2
    rfl
  have hword : ∀ i, S.row i (S.word fo i) = some (rd i) := fun i => by
    change (rowOf (s₀.size hg.axis) (offs.view.read (Elt F) fo (S.entry i))).map _ = _
    rw [rowOf_of_lt (hin _)]; rfl
  have hbij : Function.Bijective fun i => si.rowMajor.symm (finCongr hn.symm i) :=
    si.rowMajor.symm.bijective.comp (finCongr hn.symm).bijective
  have hsum : ∑ i, (rd i).dst.view.dmaCredit = s.size hg.axis' * N := by
    rw [Finset.sum_congr rfl fun i _ => hN i, Finset.sum_const, Finset.card_univ, Fintype.card_fin, smul_eq_mul]
  unfold Transfers.Batch
  iintro ⟨Hs, Hd, Hl, %γ, %γ₀, %κ, #Hinv, Hpend, Hu, Hcred⟩ Hk
  ihave Hp := (Entails.of_eq (pending_split (fun t => count EC (γ t) 0) j _ hj)) $$ Hpend
  icases Hp with ⟨Hnow, Hlater⟩
  ihave Hd := (Entails.of_eq (pointsTo_rows c dst.view hg.axis' fullShare fd)) $$ Hd
  ihave Hl := (Entails.of_eq (pointsTo_entries c offs.view _ hbij qo fo)) $$ Hl
  ihave Hs := (Entails.of_eq (pointsTo_piecesOf src.view.set fs ho q)) $$ Hs
  iapply (wp_enqueueIndirectDma 𝒱 c bd Set.univ (qo := qo) (fo := fo) (rd := rd) ι _ hagree hword hsum) $$ [Hs Hd Hl Hnow]
  · have hone : ∀ i : Fin (s.size hg.axis'),
        iprop(inv κ (Transfers.batchBody EC (c, SemLoc.dma sem) N D γ γ₀)
          ∗ ((((dst.view.loc c ↦[(dst.view.slice (s.rowRect hg.axis' i)).set]{fullShare} fd) ∗ S.heldEntry qo fo i)
            ∗ (src.view.loc c ↦[src.view.set]{pieceOf q _ ho i} fs))
            ∗ count EC (γ ⟨j + i.val, lt_of_lt_of_le (Nat.add_lt_add_left i.isLt j) hj⟩) 0))
        ⊢ iprop(S.heldEntry qo fo i ∗ (S.heldEntry qo fo i -∗ rowRes c (rd i))) := fun i => by
      iintro ⟨#Hinv, ⟨⟨Hrow, Hent⟩, Hpc⟩, Hright⟩
      isplitl [Hent]; · iexact Hent
      iintro Hent
      unfold rowRes
      iexists pieceOf q _ ho i, fs, iprop((dst.view.loc c ↦[(dst.view.slice (s.rowRect hg.axis' i)).set]{fullShare}
        ((dst.view.slice (s.rowRect hg.axis' i)).write (Elt F) fd
          (fun x => src.view.read (Elt F) fs (hg.rowIdx (rows (offs.view.read (Elt F) fo) hn hin i) x)) Finset.univ))
        ∗ S.heldEntry qo fo i)
      isplitl [Hpc]; · iexact Hpc
      isplitl [Hrow Hent]
      · iapply writeUpdate_frame
        isplitl [Hrow]
        · iapply (pointsTo_writeUpdate c (v := dst.view.slice (s.rowRect hg.axis' i)) subset_rfl) $$ Hrow
        · iexact Hent
      · have ham : (rd i).dst.view.amount (.dma sem) = N := hN i
        rw [ham]
        iapply (Transfers.batch_creditUpdate EC (γ := γ) (γ₀ := γ₀) (ι := κ) (D := D)
          ⟨j + i.val, lt_of_lt_of_le (Nat.add_lt_add_left i.isLt j) hj⟩ (hD i))
        isplitr; · iexact Hinv
        iexact Hright
    unfold Stream.res
    ihave H1 := Transfers.bigSep_sep_in _ _ _ $$ [Hd Hl]; · isplitl [Hd] <;> iassumption
    ihave H2 := Transfers.bigSep_sep_in _ _ _ $$ [H1 Hs]; · isplitl [H1] <;> iassumption
    ihave H3 := Transfers.bigSep_sep_in _ _ _ $$ [H2 Hnow]; · isplitl [H2] <;> iassumption
    iapply (Transfers.bigSep_mono_pers Finset.univ _ _ _ fun i _ => hone i)
    isplitr; · iexact Hinv
    iexact H3
  · iintro Hnew
    iapply Hk
    iexists γ, γ₀, κ
    isplitr; · iexact Hinv
    isplitl [Hlater]; · iexact Hlater
    isplitl [Hu]; · iexact Hu
    rw [show (j + s.size hg.axis') * N - u = (j * N - u) + s.size hg.axis' * N by rw [Nat.add_mul]; omega, ← tallyAt_add]
    icombine Hcred Hnew as H
    iexact H

end Gather

end Cert.Proof.BatchGather

end
-- ==== Proof.Slabs.lean ====
/-
  The pieces a tile works on and what they hold.  The result has 262144 rows: tile (core c, subcore s) writes the 8192
  rows from 8192 * (2 s + c), a slab of 512 rows per trip; a slab is gathered in four windows of 128 rows.  `gath` is
  the gathered array: row r is the table's row named by word r of the list.
-/
module

public import proofs.«01_k».proof.Defs
public import Idealize.ShloMosaic.Lib.SparseCore.Ops
public import Idealize.ShloMosaic.Lib.SparseCore.Stream
public import Idealize.ShloMosaic.Lib.Tactic
public import proofs.«01_k».proof.Proof.Gen.KernelIdeal
public import proofs.«01_k».proof.Proof.Gen.KernelIdeal.Skeleton
public import proofs.«01_k».proof.Proof.BatchGather

@[expose] public section

noncomputable section

namespace Cert.Proof.Slabs

open Cert.KernelIdeal Cert.KernelIdeal.Gen
open Idealize.ShloMosaic
open Idealize.ShloMosaic.SparseCore (gatherPayload)

variable {F : FTy → Type}

/-! ## The gathered array -/

/-- Position (r, k) of the table. -/
def tableIx (r : Fin 16384) (k : Fin 128) : S16384x128.Idx := fun a => match a with | ⟨0, _⟩ => r | ⟨1, _⟩ => k

/-- Position r of the list. -/
def listIx (r : Fin 262144) : S262144.Idx := fun a => match a with | ⟨0, _⟩ => r

/-- Position k of a trip's list. -/
def slotIx (k : Fin 512) : S512.Idx := fun a => match a with | ⟨0, _⟩ => k

/-- The row a word names: the word itself where it is a row of the table. -/
def rowNamed (w : BitVec 32) : Fin 16384 := ⟨w.toNat % 16384, Nat.mod_lt _ (by decide)⟩

/-- The gathered array: row r is the row of the table named by word r of the list. -/
def gath (tb : S16384x128.Idx → Elt F .f32) (ix : S262144.Idx → BitVec 32) : S262144x128.Idx → Elt F .f32 :=
  fun y => tb (tableIx (rowNamed (ix (listIx (y 0)))) (y 1))

/-! ## The memrefs of a trip -/

local notation "tV" => (Memref.whole Cert.KernelIdeal.main_v2_scv : Memref Cert.KernelIdeal.sig Kind.scVector Space.hbm Cert.KernelIdeal.S16384x128 EltTy.f32)
local notation "xV" => (Memref.whole Cert.KernelIdeal.main_v3_scv : Memref Cert.KernelIdeal.sig Kind.scVector Space.hbm Cert.KernelIdeal.S262144 EltTy.i32)
local notation "oV" => (Memref.whole Cert.KernelIdeal.main_v4_scv : Memref Cert.KernelIdeal.sig Kind.scVector Space.hbm Cert.KernelIdeal.S262144x128 EltTy.f32)
local notation "iV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

/-- The trips of a tile's loop. -/
abbrev Trip : Type := Fin k1_t1_loop.trips

theorem trips_eq : k1_t1_loop.trips = 16 := by decide

/-- The first row of window b. -/
def winOff : Fin 4 → ℕ
  | 0 => 0
  | 1 => 128
  | 2 => 256
  | 3 => 384

theorem winOff_eq (b : Fin 4) : winOff b = 128 * b.val := by
  match b with | 0 => rfl | 1 => rfl | 2 => rfl | 3 => rfl

theorem winOff_le (b : Fin 4) : winOff b + 128 ≤ 512 := by rw [winOff_eq]; omega

theorem rowWin_inb (b : Fin 4) : ∀ a, ![winOff b, 0] a + S128x128.size a ≤ S512x128.size a := fun a =>
  match a with
  | ⟨0, _⟩ => winOff_le b
  | ⟨1, _⟩ => Nat.le_refl 128

theorem listWin_inb (b : Fin 4) : ∀ a, ![winOff b] a + S128.size a ≤ S512.size a := fun a =>
  match a with | ⟨0, _⟩ => winOff_le b

/-- Window b of the row buffer, window b of the list buffer, the table as a gather names it. -/
abbrev rowWin (b : Fin 4) : Memref sig .scVector .vmem S128x128 .f32 :=
  (rV).slice (Rect.unit (s := S512x128) ![winOff b, 0] S128x128.size (rowWin_inb b)) (fun _ => rfl)
abbrev listWin (b : Fin 4) : Memref sig .scVector .vmem S128 .i32 :=
  (iV).slice (Rect.unit (s := S512) ![winOff b] S128.size (listWin_inb b)) (fun _ => rfl)
abbrev tableAll : Memref sig .scVector .hbm S16384x128 .f32 :=
  (tV).slice (Rect.unit (s := S16384x128) ![0, 0] S16384x128.size inb_S16384x128_S16384x128_0_0) (fun _ => rfl)

/-- The slab of a trip in the list and in the result. -/
abbrev listSlab (L : grid1.Coords) (t : Trip) : Memref sig .scVector .hbm S512 .i32 :=
  (xV).slice (Rect.unit (s := S262144) (k1_off1 L t) S512.size (k1_off1_inb L t)) (fun _ => rfl)
abbrev outSlab (L : grid1.Coords) (t : Trip) : Memref sig .scVector .hbm S512x128 .f32 :=
  (oV).slice (Rect.unit (s := S262144x128) (k1_off2 L t) S512x128.size (k1_off2_inb L t)) (fun _ => rfl)

/-- The number of a tile's slab, of the 512 slabs of the result. -/
def slabNo (L : grid1.Coords) (t : Trip) : ℕ := 32 * (L 1).val + 16 * (L 0).val + t.val

theorem slabNo_lt (L : grid1.Coords) (t : Trip) : slabNo L t < 512 := by
  have h0 : (L 0).val < 2 := (L 0).isLt
  have h1 : (L 1).val < 16 := (L 1).isLt
  have ht : t.val < 16 := trips_eq ▸ t.isLt
  unfold slabNo; omega

/-! ## Which positions a piece has -/

theorem mem_rowWin (b : Fin 4) (x : S512x128.Idx) : x ∈ (rowWin b).view.set ↔ (x 0).val / 128 = b.val := by
  have hx1 : (x 1).val < 128 := (x 1).isLt
  have hs := View.set_slice_whole (sig := sig) (cc1_scratch1 : Ref sig .scVector) (Rect.unit (s := S512x128) ![winOff b, 0] S128x128.size (rowWin_inb b))
  refine (iff_of_eq (congrArg (x ∈ ·) hs)).trans ?_
  rw [Rect.mem_set_unit]
  constructor
  · intro h
    have h0 : winOff b ≤ (x 0).val ∧ (x 0).val < winOff b + 128 := h 0
    rw [winOff_eq] at h0; omega
  · intro h a
    match a with
    | ⟨0, _⟩ =>
      show winOff b ≤ (x 0).val ∧ (x 0).val < winOff b + 128
      rw [winOff_eq]; omega
    | ⟨1, _⟩ =>
      show 0 ≤ (x 1).val ∧ (x 1).val < 0 + 128
      omega

theorem mem_listWin (b : Fin 4) (x : S512.Idx) : x ∈ (listWin b).view.set ↔ (x 0).val / 128 = b.val := by
  have hs := View.set_slice_whole (sig := sig) (cc1_scratch0 : Ref sig .scVector) (Rect.unit (s := S512) ![winOff b] S128.size (listWin_inb b))
  refine (iff_of_eq (congrArg (x ∈ ·) hs)).trans ?_
  rw [Rect.mem_set_unit]
  constructor
  · intro h
    have h0 : winOff b ≤ (x 0).val ∧ (x 0).val < winOff b + 128 := h 0
    rw [winOff_eq] at h0; omega
  · intro h a
    match a with
    | ⟨0, _⟩ =>
      show winOff b ≤ (x 0).val ∧ (x 0).val < winOff b + 128
      rw [winOff_eq]; omega

theorem mem_outSlab (L : grid1.Coords) (t : Trip) (x : S262144x128.Idx) :
    x ∈ (outSlab L t).view.set ↔ (x 0).val / 512 = slabNo L t := by
  have hx1 : (x 1).val < 128 := (x 1).isLt
  have hs := View.set_slice_whole (sig := sig) (main_v4_scv : Ref sig .scVector) (Rect.unit (s := S262144x128) (k1_off2 L t) S512x128.size (k1_off2_inb L t))
  refine (iff_of_eq (congrArg (x ∈ ·) hs)).trans ?_
  rw [Rect.mem_set_unit, k1_off2_eq]
  unfold slabNo
  constructor
  · intro h
    have h0 : 16384 * (L 1).val + 8192 * (L 0).val + 512 * t.val ≤ (x 0).val
      ∧ (x 0).val < 16384 * (L 1).val + 8192 * (L 0).val + 512 * t.val + 512 := h 0
    omega
  · intro h a
    match a with
    | ⟨0, _⟩ =>
      show 16384 * (L 1).val + 8192 * (L 0).val + 512 * t.val ≤ (x 0).val
        ∧ (x 0).val < 16384 * (L 1).val + 8192 * (L 0).val + 512 * t.val + 512
      omega
    | ⟨1, _⟩ =>
      show 0 ≤ (x 1).val ∧ (x 1).val < 0 + 128
      omega

/-- The windows of a buffer of 512 rows are disjoint and are all of it. -/
theorem windows_disjoint {s : Shape} (K : Fin 4 → Finset s.Idx) (f : s.Idx → ℕ) (h : ∀ b x, x ∈ K b ↔ f x / 128 = b.val) :
    ∀ b ∈ Finset.univ, ∀ b' ∈ Finset.univ, b ≠ b' → Disjoint (K b) (K b') := fun b _ b' _ hne =>
  Finset.disjoint_left.2 fun x hx hx' => hne (Fin.ext (((h b x).1 hx).symm.trans ((h b' x).1 hx')))
theorem windows_cover {s : Shape} (K : Fin 4 → Finset s.Idx) (f : s.Idx → ℕ) (h : ∀ b x, x ∈ K b ↔ f x / 128 = b.val)
    (hf : ∀ x, f x < 512) : Finset.univ = Finset.univ.biUnion K := by
  ext x
  simp only [Finset.mem_univ, Finset.mem_biUnion, true_and, true_iff]
  have := hf x
  exact ⟨⟨f x / 128, by omega⟩, (h _ x).2 rfl⟩

theorem set_tableAll : (tableAll).view.set = Finset.univ := by
  refine (View.set_slice_whole (sig := sig) (main_v2_scv : Ref sig .scVector)
    (Rect.unit (s := S16384x128) ![0, 0] S16384x128.size inb_S16384x128_S16384x128_0_0)).trans ?_
  refine Finset.eq_univ_iff_forall.2 fun x => Rect.mem_set_unit.2 fun a => ?_
  have h0 : (x 0).val < 16384 := (x 0).isLt
  have h1 : (x 1).val < 128 := (x 1).isLt
  match a with
  | ⟨0, _⟩ =>
    show 0 ≤ (x 0).val ∧ (x 0).val < 0 + 16384
    omega
  | ⟨1, _⟩ =>
    show 0 ≤ (x 1).val ∧ (x 1).val < 0 + 128
    omega

/-! ## What the pieces hold -/

/-- The list of a trip: its slab of the list of rows. -/
def slabList (ix : S262144.Idx → BitVec 32) (L : grid1.Coords) (t : Trip) : S512.Idx → BitVec 32 :=
  fun x => ix (listIx ⟨512 * slabNo L t + (x 0).val, by have := slabNo_lt L t; have : (x 0).val < 512 := (x 0).isLt; omega⟩)

/-- The rows of a trip: the table's rows named by its list. -/
def slabRows (tb : S16384x128.Idx → Elt F .f32) (ix : S262144.Idx → BitVec 32) (L : grid1.Coords) (t : Trip) :
    S512x128.Idx → Elt F .f32 :=
  fun x => tb (tableIx (rowNamed (slabList ix L t (slotIx (x 0)))) (x 1))

/-- What the fetch of a trip's list reads is that list. -/
theorem read_listSlab (ix : S262144.Idx → BitVec 32) (L : grid1.Coords) (t : Trip) :
    (listSlab L t).view.read (Elt F) ix = slabList ix L t := by
  funext x
  refine (View.read_apply _ _).trans ((cast_eq _ _).trans (congrArg ix ?_))
  funext a
  match a with
  | ⟨0, _⟩ =>
    apply Fin.ext
    show k1_off1 L t 0 + 1 * (x 0).val = 512 * slabNo L t + (x 0).val
    rw [k1_off1_eq]; unfold slabNo
    show 16384 * (L 1).val + 8192 * (L 0).val + 512 * t.val + 1 * (x 0).val = _
    omega

/-- The result's slab holds the gathered array once its trip's rows are written there. -/
theorem write_outSlab (tb : S16384x128.Idx → Elt F .f32) (ix : S262144.Idx → BitVec 32) (f : S262144x128.Idx → Elt F .f32)
    (L : grid1.Coords) (t : Trip) :
    ∀ i ∈ (outSlab L t).view.set,
      (outSlab L t).view.write (Elt F) f (slabRows tb ix L t) Finset.univ i = gath tb ix i := by
  intro i hi
  obtain ⟨x, -, rfl⟩ := Finset.mem_map.1 hi
  refine (View.write_emb_of_mem _ _ (Finset.mem_univ x)).trans ((cast_eq _ _).trans ?_)
  have e0 : (((outSlab L t).view.emb x : S262144x128.Idx) 0).val = 512 * slabNo L t + (x 0).val := by
    show k1_off2 L t 0 + 1 * (x 0).val = _
    rw [k1_off2_eq]; unfold slabNo
    show 16384 * (L 1).val + 8192 * (L 0).val + 512 * t.val + 1 * (x 0).val = _
    omega
  have e1 : (((outSlab L t).view.emb x : S262144x128.Idx) 1) = x 1 := by
    apply Fin.ext
    show k1_off2 L t 1 + 1 * (x 1).val = _
    rw [k1_off2_eq]
    show 0 + 1 * (x 1).val = _
    omega
  unfold slabRows gath slabList
  refine congrArg tb (congrArg₂ tableIx (congrArg rowNamed (congrArg ix (congrArg listIx (Fin.ext e0.symm)))) e1.symm)

/-- Word k of window b of a trip's list. -/
theorem read_listWin (l : S512.Idx → BitVec 32) (b : Fin 4) (x : S128.Idx) :
    (listWin b).view.read (Elt F) l x
      = l (slotIx ⟨128 * b.val + (x 0).val, by have := b.isLt; have : (x 0).val < 128 := (x 0).isLt; omega⟩) := by
  refine (View.read_apply _ _).trans ((cast_eq _ _).trans (congrArg l ?_))
  funext a
  match a with
  | ⟨0, _⟩ =>
    apply Fin.ext
    show winOff b + 1 * (x 0).val = 128 * b.val + (x 0).val
    rw [winOff_eq]; omega

theorem read_tableAll (tb : S16384x128.Idx → Elt F .f32) : (tableAll).view.read (Elt F) tb = tb := by
  funext x
  refine (View.read_apply _ _).trans ((cast_eq _ _).trans (congrArg tb ?_))
  funext a
  apply Fin.ext
  match a with
  | ⟨0, _⟩ => show 0 + 1 * (x 0).val = (x 0).val; omega
  | ⟨1, _⟩ => show 0 + 1 * (x 1).val = (x 1).val; omega

/-- Window b of the row buffer holds its part of the trip's rows once window b of the list is gathered there, the words
    of the list being rows of the table. -/
theorem write_rowWin (tb : S16384x128.Idx → Elt F .f32) (ix : S262144.Idx → BitVec 32) (L : grid1.Coords) (t : Trip)
    (f : S512x128.Idx → Elt F .f32) (b : Fin 4)
    (hin : ∀ x, ((listWin b).view.read (Elt F) (slabList ix L t) x).toNat < S16384x128.size gathers_S16384x128_S128x128.axis) :
    ∀ i ∈ (rowWin b).view.set,
      (rowWin b).view.write (Elt F) f
        (gatherPayload gathers_S16384x128_S128x128 ((tableAll).view.read (Elt F) tb)
          (SparseCore.rows (F := F) (si := S128) ((listWin b).view.read (Elt F) (slabList ix L t)) rfl hin)) Finset.univ i
        = slabRows tb ix L t i := by
  intro i hi
  obtain ⟨x, -, rfl⟩ := Finset.mem_map.1 hi
  refine (View.write_emb_of_mem _ _ (Finset.mem_univ x)).trans ((cast_eq _ _).trans ?_)
  unfold gatherPayload slabRows
  rw [read_tableAll]
  refine congrArg tb ?_
  have e0 : (((rowWin b).view.emb x : S512x128.Idx) 0).val = 128 * b.val + (x 0).val := by
    show winOff b + 1 * (x 0).val = _
    rw [winOff_eq]; omega
  have e1 : (((rowWin b).view.emb x : S512x128.Idx) 1) = x 1 := by
    apply Fin.ext
    show 0 + 1 * (x 1).val = _
    omega
  have hx0 : (x 0).val < 128 := (x 0).isLt
  have hb := b.isLt
  have hrow : ∀ k : Fin 128, (SparseCore.rows (F := F) (si := S128) (o := 128) (z := 16384)
      ((listWin b).view.read (Elt F) (slabList ix L t)) rfl hin k) = rowNamed (slabList ix L t (slotIx ⟨128 * b.val + k.val, by omega⟩)) := fun k => by
    have hk : ((listWin b).view.read (Elt F) (slabList ix L t) (S128.rowMajor.symm k))
        = slabList ix L t (slotIx ⟨128 * b.val + k.val, by omega⟩) := by
      rw [read_listWin]
      refine congrArg _ (congrArg slotIx (Fin.ext ?_))
      show 128 * b.val + ((S128.rowMajor.symm k) 0).val = _
      have := Shape.rowMajor_val_one (d := S128.size) (S128.rowMajor.symm k)
      have h2 : (S128.rowMajor (S128.rowMajor.symm k)) = k := Equiv.apply_symm_apply _ _
      have h3 : ((S128.rowMajor.symm k) 0).val = k.val := this.symm.trans (congrArg Fin.val h2)
      rw [h3]
    have hlt := hin (S128.rowMajor.symm k)
    apply Fin.ext
    show ((listWin b).view.read (Elt F) (slabList ix L t) (S128.rowMajor.symm k)).toNat = _
    rw [hk] at hlt ⊢
    exact (Nat.mod_eq_of_lt hlt).symm
  funext a
  match a with
  | ⟨0, _⟩ =>
    refine (Shape.Gathers.idx_axis gathers_S16384x128_S128x128 _ x).trans ((hrow (x 0)).trans ?_)
    exact congrArg rowNamed (congrArg _ (congrArg slotIx (Fin.ext e0.symm)))
  | ⟨1, _⟩ =>
    apply Fin.ext
    refine (Shape.Gathers.idx_of_ne gathers_S16384x128_S128x128 _ x ⟨1, by decide⟩ (by decide)).trans ?_
    exact congrArg Fin.val e1.symm

end Cert.Proof.Slabs

end
-- ==== Proof.Launch.lean ====
/-
  The launch of the gather call: the program as the launch theorem sees it, the ghost state of the handshakes and of the
  transfers, the arrays' locations, the shares of the table and of the list a tile reads at, and what the call, its two
  SparseCores and their tiles are handed and hand back.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Slabs

@[expose] public section

noncomputable section

namespace Cert.Proof.Gather

open Cert.KernelIdeal Cert.KernelIdeal.Gen Cert.Proof.Slabs
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq : (K (F := F)).nSub 0 = 16 := rfl
theorem nCore_eq : (K (F := F)).nCore 0 = 2 := rfl

/-- The launch semaphores are pairwise apart where they must be, none of them is scoped, and no buffer of a SparseCore is
    shared between its tasks. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## Ghost state -/

/-- The handshakes' rounds, the staging cells' rounds, the transfers' counters. -/
abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP (F := F)).LandsIn (upEmb : UEmb _ 𝕄) := by unfold EP; infer_instance

/-! ## Arrays, shares, slabs -/

variable (m : (ℓ : Loc nD τ sig) → Buf (Elt F) ℓ)

abbrev tLoc (d : Dev nD) : Loc nD τ sig := (SparseCore.T d).loc main_v2
abbrev xLoc (d : Dev nD) : Loc nD τ sig := (SparseCore.T d).loc main_v3
abbrev oLoc (d : Dev nD) : Loc nD τ sig := (SparseCore.T d).loc main_v4

/-- The gathered array of the launch memory. -/
abbrev G (d : Dev nD) : Buf (Elt F) (oLoc d) := gath (F := F) (m (tLoc d)) (m (xLoc d))

/-- Coordinates of a tile. -/
def coords (c : Fin 2) (s : Fin 16) : grid1.Coords :=
  fun | 0 => (⟨c.val, c.isLt⟩ : Fin (grid1.bound 0)) | 1 => (⟨s.val, s.isLt⟩ : Fin (grid1.bound 1)) | ⟨_ + 2, h⟩ => absurd h (Nat.not_lt.2 (Nat.le_add_left _ _))

/-- The share SparseCore c reads the table and the list at, and its tile s's. -/
def coreShare (c : Fin 2) : PosShare TreeShare := pieceOf fullShare 2 (by decide) c
def tileShare (c : Fin 2) (s : Fin 16) : PosShare TreeShare := pieceOf (coreShare c) 16 (by decide) s

/-- A slab of the result held outright. -/
abbrev slabPts (d : Dev nD) (L : grid1.Coords) (t : Trip) (f : Buf (Elt F) (oLoc d)) : sProp 𝕄 :=
  oLoc d ↦[(outSlab L t).view.set]{fullShare} f

/-- What a tile is handed and hands back: its shares of the table and of the list, its slabs of the result holding f. -/
def tileRes (d : Dev nD) (c : Fin 2) (s : Fin 16) (f : Buf (Elt F) (oLoc d)) : sProp 𝕄 :=
  iprop((tLoc d ↦{tileShare c s} m (tLoc d)) ∗ (xLoc d ↦{tileShare c s} m (xLoc d))
    ∗ bigSep Finset.univ fun t : Trip => slabPts d (coords c s) t f)

/-- What a SparseCore is handed and hands back: its shares, and all its tiles' slabs. -/
def coreRes (d : Dev nD) (c : Fin 2) (f : Buf (Elt F) (oLoc d)) : sProp 𝕄 :=
  iprop((tLoc d ↦{coreShare c} m (tLoc d)) ∗ (xLoc d ↦{coreShare c} m (xLoc d))
    ∗ bigSep Finset.univ fun s : Fin 16 => bigSep Finset.univ fun t : Trip => slabPts d (coords c s) t f)

instance tileRes_storable (d : Dev nD) (c : Fin 2) (s : Fin 16) (f : Buf (Elt F) (oLoc d)) :
    BI.Storable (upEmb : UEmb _ 𝕄) (tileRes m d c s f) := by unfold tileRes; infer_instance
instance coreRes_storable (d : Dev nD) (c : Fin 2) (f : Buf (Elt F) (oLoc d)) :
    BI.Storable (upEmb : UEmb _ 𝕄) (coreRes m d c f) := by unfold coreRes; infer_instance

/-- The resources of a SparseCore are those of its sixteen tiles. -/
theorem coreRes_tiles (d : Dev nD) (c : Fin 2) (f : Buf (Elt F) (oLoc d)) :
    (coreRes m d c f : sProp 𝕄) = bigSep Finset.univ fun s : Fin 16 => tileRes m d c s f := by
  unfold coreRes tileRes
  rw [pointsTo_piecesOf Finset.univ (m (tLoc d)) (show 0 < 16 by decide) (coreShare c),
    pointsTo_piecesOf Finset.univ (m (xLoc d)) (show 0 < 16 by decide) (coreShare c), bigSep_sep', bigSep_sep']
  rfl

theorem coords_slabNo (c : Fin 2) (s : Fin 16) (t : Trip) : slabNo (coords c s) t = 32 * s.val + 16 * c.val + t.val := rfl

/-- Every row of the result lies in a slab. -/
theorem slab_of (r : ℕ) (hr : r < 262144) : ∃ p : Fin 2 × Fin 16 × Trip, r / 512 = slabNo (coords p.1 p.2.1) p.2.2 := by
  refine ⟨(⟨(r / 8192) % 2, by omega⟩, ⟨r / 16384, by omega⟩, ⟨(r / 512) % 16, by rw [trips_eq]; omega⟩), ?_⟩
  rw [coords_slabNo]
  dsimp only
  omega

/-- Two slabs of the same number are the same slab of the same tile. -/
theorem slab_inj {p p' : Fin 2 × Fin 16 × Trip}
    (h : slabNo (coords p.1 p.2.1) p.2.2 = slabNo (coords p'.1 p'.2.1) p'.2.2) : p = p' := by
  obtain ⟨c, s, t⟩ := p
  obtain ⟨c', s', t'⟩ := p'
  rw [coords_slabNo, coords_slabNo] at h
  have ht : t.val < 16 := trips_eq ▸ t.isLt
  have ht' : t'.val < 16 := trips_eq ▸ t'.isLt
  have hc := c.isLt
  have hc' := c'.isLt
  dsimp only at h
  refine Prod.ext (Fin.ext ?_) (Prod.ext (Fin.ext ?_) (Fin.ext ?_)) <;> dsimp only <;> omega

theorem slabs_cover : (Finset.univ : Finset (Fin 2 × Fin 16 × Trip)).biUnion
      (fun p => (outSlab (coords p.1 p.2.1) p.2.2).view.set) = (Finset.univ : Finset S262144x128.Idx) := by
  refine Finset.eq_univ_iff_forall.2 fun x => Finset.mem_biUnion.2 ?_
  obtain ⟨p, hp⟩ := slab_of (x 0).val (x 0).isLt
  exact ⟨p, Finset.mem_univ _, (mem_outSlab _ _ x).2 hp⟩

theorem slabs_disjoint : ∀ p ∈ (Finset.univ : Finset (Fin 2 × Fin 16 × Trip)),
    ∀ p' ∈ (Finset.univ : Finset (Fin 2 × Fin 16 × Trip)), p ≠ p' →
      Disjoint ((outSlab (coords p.1 p.2.1) p.2.2).view.set) ((outSlab (coords p'.1 p'.2.1) p'.2.2).view.set) := by
  intro p _ p' _ hne
  exact Finset.disjoint_left.2 fun x hx hx' =>
    hne (slab_inj (((mem_outSlab _ _ x).1 hx).symm.trans ((mem_outSlab _ _ x).1 hx')))

/-- The result held outright is the slabs of all the tiles of both SparseCores. -/
theorem out_slabs (d : Dev nD) (f : Buf (Elt F) (oLoc d)) :
    (oLoc d ↦{fullShare} f : sProp 𝕄)
      = bigSep Finset.univ fun c : Fin 2 => bigSep Finset.univ fun s : Fin 16 => bigSep Finset.univ fun t : Trip =>
          slabPts d (coords c s) t f := by
  have h : (oLoc d ↦{fullShare} f : sProp 𝕄)
      = oLoc d ↦[(Finset.univ : Finset (Fin 2 × Fin 16 × Trip)).biUnion
          fun p => (outSlab (coords p.1 p.2.1) p.2.2).view.set]{fullShare} f :=
    congrArg (fun I : Finset S262144x128.Idx => (oLoc d ↦[I]{fullShare} f : sProp 𝕄)) slabs_cover.symm
  rw [h, pointsTo_biUnion Finset.univ _ slabs_disjoint, bigSep_univ_prod]
  refine bigSep_congr fun c _ => ?_
  rw [bigSep_univ_prod]

/-- The table, the list and the result held outright are the resources of the two SparseCores. -/
theorem whole_cores (d : Dev nD) (f : Buf (Elt F) (oLoc d)) :
    iprop((tLoc d ↦{fullShare} m (tLoc d)) ∗ (xLoc d ↦{fullShare} m (xLoc d)) ∗ (oLoc d ↦{fullShare} f))
      = (bigSep Finset.univ fun c : Fin 2 => coreRes m d c f : sProp 𝕄) := by
  unfold coreRes
  rw [pointsTo_piecesOf Finset.univ (m (tLoc d)) (show 0 < 2 by decide) fullShare,
    pointsTo_piecesOf Finset.univ (m (xLoc d)) (show 0 < 2 by decide) fullShare, out_slabs, bigSep_sep', bigSep_sep']
  rfl

/-! ## What the handshakes carry -/

/-- The call hands each SparseCore its shares and slabs, each SparseCore hands each tile its own; they come back with the
    slabs holding the gathered array. -/
def P : (K (F := F)).Pay (nD := nD) (Val := Elt F) (Name := ℕ) (U := UU) where
  st := fun q d c => match q with | 0 => coreRes m d (Fin.cast nCore_eq c) (m (oLoc d))
  dn := fun q d c => match q with | 0 => coreRes m d (Fin.cast nCore_eq c) (G m d)
  go := fun q d c i => match q with | 0 => tileRes m d (Fin.cast nCore_eq c) (Fin.cast nSub_eq i) (m (oLoc d))
  td := fun q d c i => match q with | 0 => tileRes m d (Fin.cast nCore_eq c) (Fin.cast nSub_eq i) (G m d)
  x := fun _ _ => iprop(emp)

instance P_storable : (P (F := F) m).IsStorable where
  st q d c := match q with | 0 => coreRes_storable m d (Fin.cast nCore_eq c) (m (oLoc d))
  dn q d c := match q with | 0 => coreRes_storable m d (Fin.cast nCore_eq c) (G m d)
  go q d c i := match q with | 0 => tileRes_storable m d (Fin.cast nCore_eq c) (Fin.cast nSub_eq i) (m (oLoc d))
  td q d c i := match q with | 0 => tileRes_storable m d (Fin.cast nCore_eq c) (Fin.cast nSub_eq i) (G m d)

/-- Every word of the list is a row of the table. -/
def RowsOK : Prop := ∀ (d : Dev nD) (j : S262144.Idx), BitVec.toNat (m (xLoc d) j : BitVec 32) < 16384

end Cert.Proof.Gather

end
-- ==== Proof.Body.lean ====
/-
  The body of the neighbour call, run once at a symbolic grid point and on symbolic staging buffers: what it leaves in the
  buffers of its two results as functions of the blocks it reads.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Launch
public import Idealize.ShloMosaic.Lib.Pipeline.FrameBody
public import Idealize.ShloMosaic.Lib.VecWindow
public import Idealize.ShloMosaic.Lib.ValueIdxCore

@[expose] public section

noncomputable section

namespace Cert.Proof.TopK

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Window BodyObligation)
open Cert.Proof.Gather (UU)

variable {F : FTy → Type} [FloatOps F]

local notation "𝕄" => MT nD τ sig (HIx 1) (Elt F) ℕ UU ℕ

/-- The contents of a staging buffer on core `c`, and that buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in the two results' staging buffers over the four inputs', with the run that leaves it there. -/
noncomputable def bodyRun (c : Dev nD) (i : grid0.Coords)
    (M0 : Memref sig .tc .vmem S1x3x2048 .f32) (h0 : M0.IsWhole) (M1 : Memref sig .tc .vmem S1x256x3 .f32) (h1 : M1.IsWhole)
    (M2 : Memref sig .tc .vmem S1x256x128 .f32) (h2 : M2.IsWhole) (M3 : Memref sig .tc .vmem S128x64 .f32) (h3 : M3.IsWhole)
    (M4 : Memref sig .tc .vmem S1x256x16 .i32) (h4 : M4.IsWhole) (M5 : Memref sig .tc .vmem S1x256x128 .f32) (h5 : M5.IsWhole)
    (f0 : Bf (F := F) c M0) (f1 : Bf (F := F) c M1) (f2 : Bf (F := F) c M2) (f3 : Bf (F := F) c M3) :
    Σ' (W4 : Bf (F := F) c M4), { W5 : Bf (F := F) c M5 // ∀ (f4 : Bf (F := F) c M4) (f5 : Bf (F := F) c M5) (E : Set ℕ) (Q : PUnit → sProp 𝕄),
        iprop(pt c M0 f0 ∗ pt c M1 f1 ∗ pt c M2 f2 ∗ pt c M3 f3 ∗ pt c M4 f4 ∗ pt c M5 f5
            ∗ (iprop(pt c M0 f0 ∗ pt c M1 f1 ∗ pt c M2 f2 ∗ pt c M3 f3 ∗ pt c M4 W4 ∗ pt c M5 W5) -∗ Q ⟨⟩))
          ⊢ wp frame (wpE (defs₀ (F := F)) Variants.none c none) E (cc0__topk_table_kernel i M0 h0 M1 h1 M2 h2 M3 h3 M4 h4 M5 h5) Q } := by
  refine ⟨?_, ?_, fun f4 f5 E Q => ?run⟩
  case run =>
    rw [cc0__topk_table_kernel_eq_skeleton]
    unfold cc0__topk_table_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold k0_part1_skel k0_part2_skel k0_part3_skel k0_part4_skel k0_part5_skel k0_part6_skel k0_part7_skel k0_part8_skel
    iintro ⟨H0, H1, H2, H3, H4, H5, Hk⟩
    sl_exec!
    sl_step
    iapply Hk
    isplitl [H0]; · iexact H0
    isplitl [H1]; · iexact H1
    isplitl [H2]; · iexact H2
    isplitl [H3]; · iexact H3
    isplitl [H4]; · iexact H4
    iexact H5

/-! ## What the body leaves, as functions of what it reads -/

/-- The lane numbers of a block of distances. -/
abbrev lanes : IVec S256x2048 32 := iota .tc S256x2048 32 [1] iota_S256x2048_d1_w32

/-- One round of the selection: every row's winner struck out with the float minus infinity. -/
abbrev strike (d : FVec F S256x2048 .f32) : FVec F S256x2048 .f32 := k0_pay10 d lanes

/-- The winners of the rows of a block, offset by the batch. -/
abbrev winners (b : BitVec 32) (d : FVec F S256x2048 .f32) : IVec S1x256x1 32 := k0_pay11 b d lanes

/-- The block of neighbours: column k holds the winners after k rounds. -/
def gidxBlk (b : BitVec 32) (d : FVec F S256x2048 .f32) : S1x256x16.Idx → BitVec 32 :=
  fun y => winners b (strike^[(y 2).val] d) (ix3 (0 : Fin 1) (y 1 : Fin 256) (0 : Fin 1))

/-- The block of the table: the points, zeros, the features times the weight. -/
def tabBlk (x1 : Vec F S1x256x3 .f32) (x2 : Vec F S1x256x128 .f32) (x3 : Vec F S128x64 .f32) : S1x256x128.Idx → F .f32 :=
  fun y => if h : (y 2).val < 3 then k0_pay2 (k0_pay5 x1) (ix3 (0 : Fin 1) (y 1 : Fin 256) (⟨(y 2).val, h⟩ : Fin 3))
    else if h' : (y 2).val < 64 then k0_pay3 (F := F) (ix3 (0 : Fin 1) (y 1 : Fin 256) (⟨(y 2).val - 3, by omega⟩ : Fin 61))
    else k0_pay4 (k0_pay6 x2) x3 (ix3 (0 : Fin 1) (y 1 : Fin 256) (⟨(y 2).val - 64, by have := (y 2).isLt; change _ < 128 at this; omega⟩ : Fin 64))

/-! ## The rounds, named alike -/

section Rounds

variable (b : BitVec 32) (e : FVec F S256x2048 .f32) (L : IVec S256x2048 32)

/-- The largest of every row, along the row. -/
abbrev rowMax : FVec F S256x2048 .f32 :=
  broadcastTo S256x2048 (shapeCast S256x1 (multiReduction .maximumf [1] S256 e 0xFF800000#32 reduces_S256x2048_S256 (.inl rfl) rfl) shapeCasts_S256_S256x1) broadcasts_S256x1_S256x2048

/-- The printed rounds are one another's repetitions: each value a part of the body hands on is the strike of a block, the
    lanes of its row maxima, their least or its spread. -/
theorem rounds2 : k0_pay14 e L = k0_pay10 (k0_pay10 e L) L ∧ k0_pay15 b e L = k0_pay11 b (k0_pay10 e L) L
    ∧ k0_pay16 e L = rowMax (k0_pay10 (k0_pay10 e L) L) := ⟨rfl, rfl, rfl⟩
theorem rounds3 : k0_pay20 b L e (rowMax e) = k0_pay11 b e L ∧ k0_pay24 b L e (rowMax e) = k0_pay11 b (k0_pay10 e L) L
    ∧ k0_pay23 L e (rowMax e) = k0_pay10 (k0_pay10 e L) L ∧ k0_pay25 L e (rowMax e) = k0_pay8 (k0_pay10 (k0_pay10 e L) L) L := ⟨rfl, rfl, rfl, rfl⟩
theorem rounds4 : k0_pay28 b (k0_pay8 e L) = k0_pay11 b e L ∧ k0_pay32 b L e (k0_pay8 e L) = k0_pay11 b (k0_pay10 e L) L
    ∧ k0_pay31 L e (k0_pay8 e L) = k0_pay10 (k0_pay10 e L) L ∧ k0_pay33 L e (k0_pay8 e L) = k0_pay8 (k0_pay10 (k0_pay10 e L) L) L := ⟨rfl, rfl, rfl, rfl⟩
theorem rounds4' : k0_pay34 L e (k0_pay8 e L) = k0_pay9 (k0_pay10 (k0_pay10 e L) L) L
    ∧ k0_pay35 L e (k0_pay8 e L) = broadcastTo S256x2048 (k0_pay9 (k0_pay10 (k0_pay10 e L) L) L) broadcasts_S256x1_S256x2048 := ⟨rfl, rfl⟩
theorem rounds5 : k0_pay37 b (k0_pay9 e L) = k0_pay11 b e L
    ∧ k0_pay41 b L e (k0_pay8 e L) (broadcastTo S256x2048 (k0_pay9 e L) broadcasts_S256x1_S256x2048) = k0_pay11 b (k0_pay10 e L) L
    ∧ k0_pay43 L e (k0_pay8 e L) (broadcastTo S256x2048 (k0_pay9 e L) broadcasts_S256x1_S256x2048) = k0_pay9 (k0_pay10 (k0_pay10 e L) L) L
    ∧ k0_pay44 L e (k0_pay8 e L) (broadcastTo S256x2048 (k0_pay9 e L) broadcasts_S256x1_S256x2048) = k0_pay10 (k0_pay10 (k0_pay10 e L) L) L := ⟨rfl, rfl, rfl, rfl⟩
theorem rounds6 : k0_pay45 b (k0_pay9 e L) = k0_pay11 b e L ∧ k0_pay49 b L e = k0_pay11 b e L
    ∧ k0_pay52 L e = k0_pay10 (k0_pay10 e L) L ∧ k0_pay55 (k0_pay53 L e) (k0_pay54 b) = k0_pay11 b (k0_pay10 e L) L := ⟨rfl, rfl, rfl, rfl⟩
theorem rounds7 : k0_pay59 b L e = k0_pay11 b e L ∧ k0_pay62 L e = k0_pay10 (k0_pay10 e L) L
    ∧ k0_pay64 (k0_pay63 b L e) = k0_pay11 b (k0_pay10 e L) L := ⟨rfl, rfl, rfl⟩
theorem rounds8 : k0_pay68 b L e = k0_pay11 b e L ∧ k0_pay72 b L e = k0_pay11 b (k0_pay10 e L) L
    ∧ k0_pay71 L e = k0_pay10 (k0_pay10 e L) L ∧ k0_pay1 b L e = k0_pay11 b e L := ⟨rfl, rfl, rfl, rfl⟩

end Rounds

section Pieces

variable (c : Dev nD) (i : grid0.Coords)
    (M0 : Memref sig .tc .vmem S1x3x2048 .f32) (M1 : Memref sig .tc .vmem S1x256x3 .f32)
    (M2 : Memref sig .tc .vmem S1x256x128 .f32) (M3 : Memref sig .tc .vmem S128x64 .f32)
    (f0 : Bf (F := F) c M0) (f1 : Bf (F := F) c M1) (f2 : Bf (F := F) c M2) (f3 : Bf (F := F) c M3)

theorem col_inb (k : Fin 16) : ∀ a : Fin 3, (![0, 0, k.val] : Fin 3 → ℕ) a + (![1, 256, 1] : Fin 3 → ℕ) a ≤ S1x256x16.size a := by
  revert k; decide

set_option maxRecDepth 8192 in
/-- The sixteen columns written, newest first. -/
theorem cols_eq : bodyRun.sl.H4_16 c i M0 M1 M2 M3 f0 f1 f2 f3
    = ([15, 14, 13, 12, 11, 10, 9, 8, 7, 6, 5, 4, 3, 2, 1, 0] : List (Fin 16)).map fun k =>
      (⟨Rect.unit (s := S1x256x16) ![0, 0, k.val] ![1, 256, 1] (col_inb k),
        winners (BitVec.ofNat 32 (i 0).val) (strike^[k.val] (k0_pay7 (M1.view.readAt (Elt F) (Rect.unit (s := S1x256x3) ![0, 0, 0] S1x256x3.size inb_S1x256x3_S1x256x3_0_0_0).toLoadRect f1)
          (M0.view.readAt (Elt F) (Rect.unit (s := S1x3x2048) ![0, 0, 0] S1x3x2048.size inb_S1x3x2048_S1x3x2048_0_0_0).toLoadRect f0)))⟩ : View.Piece (Elt F) S1x256x16 .i32) := by
  unfold bodyRun.sl.H4_16
  dsimp only
  rw [show (bodyRun.sl.v42 : IVec S256x2048 32) = lanes from rfl]
  simp only [rounds2, rounds3, rounds4, rounds4', rounds5, rounds6, rounds7, rounds8, List.map_cons, List.map_nil, Fin.coe_ofNat_eq_mod, Nat.reduceMod,
    Function.iterate_succ, Function.iterate_zero, Function.comp_apply, id]
  rfl

/-- The three parts of the table written, newest first. -/
theorem tabs_eq : bodyRun.sl.H5_3 c i M0 M1 M2 M3 f0 f1 f2 f3
    = [(⟨Rect.unit (s := S1x256x128) ![0, 0, 64] ![1, 256, 64] inb_S1x256x128_S1x256x64_0_0_64,
          k0_pay4 (k0_pay6 (M2.view.readAt (Elt F) (Rect.unit (s := S1x256x128) ![0, 0, 0] S1x256x128.size inb_S1x256x128_S1x256x128_0_0_0).toLoadRect f2))
            (M3.view.readAt (Elt F) (Rect.unit (s := S128x64) ![0, 0] S128x64.size inb_S128x64_S128x64_0_0).toLoadRect f3)⟩ : View.Piece (Elt F) S1x256x128 .f32),
       ⟨Rect.unit (s := S1x256x128) ![0, 0, 3] ![1, 256, 61] inb_S1x256x128_S1x256x61_0_0_3, k0_pay3 (F := F)⟩,
       ⟨Rect.unit (s := S1x256x128) ![0, 0, 0] ![1, 256, 3] inb_S1x256x128_S1x256x3_0_0_0,
          k0_pay2 (k0_pay5 (M1.view.readAt (Elt F) (Rect.unit (s := S1x256x3) ![0, 0, 0] S1x256x3.size inb_S1x256x3_S1x256x3_0_0_0).toLoadRect f1))⟩] := rfl

/-- The neighbours' buffer reads as the block of neighbours. -/
theorem read_cols (M4 : Memref sig .tc .vmem S1x256x16 .i32) (f4 : Bf (F := F) c M4) :
    M4.view.read (Elt F) (M4.view.writes (Elt F) f4 (bodyRun.sl.H4_16 c i M0 M1 M2 M3 f0 f1 f2 f3))
      = gidxBlk (BitVec.ofNat 32 (i 0).val) (k0_pay7 (M1.view.read (Elt F) f1) (M0.view.read (Elt F) f0)) := by
  funext y
  rw [cols_eq, View.readAt_full, View.readAt_full]
  refine View.read_writes_apply_of_pieces _ _ _ _ ?_ y ?_
  · intro p hp x
    obtain ⟨k, -, rfl⟩ := List.mem_map.1 hp
    obtain ⟨x0, x1, x2, rfl⟩ : ∃ (x0 : Fin 1) (x1 : Fin 256) (x2 : Fin 1), x = ix3 x0 x1 x2 := ⟨_, _, _, ValueIdx.eq_ix3 x⟩
    obtain rfl := Subsingleton.elim x0 0
    obtain rfl := Subsingleton.elim x2 0
    have h1 : (Rect.unit (s := S1x256x16) ![0, 0, k.val] ![1, 256, 1] (col_inb k)).emb (ix3 (0 : Fin 1) x1 (0 : Fin 1))
        = ix3 (0 : Fin 1) x1 k := by
      funext a
      refine Fin.ext ?_
      match a with
      | ⟨0, _⟩ => rfl
      | ⟨1, _⟩ => show 0 + 1 * x1.val = x1.val; omega
      | ⟨2, _⟩ => show k.val + 1 * 0 = k.val; omega
    rw [h1]
    rfl
  · have hk : ∀ k : Fin 16, k ∈ ([15, 14, 13, 12, 11, 10, 9, 8, 7, 6, 5, 4, 3, 2, 1, 0] : List (Fin 16)) := by decide
    refine ⟨_, List.mem_map.2 ⟨(y 2 : Fin 16), hk _, rfl⟩, ?_⟩
    rw [Rect.mem_set_unit]
    intro a
    match a with
    | ⟨0, _⟩ => exact ⟨Nat.zero_le _, (y 0).isLt⟩
    | ⟨1, _⟩ => exact ⟨Nat.zero_le _, by show (y 1).val < 0 + 256; rw [Nat.zero_add]; exact (y 1).isLt⟩
    | ⟨2, _⟩ => exact ⟨Nat.le_refl _, Nat.lt_succ_self _⟩

/-- The table's buffer reads as the block of the table. -/
theorem read_tabs (M5 : Memref sig .tc .vmem S1x256x128 .f32) (f5 : Bf (F := F) c M5) :
    M5.view.read (Elt F) (M5.view.writes (Elt F) f5 (bodyRun.sl.H5_3 c i M0 M1 M2 M3 f0 f1 f2 f3))
      = tabBlk (M1.view.read (Elt F) f1) (M2.view.read (Elt F) f2) (M3.view.read (Elt F) f3) := by
  funext y
  rw [tabs_eq, View.readAt_full, View.readAt_full, View.readAt_full]
  have hy0 : (y 0).val = 0 := Nat.lt_one_iff.1 (y 0).isLt
  have hy2 : (y 2).val < 128 := (y 2).isLt
  unfold tabBlk
  by_cases h3 : (y 2).val < 3
  · rw [dif_pos h3]
    refine (View.read_writes_cons_unit_of_not_mem _ _ _ _ _ y rfl 2 (Or.inl (by show _ < 64; omega))).trans ?_
    refine (View.read_writes_cons_unit_of_not_mem _ _ _ _ _ y rfl 2 (Or.inl h3)).trans ?_
    refine View.read_writes_cons_unit_of_mem _ _ _ _ _ y (ix3 (0 : Fin 1) (y 1 : Fin 256) (⟨(y 2).val, h3⟩ : Fin 3)) rfl fun a => ?_
    match a with
    | ⟨0, _⟩ => exact hy0
    | ⟨1, _⟩ => exact (Nat.zero_add _).symm
    | ⟨2, _⟩ => exact (Nat.zero_add _).symm
  · rw [dif_neg h3]
    by_cases h64 : (y 2).val < 64
    · rw [dif_pos h64]
      refine (View.read_writes_cons_unit_of_not_mem _ _ _ _ _ y rfl 2 (Or.inl h64)).trans ?_
      refine View.read_writes_cons_unit_of_mem _ _ _ _ _ y (ix3 (0 : Fin 1) (y 1 : Fin 256) (⟨(y 2).val - 3, by omega⟩ : Fin 61)) rfl fun a => ?_
      match a with
      | ⟨0, _⟩ => exact hy0
      | ⟨1, _⟩ => exact (Nat.zero_add _).symm
      | ⟨2, _⟩ => show (y 2).val = 3 + ((y 2).val - 3); omega
    · rw [dif_neg h64]
      refine View.read_writes_cons_unit_of_mem _ _ _ _ _ y (ix3 (0 : Fin 1) (y 1 : Fin 256) (⟨(y 2).val - 64, by omega⟩ : Fin 64)) rfl fun a => ?_
      match a with
      | ⟨0, _⟩ => exact hy0
      | ⟨1, _⟩ => exact (Nat.zero_add _).symm
      | ⟨2, _⟩ => show (y 2).val = 64 + ((y 2).val - 64); omega

end Pieces

/-- The run's two witnesses, spelt. -/
theorem bodyRun_fst (c : Dev nD) (i : grid0.Coords)
    (M0 : Memref sig .tc .vmem S1x3x2048 .f32) (h0 : M0.IsWhole) (M1 : Memref sig .tc .vmem S1x256x3 .f32) (h1 : M1.IsWhole)
    (M2 : Memref sig .tc .vmem S1x256x128 .f32) (h2 : M2.IsWhole) (M3 : Memref sig .tc .vmem S128x64 .f32) (h3 : M3.IsWhole)
    (M4 : Memref sig .tc .vmem S1x256x16 .i32) (h4 : M4.IsWhole) (M5 : Memref sig .tc .vmem S1x256x128 .f32) (h5 : M5.IsWhole)
    (f0 : Bf (F := F) c M0) (f1 : Bf (F := F) c M1) (f2 : Bf (F := F) c M2) (f3 : Bf (F := F) c M3) :
    (bodyRun c i M0 h0 M1 h1 M2 h2 M3 h3 M4 h4 M5 h5 f0 f1 f2 f3).1
      = M4.view.writes (Elt F) M4.view.junk (bodyRun.sl.H4_16 c i M0 M1 M2 M3 f0 f1 f2 f3) := by
  delta bodyRun; dsimp only

theorem bodyRun_snd (c : Dev nD) (i : grid0.Coords)
    (M0 : Memref sig .tc .vmem S1x3x2048 .f32) (h0 : M0.IsWhole) (M1 : Memref sig .tc .vmem S1x256x3 .f32) (h1 : M1.IsWhole)
    (M2 : Memref sig .tc .vmem S1x256x128 .f32) (h2 : M2.IsWhole) (M3 : Memref sig .tc .vmem S128x64 .f32) (h3 : M3.IsWhole)
    (M4 : Memref sig .tc .vmem S1x256x16 .i32) (h4 : M4.IsWhole) (M5 : Memref sig .tc .vmem S1x256x128 .f32) (h5 : M5.IsWhole)
    (f0 : Bf (F := F) c M0) (f1 : Bf (F := F) c M1) (f2 : Bf (F := F) c M2) (f3 : Bf (F := F) c M3) :
    (bodyRun c i M0 h0 M1 h1 M2 h2 M3 h3 M4 h4 M5 h5 f0 f1 f2 f3).2.1
      = M5.view.writes (Elt F) M5.view.junk (bodyRun.sl.H5_3 c i M0 M1 M2 M3 f0 f1 f2 f3) := by
  delta bodyRun; dsimp only

/-- The run of the body with its two results' contents read: `W4` and `W5` are any buffers that read as the blocks. -/
theorem bodyRun_reads (c : Dev nD) (i : grid0.Coords)
    (M0 : Memref sig .tc .vmem S1x3x2048 .f32) (h0 : M0.IsWhole) (M1 : Memref sig .tc .vmem S1x256x3 .f32) (h1 : M1.IsWhole)
    (M2 : Memref sig .tc .vmem S1x256x128 .f32) (h2 : M2.IsWhole) (M3 : Memref sig .tc .vmem S128x64 .f32) (h3 : M3.IsWhole)
    (M4 : Memref sig .tc .vmem S1x256x16 .i32) (h4 : M4.IsWhole) (M5 : Memref sig .tc .vmem S1x256x128 .f32) (h5 : M5.IsWhole)
    (f0 : Bf (F := F) c M0) (f1 : Bf (F := F) c M1) (f2 : Bf (F := F) c M2) (f3 : Bf (F := F) c M3) :
    ∃ (W4 : Bf (F := F) c M4) (W5 : Bf (F := F) c M5),
      M4.view.read (Elt F) W4 = gidxBlk (BitVec.ofNat 32 (i 0).val) (k0_pay7 (M1.view.read (Elt F) f1) (M0.view.read (Elt F) f0))
      ∧ M5.view.read (Elt F) W5 = tabBlk (M1.view.read (Elt F) f1) (M2.view.read (Elt F) f2) (M3.view.read (Elt F) f3)
      ∧ ∀ (f4 : Bf (F := F) c M4) (f5 : Bf (F := F) c M5) (E : Set ℕ) (Q : PUnit → sProp 𝕄),
        iprop(pt c M0 f0 ∗ pt c M1 f1 ∗ pt c M2 f2 ∗ pt c M3 f3 ∗ pt c M4 f4 ∗ pt c M5 f5
            ∗ (iprop(pt c M0 f0 ∗ pt c M1 f1 ∗ pt c M2 f2 ∗ pt c M3 f3 ∗ pt c M4 W4 ∗ pt c M5 W5) -∗ Q ⟨⟩))
          ⊢ wp frame (wpE (defs₀ (F := F)) Variants.none c none) E (cc0__topk_table_kernel i M0 h0 M1 h1 M2 h2 M3 h3 M4 h4 M5 h5) Q :=
  ⟨(bodyRun c i M0 h0 M1 h1 M2 h2 M3 h3 M4 h4 M5 h5 f0 f1 f2 f3).1, (bodyRun c i M0 h0 M1 h1 M2 h2 M3 h3 M4 h4 M5 h5 f0 f1 f2 f3).2.1,
    (congrArg (M4.view.read (Elt F)) (bodyRun_fst c i M0 h0 M1 h1 M2 h2 M3 h3 M4 h4 M5 h5 f0 f1 f2 f3)).trans (read_cols c i M0 M1 M2 M3 f0 f1 f2 f3 M4 _),
    (congrArg (M5.view.read (Elt F)) (bodyRun_snd c i M0 h0 M1 h1 M2 h2 M3 h3 M4 h4 M5 h5 f0 f1 f2 f3)).trans (read_tabs c i M0 M1 M2 M3 f0 f1 f2 f3 M5 _),
    (bodyRun c i M0 h0 M1 h1 M2 h2 M3 h3 M4 h4 M5 h5 f0 f1 f2 f3).2.2⟩

/-- The kernel's body, at any grid point and on any staging buffers: from the four inputs' buffers at what they read, it
    runs to its return, the inputs' buffers as they were, the neighbours' at the block of neighbours and the table's at the
    block of the table. -/
theorem wp_body (c : Dev nD) (i : grid0.Coords)
    (M0 : Memref sig .tc .vmem S1x3x2048 .f32) (h0 : M0.IsWhole) (M1 : Memref sig .tc .vmem S1x256x3 .f32) (h1 : M1.IsWhole)
    (M2 : Memref sig .tc .vmem S1x256x128 .f32) (h2 : M2.IsWhole) (M3 : Memref sig .tc .vmem S128x64 .f32) (h3 : M3.IsWhole)
    (M4 : Memref sig .tc .vmem S1x256x16 .i32) (h4 : M4.IsWhole) (M5 : Memref sig .tc .vmem S1x256x128 .f32) (h5 : M5.IsWhole)
    (X0 : Vec F S1x3x2048 .f32) (X1 : Vec F S1x256x3 .f32) (X2 : Vec F S1x256x128 .f32) (X3 : Vec F S128x64 .f32)
    (X4 : Vec F S1x256x16 .i32) (X5 : Vec F S1x256x128 .f32) (E : Set ℕ) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ (iprop(owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare (gidxBlk (BitVec.ofNat 32 (i 0).val) (k0_pay7 X1 X0))
            ∗ owns (c : Thread nD τ) M5 fullShare (tabBlk X1 X2 X3)) -∗ Q ⟨⟩))
      ⊢ wp frame (wpE (defs₀ (F := F)) Variants.none c none) E (cc0__topk_table_kernel i M0 h0 M1 h1 M2 h2 M3 h3 M4 h4 M5 h5) Q := by
  unfold owns
  rw [h0.set_eq_univ, h1.set_eq_univ, h2.set_eq_univ, h3.set_eq_univ, h4.set_eq_univ, h5.set_eq_univ]
  iintro ⟨⟨%f0, %e0, H0⟩, ⟨%f1, %e1, H1⟩, ⟨%f2, %e2, H2⟩, ⟨%f3, %e3, H3⟩, ⟨%f4, -, H4⟩, ⟨%f5, -, H5⟩, Hk⟩
  obtain ⟨W4, W5, r4, r5, hrun⟩ := bodyRun_reads c i M0 h0 M1 h1 M2 h2 M3 h3 M4 h4 M5 h5 f0 f1 f2 f3
  rw [e0, e1] at r4
  rw [e1, e2, e3] at r5
  iapply hrun f4 f5 E Q
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  iapply Hk
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]
  · iexists W4; isplitr; swap; (· iexact H4); ipureintro; exact r4
  · iexists W5; isplitr; swap; (· iexact H5); ipureintro; exact r5

end Cert.Proof.TopK
end
-- ==== Proof.NetBody.lean ====
/-
  The body of the network call, run once at a symbolic grid point and on symbolic staging buffers: what it leaves in the
  buffers of its two results as functions of the blocks it reads.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Launch
public import Idealize.ShloMosaic.Lib.Pipeline.FrameBody
public import Idealize.ShloMosaic.Lib.VecWindow
public import Idealize.ShloMosaic.Lib.ValueIdxCore

@[expose] public section

noncomputable section

namespace Cert.Proof.Net

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Gather (UU)

variable {F : FTy → Type} [FloatOps F]

local notation "𝕄" => MT nD τ sig (HIx 1) (Elt F) ℕ UU ℕ

/-! ## What the body leaves, as functions of the blocks it reads -/

/-- The geometric branch of a block of points. -/
def geoBlk (x0 : Vec F S128x16x128 .f32) (x2 x4 x5 : Vec F S128x3 .f32) (x6 : Vec F S10x64 .f32) (x7 x8 x9 : Vec F S64 .f32)
    (x10 : Vec F S64x64 .f32) (x11 : Vec F S64 .f32) : FVec F S128x64 .f32 :=
  k2_pay14 (k2_pay13 (k2_pay9 x0 x2) (k2_pay10 x0 x2) (k2_pay11 x0 x2) (k2_pay12 x0 x2) (Scalar.ofBits .f32 0x41800000#32) x4 x5 x6 x7 x8 x9) x10 x11
/-- The branch of differences before its largest is taken over the neighbours. -/
def diffBlk (x0 : Vec F S128x16x128 .f32) (x1 : Vec F S128x128 .f32) (x12 x13 x14 : Vec F S64 .f32) (x15 : Vec F S64x64 .f32) : FVec F S2048x64 .f32 :=
  k2_pay15 (k2_pay2 x0) (k2_pay4 x1) x12 x13 x14 x15
/-- The edge probabilities over both branches. -/
def edgeBlk (g : FVec F S128x64 .f32) (d : FVec F S2048x64 .f32) (x16 : Vec F S64 .f32) (x17 : Vec F S128x32 .f32) (x18 : Vec F S32 .f32)
    (x19 : Vec F S1x32 .f32) (x20 : Vec F S1 .f32) : FVec F S128x1 .f32 :=
  k2_pay17 g d x16 x17 x18 x19 x20
/-- The refined features over both branches and the edge probabilities. -/
def refBlk (g : FVec F S128x64 .f32) (d : FVec F S2048x64 .f32) (e : FVec F S128x1 .f32) (x3 : Vec F S128x128 .f32) (x16 : Vec F S64 .f32)
    (x21 : Vec F S256x128 .f32) (x22 x23 x24 : Vec F S128 .f32) : FVec F S128x128 .f32 :=
  k2_pay1 (k2_pay3 x3) e (k2_pay18 (k2_pay3 x3) g d x16 x21 x22) x23 x24 (k2_pay19 (k2_pay3 x3) g d x16 x21 x22) (k2_pay20 (k2_pay3 x3) g d x16 x21 x22)

section Blocks

variable (x0 : Vec F S128x16x128 .f32) (x1 : Vec F S128x128 .f32) (x2 : Vec F S128x3 .f32) (x3 : Vec F S128x128 .f32) (x4 x5 : Vec F S128x3 .f32) (x6 : Vec F S10x64 .f32)
    (x7 x8 x9 : Vec F S64 .f32) (x10 : Vec F S64x64 .f32) (x11 x12 x13 x14 : Vec F S64 .f32) (x15 : Vec F S64x64 .f32) (x16 : Vec F S64 .f32) (x17 : Vec F S128x32 .f32)
    (x18 : Vec F S32 .f32) (x19 : Vec F S1x32 .f32) (x20 : Vec F S1 .f32) (x21 : Vec F S256x128 .f32) (x22 x23 x24 : Vec F S128 .f32)

/-- Both results' blocks over the inputs' blocks. -/
def outE : Vec F S128x1 .f32 :=
  edgeBlk (geoBlk x0 x2 x4 x5 x6 x7 x8 x9 x10 x11) (diffBlk x0 x1 x12 x13 x14 x15) x16 x17 x18 x19 x20
def outR : Vec F S128x128 .f32 :=
  refBlk (geoBlk x0 x2 x4 x5 x6 x7 x8 x9 x10 x11) (diffBlk x0 x1 x12 x13 x14 x15)
    (edgeBlk (geoBlk x0 x2 x4 x5 x6 x7 x8 x9 x10 x11) (diffBlk x0 x1 x12 x13 x14 x15) x16 x17 x18 x19 x20) x3 x16 x21 x22 x23 x24

end Blocks

set_option maxHeartbeats 4000000 in
/-- The body on whole staging buffers leaves the inputs' as they were and the results' at their blocks. -/
theorem wp_net (c : Dev nD) (i : grid2.Coords)
    (M0 : Memref sig .tc .vmem S128x16x128 .f32) (h0 : M0.IsWhole) (M1 : Memref sig .tc .vmem S128x128 .f32) (h1 : M1.IsWhole)
    (M2 : Memref sig .tc .vmem S128x3 .f32) (h2 : M2.IsWhole) (M3 : Memref sig .tc .vmem S128x128 .f32) (h3 : M3.IsWhole)
    (M4 : Memref sig .tc .vmem S128x3 .f32) (h4 : M4.IsWhole) (M5 : Memref sig .tc .vmem S128x3 .f32) (h5 : M5.IsWhole)
    (M6 : Memref sig .tc .vmem S10x64 .f32) (h6 : M6.IsWhole) (M7 : Memref sig .tc .vmem S64 .f32) (h7 : M7.IsWhole)
    (M8 : Memref sig .tc .vmem S64 .f32) (h8 : M8.IsWhole) (M9 : Memref sig .tc .vmem S64 .f32) (h9 : M9.IsWhole)
    (M10 : Memref sig .tc .vmem S64x64 .f32) (h10 : M10.IsWhole) (M11 : Memref sig .tc .vmem S64 .f32) (h11 : M11.IsWhole)
    (M12 : Memref sig .tc .vmem S64 .f32) (h12 : M12.IsWhole) (M13 : Memref sig .tc .vmem S64 .f32) (h13 : M13.IsWhole)
    (M14 : Memref sig .tc .vmem S64 .f32) (h14 : M14.IsWhole) (M15 : Memref sig .tc .vmem S64x64 .f32) (h15 : M15.IsWhole)
    (M16 : Memref sig .tc .vmem S64 .f32) (h16 : M16.IsWhole) (M17 : Memref sig .tc .vmem S128x32 .f32) (h17 : M17.IsWhole)
    (M18 : Memref sig .tc .vmem S32 .f32) (h18 : M18.IsWhole) (M19 : Memref sig .tc .vmem S1x32 .f32) (h19 : M19.IsWhole)
    (M20 : Memref sig .tc .vmem S1 .f32) (h20 : M20.IsWhole) (M21 : Memref sig .tc .vmem S256x128 .f32) (h21 : M21.IsWhole)
    (M22 : Memref sig .tc .vmem S128 .f32) (h22 : M22.IsWhole) (M23 : Memref sig .tc .vmem S128 .f32) (h23 : M23.IsWhole)
    (M24 : Memref sig .tc .vmem S128 .f32) (h24 : M24.IsWhole) (M25 : Memref sig .tc .vmem S128x128 .f32) (h25 : M25.IsWhole)
    (M26 : Memref sig .tc .vmem S128x1 .f32) (h26 : M26.IsWhole)
    (x0 : Vec F S128x16x128 .f32) (x1 : Vec F S128x128 .f32) (x2 : Vec F S128x3 .f32) (x3 : Vec F S128x128 .f32) (x4 x5 : Vec F S128x3 .f32) (x6 : Vec F S10x64 .f32)
    (x7 x8 x9 : Vec F S64 .f32) (x10 : Vec F S64x64 .f32) (x11 x12 x13 x14 : Vec F S64 .f32) (x15 : Vec F S64x64 .f32) (x16 : Vec F S64 .f32) (x17 : Vec F S128x32 .f32)
    (x18 : Vec F S32 .f32) (x19 : Vec F S1x32 .f32) (x20 : Vec F S1 .f32) (x21 : Vec F S256x128 .f32) (x22 x23 x24 : Vec F S128 .f32)
    (x25 : Vec F S128x128 .f32) (x26 : Vec F S128x1 .f32) (E : Set ℕ) (Q : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ owns (c : Thread nD τ) M5 fullShare x5
        ∗ owns (c : Thread nD τ) M6 fullShare x6 ∗ owns (c : Thread nD τ) M7 fullShare x7 ∗ owns (c : Thread nD τ) M8 fullShare x8
        ∗ owns (c : Thread nD τ) M9 fullShare x9 ∗ owns (c : Thread nD τ) M10 fullShare x10 ∗ owns (c : Thread nD τ) M11 fullShare x11
        ∗ owns (c : Thread nD τ) M12 fullShare x12 ∗ owns (c : Thread nD τ) M13 fullShare x13 ∗ owns (c : Thread nD τ) M14 fullShare x14
        ∗ owns (c : Thread nD τ) M15 fullShare x15 ∗ owns (c : Thread nD τ) M16 fullShare x16 ∗ owns (c : Thread nD τ) M17 fullShare x17
        ∗ owns (c : Thread nD τ) M18 fullShare x18 ∗ owns (c : Thread nD τ) M19 fullShare x19 ∗ owns (c : Thread nD τ) M20 fullShare x20
        ∗ owns (c : Thread nD τ) M21 fullShare x21 ∗ owns (c : Thread nD τ) M22 fullShare x22 ∗ owns (c : Thread nD τ) M23 fullShare x23
        ∗ owns (c : Thread nD τ) M24 fullShare x24 ∗ owns (c : Thread nD τ) M25 fullShare x25 ∗ owns (c : Thread nD τ) M26 fullShare x26
        ∗ (iprop(owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ owns (c : Thread nD τ) M5 fullShare x5
        ∗ owns (c : Thread nD τ) M6 fullShare x6 ∗ owns (c : Thread nD τ) M7 fullShare x7 ∗ owns (c : Thread nD τ) M8 fullShare x8
        ∗ owns (c : Thread nD τ) M9 fullShare x9 ∗ owns (c : Thread nD τ) M10 fullShare x10 ∗ owns (c : Thread nD τ) M11 fullShare x11
        ∗ owns (c : Thread nD τ) M12 fullShare x12 ∗ owns (c : Thread nD τ) M13 fullShare x13 ∗ owns (c : Thread nD τ) M14 fullShare x14
        ∗ owns (c : Thread nD τ) M15 fullShare x15 ∗ owns (c : Thread nD τ) M16 fullShare x16 ∗ owns (c : Thread nD τ) M17 fullShare x17
        ∗ owns (c : Thread nD τ) M18 fullShare x18 ∗ owns (c : Thread nD τ) M19 fullShare x19 ∗ owns (c : Thread nD τ) M20 fullShare x20
        ∗ owns (c : Thread nD τ) M21 fullShare x21 ∗ owns (c : Thread nD τ) M22 fullShare x22 ∗ owns (c : Thread nD τ) M23 fullShare x23
        ∗ owns (c : Thread nD τ) M24 fullShare x24 ∗ owns (c : Thread nD τ) M25 fullShare (outR x0 x1 x2 x3 x4 x5 x6 x7 x8 x9 x10 x11 x12 x13 x14 x15 x16 x17 x18 x19 x20 x21 x22 x23 x24) ∗ owns (c : Thread nD τ) M26 fullShare (outE x0 x1 x2 x4 x5 x6 x7 x8 x9 x10 x11 x12 x13 x14 x15 x16 x17 x18 x19 x20)) -∗ Q ⟨⟩))
      ⊢ wp frame (wpE (defs₀ (F := F)) Variants.none c none) E (cc2__net_kernel i M0 h0 M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26) Q := by
  rw [cc2__net_kernel_eq_skeleton]
  unfold cc2__net_kernel_skel
  simp only [k2_part1_eq_skeleton, k2_part2_eq_skeleton, k2_part3_eq_skeleton, k2_part4_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, -, H25⟩, ⟨%f26, -, H26⟩, Hk⟩
  subst e0 e1 e2 e3 e4 e5 e6 e7 e8 e9 e10 e11 e12 e13 e14 e15 e16 e17 e18 e19 e20 e21 e22 e23 e24
  sl_exec
  sl_step
  iapply Hk
  isplitl [H0]; · iexists f0; isplitr; swap; (· iexact H0); ipureintro; rfl
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  isplitl [H7]; · iexists f7; isplitr; swap; (· iexact H7); ipureintro; rfl
  isplitl [H8]; · iexists f8; isplitr; swap; (· iexact H8); ipureintro; rfl
  isplitl [H9]; · iexists f9; isplitr; swap; (· iexact H9); ipureintro; rfl
  isplitl [H10]; · iexists f10; isplitr; swap; (· iexact H10); ipureintro; rfl
  isplitl [H11]; · iexists f11; isplitr; swap; (· iexact H11); ipureintro; rfl
  isplitl [H12]; · iexists f12; isplitr; swap; (· iexact H12); ipureintro; rfl
  isplitl [H13]; · iexists f13; isplitr; swap; (· iexact H13); ipureintro; rfl
  isplitl [H14]; · iexists f14; isplitr; swap; (· iexact H14); ipureintro; rfl
  isplitl [H15]; · iexists f15; isplitr; swap; (· iexact H15); ipureintro; rfl
  isplitl [H16]; · iexists f16; isplitr; swap; (· iexact H16); ipureintro; rfl
  isplitl [H17]; · iexists f17; isplitr; swap; (· iexact H17); ipureintro; rfl
  isplitl [H18]; · iexists f18; isplitr; swap; (· iexact H18); ipureintro; rfl
  isplitl [H19]; · iexists f19; isplitr; swap; (· iexact H19); ipureintro; rfl
  isplitl [H20]; · iexists f20; isplitr; swap; (· iexact H20); ipureintro; rfl
  isplitl [H21]; · iexists f21; isplitr; swap; (· iexact H21); ipureintro; rfl
  isplitl [H22]; · iexists f22; isplitr; swap; (· iexact H22); ipureintro; rfl
  isplitl [H23]; · iexists f23; isplitr; swap; (· iexact H23); ipureintro; rfl
  isplitl [H24]; · iexists f24; isplitr; swap; (· iexact H24); ipureintro; rfl
  isplitl [H25]
  · iexists _; isplitr; swap; (· iexact H25); ipureintro
    refine (View.read_writes_full _ _ _ _ _).trans ?_
    delta wp_net.sl.r_1 wp_net.sl.r_2 wp_net.sl.r_3 wp_net.sl.r_4 wp_net.sl.r_5 wp_net.sl.r_6 wp_net.sl.r_7 wp_net.sl.r_8 wp_net.sl.r_9 wp_net.sl.r_10 wp_net.sl.r_11 wp_net.sl.r_12 wp_net.sl.r_13 wp_net.sl.r_14 wp_net.sl.r_15 wp_net.sl.r_16 wp_net.sl.r_17 wp_net.sl.r wp_net.sl.cst_15
    repeat rw [View.readAt_full]
    rfl
  · iexists _; isplitr; swap; (· iexact H26); ipureintro
    refine (View.read_writes_full _ _ _ _ _).trans ?_
    delta wp_net.sl.r_1 wp_net.sl.r_2 wp_net.sl.r_3 wp_net.sl.r_4 wp_net.sl.r_5 wp_net.sl.r_6 wp_net.sl.r_7 wp_net.sl.r_8 wp_net.sl.r_9 wp_net.sl.r_10 wp_net.sl.r_11 wp_net.sl.r_12 wp_net.sl.r_13 wp_net.sl.r_14 wp_net.sl.r_15 wp_net.sl.r_16 wp_net.sl.r_17 wp_net.sl.r wp_net.sl.cst_15
    repeat rw [View.readAt_full]
    rfl

end Cert.Proof.Net

end
-- ==== Proof.NetRegion.lean ====
/-
  The network call's region: its body run at every grid point over the windows' blocks, and what its two results hold
  after it.
-/
module

public import proofs.«01_k».proof.Proof.NetBody
public import Idealize.ShloMosaic.Lib.Pipeline.RegionsLoop
public import Idealize.ShloMosaic.Lib.Pipeline.ValueKit.Geometry

@[expose] public section

noncomputable section

namespace Cert.Proof.Net

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Window BodyObligation)
open Cert.Proof.Gather (UU UP EP K)

variable {F : FTy → Type} [FloatOps F]

local notation "𝕄" => MT nD τ sig (HIx 1) (Elt F) ℕ UU ℕ

variable (W : (c : Dev nD) → (b : Ref sig .tc) → Buf (Elt F) ((c : Thread nD τ).loc b))

/-- The block of a window's array at a grid point. -/
abbrev nBlk (c : Dev nD) (w : Fin 27) (t : Fin cfg2.N) : ((cfg2.win w).xblock (cfg2.grid.coords t)).Idx → Elt F (cfg2.win w).elt :=
  ((cfg2.win w).blk t).view.read (Elt F) (W c (Pipeline.arrRef spec2 w))

/-- The waits recorded before the call: every one of the calls before it. -/
abbrev recd (c : Dev nD) (b : ℕ) : Set (SemLoc sig × HIx 1) := {p | (K (F := F)).lev (T c, p.1) p.2 ≤ b}

/-- The scoped buffers the pipeline does not stage. -/
abbrev Φc (c : Dev nD) : sProp 𝕄 := Pipeline.scopedRest (Ix := HIx 1) (Name := ℕ) (U := UU) (Lvl := ℕ) (Val := Elt F) spec2 c

/-- Both results' blocks at a grid point. -/
abbrev rBlk (c : Dev nD) (t : Fin cfg2.N) : Vec F S128x128 .f32 :=
  outR (nBlk W c 0 t) (nBlk W c 1 t) (nBlk W c 2 t) (nBlk W c 3 t) (nBlk W c 4 t) (nBlk W c 5 t) (nBlk W c 6 t) (nBlk W c 7 t) (nBlk W c 8 t) (nBlk W c 9 t) (nBlk W c 10 t) (nBlk W c 11 t) (nBlk W c 12 t) (nBlk W c 13 t) (nBlk W c 14 t) (nBlk W c 15 t) (nBlk W c 16 t) (nBlk W c 17 t) (nBlk W c 18 t) (nBlk W c 19 t) (nBlk W c 20 t) (nBlk W c 21 t) (nBlk W c 22 t) (nBlk W c 23 t) (nBlk W c 24 t)
abbrev eBlk (c : Dev nD) (t : Fin cfg2.N) : Vec F S128x1 .f32 :=
  outE (nBlk W c 0 t) (nBlk W c 1 t) (nBlk W c 2 t) (nBlk W c 4 t) (nBlk W c 5 t) (nBlk W c 6 t) (nBlk W c 7 t) (nBlk W c 8 t) (nBlk W c 9 t) (nBlk W c 10 t) (nBlk W c 11 t) (nBlk W c 12 t) (nBlk W c 13 t) (nBlk W c 14 t) (nBlk W c 15 t) (nBlk W c 16 t) (nBlk W c 17 t) (nBlk W c 18 t) (nBlk W c 19 t) (nBlk W c 20 t)

/-- Between the grid's points: the inputs' buffers at their blocks, the results' at the blocks the body leaves. -/
def dat (b : ℕ) (c : Dev nD) : Dat τ (Elt F) (HIx 1) ℕ UU ℕ cfg2 c where
  A w := W c (Pipeline.arrRef spec2 w)
  after w t := match w with
    | ⟨0, _⟩ => nBlk W c 0 t
    | ⟨1, _⟩ => nBlk W c 1 t
    | ⟨2, _⟩ => nBlk W c 2 t
    | ⟨3, _⟩ => nBlk W c 3 t
    | ⟨4, _⟩ => nBlk W c 4 t
    | ⟨5, _⟩ => nBlk W c 5 t
    | ⟨6, _⟩ => nBlk W c 6 t
    | ⟨7, _⟩ => nBlk W c 7 t
    | ⟨8, _⟩ => nBlk W c 8 t
    | ⟨9, _⟩ => nBlk W c 9 t
    | ⟨10, _⟩ => nBlk W c 10 t
    | ⟨11, _⟩ => nBlk W c 11 t
    | ⟨12, _⟩ => nBlk W c 12 t
    | ⟨13, _⟩ => nBlk W c 13 t
    | ⟨14, _⟩ => nBlk W c 14 t
    | ⟨15, _⟩ => nBlk W c 15 t
    | ⟨16, _⟩ => nBlk W c 16 t
    | ⟨17, _⟩ => nBlk W c 17 t
    | ⟨18, _⟩ => nBlk W c 18 t
    | ⟨19, _⟩ => nBlk W c 19 t
    | ⟨20, _⟩ => nBlk W c 20 t
    | ⟨21, _⟩ => nBlk W c 21 t
    | ⟨22, _⟩ => nBlk W c 22 t
    | ⟨23, _⟩ => nBlk W c 23 t
    | ⟨24, _⟩ => nBlk W c 24 t
    | ⟨25, _⟩ => rBlk W c t
    | ⟨26, _⟩ => eBlk W c t
    | ⟨_ + 27, h⟩ => absurd h (Nat.not_lt.2 (Nat.le_add_left _ _))
  Φ _ := Φc (F := F) c
  q _ := fullShare
  owed _ := (K (F := F)).Otc c 1
  recorded _ := recd (F := F) c b

variable (b : ℕ)

theorem before_0 (c : Dev nD) (t : Fin cfg2.N) (d) : (dat W b c).before 0 t d = nBlk W c 0 t :=
  (dat W b c).before_in_eq_fetched 0 rfl (fun _ => rfl) (fun _ _ _ => rfl) (fun _ => rfl) t d
theorem before_1 (c : Dev nD) (t : Fin cfg2.N) (d) : (dat W b c).before 1 t d = nBlk W c 1 t :=
  (dat W b c).before_in_eq_fetched 1 rfl (fun _ => rfl) (fun _ _ _ => rfl) (fun _ => rfl) t d
theorem before_2 (c : Dev nD) (t : Fin cfg2.N) (d) : (dat W b c).before 2 t d = nBlk W c 2 t :=
  (dat W b c).before_in_eq_fetched 2 rfl (fun _ => rfl) (fun _ _ _ => rfl) (fun _ => rfl) t d
theorem before_3 (c : Dev nD) (t : Fin cfg2.N) (d) : (dat W b c).before 3 t d = nBlk W c 3 t :=
  (dat W b c).before_in_eq_fetched 3 rfl (fun _ => rfl) (fun _ _ _ => rfl) (fun _ => rfl) t d
theorem before_4 (c : Dev nD) (t : Fin cfg2.N) (d) : (dat W b c).before 4 t d = nBlk W c 4 t :=
  (dat W b c).before_in_eq_fetched 4 rfl (fun _ => rfl) (fun _ _ _ => rfl) (fun _ => rfl) t d
theorem before_5 (c : Dev nD) (t : Fin cfg2.N) (d) : (dat W b c).before 5 t d = nBlk W c 5 t :=
  (dat W b c).before_in_eq_fetched 5 rfl (fun _ => rfl) (fun _ _ _ => rfl) (fun _ => rfl) t d
theorem before_6 (c : Dev nD) (t : Fin cfg2.N) (d) : (dat W b c).before 6 t d = nBlk W c 6 t :=
  (dat W b c).before_in_eq_fetched 6 rfl (fun _ => rfl) (fun _ _ _ => rfl) (fun _ => rfl) t d
theorem before_7 (c : Dev nD) (t : Fin cfg2.N) (d) : (dat W b c).before 7 t d = nBlk W c 7 t :=
  (dat W b c).before_in_eq_fetched 7 rfl (fun _ => rfl) (fun _ _ _ => rfl) (fun _ => rfl) t d
theorem before_8 (c : Dev nD) (t : Fin cfg2.N) (d) : (dat W b c).before 8 t d = nBlk W c 8 t :=
  (dat W b c).before_in_eq_fetched 8 rfl (fun _ => rfl) (fun _ _ _ => rfl) (fun _ => rfl) t d
theorem before_9 (c : Dev nD) (t : Fin cfg2.N) (d) : (dat W b c).before 9 t d = nBlk W c 9 t :=
  (dat W b c).before_in_eq_fetched 9 rfl (fun _ => rfl) (fun _ _ _ => rfl) (fun _ => rfl) t d
theorem before_10 (c : Dev nD) (t : Fin cfg2.N) (d) : (dat W b c).before 10 t d = nBlk W c 10 t :=
  (dat W b c).before_in_eq_fetched 10 rfl (fun _ => rfl) (fun _ _ _ => rfl) (fun _ => rfl) t d
theorem before_11 (c : Dev nD) (t : Fin cfg2.N) (d) : (dat W b c).before 11 t d = nBlk W c 11 t :=
  (dat W b c).before_in_eq_fetched 11 rfl (fun _ => rfl) (fun _ _ _ => rfl) (fun _ => rfl) t d
theorem before_12 (c : Dev nD) (t : Fin cfg2.N) (d) : (dat W b c).before 12 t d = nBlk W c 12 t :=
  (dat W b c).before_in_eq_fetched 12 rfl (fun _ => rfl) (fun _ _ _ => rfl) (fun _ => rfl) t d
theorem before_13 (c : Dev nD) (t : Fin cfg2.N) (d) : (dat W b c).before 13 t d = nBlk W c 13 t :=
  (dat W b c).before_in_eq_fetched 13 rfl (fun _ => rfl) (fun _ _ _ => rfl) (fun _ => rfl) t d
theorem before_14 (c : Dev nD) (t : Fin cfg2.N) (d) : (dat W b c).before 14 t d = nBlk W c 14 t :=
  (dat W b c).before_in_eq_fetched 14 rfl (fun _ => rfl) (fun _ _ _ => rfl) (fun _ => rfl) t d
theorem before_15 (c : Dev nD) (t : Fin cfg2.N) (d) : (dat W b c).before 15 t d = nBlk W c 15 t :=
  (dat W b c).before_in_eq_fetched 15 rfl (fun _ => rfl) (fun _ _ _ => rfl) (fun _ => rfl) t d
theorem before_16 (c : Dev nD) (t : Fin cfg2.N) (d) : (dat W b c).before 16 t d = nBlk W c 16 t :=
  (dat W b c).before_in_eq_fetched 16 rfl (fun _ => rfl) (fun _ _ _ => rfl) (fun _ => rfl) t d
theorem before_17 (c : Dev nD) (t : Fin cfg2.N) (d) : (dat W b c).before 17 t d = nBlk W c 17 t :=
  (dat W b c).before_in_eq_fetched 17 rfl (fun _ => rfl) (fun _ _ _ => rfl) (fun _ => rfl) t d
theorem before_18 (c : Dev nD) (t : Fin cfg2.N) (d) : (dat W b c).before 18 t d = nBlk W c 18 t :=
  (dat W b c).before_in_eq_fetched 18 rfl (fun _ => rfl) (fun _ _ _ => rfl) (fun _ => rfl) t d
theorem before_19 (c : Dev nD) (t : Fin cfg2.N) (d) : (dat W b c).before 19 t d = nBlk W c 19 t :=
  (dat W b c).before_in_eq_fetched 19 rfl (fun _ => rfl) (fun _ _ _ => rfl) (fun _ => rfl) t d
theorem before_20 (c : Dev nD) (t : Fin cfg2.N) (d) : (dat W b c).before 20 t d = nBlk W c 20 t :=
  (dat W b c).before_in_eq_fetched 20 rfl (fun _ => rfl) (fun _ _ _ => rfl) (fun _ => rfl) t d
theorem before_21 (c : Dev nD) (t : Fin cfg2.N) (d) : (dat W b c).before 21 t d = nBlk W c 21 t :=
  (dat W b c).before_in_eq_fetched 21 rfl (fun _ => rfl) (fun _ _ _ => rfl) (fun _ => rfl) t d
theorem before_22 (c : Dev nD) (t : Fin cfg2.N) (d) : (dat W b c).before 22 t d = nBlk W c 22 t :=
  (dat W b c).before_in_eq_fetched 22 rfl (fun _ => rfl) (fun _ _ _ => rfl) (fun _ => rfl) t d
theorem before_23 (c : Dev nD) (t : Fin cfg2.N) (d) : (dat W b c).before 23 t d = nBlk W c 23 t :=
  (dat W b c).before_in_eq_fetched 23 rfl (fun _ => rfl) (fun _ _ _ => rfl) (fun _ => rfl) t d
theorem before_24 (c : Dev nD) (t : Fin cfg2.N) (d) : (dat W b c).before 24 t d = nBlk W c 24 t :=
  (dat W b c).before_in_eq_fetched 24 rfl (fun _ => rfl) (fun _ _ _ => rfl) (fun _ => rfl) t d

set_option maxHeartbeats 1000000 in
/-- The body at a point takes the buffers as the pipeline hands them to the buffers as the data says. -/
theorem body_obligation (c : Dev nD) : BodyObligation (dat W b c) (defs₀ (F := F)) Variants.none none Set.univ := fun t => by
  rw [bigSep_W2, bigSep_W2]
  rw [show (dat W b c).Φ t.succ = (dat W b c).Φ t.castSucc from rfl,
    show (dat W b c).owesAt none t.succ = (dat W b c).owesAt none t.castSucc from rfl]
  dsimp only
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  rw [before_0, before_1, before_2, before_3, before_4, before_5, before_6, before_7, before_8, before_9, before_10, before_11, before_12, before_13, before_14, before_15, before_16, before_17, before_18, before_19, before_20, before_21, before_22, before_23, before_24]
  iapply (wp_net (F := F) c (grid2.coords t)
    (st2_0 t) (hstage2_0 ((cfg2.slots t 0).cast nbuf2_0)) (st2_1 t) (hstage2_1 ((cfg2.slots t 1).cast nbuf2_1)) (st2_2 t) (hstage2_2 ((cfg2.slots t 2).cast nbuf2_2))
    (st2_3 t) (hstage2_3 ((cfg2.slots t 3).cast nbuf2_3)) (st2_4 t) (hstage2_4 ((cfg2.slots t 4).cast nbuf2_4)) (st2_5 t) (hstage2_5 ((cfg2.slots t 5).cast nbuf2_5))
    (st2_6 t) (hstage2_6 ((cfg2.slots t 6).cast nbuf2_6)) (st2_7 t) (hstage2_7 ((cfg2.slots t 7).cast nbuf2_7)) (st2_8 t) (hstage2_8 ((cfg2.slots t 8).cast nbuf2_8))
    (st2_9 t) (hstage2_9 ((cfg2.slots t 9).cast nbuf2_9)) (st2_10 t) (hstage2_10 ((cfg2.slots t 10).cast nbuf2_10)) (st2_11 t) (hstage2_11 ((cfg2.slots t 11).cast nbuf2_11))
    (st2_12 t) (hstage2_12 ((cfg2.slots t 12).cast nbuf2_12)) (st2_13 t) (hstage2_13 ((cfg2.slots t 13).cast nbuf2_13)) (st2_14 t) (hstage2_14 ((cfg2.slots t 14).cast nbuf2_14))
    (st2_15 t) (hstage2_15 ((cfg2.slots t 15).cast nbuf2_15)) (st2_16 t) (hstage2_16 ((cfg2.slots t 16).cast nbuf2_16)) (st2_17 t) (hstage2_17 ((cfg2.slots t 17).cast nbuf2_17))
    (st2_18 t) (hstage2_18 ((cfg2.slots t 18).cast nbuf2_18)) (st2_19 t) (hstage2_19 ((cfg2.slots t 19).cast nbuf2_19)) (st2_20 t) (hstage2_20 ((cfg2.slots t 20).cast nbuf2_20))
    (st2_21 t) (hstage2_21 ((cfg2.slots t 21).cast nbuf2_21)) (st2_22 t) (hstage2_22 ((cfg2.slots t 22).cast nbuf2_22)) (st2_23 t) (hstage2_23 ((cfg2.slots t 23).cast nbuf2_23))
    (st2_24 t) (hstage2_24 ((cfg2.slots t 24).cast nbuf2_24)) (st2_25 t) (hstage2_25 ((cfg2.slots t 25).cast nbuf2_25)) (st2_26 t) (hstage2_26 ((cfg2.slots t 26).cast nbuf2_26))
    (nBlk W c 0 t) (nBlk W c 1 t) (nBlk W c 2 t) (nBlk W c 3 t) (nBlk W c 4 t) (nBlk W c 5 t) (nBlk W c 6 t) (nBlk W c 7 t) (nBlk W c 8 t) (nBlk W c 9 t) (nBlk W c 10 t) (nBlk W c 11 t) (nBlk W c 12 t) (nBlk W c 13 t) (nBlk W c 14 t) (nBlk W c 15 t) (nBlk W c 16 t) (nBlk W c 17 t) (nBlk W c 18 t) (nBlk W c 19 t) (nBlk W c 20 t) (nBlk W c 21 t) (nBlk W c 22 t) (nBlk W c 23 t) (nBlk W c 24 t) ((dat W b c).before 25 t d25) ((dat W b c).before 26 t d26) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

end Cert.Proof.Net
end
-- ==== Proof.Region.lean ====
/-
  The neighbour call's region: its body run at every grid point over the windows' blocks, what its two results hold after
  it, and the region entered from any contents of the arrays.
-/
module

public import proofs.«01_k».proof.Proof.Body
public import proofs.«01_k».proof.Proof.NetRegion
public import Idealize.ShloMosaic.Lib.Pipeline.RegionsLoop
public import Idealize.ShloMosaic.Lib.Pipeline.ValueKit.Geometry

@[expose] public section

noncomputable section

namespace Cert.Proof.TopK

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Window BodyObligation)
open Cert.Proof.Gather (UU UP EP K)

variable {F : FTy → Type} [FloatOps F]

local notation "𝕄" => MT nD τ sig (HIx 1) (Elt F) ℕ UU ℕ

/-! ## The region's data, at any contents of the arrays -/

variable (W : (c : Dev nD) → (b : Ref sig .tc) → Buf (Elt F) ((c : Thread nD τ).loc b))

/-- The block of a window's array at a grid point. -/
abbrev blkOf (c : Dev nD) (w : Fin 6) (t : Fin cfg0.N) : ((cfg0.win w).xblock (cfg0.grid.coords t)).Idx → Elt F (cfg0.win w).elt :=
  ((cfg0.win w).blk t).view.read (Elt F) (W c (Pipeline.arrRef spec0 w))

/-- The inputs' blocks at a grid point, at their own shapes. -/
abbrev xBlk (c : Dev nD) (t : Fin cfg0.N) : Vec F S1x3x2048 .f32 := blkOf W c 0 t
abbrev pBlk (c : Dev nD) (t : Fin cfg0.N) : Vec F S1x256x3 .f32 := blkOf W c 1 t
abbrev fBlk (c : Dev nD) (t : Fin cfg0.N) : Vec F S1x256x128 .f32 := blkOf W c 2 t
abbrev wBlk (c : Dev nD) (t : Fin cfg0.N) : Vec F S128x64 .f32 := blkOf W c 3 t

/-- What the host owes from the launch on is nothing at the index the pipeline waits at, and the waits it has recorded. -/
abbrev recd (c : Dev nD) : Set (SemLoc sig × HIx 1) := {p | (K (F := F)).lev (T c, p.1) p.2 ≤ 0}

/-- The scoped buffers the pipeline does not stage. -/
abbrev Φc (c : Dev nD) : sProp 𝕄 := Pipeline.scopedRest (Ix := HIx 1) (Name := ℕ) (U := UU) (Lvl := ℕ) (Val := Elt F) spec0 c

/-- Between the grid's points: the four inputs' buffers at their blocks, the results' at the blocks the body leaves. -/
def dat (c : Dev nD) : Dat τ (Elt F) (HIx 1) ℕ UU ℕ cfg0 c where
  A w := W c (Pipeline.arrRef spec0 w)
  after w t := match w with
    | ⟨0, _⟩ => blkOf W c 0 t
    | ⟨1, _⟩ => blkOf W c 1 t
    | ⟨2, _⟩ => blkOf W c 2 t
    | ⟨3, _⟩ => blkOf W c 3 t
    | ⟨4, _⟩ => gidxBlk (BitVec.ofNat 32 (grid0.coords t 0).val) (k0_pay7 (pBlk W c t) (xBlk W c t))
    | ⟨5, _⟩ => tabBlk (pBlk W c t) (fBlk W c t) (wBlk W c t)
  Φ _ := Φc (F := F) c
  q _ := fullShare
  owed _ := (K (F := F)).Otc c 0
  recorded _ := recd (F := F) c

theorem before_0 (c : Dev nD) (t : Fin cfg0.N) (d) : (dat W c).before 0 t d = xBlk W c t :=
  (dat W c).before_in_eq_fetched 0 rfl (fun _ => rfl) (fun _ _ _ => rfl) (fun _ => rfl) t d
theorem before_1 (c : Dev nD) (t : Fin cfg0.N) (d) : (dat W c).before 1 t d = pBlk W c t :=
  (dat W c).before_in_eq_fetched 1 rfl (fun _ => rfl) (fun _ _ _ => rfl) (fun _ => rfl) t d
theorem before_2 (c : Dev nD) (t : Fin cfg0.N) (d) : (dat W c).before 2 t d = fBlk W c t :=
  (dat W c).before_in_eq_fetched 2 rfl (fun _ => rfl) (fun _ _ _ => rfl) (fun _ => rfl) t d
theorem before_3 (c : Dev nD) (t : Fin cfg0.N) (d) : (dat W c).before 3 t d = wBlk W c t :=
  (dat W c).before_in_eq_fetched 3 rfl (fun _ => rfl) (fun _ _ _ => rfl) (fun _ => rfl) t d

/-- The body at a point takes the buffers as the pipeline hands them to the buffers as the data says. -/
theorem body_obligation (c : Dev nD) : BodyObligation (dat W c) (defs₀ (F := F)) Variants.none none Set.univ := fun t => by
  rw [bigSep_W0, bigSep_W0]
  rw [show (dat W c).Φ t.succ = (dat W c).Φ t.castSucc from rfl,
    show (dat W c).owesAt none t.succ = (dat W c).owesAt none t.castSucc from rfl]
  dsimp only
  iintro ⟨HΦ, Howes, ⟨%d0, H0⟩, ⟨%d1, H1⟩, ⟨%d2, H2⟩, ⟨%d3, H3⟩, ⟨%d4, H4⟩, ⟨%d5, H5⟩⟩
  rw [before_0, before_1, before_2, before_3]
  iapply (wp_body (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (xBlk W c t) (pBlk W c t) (fBlk W c t) (wBlk W c t) ((dat W c).before 4 t d4) ((dat W c).before 5 t d5) Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-! ## The region over the host's state -/

variable (adm : (p : Fin 2) → (pcfgs (F := F) p).Adm)

/-- Both pipelines' data. -/
def pdats : (p : Fin 2) → (c : Dev nD) → Dat τ (Elt F) (HIx 1) ℕ UU ℕ (Pipeline.pin (pcfgs (F := F)) adm p) c
  | ⟨0, _⟩ => fun c => dat W c
  | ⟨1, _⟩ => fun c => Net.dat W 8 c

/-- What the host owes at the pipeline's index: nothing. -/
theorem Otc_none (c : Dev nD) (g : GSem nD τ sig) : (K (F := F)).Otc c 0 g none = (0 : ℕ) := by
  by_contra h
  exact absurd (SparseCore.Cfg.lev_of_Otc_pos (K := K (F := F)) (Nat.pos_of_ne_zero h)) (Nat.not_succ_le_zero _)

/-- The neighbours and the table after the region, as the write-backs leave them. -/
def nbrs (c : Dev nD) : Buf (Elt F) ((c : Thread nD τ).loc main_v1_0) := (dat W c).arrAt 4 cfg0.N
def tabl (c : Dev nD) : Buf (Elt F) ((c : Thread nD τ).loc main_v1_1) := (dat W c).arrAt 5 cfg0.N

variable (Wp : (c : Dev nD) → (b : Ref sig .tc) → Buf (Elt F) ((c : Thread nD τ).loc b))

set_option backward.isDefEq.respectTransparency.types false in
/-- The region entered from every array at `W`, left with every array at `Wp`: its two results as the write-backs leave
    them, the rest untouched; the host's debts and its recorded waits pass through. -/
def reg (h4 : ∀ c, Wp c main_v1_0 = nbrs W c) (h5 : ∀ c, Wp c main_v1_1 = tabl W c)
    (hne : ∀ c (b : Ref sig .tc), b ≠ main_v1_0 → b ≠ main_v1_1 → Wp c b = W c b) :
    Pipeline.RegionSeg (pcfgs (F := F)) adm (pdats W adm) none defs₀ Variants.none (K (F := F)).L (K (F := F)).lev 0 where
  win := launch0.win.to₀
  block_pos := launch0.block_pos
  stage_whole := launch0.stage_whole
  K := PEmpty
  osem k := k.elim
  ho := Pipeline.OwnSemFacts.none _
  hbody c := (body_obligation W c).loose
  hwaits c := Pipeline.cellsWaits_intro _ (pdats W adm) none 0 c fun w s t =>
    (K (F := F)).mayWait_none _ (Otc_none c)
  pre c := iprop(unscopedBufs c (W c) ∗ ∃ X, ⌜(K (F := F)).WBelow (T c) X 0⌝ ∗ owes (c : Thread nD τ) ((K (F := F)).Otc c 0) X)
  post c := iprop(unscopedBufs c (Wp c) ∗ ∃ X, ⌜(K (F := F)).WBelow (T c) X 0⌝ ∗ owes (c : Thread nD τ) ((K (F := F)).Otc c 0) X)
  X _ := BI.emp
  Y _ := BI.emp
  Z c := Pipeline.unscopedRest (Ix := HIx 1) (Name := ℕ) (U := UU) (Lvl := ℕ) spec0 c (W c)
  hentry c := by
    rw [Pipeline.ownSems0_none]
    have hsplit := Pipeline.arrays_of_unscopedBufs (p := 0) (pcfgs (F := F)) adm (pdats W adm) launch0.win launch0.arr_whole c
      ((pdats W adm 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%X, %hX, HO⟩; iexists X; isplitr; · ipureintro; exact fun p hp => Or.inl (hX p hp)
      iexact HO
    isplitr; · iempintro
    iexact Hrest
  hin c := by
    rw [show (pdats W adm 0 c).Φ 0 = Φc (F := F) c from rfl]
    iintro ⟨-, -, Hr⟩; iexact Hr
  hout c := by
    rw [Pipeline.ownSems0_none, show (pdats W adm 0 c).Φ (Fin.last _) = Φc (F := F) c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats W adm) ((pdats W adm 0 c).share_full fun _ => rfl) (W c) (Wp c) ((pdats W adm 0 c).arrAt · cfg0.N)
      (fun w => by
        fin_cases w
        · exact ((pdats W adm 0 c).arrAt_in 0 rfl _).trans (hne c main_v0 (by decide) (by decide)).symm
        · exact ((pdats W adm 0 c).arrAt_in 1 rfl _).trans (hne c main_arg0 (by decide) (by decide)).symm
        · exact ((pdats W adm 0 c).arrAt_in 2 rfl _).trans (hne c main_arg1 (by decide) (by decide)).symm
        · exact ((pdats W adm 0 c).arrAt_in 3 rfl _).trans (hne c main_arg10 (by decide) (by decide)).symm
        · exact (h4 c).symm
        · exact (h5 c).symm)
      (fun b hb => hne c b (fun h => hb (h ▸ Finset.mem_image.mpr ⟨4, Finset.mem_univ _, rfl⟩))
        (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%X, %hX, HO⟩; iexists X; isplitr
    · ipureintro
      intro p hp
      rcases hX hp with h | h
      · exact h
      · obtain ⟨w, s, rfl⟩ := h
        exact Nat.le_refl 0
    iexact HO

end Cert.Proof.TopK
end
-- ==== Proof.Arrays.lean ====
/-
  The neighbours and the table the region leaves, as functions of the whole arrays it reads: every block written once, at
  its own grid point.
-/
module

public import proofs.«01_k».proof.Proof.Region

@[expose] public section

noncomputable section

namespace Cert.Proof.TopK

open Cert.KernelIdeal Cert.KernelIdeal.Gen
open Idealize.ShloMosaic
open Idealize.ShloMosaic.TcCoe Idealize.ShloMosaic.Tactic
open Idealize.ShloMosaic.SparseCore.Cfg (HIx)
open Idealize.ShloMosaic.ValueIdx (ix2 ix3)
open Idealize.ShloMosaic.Pipeline (Dat Window)

variable {F : FTy → Type} [FloatOps F]

/-- Row r of block q. -/
def rowNo (q : Fin 8) (r : Fin 256) : Fin 2048 := ⟨256 * q.val + r.val, by omega⟩
/-- The block a row lies in and its place there. -/
def rowBlk (n : Fin 2048) : Fin 8 := ⟨n.val / 256, by omega⟩
def rowIn (n : Fin 2048) : Fin 256 := ⟨n.val % 256, by omega⟩

theorem rowBlk_rowNo (q : Fin 8) (r : Fin 256) : rowBlk (rowNo q r) = q := Fin.ext (by show (256 * q.val + r.val) / 256 = q.val; omega)
theorem rowIn_rowNo (q : Fin 8) (r : Fin 256) : rowIn (rowNo q r) = r := Fin.ext (by show (256 * q.val + r.val) % 256 = r.val; omega)
theorem rowNo_row (n : Fin 2048) : rowNo (rowBlk n) (rowIn n) = n := Fin.ext (by show 256 * (n.val / 256) + n.val % 256 = n.val; omega)

/-- The block of the transposed points of batch b, of the points and of the features of block q of batch b. -/
def xSl (x : Vec F S8x3x2048 .f32) (b : Fin 8) : Vec F S1x3x2048 .f32 := fun y => x (ix3 b (y 1 : Fin 3) (y 2 : Fin 2048))
def pSl (p : Vec F S8x2048x3 .f32) (b q : Fin 8) : Vec F S1x256x3 .f32 := fun y => p (ix3 b (rowNo q (y 1)) (y 2 : Fin 3))
def fSl (f : Vec F S8x2048x128 .f32) (b q : Fin 8) : Vec F S1x256x128 .f32 := fun y => f (ix3 b (rowNo q (y 1)) (y 2 : Fin 128))

/-- The neighbours of every point, and the table, over the whole arrays. -/
def nbrsOf (x : Vec F S8x3x2048 .f32) (p : Vec F S8x2048x3 .f32) : S8x2048x16.Idx → BitVec 32 := fun i =>
  gidxBlk (BitVec.ofNat 32 (i 0).val) (k0_pay7 (pSl p (i 0) (rowBlk (i 1))) (xSl x (i 0))) (ix3 (0 : Fin 1) (rowIn (i 1)) (i 2 : Fin 16))
def tablOf (p : Vec F S8x2048x3 .f32) (f : Vec F S8x2048x128 .f32) (w : Vec F S128x64 .f32) : S8x2048x128.Idx → F .f32 := fun i =>
  tabBlk (pSl p (i 0) (rowBlk (i 1))) (fSl f (i 0) (rowBlk (i 1))) w (ix3 (0 : Fin 1) (rowIn (i 1)) (i 2 : Fin 128))

variable (W : (c : Dev nD) → (b : Ref sig .tc) → Buf (Elt F) ((c : Thread nD τ).loc b))

/-- The coordinates of a grid point. -/
abbrev bOf (t : Fin cfg0.N) : Fin 8 := grid0.coords t 0
abbrev qOf (t : Fin cfg0.N) : Fin 8 := grid0.coords t 1

theorem idx_0 : ∀ t : Fin cfg0.N, win0_0.index t = ![(grid0.coords t 0).val, 0, 0] := (by decide +kernel : ∀ t : Fin grid0.N, _)
theorem idx_1 : ∀ t : Fin cfg0.N, win0_1.index t = ![(grid0.coords t 0).val, (grid0.coords t 1).val, 0] := (by decide +kernel : ∀ t : Fin grid0.N, _)
theorem idx_2 : ∀ t : Fin cfg0.N, win0_2.index t = ![(grid0.coords t 0).val, (grid0.coords t 1).val, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![(grid0.coords t 0).val, (grid0.coords t 1).val, 0] := (by decide +kernel : ∀ t : Fin grid0.N, _)
theorem idx_5 : ∀ t : Fin cfg0.N, win0_5.index t = ![(grid0.coords t 0).val, (grid0.coords t 1).val, 0] := (by decide +kernel : ∀ t : Fin grid0.N, _)

/-- A block's elements in its array. -/
theorem emb_0 (t : Fin cfg0.N) (y : S1x3x2048.Idx) : ((cfg0.win 0).blk t).view.emb y = (ix3 (bOf t) (y 1 : Fin 3) (y 2 : Fin 2048) : S8x3x2048.Idx) := by
  funext a; refine Fin.ext ?_
  match a with
  | ⟨0, _⟩ => blk_simp [idx_0]
  | ⟨1, _⟩ => blk_simp [idx_0]; rfl
  | ⟨2, _⟩ => blk_simp [idx_0]; rfl

theorem emb_1 (t : Fin cfg0.N) (y : S1x256x3.Idx) : ((cfg0.win 1).blk t).view.emb y = (ix3 (bOf t) (rowNo (qOf t) (y 1)) (y 2 : Fin 3) : S8x2048x3.Idx) := by
  funext a; refine Fin.ext ?_
  match a with
  | ⟨0, _⟩ => blk_simp [idx_1]
  | ⟨1, _⟩ => blk_simp [idx_1]; show (grid0.coords t 1).val * 256 + (y 1).val = 256 * (grid0.coords t 1).val + (y 1).val; omega
  | ⟨2, _⟩ => blk_simp [idx_1]; rfl

theorem emb_2 (t : Fin cfg0.N) (y : S1x256x128.Idx) : ((cfg0.win 2).blk t).view.emb y = (ix3 (bOf t) (rowNo (qOf t) (y 1)) (y 2 : Fin 128) : S8x2048x128.Idx) := by
  funext a; refine Fin.ext ?_
  match a with
  | ⟨0, _⟩ => blk_simp [idx_2]
  | ⟨1, _⟩ => blk_simp [idx_2]; show (grid0.coords t 1).val * 256 + (y 1).val = 256 * (grid0.coords t 1).val + (y 1).val; omega
  | ⟨2, _⟩ => blk_simp [idx_2]; rfl

theorem emb_4 (t : Fin cfg0.N) (y : S1x256x16.Idx) : ((cfg0.win 4).blk t).view.emb y = (ix3 (bOf t) (rowNo (qOf t) (y 1)) (y 2 : Fin 16) : S8x2048x16.Idx) := by
  funext a; refine Fin.ext ?_
  match a with
  | ⟨0, _⟩ => blk_simp [idx_4]
  | ⟨1, _⟩ => blk_simp [idx_4]; show (grid0.coords t 1).val * 256 + (y 1).val = 256 * (grid0.coords t 1).val + (y 1).val; omega
  | ⟨2, _⟩ => blk_simp [idx_4]; rfl

theorem emb_5 (t : Fin cfg0.N) (y : S1x256x128.Idx) : ((cfg0.win 5).blk t).view.emb y = (ix3 (bOf t) (rowNo (qOf t) (y 1)) (y 2 : Fin 128) : S8x2048x128.Idx) := by
  funext a; refine Fin.ext ?_
  match a with
  | ⟨0, _⟩ => blk_simp [idx_5]
  | ⟨1, _⟩ => blk_simp [idx_5]; show (grid0.coords t 1).val * 256 + (y 1).val = 256 * (grid0.coords t 1).val + (y 1).val; omega
  | ⟨2, _⟩ => blk_simp [idx_5]; rfl

theorem emb_3 (t : Fin cfg0.N) (y : S128x64.Idx) : ((cfg0.win 3).blk t).view.emb y = (y : S128x64.Idx) := by
  funext a; refine Fin.ext ?_
  match a with
  | ⟨0, _⟩ => blk_simp [idx_3]
  | ⟨1, _⟩ => blk_simp [idx_3]

/-- The inputs' blocks at a grid point. -/
theorem xBlk_eq (c : Dev nD) (t : Fin cfg0.N) : xBlk W c t = xSl (W c main_v0) (bOf t) :=
  funext fun y => congrArg (W c main_v0) (emb_0 t y)
theorem pBlk_eq (c : Dev nD) (t : Fin cfg0.N) : pBlk W c t = pSl (W c main_arg0) (bOf t) (qOf t) :=
  funext fun y => congrArg (W c main_arg0) (emb_1 t y)
theorem fBlk_eq (c : Dev nD) (t : Fin cfg0.N) : fBlk W c t = fSl (W c main_arg1) (bOf t) (qOf t) :=
  funext fun y => congrArg (W c main_arg1) (emb_2 t y)
theorem wBlk_eq (c : Dev nD) (t : Fin cfg0.N) : wBlk W c t = (W c main_arg10 : Vec F S128x64 .f32) :=
  funext fun y => congrArg (W c main_arg10) (emb_3 t y)

/-- The neighbours and the table at a row of a block are the block's. -/
theorem nbrsOf_row (x : Vec F S8x3x2048 .f32) (p : Vec F S8x2048x3 .f32) (b q : Fin 8) (r : Fin 256) (k : Fin 16) :
    nbrsOf x p (ix3 b (rowNo q r) k) = gidxBlk (BitVec.ofNat 32 b.val) (k0_pay7 (pSl p b q) (xSl x b)) (ix3 (0 : Fin 1) r k) := by
  show gidxBlk (BitVec.ofNat 32 b.val) (k0_pay7 (pSl p b (rowBlk (rowNo q r))) (xSl x b)) (ix3 (0 : Fin 1) (rowIn (rowNo q r)) k) = _
  rw [rowBlk_rowNo, rowIn_rowNo]
theorem tablOf_row (p : Vec F S8x2048x3 .f32) (f : Vec F S8x2048x128 .f32) (w : Vec F S128x64 .f32) (b q : Fin 8) (r : Fin 256) (k : Fin 128) :
    tablOf p f w (ix3 b (rowNo q r) k) = tabBlk (pSl p b q) (fSl f b q) w (ix3 (0 : Fin 1) r k) := by
  show tabBlk (pSl p b (rowBlk (rowNo q r))) (fSl f b (rowBlk (rowNo q r))) w (ix3 (0 : Fin 1) (rowIn (rowNo q r)) k) = _
  rw [rowBlk_rowNo, rowIn_rowNo]

theorem nbrs_at (c : Dev nD) (t : Fin cfg0.N) (r : Fin 256) (k : Fin 16) :
    nbrsOf (W c main_v0) (W c main_arg0) (ix3 (bOf t) (rowNo (qOf t) r) k)
      = gidxBlk (BitVec.ofNat 32 (grid0.coords t 0).val) (k0_pay7 (pBlk W c t) (xBlk W c t)) (ix3 (0 : Fin 1) r k) := by
  rw [nbrsOf_row, ← xBlk_eq, ← pBlk_eq]
theorem tabl_at (c : Dev nD) (t : Fin cfg0.N) (r : Fin 256) (k : Fin 128) :
    tablOf (W c main_arg0) (W c main_arg1) (W c main_arg10) (ix3 (bOf t) (rowNo (qOf t) r) k)
      = tabBlk (pBlk W c t) (fBlk W c t) (wBlk W c t) (ix3 (0 : Fin 1) r k) := by
  rw [tablOf_row, ← fBlk_eq, ← pBlk_eq, wBlk_eq]

/-- An index of a block with one plane. -/
theorem ix3_plane {n1 n2 : ℕ} (y : (⟨3, ![1, n1, n2]⟩ : Shape).Idx) : y = ix3 (0 : Fin 1) (y 1 : Fin n1) (y 2 : Fin n2) := by
  refine (ValueIdx.eq_ix3 y).trans ?_
  exact congrArg (fun a : Fin 1 => ix3 a (y 1 : Fin n1) (y 2 : Fin n2)) (Subsingleton.elim (α := Fin 1) (y 0) 0)

/-- What the write-backs leave in the neighbours' array and in the table's. -/
theorem nbrs_eq (c : Dev nD) : nbrs W c = nbrsOf (W c main_v0) (W c main_arg0) := by
  refine (dat W c).arrAt_eq_of_covers 4 _ (by decide +kernel) fun t hf y => ?_
  refine Eq.trans ?_ (congrArg (nbrsOf (W c main_v0) (W c main_arg0)) (emb_4 t y)).symm
  refine Eq.trans ?_ (nbrs_at W c t (y 1) (y 2)).symm
  exact congrArg (gidxBlk (BitVec.ofNat 32 (grid0.coords t 0).val) (k0_pay7 (pBlk W c t) (xBlk W c t))) (ix3_plane y)
theorem tabl_eq (c : Dev nD) : tabl W c = tablOf (W c main_arg0) (W c main_arg1) (W c main_arg10) := by
  refine (dat W c).arrAt_eq_of_covers 5 _ (by decide +kernel) fun t hf y => ?_
  refine Eq.trans ?_ (congrArg (tablOf (W c main_arg0) (W c main_arg1) (W c main_arg10)) (emb_5 t y)).symm
  refine Eq.trans ?_ (tabl_at W c t (y 1) (y 2)).symm
  exact congrArg (tabBlk (pBlk W c t) (fBlk W c t) (wBlk W c t)) (ix3_plane y)

end Cert.Proof.TopK
end
-- ==== Proof.Choice.lean ====
/-
  Taking the greatest entry of a list over and over, lowering each taken entry below all others, gives the entries in the
  order of a stable sort from the greatest down: the pure statement, over any positions `Fin n` and extended real entries.
-/
module

public import Idealize.ShloMosaic.Lib.SortPrefix
public import Mathlib.Data.EReal.Basic

@[expose] public section

noncomputable section

namespace Cert.Proof.Choice

open Idealize.ShloMosaic

variable {n : ℕ}

/-- `j` is the first position of `e`'s greatest entry. -/
structure First (e : Fin n → EReal) (j : Fin n) : Prop where
  top : ∀ k, e k ≤ e j
  least : ∀ k, e k = e j → j ≤ k

/-- Entries over at least one position have a first greatest one. -/
theorem First.exists (h : 0 < n) (e : Fin n → EReal) : ∃ j, First e j := by
  haveI : Nonempty (Fin n) := ⟨⟨0, h⟩⟩
  obtain ⟨x, -, hx'⟩ := Finset.exists_max_image Finset.univ e Finset.univ_nonempty
  have hx : ∀ k, e k ≤ e x := fun k => hx' k (Finset.mem_univ k)
  have hne : (Finset.univ.filter fun k => e k = e x).Nonempty := ⟨x, by simp⟩
  refine ⟨(Finset.univ.filter fun k => e k = e x).min' hne, ?_, ?_⟩
  · have hm := (Finset.mem_filter.mp (Finset.min'_mem _ hne)).2
    exact fun k => (hx k).trans hm.ge
  · have hm := (Finset.mem_filter.mp (Finset.min'_mem _ hne)).2
    refine fun k hk => Finset.min'_le _ k (Finset.mem_filter.mpr ⟨Finset.mem_univ k, ?_⟩)
    exact hk.trans hm

/-- There is only one. -/
theorem First.unique {e : Fin n → EReal} {j k : Fin n} (hj : First e j) (hk : First e k) : j = k :=
  le_antisymm (hj.least k (le_antisymm (hj.top k) (hk.top j))) (hk.least j (le_antisymm (hk.top j) (hj.top k)))

/-- The order of the sort: the greater entry first, and of two equal ones the earlier. -/
def before (e : Fin n → EReal) (a b : Fin n) : Bool :=
  decide (e b < e a) || (decide (e a = e b) && decide (a < b))

theorem before_total (e : Fin n → EReal) : StrictTotalBefore (before e) :=
  StrictTotalBefore.of_key_then_position (fun a b : EReal => decide (b < a)) e (fun a => by simp)
    (fun a b c hab hbc => by
      simp only [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)

/-- On a list whose positions rise, a stable sort asks its order of two positions only with the later one first. -/
theorem stableSort_rising (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The stable sort by the entries alone is the sort by the entries and then the position. -/
theorem sortedFrom_greater (e : Fin n → EReal) : sortedFrom (fun a b : Fin n => decide (e b < e a)) = sortedFrom (before e) := by
  have hp : sortPositions n (fun a b : Fin n => decide (e b < e a)) = sortPositions n (before e) := by
    refine stableSort_rising _ _ (fun a b hab => ?_) _ (List.pairwise_lt_finRange n)
    show decide (e a < e b) = (decide (e a < e b) || (decide (e b = e a) && decide (b < a)))
    rw [decide_eq_false (not_lt.mpr hab.le), Bool.and_false, Bool.or_false]
  funext k
  unfold sortedFrom
  rw [List.get_of_eq hp]
  rfl

section Rounds

variable {e : Fin n → EReal} {E : ℕ → Fin n → EReal} {σ : ℕ → Fin n} (h0 : E 0 = e)
  (hE : ∀ t, E (t + 1) = Function.update (E t) (σ t) ⊥) (hσ : ∀ t, First (E t) (σ t)) (he : ∀ p, ⊥ < e p)
include h0 hE

/-- A position not taken before round `t` keeps its entry. -/
theorem rounds_kept (t : ℕ) (p : Fin n) (hp : ∀ s < t, σ s ≠ p) : E t p = e p := by
  induction t with
  | zero => rw [h0]
  | succ t ih =>
    rw [hE, Function.update_of_ne (Ne.symm (hp t (Nat.lt_succ_self t)))]
    exact ih fun s hs => hp s (Nat.lt_succ_of_lt hs)

/-- A position taken before round `t` is at the bottom. -/
theorem rounds_taken (t : ℕ) (p : Fin n) (hp : ∃ s < t, σ s = p) : E t p = ⊥ := by
  induction t with
  | zero => obtain ⟨s, hs, -⟩ := hp; exact absurd hs (Nat.not_lt_zero s)
  | succ t ih =>
    rw [hE]
    by_cases e : p = σ t
    · rw [e, Function.update_self]
    · rw [Function.update_of_ne e]
      obtain ⟨s, hs, rfl⟩ := hp
      rcases Nat.lt_succ_iff_lt_or_eq.mp hs with h | rfl
      · exact ih ⟨s, h, rfl⟩
      · exact absurd rfl e

include hσ he

/-- No round before the positions run out takes one again. -/
theorem rounds_new (t : ℕ) (ht : t < n) (s : ℕ) (hs : s < t) : σ s ≠ σ t := by
  intro hst
  obtain ⟨p, hp⟩ : ∃ p, ∀ s < t, σ s ≠ p := by
    by_contra hcon
    push Not at hcon
    have hsub : (Finset.univ : Finset (Fin n)) ⊆ (Finset.range t).image σ := fun p _ => by
      obtain ⟨s, hs, rfl⟩ := hcon p
      exact Finset.mem_image_of_mem _ (Finset.mem_range.mpr hs)
    have hc := (Finset.card_le_card hsub).trans Finset.card_image_le
    rw [Finset.card_univ, Fintype.card_fin, Finset.card_range] at hc
    omega
  have hb : E t (σ t) = ⊥ := rounds_taken h0 hE t (σ t) ⟨s, hs, hst⟩
  have ht' := (hσ t).top p
  rw [hb, rounds_kept h0 hE t p hp] at ht'
  exact absurd (he p) (not_lt.mpr ht')

/-- At round `t` the position taken has its own entry, and every position not taken before comes after it in the order. -/
theorem rounds_before (t : ℕ) (ht : t < n) (p : Fin n) (hp : ∀ s < t, σ s ≠ p) : before e p (σ t) = false := by
  have hk := rounds_kept h0 hE t p hp
  have hk' := rounds_kept h0 hE t (σ t) (rounds_new h0 hE hσ he t ht)
  have htop := (hσ t).top p
  have hleast := (hσ t).least p
  rw [hk, hk'] at htop hleast
  unfold before
  rw [decide_eq_false (not_lt.mpr htop), Bool.false_or, Bool.and_eq_false_iff]
  by_cases heq : e p = e (σ t)
  · exact Or.inr (decide_eq_false (not_lt.mpr (hleast heq)))
  · exact Or.inl (decide_eq_false heq)

/-- The position taken at round `i` is the one the stable sort puts at place `i`. -/
theorem rounds_sorted (i : Fin n) : sortedFrom (fun a b : Fin n => decide (e b < e a)) i = σ i.val := by
  rw [sortedFrom_greater]
  have hinj : Function.Injective fun i : Fin n => σ i.val := fun a b hab => by
    rcases lt_trichotomy a.val b.val with h | h | h
    · exact absurd hab (rounds_new h0 hE hσ he b.val b.isLt a.val h)
    · exact Fin.ext h
    · exact absurd hab.symm (rounds_new h0 hE hσ he a.val a.isLt b.val h)
  refine (before_total e).sortedFrom_eq_of_prefix (le_refl n) (fun i : Fin n => σ i.val) hinj (fun i j hij => ?_) (fun i p hp => ?_) i
  · exact rounds_before h0 hE hσ he i.val i.isLt _ fun s hs =>
      rounds_new h0 hE hσ he j.val j.isLt s (hs.trans hij)
  · exact rounds_before h0 hE hσ he i.val i.isLt p fun s hs => hp ⟨s, hs.trans i.isLt⟩

end Rounds

end Cert.Proof.Choice

end
-- ==== Proof.Pick.lean ====
/-
  One round of the selection at the ideal values, row by row: the winner of a row is the first lane of its greatest
  distance, and the strike lowers that lane and no other.
-/
module

public import proofs.«01_k».proof.Proof.Body
public import proofs.«01_k».proof.Proof.Choice
public import Idealize.ShloMosaic.Lib.Pointwise
public import Idealize.ShloMosaic.Lib.SortNet.Extract

@[expose] public section

noncomputable section

namespace Cert.Proof.TopK

open Cert.KernelIdeal Cert.KernelIdeal.Gen
open Idealize.ShloMosaic
open Cert.Proof.Choice

/-- Row `r` of a block of distances. -/
def rowOf (d : FVec Ideal S256x2048 .f32) (r : Fin 256) : Fin 2048 → EReal := fun k => d (ix2 r k)

/-- The greatest of a row, taken from minus infinity, is the entry at its first greatest place. -/
theorem fold_max_eq {n : ℕ} {e : Fin n → EReal} {j : Fin n} (h : First e j) : (Finset.univ : Finset (Fin n)).fold max ⊥ e = e j :=
  le_antisymm ((Finset.fold_max_le (e j)).mpr ⟨bot_le, fun k _ => h.top k⟩)
    ((Finset.le_fold_max (e j)).mpr (Or.inr ⟨j, Finset.mem_univ j, le_rfl⟩))

/-- The words the round takes the least of: the lane's number where the row's greatest stands, 2048 elsewhere. -/
def laneWord (e : Fin 2048 → EReal) (j k : Fin 2048) : BitVec 32 := if e k = e j then BitVec.ofNat 32 k.val else 2048#32

theorem laneWord_toInt (e : Fin 2048 → EReal) (j k : Fin 2048) : (laneWord e j k).toInt = if e k = e j then (k.val : ℤ) else 2048 := by
  unfold laneWord
  split
  · have hk := k.isLt
    rw [BitVec.toInt_eq_toNat_of_lt (by rw [BitVec.toNat_ofNat]; omega), BitVec.toNat_ofNat]
    omega
  · rfl

/-- The least of those words is the winner's number. -/
theorem fold_min_eq {e : Fin 2048 → EReal} {j : Fin 2048} (h : First e j) :
    (Finset.univ : Finset (Fin 2048)).fold IntOp.minsi 2147483647#32 (laneWord e j) = BitVec.ofNat 32 j.val := by
  have hj := j.isLt
  have hjw : (BitVec.ofNat 32 j.val).toInt = (j.val : ℤ) := by
    rw [BitVec.toInt_eq_toNat_of_lt (by rw [BitVec.toNat_ofNat]; omega), BitVec.toNat_ofNat]
    omega
  refine BitVec.eq_of_toInt_eq ?_
  rw [← Finset.fold_hom (op := IntOp.minsi) (op' := (min : ℤ → ℤ → ℤ)) (m := BitVec.toInt) (fun a b => SortNet.toInt_minsi a b), hjw]
  refine le_antisymm ((Finset.fold_min_le _).mpr (Or.inr ⟨j, Finset.mem_univ j, ?_⟩)) ((Finset.le_fold_min _).mpr ⟨?_, fun k _ => ?_⟩)
  · rw [laneWord_toInt, if_pos rfl]
  · show (j.val : ℤ) ≤ 2147483647
    omega
  · show (j.val : ℤ) ≤ (laneWord e j k).toInt
    rw [laneWord_toInt]
    split
    · rename_i hk
      exact_mod_cast h.least k hk
    · omega

/-- The bit pattern the reductions and the strike use is minus infinity. -/
theorem ofBits_bot : Ideal.ofBits .f32 0xFF800000#32 = ⊥ := by simp [Ideal.ofBits, Ideal.ieee]

/-- The words of a row. -/
theorem words_apply (d : FVec Ideal S256x2048 .f32) {r : Fin 256} {j : Fin 2048} (h : First (rowOf d r) j) (k : Fin 2048) :
    k0_pay8 d lanes (ix2 r k) = laneWord (rowOf d r) j k := by
  show select (cmpf .oeq d (rowMax d)) lanes (broadcast S256x2048 2048#32) (ix2 r k) = _
  pointwise
  rw [ofBits_bot, fold_max_eq (e := fun x => d (ix2 r x)) h]
  rfl

/-- The winner of a row. -/
theorem least_apply (d : FVec Ideal S256x2048 .f32) {r : Fin 256} {j : Fin 2048} (h : First (rowOf d r) j) :
    k0_pay9 d lanes (ix2 r 0) = BitVec.ofNat 32 j.val := by
  have hw := fun k => words_apply d h k
  pointwise [k0_pay9]
  rw [funext hw]
  exact fold_min_eq h

/-- The words of two lanes of a row differ from the winner's but at the winner. -/
theorem laneWord_eq_iff (e : Fin 2048 → EReal) (j k : Fin 2048) : laneWord e j k = BitVec.ofNat 32 j.val ↔ k = j := by
  have hj := j.isLt
  have hk := k.isLt
  unfold laneWord
  constructor
  · split
    · intro h
      have := congrArg BitVec.toNat h
      rw [BitVec.toNat_ofNat, BitVec.toNat_ofNat] at this
      exact Fin.ext (by omega)
    · intro h
      have := congrArg BitVec.toNat h
      rw [BitVec.toNat_ofNat, BitVec.toNat_ofNat] at this
      omega
  · rintro rfl
    rw [if_pos rfl]

/-- The strike of a row. -/
theorem strike_apply (d : FVec Ideal S256x2048 .f32) {r : Fin 256} {j : Fin 2048} (h : First (rowOf d r) j) (k : Fin 2048) :
    strike d (ix2 r k) = if k = j then ⊥ else d (ix2 r k) := by
  have hw := words_apply d h k
  have hl := least_apply d h
  show k0_pay10 d lanes (ix2 r k) = _
  unfold k0_pay10
  pointwise
  rw [hw, hl, ofBits_bot]
  show Scalar.select (BitVec.ofBool (laneWord (rowOf d r) j k == BitVec.ofNat 32 j.val)) (⊥ : EReal) (d (ix2 r k)) = _
  rw [Scalar.select_ofBool]
  by_cases hkj : k = j
  · rw [if_pos hkj, if_pos (beq_iff_eq.mpr ((laneWord_eq_iff _ j k).mpr hkj))]
  · rw [if_neg hkj, if_neg fun hb => hkj ((laneWord_eq_iff _ j k).mp (beq_iff_eq.mp hb))]

/-- The strike lowers the row's winner and nothing else. -/
theorem rowOf_strike (d : FVec Ideal S256x2048 .f32) {r : Fin 256} {j : Fin 2048} (h : First (rowOf d r) j) :
    rowOf (strike d) r = Function.update (rowOf d r) j ⊥ := by
  funext k
  unfold rowOf
  rw [strike_apply d h k, Function.update_apply]

/-- The winner of a row, offset by the batch. -/
theorem winners_apply (b : BitVec 32) (d : FVec Ideal S256x2048 .f32) {r : Fin 256} {j : Fin 2048} (h : First (rowOf d r) j) :
    winners b d (ix3 0 r 0) = BitVec.ofNat 32 j.val + b * 2048#32 := by
  have hl := least_apply d h
  pointwise [winners, k0_pay11]
  rw [hl]
  rfl

/-! ## The rounds of a row -/

/-- The first lane of the greatest entry. -/
def pick (e : Fin 2048 → EReal) : Fin 2048 := (First.exists (by decide) e).choose

theorem pick_first (e : Fin 2048 → EReal) : First e (pick e) := (First.exists (by decide) e).choose_spec

/-- The row as it stands at round `t`. -/
def rowAt (e : Fin 2048 → EReal) : ℕ → Fin 2048 → EReal
  | 0 => e
  | t + 1 => Function.update (rowAt e t) (pick (rowAt e t)) ⊥

/-- The block's row after `t` strikes. -/
theorem rowOf_rounds (d : FVec Ideal S256x2048 .f32) (r : Fin 256) (t : ℕ) : rowOf (strike^[t] d) r = rowAt (rowOf d r) t := by
  induction t with
  | zero => rfl
  | succ t ih =>
    rw [Function.iterate_succ', Function.comp_apply, rowOf_strike _ (pick_first _), ih]
    rfl

/-- The block of neighbours, row by row: the winner of the row at that round, offset by the batch. -/
theorem gidxBlk_apply (b : BitVec 32) (d : FVec Ideal S256x2048 .f32) (r : Fin 256) (t : Fin 16) :
    gidxBlk b d (ix3 0 r t) = BitVec.ofNat 32 (pick (rowAt (rowOf d r) t.val)).val + b * 2048#32 := by
  have h := winners_apply b (strike^[t.val] d) (r := r) (pick_first _)
  rw [rowOf_rounds] at h
  rw [ix3_eq_valueIdx] at h
  exact h

/-- Where no entry of a row is minus infinity, the winner at round `t` is the lane the stable sort puts at place `t`. -/
theorem pick_sorted (e : Fin 2048 → EReal) (he : ∀ p, ⊥ < e p) (t : Fin 2048) :
    sortedFrom (fun a b : Fin 2048 => decide (e b < e a)) t = pick (rowAt e t.val) :=
  rounds_sorted (E := rowAt e) (σ := fun t => pick (rowAt e t)) rfl (fun _ => rfl) (fun _ => pick_first _) he t

end Cert.Proof.TopK

end
-- ==== Proof.Reference.lean ====
/-
  The reference's neighbours: the squared distances of all pairs of points, the sixteen nearest of every point by a stable
  sort, and the row numbers as its gathers take them.
-/
module

public import proofs.«01_k».proof.Defs
public import proofs.«01_k».proof.Proof.Gen.ReferenceIdeal
public import proofs.«01_k».proof.Proof.Gen.Pre_finite

@[expose] public section

noncomputable section

namespace Cert.Proof.Reference

open Cert.ReferenceIdeal Cert.ReferenceIdeal.Gen
open Idealize.ShloMosaic

variable {F : FTy → Type} [FloatOps F]

/-- The sums of squares of the points. -/
def sums (p : FVec F S8x2048x3 .f32) : FVec F S8x2048x1 .f32 :=
  broadcastInDim S8x2048x1 ![0, 1] bcast_S8x2048_S8x2048x1_0_1
    (Host.reduceAdd (mulf p p) (constant S_ .f32 0x00000000#32) reducesTo_S8x2048x3_S8x2048_d2 h_S_)

/-- The negated squared distances of the points of a batch. -/
def dist (p : FVec F S8x2048x3 .f32) : FVec F S8x2048x2048 .f32 :=
  subf
    (subf (broadcastInDim S8x2048x2048 ![0, 1, 2] bcast_S8x2048x1_S8x2048x2048_0_1_2 (Host.negf (sums p)))
      (mulf (broadcastInDim S8x2048x2048 ![] bcast_S_S8x2048x2048 (constant S_ .f32 0xC0000000#32))
        (Host.dotGeneral dot_S8x2048x3_S8x3x2048_S8x2048x2048_2_1_1_2_0_0 none p
          (transpose S8x3x2048 [0, 2, 1] p transposes_S8x2048x3_S8x3x2048_0_2_1))))
    (broadcastInDim S8x2048x2048 ![0, 1, 2] bcast_S8x1x2048_S8x2048x2048_0_1_2
      (transpose S8x1x2048 [0, 2, 1] (sums p) transposes_S8x2048x1_S8x1x2048_0_2_1))

/-- The sixteen nearest. -/
def nearest (p : FVec F S8x2048x3 .f32) : IVec S8x2048x16 32 :=
  (Host.topK S8x2048x16 2 (FloatOps.cmpfTotal .gt) (dist p) sliceFits_S8x2048x2048_S8x2048x16).2

/-- A list of rows as the gathers take it: a negative one counted from the end, one more axis. -/
def starts (ix : IVec S8x2048x16 32) : IVec S8x2048x16x1 32 :=
  broadcastInDim S8x2048x16x1 ![0, 1, 2] bcast_S8x2048x16_S8x2048x16x1_0_1_2
    (select (cmpi .slt ix (broadcastInDim S8x2048x16 ![] bcast_S_S8x2048x16 (constantI S_ 32 0#32)))
      (addi ix (broadcastInDim S8x2048x16 ![] bcast_S_S8x2048x16 (constantI S_ 32 2048#32))) ix)

end Cert.Proof.Reference

end
-- ==== Proof.Distance.lean ====
/-
  The distances: row by row the block of distances the neighbour call computes is the reference's, and it is above minus
  infinity where every coordinate is finite.
-/
module

public import proofs.«01_k».proof.Proof.Arrays
public import proofs.«01_k».proof.Proof.Pick
public import proofs.«01_k».proof.Proof.Reference
public import Idealize.ShloMosaic.Lib.ReduceAll

@[expose] public section

noncomputable section

namespace Cert.Proof.TopK

open Cert.KernelIdeal Cert.KernelIdeal.Gen
open Idealize.ShloMosaic

/-- The negated squared distance of two points, the way both programs add it up. -/
def away (x y : Fin 3 → EReal) : EReal :=
  (-(∑ c, x c * x c) - Ideal.ofBits .f32 0xC0000000#32 * ∑ c, x c * y c) - ∑ c, y c * y c

/-- A point of a batch. -/
def point (p : FVec Ideal S8x2048x3 .f32) (b : Fin 8) (n : Fin 2048) : Fin 3 → EReal := fun c => p (ix3 b n c)

/-- The reference's distances. -/
theorem dist_apply (p : FVec Ideal S8x2048x3 .f32) (b : Fin 8) (n k : Fin 2048) :
    Reference.dist (F := Ideal) p (ix3 b n k) = away (point p b n) (point p b k) := by
  unfold Reference.dist Reference.sums
  pointwise
  rfl

/-- The kernel's distances. -/
theorem pay7_apply (x : Vec Ideal S1x256x3 .f32) (y : Vec Ideal S1x3x2048 .f32) (r : Fin 256) (k : Fin 2048) :
    k0_pay7 x y (ix2 r k) = away (fun c => x (ix3 0 r c)) (fun c => y (ix3 0 c k)) := by
  unfold k0_pay7 k0_pay5
  pointwise
  unfold away
  rw [zero_sub, Fin.sum_univ_three (fun c => x (ix3 0 r c) * y (ix3 0 c k))]

/-- Row by row the two are the same distances. -/
theorem rowOf_pay7 (p : FVec Ideal S8x2048x3 .f32) (b q : Fin 8) (r : Fin 256) :
    rowOf (k0_pay7 (pSl p b q) (xSl (transpose S8x3x2048 [0, 2, 1] p transposes_S8x2048x3_S8x3x2048_0_2_1) b)) r
      = fun k => away (point p b (rowNo q r)) (point p b k) := by
  funext k
  refine (pay7_apply _ _ r k).trans ?_
  refine congrArg₂ away (funext fun c => ?_) (funext fun c => ?_)
  · show p (ValueIdx.ix3 b (rowNo q r) c) = p (ix3 b (rowNo q r) c)
    rw [ix3_eq_valueIdx]
  · show transpose S8x3x2048 [0, 2, 1] p transposes_S8x2048x3_S8x3x2048_0_2_1 (ValueIdx.ix3 b c k) = p (ix3 b k c)
    rw [← ix3_eq_valueIdx]
    pointwise

theorem ofBits_two : Ideal.ofBits .f32 0xC0000000#32 = ((-2 : ℝ) : EReal) := by
  simp [Ideal.ofBits, Ideal.ieee]
  norm_cast
  norm_num

/-- Of finite points the distance is a real number. -/
theorem bot_lt_away (x y : Fin 3 → EReal) (hx : ∀ c, ∃ u : ℝ, x c = u) (hy : ∀ c, ∃ u : ℝ, y c = u) : ⊥ < away x y := by
  choose u hu using hx
  choose v hv using hy
  unfold away
  rw [ofBits_two]
  simp only [hu, hv, Fin.sum_univ_three]
  norm_cast
  exact EReal.bot_lt_coe _

/-- A number whose size is below infinity is real. -/
theorem real_of_below (x : EReal) (e : Ideal.cmp .olt (max x (-x)) (Ideal.ofBits .f32 0x7F800000#32) = 1#1) : ∃ u : ℝ, x = u := by
  rw [show Ideal.ofBits .f32 0x7F800000#32 = ⊤ by simp [Ideal.ofBits, Ideal.ieee]] at e
  simp only [Ideal.cmp] at e
  have e' : max x (-x) < ⊤ := by
    by_contra hn
    rw [decide_eq_false hn] at e
    exact absurd e (by decide)
  obtain ⟨h1, h2⟩ := max_lt_iff.mp e'
  refine ⟨x.toReal, (EReal.coe_toReal h1.ne ?_).symm⟩
  rintro hb
  rw [hb, EReal.neg_bot] at h2
  exact h2.ne rfl

theorem both_one (a b : BitVec 1) (h : IntOp.andi a b = 1#1) : a = 1#1 ∧ b = 1#1 := by
  revert a b
  decide

/-- Where `finite` holds, every entry of the points and the first weight of the differences is a real number. -/
theorem finite_of_pre (a0 : FVec Ideal S8x2048x3 .f32) (a1 : FVec Ideal S8x2048x128 .f32) (a2 a3 : FVec Ideal S8x2048x3 .f32)
    (a4 : FVec Ideal S10x64 .f32) (a5 a6 a7 : FVec Ideal S64 .f32) (a8 : FVec Ideal S64x64 .f32) (a9 : FVec Ideal S64 .f32)
    (a10 : FVec Ideal S128x64 .f32) (a11 a12 a13 : FVec Ideal S64 .f32) (a14 : FVec Ideal S64x64 .f32) (a15 : FVec Ideal S64 .f32)
    (a16 : FVec Ideal S128x32 .f32) (a17 : FVec Ideal S32 .f32) (a18 : FVec Ideal S32x1 .f32) (a19 : FVec Ideal S1 .f32)
    (a20 : FVec Ideal S256x128 .f32) (a21 a22 a23 : FVec Ideal S128 .f32)
    (h : Cert.Pre_finite.fn (F := Ideal) a0 a1 a2 a3 a4 a5 a6 a7 a8 a9 a10 a11 a12 a13 a14 a15 a16 a17 a18 a19 a20 a21 a22 a23 = fun _ => 1#1) :
    (∀ i, ∃ u : ℝ, a0 i = u) ∧ ∀ i, ∃ u : ℝ, a10 i = u := by
  haveI : Subsingleton Cert.Pre_finite.S_.Idx := ⟨fun a b => funext fun k => k.elim0⟩
  have e := congrFun h (fun k => k.elim0)
  obtain ⟨e0, e1⟩ := both_one _ _ e
  exact ⟨fun i => real_of_below _ (Host.reduce_andi_all _ _ _ _ _ e0 i), fun i => real_of_below _ (Host.reduce_andi_all _ _ _ _ _ e1 i)⟩

end Cert.Proof.TopK

end
-- ==== Proof.Tile.lean ====
/-
  The run of the gather's body on one tile, at symbolic coordinates: each trip fetches its slab of the list, gathers the
  named rows of the table into the row buffer by four streams on one semaphore, drains them, and writes the rows out to
  its slab of the result.
-/
module

public import proofs.«01_k».proof.Proof.Launch

@[expose] public section

noncomputable section

namespace Cert.Proof.Gather

open Cert.KernelIdeal Cert.KernelIdeal.Gen Cert.Proof.Slabs Cert.Proof.BatchGather
open Idealize.ShloMosaic
open Idealize.ShloMosaic.SparseCore (S V T gatherPayload)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "tV" => (Memref.whole Cert.KernelIdeal.main_v2_scv : Memref Cert.KernelIdeal.sig Kind.scVector Space.hbm Cert.KernelIdeal.S16384x128 EltTy.f32)
local notation "xV" => (Memref.whole Cert.KernelIdeal.main_v3_scv : Memref Cert.KernelIdeal.sig Kind.scVector Space.hbm Cert.KernelIdeal.S262144 EltTy.i32)
local notation "oV" => (Memref.whole Cert.KernelIdeal.main_v4_scv : Memref Cert.KernelIdeal.sig Kind.scVector Space.hbm Cert.KernelIdeal.S262144x128 EltTy.f32)
local notation "iV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

variable (m : (ℓ : Loc nD τ sig) → Buf (Elt F) ℓ) (d : Dev nD) (L : grid1.Coords)

/-- A tile's SparseCore and subcore, its thread, its two scratch buffers and its three semaphores. -/
abbrev cV (L : grid1.Coords) : Fin τ.nSC := (L 0).castLE hcore1
abbrev jV (L : grid1.Coords) : Fin τ.nSub := (L 1).castLE hsub1
abbrev thr : Thread nD τ := V d (cV L) (jV L)
abbrev iLoc : Loc nD τ sig := (thr d L).loc cc1_scratch0
abbrev rLoc : Loc nD τ sig := (thr d L).loc cc1_scratch1
abbrev gatherCell : GSem nD τ sig := (thr d L, .dma cc1_scratch2.sem)
abbrev fetchCell : GSem nD τ sig := (thr d L, .dma cc1_scoped0.sem)
abbrev writeCell : GSem nD τ sig := (thr d L, .dma cc1_scoped1.sem)

/-! ## A trip as a program -/

/-- One of the four streams of a trip, and the wait for one of them. -/
abbrev stream (b : Fin 4) : Prog (TpuEff nD τ sig (Elt F) Λ₀ (.scVector (cV L) (jV L))) PUnit :=
  SparseCore.enqueueIndirectGather rfl tableAll (rowWin b) gathers_S16384x128_S128x128 (listWin b) rfl cc1_scratch2.sem
    (View.wordExact_bits rfl) rfl (Or.inl rfl)

/-- A trip with its operations in order. -/
def trip (t : Trip) : Prog (TpuEff nD τ sig (Elt F) Λ₀ (.scVector (cV L) (jV L))) Unit :=
  .op (.enqueueDma (listSlab L t) (.here iV) (.dma cc1_scoped0.sem) (View.wordExact_bits rfl)
    (Memref.isWhole_whole cc1_scratch0).wordExact ⟨Or.inl rfl, trivial⟩) fun _ =>
  .op (.waitDma2 cc1_scoped0.sem (listSlab L t) iV (View.wordExact_bits rfl) (Memref.isWhole_whole cc1_scratch0).wordExact) fun _ =>
  stream L 0 >>= fun _ => stream L 1 >>= fun _ => stream L 2 >>= fun _ => stream L 3 >>= fun _ =>
  .op (.waitDma2 cc1_scratch2.sem tableAll (rowWin 0) (View.wordExact_bits rfl) (View.wordExact_bits rfl)) fun _ =>
  .op (.waitDma2 cc1_scratch2.sem tableAll (rowWin 1) (View.wordExact_bits rfl) (View.wordExact_bits rfl)) fun _ =>
  .op (.waitDma2 cc1_scratch2.sem tableAll (rowWin 2) (View.wordExact_bits rfl) (View.wordExact_bits rfl)) fun _ =>
  .op (.waitDma2 cc1_scratch2.sem tableAll (rowWin 3) (View.wordExact_bits rfl) (View.wordExact_bits rfl)) fun _ =>
  .op (.enqueueDma rV (.here (outSlab L t)) (.dma cc1_scoped1.sem) (Memref.isWhole_whole cc1_scratch1).wordExact
    (View.wordExact_bits rfl) ⟨Or.inl rfl, trivial⟩) fun _ =>
  .op (.waitDma2 cc1_scoped1.sem rV (outSlab L t) (Memref.isWhole_whole cc1_scratch1).wordExact (View.wordExact_bits rfl)) fun _ =>
  .ret ()

set_option maxRecDepth 65536 in
/-- The loop's body is that program. -/
theorem body_eq_trip (v : BitVec 32) (t : Trip) (acc : Unit) :
    k1_t1_body (F := F) L tV (Memref.isWhole_whole _) xV (Memref.isWhole_whole _) oV (Memref.isWhole_whole _)
      iV (Memref.isWhole_whole _) rV (Memref.isWhole_whole _) cc1_scratch2 cc1_scoped0 cc1_scoped1 v t acc = trip L t := rfl

/-! ## The streams of a trip as one batch -/

/-- The words of every window of a trip's list are rows of the table. -/
def WindowsOK (l : S512.Idx → BitVec 32) : Prop :=
  ∀ b x, ((listWin b).view.read (Elt F) l x : BitVec 32).toNat < S16384x128.size gathers_S16384x128_S128x128.axis

theorem windowsOK (h : RowsOK m) (t : Trip) : WindowsOK (F := F) (slabList (m (xLoc d)) L t) := fun b x => by
  rw [read_listWin]; exact h d _

theorem rows_pos : 0 < S128x128.size gathers_S16384x128_S128x128.axis' := by decide

set_option maxRecDepth 65536 in
/-- A row of a window is a transfer of 4096 units. -/
theorem row_credit (b : Fin 4) (j : Fin (S128x128.size gathers_S16384x128_S128x128.axis')) :
    ((rowWin b).slice (S128x128.rowRect gathers_S16384x128_S128x128.axis' j)
      (S128x128.stride_rowRect gathers_S16384x128_S128x128.axis' j)).view.dmaCredit = 4096 := by
  show RefSig.bitCredit (S128x128.rowShape gathers_S16384x128_S128x128.axis') EltTy.f32 = 4096
  decide

set_option maxRecDepth 65536 in
/-- A window is 128 of them. -/
theorem win_credit (b : Fin 4) : (rowWin b).view.dmaCredit = 128 * 4096 := rfl

/-- The share of the table each of a trip's four streams reads at. -/
def streamShare (q : PosShare TreeShare) (b : Fin 4) : PosShare TreeShare := pieceOf q 4 (by decide) b

section Batch

variable (q : PosShare TreeShare) (tb : S16384x128.Idx → Elt F .f32) (l : S512.Idx → BitVec 32)
  (fr : S512x128.Idx → Elt F .f32) (hw : WindowsOK (F := F) l)

/-- What row k of stream b hands back. -/
def back (b : Fin 4) (k : Fin 128) : sProp 𝕄 :=
  rowBack (F := F) (Ix := HIx 1) (Name := ℕ) (U := UU) (Lvl := ℕ) (thr d L) tableAll (rowWin b) gathers_S16384x128_S128x128 (listWin b) rfl
    (streamShare q b) fullShare tb fr l (SparseCore.rows (F := F) (si := S128) ((listWin b).view.read (Elt F) l) rfl (hw b)) rows_pos k

/-- Transfer r of the batch is row r % 128 of stream r / 128. -/
def given (r : Fin (4 * 128)) : sProp 𝕄 :=
  back d L q tb l fr hw (finProdFinEquiv.symm r).1 (finProdFinEquiv.symm r).2

instance given_storable (r : Fin (4 * 128)) : BI.Storable (upEmb : UEmb _ 𝕄) (given d L q tb l fr hw r) := by
  unfold given back; apply rowBack_storable

theorem given_at (b : Fin 4) (k : Fin 128) (h : 128 * b.val + k.val < 4 * 128) :
    given d L q tb l fr hw ⟨128 * b.val + k.val, h⟩ = back d L q tb l fr hw b k := by
  have e : finProdFinEquiv.symm (⟨128 * b.val + k.val, h⟩ : Fin (4 * 128)) = (b, k) :=
    (Equiv.symm_apply_eq _).2 (Fin.ext (Nat.add_comm _ _))
  unfold given; rw [e]

abbrev batch (j u : ℕ) : sProp 𝕄 :=
  Transfers.Batch (countersEmb : UEmb Counters 𝕄) (thr d L) (.dma cc1_scratch2.sem) (default : HIx 1) 4096 (given d L q tb l fr hw) j u

variable {α : Type} {Q : α → sProp (MT nD τ sig (HIx 1) (Elt F) ℕ UU ℕ)}

set_option maxRecDepth 65536 in
set_option maxHeartbeats 400000 in
/-- Stream b issued: the batch's transfers up to its last row are issued. -/
theorem wp_stream (b : Fin 4) (j j' : ℕ) (hj : j = 128 * b.val) (hj' : j' = j + 128)
    {k : PUnit → Prog (TpuEff nD τ sig (Elt F) Λ₀ (thr d L).2) α} :
    iprop(((tLoc d : Loc nD τ sig) ↦[(tableAll).view.set]{streamShare q b} tb) ∗ (rLoc d L ↦[(rowWin b).view.set]{fullShare} fr)
        ∗ (iLoc d L ↦[(listWin b).view.set]{fullShare} l) ∗ batch d L q tb l fr hw j 0)
      ⊢ iprop((batch d L q tb l fr hw j' 0 -∗ wp frame (wpE (defs₀ (F := F)) 𝒱₀ (thr d L) none) Set.univ (k ⟨⟩) Q)
          -∗ wp frame (wpE (defs₀ (F := F)) 𝒱₀ (thr d L) none) Set.univ (stream L b >>= k) Q) := by
  have hb := b.isLt
  subst hj
  subst hj'
  have hD : ∀ i : Fin (S128x128.size gathers_S16384x128_S128x128.axis'),
      rowBack (F := F) (Ix := HIx 1) (Name := ℕ) (U := UU) (Lvl := ℕ) (thr d L) tableAll (rowWin b) gathers_S16384x128_S128x128 (listWin b) rfl
        (streamShare q b) fullShare tb fr l (SparseCore.rows (F := F) (si := S128) ((listWin b).view.read (Elt F) l) rfl (hw b)) rows_pos i
      ⊢ given d L q tb l fr hw ⟨128 * b.val + i.val, by have : i.val < 128 := i.isLt; omega⟩ := fun i =>
    Entails.of_eq (given_at d L q tb l fr hw b i (by have : i.val < 128 := i.isLt; omega)).symm
  have hj : 128 * b.val + S128x128.size gathers_S16384x128_S128x128.axis' ≤ 4 * 128 := by
    show 128 * b.val + 128 ≤ 4 * 128
    omega
  have h := wp_gather_into_batch (thr d L) (countersEmb : UEmb Counters 𝕄) 𝒱₀ none (defs := defs₀ (F := F)) (Q := Q) (k := k)
    (src := tableAll) (dst := rowWin b) (hg := gathers_S16384x128_S128x128) (offs := listWin b) (hn := rfl) (sem := cc1_scratch2.sem)
    (hp := rfl) (hsrc := View.wordExact_bits rfl) (he := rfl) (hsp := Or.inl rfl) (hr := by decide)
    (q := streamShare q b) (qo := fullShare) (fs := tb) (fd := fr) (fo := l)
    (default : HIx 1) 4096 (row_credit b) rows_pos (hw b) (D := given d L q tb l fr hw) (j := 128 * b.val) (u := 0)
    (Nat.zero_le _) hj hD
  exact h

/-- The batch's deliveries are the streams': the windows of the row buffer written, and the table's and the list's
    pieces back. -/
theorem given_join :
    bigSep Finset.univ (given d L q tb l fr hw) ⊢ iprop(
      (bigSep Finset.univ fun b : Fin 4 => (rLoc d L ↦[(rowWin b).view.set]{fullShare}
        ((rowWin b).view.write (Elt F) fr (gatherPayload gathers_S16384x128_S128x128 ((tableAll).view.read (Elt F) tb)
          (SparseCore.rows (F := F) (si := S128) ((listWin b).view.read (Elt F) l) rfl (hw b))) Finset.univ) : sProp 𝕄))
      ∗ (bigSep Finset.univ fun b : Fin 4 => ((tLoc d : Loc nD τ sig) ↦[(tableAll).view.set]{streamShare q b} tb : sProp 𝕄))
      ∗ (bigSep Finset.univ fun b : Fin 4 => (iLoc d L ↦[(listWin b).view.set]{fullShare} l : sProp 𝕄))) := by
  have h1 : bigSep Finset.univ (given d L q tb l fr hw)
      = bigSep Finset.univ fun b : Fin 4 => bigSep Finset.univ fun k : Fin 128 => back d L q tb l fr hw b k := by
    rw [bigSep_univ_equiv (finProdFinEquiv (m := 4) (n := 128)), bigSep_univ_prod]
    refine bigSep_congr fun b _ => bigSep_congr fun k _ => ?_
    unfold given; rw [Equiv.symm_apply_apply]
  rw [h1]
  refine (bigSep_mono fun b _ => gather_rows_join (thr d L) tableAll (rowWin b) gathers_S16384x128_S128x128 (listWin b) rfl
    (streamShare q b) fullShare tb fr l _ rows_pos).trans ?_
  exact (Transfers.bigSep_sep_out _ _ _).trans (sep_mono .rfl (Transfers.bigSep_sep_out _ _ _))

end Batch

/-! ## The pieces of a trip's buffers -/

theorem bigSep_four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide,
    SparseCore.bigSep_insert' (by decide), SparseCore.bigSep_insert' (by decide), SparseCore.bigSep_insert' (by decide), bigSep_singleton]

/-- The list buffer is its four windows. -/
theorem list_windows (l : S512.Idx → BitVec 32) :
    (iLoc d L ↦{fullShare} l : sProp 𝕄) = bigSep Finset.univ fun b : Fin 4 => iLoc d L ↦[(listWin b).view.set]{fullShare} l := by
  have hK := fun b x => mem_listWin b x
  have h : (iLoc d L ↦{fullShare} l : sProp 𝕄)
      = iLoc d L ↦[(Finset.univ : Finset (Fin 4)).biUnion fun b => (listWin b).view.set]{fullShare} l :=
    congrArg (fun I : Finset S512.Idx => (iLoc d L ↦[I]{fullShare} l : sProp 𝕄))
      (windows_cover (fun b => (listWin b).view.set) (fun x : S512.Idx => (x 0).val) hK fun x => (x 0).isLt)
  rw [h]
  exact pointsTo_biUnion Finset.univ _ (windows_disjoint (fun b => (listWin b).view.set) (fun x : S512.Idx => (x 0).val) hK)

/-- The row buffer is its four windows. -/
theorem row_windows (f : S512x128.Idx → Elt F .f32) :
    (rLoc d L ↦{fullShare} f : sProp 𝕄) = bigSep Finset.univ fun b : Fin 4 => rLoc d L ↦[(rowWin b).view.set]{fullShare} f := by
  have hK := fun b x => mem_rowWin b x
  have h : (rLoc d L ↦{fullShare} f : sProp 𝕄)
      = rLoc d L ↦[(Finset.univ : Finset (Fin 4)).biUnion fun b => (rowWin b).view.set]{fullShare} f :=
    congrArg (fun I : Finset S512x128.Idx => (rLoc d L ↦[I]{fullShare} f : sProp 𝕄))
      (windows_cover (fun b => (rowWin b).view.set) (fun x : S512x128.Idx => (x 0).val) hK fun x => (x 0).isLt)
  rw [h]
  exact pointsTo_biUnion Finset.univ _ (windows_disjoint (fun b => (rowWin b).view.set) (fun x : S512x128.Idx => (x 0).val) hK)

set_option maxRecDepth 65536 in
/-- A share of the table is the four streams' shares of it. -/
theorem table_shares (q : PosShare TreeShare) (tb : S16384x128.Idx → Elt F .f32) :
    (tLoc d ↦{q} tb : sProp 𝕄) = bigSep Finset.univ fun b : Fin 4 => tLoc d ↦[(tableAll).view.set]{streamShare q b} tb := by
  have h : (tLoc d ↦{q} tb : sProp 𝕄) = tLoc d ↦[(tableAll).view.set]{q} tb :=
    congrArg (fun I : Finset S16384x128.Idx => (tLoc d ↦[I]{q} tb : sProp 𝕄)) set_tableAll.symm
  exact h.trans (pointsTo_piecesOf (ℓ := tLoc d) (tableAll).view.set tb (show 0 < 4 by decide) q)

set_option maxRecDepth 65536 in
/-- The windows of the row buffer, each holding its stream's gather, are the row buffer holding the trip's rows. -/
theorem gathered_rows (tb : S16384x128.Idx → Elt F .f32) (ix : S262144.Idx → BitVec 32) (t : Trip) (fr : S512x128.Idx → Elt F .f32)
    (hw : WindowsOK (F := F) (slabList ix L t)) :
    (bigSep Finset.univ fun b : Fin 4 => (rLoc d L ↦[(rowWin b).view.set]{fullShare}
        ((rowWin b).view.write (Elt F) fr (gatherPayload gathers_S16384x128_S128x128 ((tableAll).view.read (Elt F) tb)
          (SparseCore.rows (F := F) (si := S128) ((listWin b).view.read (Elt F) (slabList ix L t)) rfl (hw b))) Finset.univ) : sProp 𝕄))
      = (rLoc d L ↦{fullShare} slabRows tb ix L t : sProp 𝕄) := by
  have h : ∀ b : Fin 4, (rLoc d L ↦[(rowWin b).view.set]{fullShare}
        ((rowWin b).view.write (Elt F) fr (gatherPayload gathers_S16384x128_S128x128 ((tableAll).view.read (Elt F) tb)
          (SparseCore.rows (F := F) (si := S128) ((listWin b).view.read (Elt F) (slabList ix L t)) rfl (hw b))) Finset.univ) : sProp 𝕄)
      = (rLoc d L ↦[(rowWin b).view.set]{fullShare} slabRows tb ix L t : sProp 𝕄) := fun b =>
    pointsTo_congr (ℓ := rLoc d L) (I := (rowWin b).view.set) (write_rowWin tb ix L t fr b (hw b))
  exact (bigSep_congr fun b _ => h b).trans (row_windows d L _).symm

/-! ## A trip -/

/-- A tile may wait on any of its semaphores for its own transfers, owing nothing at their index. -/
theorem mayWait (sm : DmaSem sig) (O : CellTallies nD τ sig (HIx 1)) (hO : ∀ g, O g none = 0) :
    (levAts (K (F := F)).L (K (F := F)).lev : sProp 𝕄) ⊢ MayWait (thr d L) (.dma sm) (default : HIx 1) O :=
  ((K (F := F)).mayWaits_none (thr := thr d L) hO).trans (Transfers.MayWaits.elim (SemLoc.dma sm))

/-- What a tile's waits leave: the waits before, and waits at the transfers' index. -/
def WaitsOK (W W' : Waits sig (HIx 1)) : Prop := ∀ p ∈ W', p ∈ W ∨ p.2 = none

theorem WaitsOK.refl (W : Waits sig (HIx 1)) : WaitsOK W W := fun _ h => .inl h
theorem WaitsOK.insert {W W' : Waits sig (HIx 1)} (h : WaitsOK W W') (s : SemLoc sig) : WaitsOK W (Insert.insert (s, (default : HIx 1)) W') := fun p hp =>
  (Finset.mem_insert.1 hp).elim (fun e => .inr (e ▸ rfl)) (h p)

/-- A tile between trips: its shares of the table and of the list, its scratch at any contents, its semaphores at zero,
    and its waits. -/
def between (q : PosShare TreeShare) (O : CellTallies nD τ sig (HIx 1)) (W : Waits sig (HIx 1)) : sProp 𝕄 :=
  iprop((tLoc d ↦{q} m (tLoc d)) ∗ (xLoc d ↦{q} m (xLoc d)) ∗ (∃ f, iLoc d L ↦{fullShare} f) ∗ (∃ f, rLoc d L ↦{fullShare} f)
    ∗ semVal (gatherCell d L) 0 ∗ semVal (fetchCell d L) 0 ∗ semVal (writeCell d L) 0
    ∗ ∃ W', ⌜WaitsOK W W'⌝ ∗ owes (thr d L) O W')

set_option maxRecDepth 65536 in
set_option maxHeartbeats 4000000 in
/-- A trip writes its slab of the gathered array to the result. -/
theorem wp_trip (hm : RowsOK m) (q : PosShare TreeShare) (O : CellTallies nD τ sig (HIx 1)) (W : Waits sig (HIx 1))
    (hO : ∀ g, O g none = 0) (t : Trip) (fo : Buf (Elt F) (oLoc d)) :
    iprop(levAts (K (F := F)).L (K (F := F)).lev ∗ between m d L q O W ∗ slabPts d L t fo)
      ⊢ wp frame (wpE (defs₀ (F := F)) 𝒱₀ (thr d L) none) Set.univ (trip L t)
          fun _ => iprop(between m d L q O W ∗ slabPts d L t (G m d)) := by
  have hw : WindowsOK (F := F) (slabList (m (xLoc d)) L t) := windowsOK m d L hm t
  unfold between trip
  iintro ⟨#Hlv, ⟨Ht, Hx, ⟨%fi, Hi⟩, ⟨%fr, Hr⟩, Hgc, Hfc, Hwc, %W1, %hW1, HO⟩, Ho⟩
  -- the trip's list
  ihave Hx := (pointsTo_split_subset (q := q) (f := m (xLoc d)) (S := Finset.univ) (Finset.subset_univ (listSlab L t).view.set)).1 $$ Hx
  icases Hx with ⟨Hxs, Hxr⟩
  iapply (Transfers.wp_dmaLocal countersEmb 𝒱₀ (thr d L) none (src := listSlab L t) (dst := iV) (via := .same) (q := q)
    (fs := m (xLoc d)) (fd := fi) (Sd := Finset.univ) (default : HIx 1) _ rfl (View.amount_pos _ _ (by decide)) (Finset.subset_univ _)) $$ [Hxs Hi Hfc]
  · isplitl [Hxs]; · iexact Hxs
    isplitl [Hi]; · iexact Hi
    iexact Hfc
  iintro Hfl
  iapply (Transfers.wp_waitLocalO countersEmb 𝒱₀ (thr d L) none (default : HIx 1) rfl) $$ [Hfl HO]
  · isplitl [Hfl]; · iexact Hfl
    isplitl [HO]; · iexact HO
    iapply (mayWait (F := F) d L cc1_scoped0.sem O hO) $$ Hlv
  iintro ⟨⟨Hi, Hxs⟩, Hfc, HO⟩
  have hlist : (iLoc d L ↦{fullShare} ((iV).view.write (Elt F) fi (ReadAs.same.apply ((listSlab L t).view.read (Elt F) (m (xLoc d)))) Finset.univ) : sProp 𝕄)
      = bigSep Finset.univ fun b : Fin 4 => iLoc d L ↦[(listWin b).view.set]{fullShare} slabList (m (xLoc d)) L t := by
    rw [← list_windows, ReadAs.apply_same, View.write_whole_univ, read_listSlab]
  ihave Hi := (Entails.of_eq (hlist.trans (bigSep_four _))) $$ Hi
  icases Hi with ⟨Hi0, Hi1, Hi2, Hi3⟩
  ihave Hr := (Entails.of_eq ((row_windows d L fr).trans (bigSep_four _))) $$ Hr
  icases Hr with ⟨Hr0, Hr1, Hr2, Hr3⟩
  ihave Ht := (Entails.of_eq ((table_shares d q (m (tLoc d))).trans (bigSep_four _))) $$ Ht
  icases Ht with ⟨Ht0, Ht1, Ht2, Ht3⟩
  -- the four streams
  imod (Transfers.batch_alloc' (countersEmb : UEmb Counters 𝕄) (thr d L) (sm := .dma cc1_scratch2.sem) (default : HIx 1) 4096
    (given d L q (m (tLoc d)) (slabList (m (xLoc d)) L t) fr hw) (E := Set.univ)) $$ Hgc with Hb
  iapply (wp_stream d L q (m (tLoc d)) (slabList (m (xLoc d)) L t) fr hw 0 0 128 (by decide) (by decide)) $$ [Ht0 Hr0 Hi0 Hb]
  · isplitl [Ht0]; · iexact Ht0
    isplitl [Hr0]; · iexact Hr0
    isplitl [Hi0] <;> iassumption
  iintro Hb
  iapply (wp_stream d L q (m (tLoc d)) (slabList (m (xLoc d)) L t) fr hw 1 128 256 (by decide) (by decide)) $$ [Ht1 Hr1 Hi1 Hb]
  · isplitl [Ht1]; · iexact Ht1
    isplitl [Hr1]; · iexact Hr1
    isplitl [Hi1] <;> iassumption
  iintro Hb
  iapply (wp_stream d L q (m (tLoc d)) (slabList (m (xLoc d)) L t) fr hw 2 256 384 (by decide) (by decide)) $$ [Ht2 Hr2 Hi2 Hb]
  · isplitl [Ht2]; · iexact Ht2
    isplitl [Hr2]; · iexact Hr2
    isplitl [Hi2] <;> iassumption
  iintro Hb
  iapply (wp_stream d L q (m (tLoc d)) (slabList (m (xLoc d)) L t) fr hw 3 384 512 (by decide) (by decide)) $$ [Ht3 Hr3 Hi3 Hb]
  · isplitl [Ht3]; · iexact Ht3
    isplitl [Hr3]; · iexact Hr3
    isplitl [Hi3] <;> iassumption
  iintro Hb
  -- the four waits
  iapply (Transfers.wp_waitBatchMulO (countersEmb : UEmb Counters 𝕄) 𝒱₀ (thr d L) none (default : HIx 1) 128 (win_credit 0)
    (D := given d L q (m (tLoc d)) (slabList (m (xLoc d)) L t) fr hw) (j := 512) (u := 0) (by decide)) $$ [Hb HO]
  · isplitl [Hb]; · iexact Hb
    isplitl [HO]; · iexact HO
    iapply (mayWait (F := F) d L cc1_scratch2.sem O hO) $$ Hlv
  iintro ⟨Hb, HO⟩
  iapply (Transfers.wp_waitBatchMulO (countersEmb : UEmb Counters 𝕄) 𝒱₀ (thr d L) none (default : HIx 1) 128 (win_credit 1)
    (D := given d L q (m (tLoc d)) (slabList (m (xLoc d)) L t) fr hw) (j := 512) (u := 0 + 128 * 4096) (by decide)) $$ [Hb HO]
  · isplitl [Hb]; · iexact Hb
    isplitl [HO]; · iexact HO
    iapply (mayWait (F := F) d L cc1_scratch2.sem O hO) $$ Hlv
  iintro ⟨Hb, HO⟩
  iapply (Transfers.wp_waitBatchMulO (countersEmb : UEmb Counters 𝕄) 𝒱₀ (thr d L) none (default : HIx 1) 128 (win_credit 2)
    (D := given d L q (m (tLoc d)) (slabList (m (xLoc d)) L t) fr hw) (j := 512) (u := 0 + 128 * 4096 + 128 * 4096) (by decide)) $$ [Hb HO]
  · isplitl [Hb]; · iexact Hb
    isplitl [HO]; · iexact HO
    iapply (mayWait (F := F) d L cc1_scratch2.sem O hO) $$ Hlv
  iintro ⟨Hb, HO⟩
  iapply (Transfers.wp_waitBatchAllO (countersEmb : UEmb Counters 𝕄) 𝒱₀ (thr d L) none (default : HIx 1) (N := 4096) (win_credit 3) (by decide)
    (D := given d L q (m (tLoc d)) (slabList (m (xLoc d)) L t) fr hw) (u := 0 + 128 * 4096 + 128 * 4096 + 128 * 4096) (by decide)) $$ [Hb HO]
  · isplitl [Hb]; · iexact Hb
    isplitl [HO]; · iexact HO
    iapply (mayWait (F := F) d L cc1_scratch2.sem O hO) $$ Hlv
  iintro ⟨Hb, Hgc, HO⟩
  ihave Hb := (given_join d L q (m (tLoc d)) (slabList (m (xLoc d)) L t) fr hw) $$ Hb
  icases Hb with ⟨Hr, Ht, Hi⟩
  ihave Hr := (Entails.of_eq (gathered_rows d L (m (tLoc d)) (m (xLoc d)) t fr hw)) $$ Hr
  ihave Ht := (Entails.of_eq (table_shares d q (m (tLoc d))).symm) $$ Ht
  ihave Hi := (Entails.of_eq (list_windows d L (slabList (m (xLoc d)) L t)).symm) $$ Hi
  -- the trip's rows out
  ihave Hr := (Entails.of_eq (congrArg (fun I : Finset S512x128.Idx => (rLoc d L ↦[I]{fullShare} slabRows (m (tLoc d)) (m (xLoc d)) L t : sProp 𝕄))
    (View.set_whole (cc1_scratch1 : Ref sig .scVector)).symm)) $$ Hr
  iapply (Transfers.wp_dmaLocal countersEmb 𝒱₀ (thr d L) none (src := rV) (dst := outSlab L t) (via := .same) (q := fullShare)
    (fs := slabRows (m (tLoc d)) (m (xLoc d)) L t) (fd := fo) (Sd := (outSlab L t).view.set) (default : HIx 1) _ rfl
    (View.amount_pos _ _ (by decide)) (Finset.Subset.refl _)) $$ [Hr Ho Hwc]
  · isplitl [Hr]; · iexact Hr
    isplitl [Ho]; · iexact Ho
    iexact Hwc
  iintro Hfl
  iapply (Transfers.wp_waitLocalO countersEmb 𝒱₀ (thr d L) none (default : HIx 1) rfl) $$ [Hfl HO]
  · isplitl [Hfl]; · iexact Hfl
    isplitl [HO]; · iexact HO
    iapply (mayWait (F := F) d L cc1_scoped1.sem O hO) $$ Hlv
  iintro ⟨⟨Ho, Hr⟩, Hwc, HO⟩
  ihave Hr := (Entails.of_eq (congrArg (fun I : Finset S512x128.Idx => (rLoc d L ↦[I]{fullShare} slabRows (m (tLoc d)) (m (xLoc d)) L t : sProp 𝕄))
    (View.set_whole (cc1_scratch1 : Ref sig .scVector)))) $$ Hr
  have hout : (oLoc d ↦[(outSlab L t).view.set]{fullShare} ((outSlab L t).view.write (Elt F) fo
        (ReadAs.same.apply ((rV).view.read (Elt F) (slabRows (m (tLoc d)) (m (xLoc d)) L t))) Finset.univ) : sProp 𝕄)
      = slabPts d L t (G m d) := by
    have hread : (rV).view.read (Elt F) (slabRows (m (tLoc d)) (m (xLoc d)) L t) = slabRows (m (tLoc d)) (m (xLoc d)) L t :=
      View.read_whole (cc1_scratch1 : Ref sig .scVector) _
    rw [ReadAs.apply_same, hread]
    exact pointsTo_congr (write_outSlab (m (tLoc d)) (m (xLoc d)) fo L t)
  ihave Ho := (Entails.of_eq hout) $$ Ho
  ihave Hx := (pointsTo_split_subset (q := q) (f := m (xLoc d)) (S := Finset.univ) (Finset.subset_univ (listSlab L t).view.set)).2 $$ [Hxs Hxr]
  · isplitl [Hxs] <;> iassumption
  iapply (Entails.of_eq (wp_ret _ _ _ _ _).symm)
  imodintro
  isplitr [Ho]
  · isplitl [Ht]; · iexact Ht
    isplitl [Hx]; · iexact Hx
    isplitl [Hi]; · iexists _; iexact Hi
    isplitl [Hr]; · iexists _; iexact Hr
    isplitl [Hgc]; · iexact Hgc
    isplitl [Hfc]; · iexact Hfc
    isplitl [Hwc]; · iexact Hwc
    iexists _
    isplitr
    rotate_left
    · iexact HO
    · ipureintro
      exact (((((hW1.insert _).insert _).insert _).insert _).insert _).insert _
  · iexact Ho

end Cert.Proof.Gather

end
-- ==== Proof.Task.lean ====
/-
  The whole of a tile's task: its sixteen trips, and the obligation the launch theorem asks of the call.
-/
module

public import proofs.«01_k».proof.Proof.Tile

@[expose] public section

noncomputable section

namespace Cert.Proof.Gather

open Cert.KernelIdeal Cert.KernelIdeal.Gen Cert.Proof.Slabs
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "tV" => (Memref.whole Cert.KernelIdeal.main_v2_scv : Memref Cert.KernelIdeal.sig Kind.scVector Space.hbm Cert.KernelIdeal.S16384x128 EltTy.f32)
local notation "xV" => (Memref.whole Cert.KernelIdeal.main_v3_scv : Memref Cert.KernelIdeal.sig Kind.scVector Space.hbm Cert.KernelIdeal.S262144 EltTy.i32)
local notation "oV" => (Memref.whole Cert.KernelIdeal.main_v4_scv : Memref Cert.KernelIdeal.sig Kind.scVector Space.hbm Cert.KernelIdeal.S262144x128 EltTy.f32)
local notation "iV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

variable (m : (ℓ : Loc nD τ sig) → Buf (Elt F) ℓ) (d : Dev nD) (L : grid1.Coords)

/-! ## The slabs of a tile through its loop -/

/-- What a slab holds before trip n: the gathered array where its trip is done, else what it held. -/
def slabAt (fo : Buf (Elt F) (oLoc d)) (n : ℕ) (t : Trip) : Buf (Elt F) (oLoc d) := if t.val < n then G m d else fo

/-- The slabs of a tile before trip n. -/
def slabsAt (fo : Buf (Elt F) (oLoc d)) (n : ℕ) : sProp 𝕄 :=
  bigSep Finset.univ fun t : Trip => slabPts d L t (slabAt m d fo n t)

theorem slabsAt_zero (fo : Buf (Elt F) (oLoc d)) :
    slabsAt m d L fo 0 = (bigSep Finset.univ fun t : Trip => slabPts d L t fo : sProp 𝕄) :=
  bigSep_congr fun t _ => by unfold slabAt; rw [if_neg (Nat.not_lt_zero _)]

theorem slabsAt_last (fo : Buf (Elt F) (oLoc d)) :
    slabsAt m d L fo k1_t1_loop.trips = (bigSep Finset.univ fun t : Trip => slabPts d L t (G m d) : sProp 𝕄) :=
  bigSep_congr fun t _ => by unfold slabAt; rw [if_pos t.isLt]

/-- Before trip t its slab is as it was; the others are as they will be after it. -/
theorem slabsAt_take (fo : Buf (Elt F) (oLoc d)) (t : Trip) :
    slabsAt m d L fo t.val = (iprop(slabPts d L t fo
      ∗ bigSep (Finset.univ.erase t) fun t' : Trip => slabPts d L t' (slabAt m d fo (t.val + 1) t')) : sProp 𝕄) := by
  unfold slabsAt
  rw [SparseCore.bigSep_erase' (Finset.mem_univ t)]
  congr 1
  · unfold slabAt; rw [if_neg (Nat.lt_irrefl _)]
  · refine bigSep_congr fun t' ht' => ?_
    have hne : t'.val ≠ t.val := fun e => (Finset.mem_erase.1 ht').1 (Fin.ext e)
    have : (t'.val < t.val) ↔ (t'.val < t.val + 1) := by omega
    unfold slabAt; simp only [this]

/-- After trip t its slab is gathered. -/
theorem slabsAt_put (fo : Buf (Elt F) (oLoc d)) (t : Trip) :
    slabsAt m d L fo (t.val + 1) = (iprop(slabPts d L t (G m d)
      ∗ bigSep (Finset.univ.erase t) fun t' : Trip => slabPts d L t' (slabAt m d fo (t.val + 1) t')) : sProp 𝕄) := by
  unfold slabsAt
  rw [SparseCore.bigSep_erase' (Finset.mem_univ t)]
  congr 1
  unfold slabAt; rw [if_pos (Nat.lt_succ_self _)]

/-- The loop's invariant at trip n. -/
def inv (q : PosShare TreeShare) (O : CellTallies nD τ sig (HIx 1)) (W : Waits sig (HIx 1)) (fo : Buf (Elt F) (oLoc d)) (n : ℕ) : sProp 𝕄 :=
  iprop(levAts (K (F := F)).L (K (F := F)).lev ∗ between m d L q O W ∗ slabsAt m d L fo n)

theorem inv_step (hm : RowsOK m) (q : PosShare TreeShare) (O : CellTallies nD τ sig (HIx 1)) (W : Waits sig (HIx 1))
    (hO : ∀ g, O g none = 0) (fo : Buf (Elt F) (oLoc d)) (t : Trip) :
    inv m d L q O W fo t.val ⊢ wp frame (wpE (defs₀ (F := F)) 𝒱₀ (thr d L) none) Set.univ (trip L t)
      fun _ => inv m d L q O W fo (t.val + 1) := by
  unfold inv
  rw [slabsAt_take, slabsAt_put]
  iintro ⟨#Hlv, Hb, Ho, Hrest⟩
  iapply (wp_wand frame) $$ [Hb Ho]
  · iapply (wp_trip m d L hm q O W hO t fo)
    isplitr; · iexact Hlv
    isplitl [Hb] <;> iassumption
  iintro %u ⟨Hb, Ho⟩
  isplitr; · iexact Hlv
  isplitl [Hb]; · iexact Hb
  isplitl [Ho] <;> iassumption

/-! ## The task's own semaphores and buffers -/

theorem ownSems_tile :
    (ownSems0 (thr d L) : sProp 𝕄)
      = iprop(semVal (gatherCell d L) 0 ∗ semVal (fetchCell d L) 0 ∗ semVal (writeCell d L) 0
          ∗ bigSep ((((ownCells (thr d L)).erase (gatherCell d L)).erase (fetchCell d L)).erase (writeCell d L)) fun g => semVal g 0) := by
  unfold SparseCore.Cfg.ownSems0
  rw [SparseCore.bigSep_erase' ((mem_ownCells (g := gatherCell d L)).mpr ⟨rfl, by
      show (SemLoc.dma cc1_scratch2.sem : SemLoc sig).isScoped .scVector = true; decide⟩),
    SparseCore.bigSep_erase' (Finset.mem_erase.mpr ⟨by simp [gatherCell, fetchCell]; decide, (mem_ownCells (g := fetchCell d L)).mpr ⟨rfl, by
      show (SemLoc.dma cc1_scoped0.sem : SemLoc sig).isScoped .scVector = true; decide⟩⟩),
    SparseCore.bigSep_erase' (Finset.mem_erase.mpr ⟨by simp [fetchCell, writeCell]; decide, Finset.mem_erase.mpr ⟨by simp [gatherCell, writeCell]; decide,
      (mem_ownCells (g := writeCell d L)).mpr ⟨rfl, by show (SemLoc.dma cc1_scoped1.sem : SemLoc sig).isScoped .scVector = true; decide⟩⟩⟩)]

theorem ownBufs_tile :
    (ownBufs (thr d L) : sProp 𝕄)
      = iprop((∃ f, iLoc d L ↦{fullShare} f) ∗ (∃ f, rLoc d L ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

set_option maxHeartbeats 4000000 in
/-- The task of tile (c, s): from its resources, with its slabs at what they hold at the launch, it hands them back with
    its slabs gathered. -/
theorem wp_task [FloatOps F] (c : Fin 2) (s : Fin 16) (hm : RowsOK m) (O : CellTallies nD τ sig (HIx 1)) (W : Waits sig (HIx 1))
    (hO : ∀ g, O g none = 0) :
    iprop(levAts (K (F := F)).L (K (F := F)).lev ∗ emp ∗ tileRes m d c s (m (oLoc d))
        ∗ scopedBufs (thr d (coords c s)) ∗ scopedSems0 (thr d (coords c s)) ∗ owes (thr d (coords c s)) O W)
      ⊢ wp frame (wpE (defs₀ (F := F)) 𝒱₀ (thr d (coords c s)) none) Set.univ
          (cc1_gather_k (coords c s) tV (Memref.isWhole_whole _) xV (Memref.isWhole_whole _) oV (Memref.isWhole_whole _)
            iV (Memref.isWhole_whole _) rV (Memref.isWhole_whole _) cc1_scratch2 cc1_scoped0 cc1_scoped1)
          fun _ => iprop(tileRes m d c s (G m d)
            ∗ scopedBufs (thr d (coords c s)) ∗ scopedSems0 (thr d (coords c s))
            ∗ ∃ W', ⌜∀ p ∈ W', p ∈ W ∨ p.2 = none⌝ ∗ owes (thr d (coords c s)) O W') := by
  simp only [cc1_gather_k_eq_skeleton]; unfold cc1_gather_k_skel
  rw [(K (F := F)).scopedBufs_V launchFacts d (cV (coords c s)) (jV (coords c s)),
    SparseCore.Cfg.scopedSems0_V (Val := Elt F) d (cV (coords c s)) (jV (coords c s)), ownSems_tile, ownBufs_tile]
  unfold tileRes
  iintro ⟨#Hlv, -, ⟨Ht, Hx, Ho⟩, ⟨Hi, Hr, Hbufs⟩, ⟨Hgc, Hfc, Hwc, Hsems⟩, HO⟩
  ihave Ho := (Entails.of_eq (slabsAt_zero m d (coords c s) (m (oLoc d))).symm) $$ Ho
  iapply (Scf.wp_for_bind frame (wpE (defs₀ (F := F)) 𝒱₀ (thr d (coords c s)) none) Set.univ k1_t1_loop.lb k1_t1_loop.ub k1_t1_loop.st k1_t1_ok PUnit.unit _
    (fun n _ => inv m d (coords c s) (tileShare c s) O W (m (oLoc d)) n)
    (fun t acc => by rw [body_eq_trip]; exact inv_step m d (coords c s) hm (tileShare c s) O W hO (m (oLoc d)) t)) $$ [Ht Hx Ho Hi Hr Hgc Hfc Hwc HO]
  · unfold inv between
    isplitr; · iexact Hlv
    isplitr [Ho]
    · isplitl [Ht]; · iexact Ht
      isplitl [Hx]; · iexact Hx
      isplitl [Hi]; · iexact Hi
      isplitl [Hr]; · iexact Hr
      isplitl [Hgc]; · iexact Hgc
      isplitl [Hfc]; · iexact Hfc
      isplitl [Hwc]; · iexact Hwc
      iexists W
      isplitr
      · ipureintro; exact WaitsOK.refl W
      · iexact HO
    · iexact Ho
  iintro %acc Hinv
  unfold inv between
  icases Hinv with ⟨-, ⟨Ht, Hx, Hi, Hr, Hgc, Hfc, Hwc, %W', %hW', HO⟩, Ho⟩
  ihave Ho := (Entails.of_eq (slabsAt_last m d (coords c s) (m (oLoc d)))) $$ Ho
  iapply (Entails.of_eq (wp_ret _ _ _ _ _).symm)
  imodintro
  isplitl [Ht Hx Ho]
  · isplitl [Ht]; · iexact Ht
    isplitl [Hx] <;> iassumption
  isplitl [Hi Hr Hbufs]
  · isplitl [Hi]; · iexact Hi
    isplitl [Hr] <;> iassumption
  isplitl [Hgc Hfc Hwc Hsems]
  · isplitl [Hgc]; · iexact Hgc
    isplitl [Hfc]; · iexact Hfc
    isplitl [Hwc] <;> iassumption
  iexists W'
  isplitr
  · ipureintro; exact hW'
  · iexact HO

end Cert.Proof.Gather

end
-- ==== Proof.NetReg.lean ====
/-
  The network call's region over the host's state: entered from any contents of the arrays once the gather call is done,
  left with its two results as the write-backs leave them.
-/
module

public import proofs.«01_k».proof.Proof.Region

@[expose] public section

noncomputable section

namespace Cert.Proof.Net

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Window BodyObligation)
open Cert.Proof.Gather (UU UP EP K)
open Cert.Proof.TopK (pdats)

variable {F : FTy → Type} [FloatOps F]

local notation "𝕄" => MT nD τ sig (HIx 1) (Elt F) ℕ UU ℕ

variable (W : (c : Dev nD) → (b : Ref sig .tc) → Buf (Elt F) ((c : Thread nD τ).loc b)) (adm : (p : Fin 2) → (pcfgs (F := F) p).Adm)

/-- What the host owes at the pipeline's index once the gather call is done: nothing. -/
theorem Otc_none (c : Dev nD) (g : GSem nD τ sig) : (K (F := F)).Otc c 1 g none = (0 : ℕ) := by
  by_contra h
  exact absurd (SparseCore.Cfg.lev_of_Otc_pos (K := K (F := F)) (Nat.pos_of_ne_zero h)) (Nat.not_succ_le_zero _)

/-- The refined features and the edge probabilities after the region, as the write-backs leave them. -/
def refd (c : Dev nD) : Buf (Elt F) ((c : Thread nD τ).loc main_v11_0) := (dat W 8 c).arrAt 25 cfg2.N
def edgs (c : Dev nD) : Buf (Elt F) ((c : Thread nD τ).loc main_v11_1) := (dat W 8 c).arrAt 26 cfg2.N

variable (Wp : (c : Dev nD) → (b : Ref sig .tc) → Buf (Elt F) ((c : Thread nD τ).loc b))

set_option maxHeartbeats 2000000 in
set_option backward.isDefEq.respectTransparency.types false in
/-- The region entered from every array at `W`, left with every array at `Wp`: its two results as the write-backs leave
    them, the rest untouched; the host's debts and its recorded waits pass through. -/
def netReg (h4 : ∀ c, Wp c main_v11_0 = refd W c) (h5 : ∀ c, Wp c main_v11_1 = edgs W c)
    (hne : ∀ c (b : Ref sig .tc), b ≠ main_v11_0 → b ≠ main_v11_1 → Wp c b = W c b) :
    Pipeline.RegionSeg (pcfgs (F := F)) adm (pdats W adm) none defs₀ Variants.none (K (F := F)).L (K (F := F)).lev 1 where
  win := launch2.win.to₀
  block_pos := launch2.block_pos
  stage_whole := launch2.stage_whole
  K := PEmpty
  osem k := k.elim
  ho := Pipeline.OwnSemFacts.none _
  hbody c := (body_obligation W 8 c).loose
  hwaits c := Pipeline.cellsWaits_intro _ (pdats W adm) none 1 c fun w s t =>
    (K (F := F)).mayWait_none _ (Otc_none c)
  pre c := iprop(unscopedBufs c (W c) ∗ ∃ X, ⌜(K (F := F)).WBelow (T c) X 8⌝ ∗ owes (c : Thread nD τ) ((K (F := F)).Otc c 1) X)
  post c := iprop(unscopedBufs c (Wp c) ∗ ∃ X, ⌜(K (F := F)).WBelow (T c) X 8⌝ ∗ owes (c : Thread nD τ) ((K (F := F)).Otc c 1) X)
  X _ := BI.emp
  Y _ := BI.emp
  Z c := Pipeline.unscopedRest (Ix := HIx 1) (Name := ℕ) (U := UU) (Lvl := ℕ) spec2 c (W c)
  hentry c := by
    rw [Pipeline.ownSems0_none]
    have hsplit := Pipeline.arrays_of_unscopedBufs (p := 1) (pcfgs (F := F)) adm (pdats W adm) launch2.win launch2.arr_whole c
      ((pdats W adm 1 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%X, %hX, HO⟩; iexists X; isplitr; · ipureintro; exact fun p hp => Or.inl (hX p hp)
      iexact HO
    isplitr; · iempintro
    iexact Hrest
  hin c := by
    rw [show (pdats W adm 1 c).Φ 0 = Φc (F := F) c from rfl]
    iintro ⟨-, -, Hr⟩; iexact Hr
  hout c := by
    rw [Pipeline.ownSems0_none, show (pdats W adm 1 c).Φ (Fin.last _) = Φc (F := F) c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats W adm) ((pdats W adm 1 c).share_full fun _ => rfl) (W c) (Wp c) ((pdats W adm 1 c).arrAt · cfg2.N)
      (fun w => by
        fin_cases w
        · exact ((pdats W adm 1 c).arrAt_in 0 rfl _).trans (hne c main_v5 (by decide) (by decide)).symm
        · exact ((pdats W adm 1 c).arrAt_in 1 rfl _).trans (hne c main_v2 (by decide) (by decide)).symm
        · exact ((pdats W adm 1 c).arrAt_in 2 rfl _).trans (hne c main_v7 (by decide) (by decide)).symm
        · exact ((pdats W adm 1 c).arrAt_in 3 rfl _).trans (hne c main_v8 (by decide) (by decide)).symm
        · exact ((pdats W adm 1 c).arrAt_in 4 rfl _).trans (hne c main_v9 (by decide) (by decide)).symm
        · exact ((pdats W adm 1 c).arrAt_in 5 rfl _).trans (hne c main_v10 (by decide) (by decide)).symm
        · exact ((pdats W adm 1 c).arrAt_in 6 rfl _).trans (hne c main_arg4 (by decide) (by decide)).symm
        · exact ((pdats W adm 1 c).arrAt_in 7 rfl _).trans (hne c main_arg5 (by decide) (by decide)).symm
        · exact ((pdats W adm 1 c).arrAt_in 8 rfl _).trans (hne c main_arg6 (by decide) (by decide)).symm
        · exact ((pdats W adm 1 c).arrAt_in 9 rfl _).trans (hne c main_arg7 (by decide) (by decide)).symm
        · exact ((pdats W adm 1 c).arrAt_in 10 rfl _).trans (hne c main_arg8 (by decide) (by decide)).symm
        · exact ((pdats W adm 1 c).arrAt_in 11 rfl _).trans (hne c main_arg9 (by decide) (by decide)).symm
        · exact ((pdats W adm 1 c).arrAt_in 12 rfl _).trans (hne c main_arg11 (by decide) (by decide)).symm
        · exact ((pdats W adm 1 c).arrAt_in 13 rfl _).trans (hne c main_arg12 (by decide) (by decide)).symm
        · exact ((pdats W adm 1 c).arrAt_in 14 rfl _).trans (hne c main_arg13 (by decide) (by decide)).symm
        · exact ((pdats W adm 1 c).arrAt_in 15 rfl _).trans (hne c main_arg14 (by decide) (by decide)).symm
        · exact ((pdats W adm 1 c).arrAt_in 16 rfl _).trans (hne c main_arg15 (by decide) (by decide)).symm
        · exact ((pdats W adm 1 c).arrAt_in 17 rfl _).trans (hne c main_arg16 (by decide) (by decide)).symm
        · exact ((pdats W adm 1 c).arrAt_in 18 rfl _).trans (hne c main_arg17 (by decide) (by decide)).symm
        · exact ((pdats W adm 1 c).arrAt_in 19 rfl _).trans (hne c main_v6 (by decide) (by decide)).symm
        · exact ((pdats W adm 1 c).arrAt_in 20 rfl _).trans (hne c main_arg19 (by decide) (by decide)).symm
        · exact ((pdats W adm 1 c).arrAt_in 21 rfl _).trans (hne c main_arg20 (by decide) (by decide)).symm
        · exact ((pdats W adm 1 c).arrAt_in 22 rfl _).trans (hne c main_arg21 (by decide) (by decide)).symm
        · exact ((pdats W adm 1 c).arrAt_in 23 rfl _).trans (hne c main_arg22 (by decide) (by decide)).symm
        · exact ((pdats W adm 1 c).arrAt_in 24 rfl _).trans (hne c main_arg23 (by decide) (by decide)).symm
        · exact (h4 c).symm
        · exact (h5 c).symm)
      (fun b hb => hne c b (fun h => hb (h ▸ Finset.mem_image.mpr ⟨25, Finset.mem_univ _, rfl⟩))
        (fun h => hb (h ▸ Finset.mem_image.mpr ⟨26, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%X, %hX, HO⟩; iexists X; isplitr
    · ipureintro
      intro p hp
      rcases hX hp with h | h
      · exact h
      · obtain ⟨w, s, rfl⟩ := h
        exact Nat.zero_le _
    iexact HO

end Cert.Proof.Net
end
-- ==== Proof.Memory.lean ====
/-
  The arrays along the host's program: what each of them holds from the launch to the last reshape.
-/
module

public import proofs.«01_k».proof.Proof.Task
public import proofs.«01_k».proof.Proof.Arrays
public import proofs.«01_k».proof.Proof.NetReg
public import Idealize.ShloMosaic.Lib.Pipeline.Frame

@[expose] public section

noncomputable section

namespace Cert.Proof.Gather

open Cert.KernelIdeal Cert.KernelIdeal.Gen Cert.Proof.Slabs
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays along the host's program -/

open Cert.Proof.TopK (nbrsOf tablOf nbrs tabl reg pdats nbrs_eq tabl_eq)
open Cert.Proof.Net (refd edgs netReg)
open Idealize.ShloMosaic.StableHlo (held)
open Idealize.ShloMosaic.Pipeline (ucRefs unscopedBufs_held)
open Idealize.ShloMosaic.TcCoe

/-- The host's operations before the gather call: the points transposed, the two results of the neighbour call flattened. -/
abbrev opT : HloOp τ sig (Elt F) :=
  StableHlo.unary main_arg0 main_v0 ((transpose S8x3x2048 [0, 2, 1] · transposes_S8x2048x3_S8x3x2048_0_2_1) : (⟨S8x2048x3, .f32⟩ : BufTy).Contents (Elt F) → (⟨S8x3x2048, .f32⟩ : BufTy).Contents (Elt F))
abbrev opA : HloOp τ sig (Elt F) := StableHlo.reshape main_v1_1 main_v2 (rfl : (.f32 : EltTy) = .f32) shapeCasts_S8x2048x128_S16384x128
abbrev opB : HloOp τ sig (Elt F) := StableHlo.reshape main_v1_0 main_v3 (rfl : (.i32 : EltTy) = .i32) shapeCasts_S8x2048x16_S262144

/-- The arrays at the launch, after the transpose, after the neighbour call, and after each reshape. -/
def V0 (d : Dev nD) : Valuation τ sig (Elt F) := fun b => m (d, b)
def V1 (d : Dev nD) : Valuation τ sig (Elt F) := (opT (F := F)).result (V0 m d)
def W1 (d : Dev nD) (b : Ref sig .tc) : Buf (Elt F) ((d : Thread nD τ).loc b) := V1 m d b
def V2 (d : Dev nD) : Valuation τ sig (Elt F) :=
  Function.update (Function.update (V1 m d) (Proc.devRef .tc main_v1_0) (nbrs (W1 m) d)) (Proc.devRef .tc main_v1_1) (tabl (W1 m) d)
def V3 (d : Dev nD) : Valuation τ sig (Elt F) := (opA (F := F)).result (V2 m d)
def V4 (d : Dev nD) : Valuation τ sig (Elt F) := (opB (F := F)).result (V3 m d)

/-- The memory the gather call is made from. -/
def m₁ (ℓ : Loc nD τ sig) : Buf (Elt F) ℓ := V4 m ℓ.1 ℓ.2

/-- The neighbours and the table of a launch memory. -/
def nbrsAt (d : Dev nD) : S8x2048x16.Idx → BitVec 32 :=
  nbrsOf (F := F) (transpose S8x3x2048 [0, 2, 1] (m ((d : Thread nD τ).loc main_arg0) : S8x2048x3.Idx → Elt F .f32) transposes_S8x2048x3_S8x3x2048_0_2_1)
    (m ((d : Thread nD τ).loc main_arg0))
def tablAt (d : Dev nD) : S8x2048x128.Idx → Elt F .f32 :=
  tablOf (F := F) (m ((d : Thread nD τ).loc main_arg0)) (m ((d : Thread nD τ).loc main_arg1)) (m ((d : Thread nD τ).loc main_arg10))

theorem V1_v0 (d : Dev nD) : V1 m d (Proc.devRef .tc main_v0)
    = transpose S8x3x2048 [0, 2, 1] (m ((d : Thread nD τ).loc main_arg0) : S8x2048x3.Idx → Elt F .f32) transposes_S8x2048x3_S8x3x2048_0_2_1 := by
  unfold V1 opT; rw [StableHlo.unary_result]; rfl
theorem V1_ne (d : Dev nD) (b : Ref sig .tc) (h : b ≠ main_v0) : V1 m d (Proc.devRef .tc b) = m ((d : Thread nD τ).loc b) :=
  (opT (F := F)).result_of_not_mem (V0 m d) fun hw => h (Proc.devRef_injective _ (Finset.mem_singleton.mp hw))
theorem V2_nbrs (d : Dev nD) : V2 m d (Proc.devRef .tc main_v1_0) = nbrsAt m d := by
  unfold V2
  rw [Function.update_of_ne (by decide), Function.update_self, nbrs_eq]
  exact congrArg₂ nbrsOf (V1_v0 m d) (V1_ne m d main_arg0 (by decide))
theorem V2_tabl (d : Dev nD) : V2 m d (Proc.devRef .tc main_v1_1) = tablAt m d := by
  unfold V2
  rw [Function.update_self, tabl_eq]
  unfold tablAt W1
  rw [V1_ne m d main_arg0 (by decide), V1_ne m d main_arg1 (by decide), V1_ne m d main_arg10 (by decide)]
theorem V2_ne (d : Dev nD) (b : Ref sig .tc) (h0 : b ≠ main_v1_0) (h1 : b ≠ main_v1_1) : V2 m d (Proc.devRef .tc b) = V1 m d (Proc.devRef .tc b) := by
  unfold V2
  rw [Function.update_of_ne fun h => h1 (Proc.devRef_injective _ h), Function.update_of_ne fun h => h0 (Proc.devRef_injective _ h)]
theorem V3_ne (d : Dev nD) (b : Ref sig .tc) (h : b ≠ main_v2) : V3 m d (Proc.devRef .tc b) = V2 m d (Proc.devRef .tc b) :=
  (opA (F := F)).result_of_not_mem (V2 m d) fun hw => h (Proc.devRef_injective _ (Finset.mem_singleton.mp hw))
theorem V4_ne (d : Dev nD) (b : Ref sig .tc) (h : b ≠ main_v3) : V4 m d (Proc.devRef .tc b) = V3 m d (Proc.devRef .tc b) :=
  (opB (F := F)).result_of_not_mem (V3 m d) fun hw => h (Proc.devRef_injective _ (Finset.mem_singleton.mp hw))

/-- At the gather call: the table and the list are the neighbour call's results flattened, the arguments as launched. -/
theorem m₁_table (d : Dev nD) : m₁ m (tLoc d) = shapeCast S16384x128 (tablAt m d) shapeCasts_S8x2048x128_S16384x128 := by
  show V4 m d (Proc.devRef .tc main_v2) = _
  rw [V4_ne m d main_v2 (by decide), ← V2_tabl]
  unfold V3 opA
  rw [StableHlo.reshape_result]; rfl
theorem m₁_list (d : Dev nD) : m₁ m (xLoc d) = shapeCast S262144 (nbrsAt m d) shapeCasts_S8x2048x16_S262144 := by
  show V4 m d (Proc.devRef .tc main_v3) = _
  rw [← V2_nbrs, ← V3_ne m d main_v1_0 (by decide)]
  unfold V4 opB
  rw [StableHlo.reshape_result]; rfl
/-! ## The arrays after the gather call -/

/-- The host's operations after it: the gathered rows, the points, the features, the two directions and a weight reshaped, then the
    two results of the network call. -/
abbrev opC1 : HloOp τ sig (Elt F) := StableHlo.reshape main_v4 main_v5 (rfl : (.f32 : EltTy) = .f32) shapeCasts_S262144x128_S16384x16x128
abbrev opC2 : HloOp τ sig (Elt F) := StableHlo.reshape main_arg18 main_v6 (rfl : (.f32 : EltTy) = .f32) shapeCasts_S32x1_S1x32
abbrev opC3 : HloOp τ sig (Elt F) := StableHlo.reshape main_arg0 main_v7 (rfl : (.f32 : EltTy) = .f32) shapeCasts_S8x2048x3_S16384x3
abbrev opC4 : HloOp τ sig (Elt F) := StableHlo.reshape main_arg1 main_v8 (rfl : (.f32 : EltTy) = .f32) shapeCasts_S8x2048x128_S16384x128
abbrev opC5 : HloOp τ sig (Elt F) := StableHlo.reshape main_arg2 main_v9 (rfl : (.f32 : EltTy) = .f32) shapeCasts_S8x2048x3_S16384x3
abbrev opC6 : HloOp τ sig (Elt F) := StableHlo.reshape main_arg3 main_v10 (rfl : (.f32 : EltTy) = .f32) shapeCasts_S8x2048x3_S16384x3
abbrev opD1 : HloOp τ sig (Elt F) := StableHlo.reshape main_v11_0 main_v12 (rfl : (.f32 : EltTy) = .f32) shapeCasts_S16384x128_S8x2048x128
abbrev opD2 : HloOp τ sig (Elt F) := StableHlo.reshape main_v11_1 main_v13 (rfl : (.f32 : EltTy) = .f32) shapeCasts_S16384x1_S8x2048x1

/-- The arrays after the gather call, after each reshape, after the network call, and at the finish. -/
def V5 (d : Dev nD) : Valuation τ sig (Elt F) := Function.update (V4 m d) (Proc.devRef .tc main_v4) (G (m₁ m) d)
def V6 (d : Dev nD) : Valuation τ sig (Elt F) := (opC1 (F := F)).result (V5 m d)
def V7 (d : Dev nD) : Valuation τ sig (Elt F) := (opC2 (F := F)).result (V6 m d)
def V8 (d : Dev nD) : Valuation τ sig (Elt F) := (opC3 (F := F)).result (V7 m d)
def V9 (d : Dev nD) : Valuation τ sig (Elt F) := (opC4 (F := F)).result (V8 m d)
def V10 (d : Dev nD) : Valuation τ sig (Elt F) := (opC5 (F := F)).result (V9 m d)
def V11 (d : Dev nD) : Valuation τ sig (Elt F) := (opC6 (F := F)).result (V10 m d)
def W11 (d : Dev nD) (b : Ref sig .tc) : Buf (Elt F) ((d : Thread nD τ).loc b) := V11 m d b
def V12 (d : Dev nD) : Valuation τ sig (Elt F) :=
  Function.update (Function.update (V11 m d) (Proc.devRef .tc main_v11_0) (refd (W11 m) d)) (Proc.devRef .tc main_v11_1) (edgs (W11 m) d)
def V13 (d : Dev nD) : Valuation τ sig (Elt F) := (opD1 (F := F)).result (V12 m d)
def V14 (d : Dev nD) : Valuation τ sig (Elt F) := (opD2 (F := F)).result (V13 m d)

theorem V5_ne (d : Dev nD) (b : Ref sig .tc) (h : b ≠ main_v4) : V5 m d (Proc.devRef .tc b) = V4 m d (Proc.devRef .tc b) := by
  unfold V5
  rw [Function.update_of_ne fun e => h (Proc.devRef_injective _ e)]
theorem V6_ne (d : Dev nD) (b : Ref sig .tc) (h : b ≠ main_v5) : V6 m d (Proc.devRef .tc b) = V5 m d (Proc.devRef .tc b) :=
  (opC1 (F := F)).result_of_not_mem (V5 m d) fun hw => h (Proc.devRef_injective _ (Finset.mem_singleton.mp hw))
theorem V7_ne (d : Dev nD) (b : Ref sig .tc) (h : b ≠ main_v6) : V7 m d (Proc.devRef .tc b) = V6 m d (Proc.devRef .tc b) :=
  (opC2 (F := F)).result_of_not_mem (V6 m d) fun hw => h (Proc.devRef_injective _ (Finset.mem_singleton.mp hw))
theorem V8_ne (d : Dev nD) (b : Ref sig .tc) (h : b ≠ main_v7) : V8 m d (Proc.devRef .tc b) = V7 m d (Proc.devRef .tc b) :=
  (opC3 (F := F)).result_of_not_mem (V7 m d) fun hw => h (Proc.devRef_injective _ (Finset.mem_singleton.mp hw))
theorem V9_ne (d : Dev nD) (b : Ref sig .tc) (h : b ≠ main_v8) : V9 m d (Proc.devRef .tc b) = V8 m d (Proc.devRef .tc b) :=
  (opC4 (F := F)).result_of_not_mem (V8 m d) fun hw => h (Proc.devRef_injective _ (Finset.mem_singleton.mp hw))
theorem V10_ne (d : Dev nD) (b : Ref sig .tc) (h : b ≠ main_v9) : V10 m d (Proc.devRef .tc b) = V9 m d (Proc.devRef .tc b) :=
  (opC5 (F := F)).result_of_not_mem (V9 m d) fun hw => h (Proc.devRef_injective _ (Finset.mem_singleton.mp hw))
theorem V11_ne (d : Dev nD) (b : Ref sig .tc) (h : b ≠ main_v10) : V11 m d (Proc.devRef .tc b) = V10 m d (Proc.devRef .tc b) :=
  (opC6 (F := F)).result_of_not_mem (V10 m d) fun hw => h (Proc.devRef_injective _ (Finset.mem_singleton.mp hw))
theorem V12_ne (d : Dev nD) (b : Ref sig .tc) (h0 : b ≠ main_v11_0) (h1 : b ≠ main_v11_1) : V12 m d (Proc.devRef .tc b) = V11 m d (Proc.devRef .tc b) := by
  unfold V12
  rw [Function.update_of_ne fun h => h1 (Proc.devRef_injective _ h), Function.update_of_ne fun h => h0 (Proc.devRef_injective _ h)]
theorem V13_ne (d : Dev nD) (b : Ref sig .tc) (h : b ≠ main_v12) : V13 m d (Proc.devRef .tc b) = V12 m d (Proc.devRef .tc b) :=
  (opD1 (F := F)).result_of_not_mem (V12 m d) fun hw => h (Proc.devRef_injective _ (Finset.mem_singleton.mp hw))
theorem V14_ne (d : Dev nD) (b : Ref sig .tc) (h : b ≠ main_v13) : V14 m d (Proc.devRef .tc b) = V13 m d (Proc.devRef .tc b) :=
  (opD2 (F := F)).result_of_not_mem (V13 m d) fun hw => h (Proc.devRef_injective _ (Finset.mem_singleton.mp hw))

/-- An argument of the program: an array nothing writes. -/
def IsArg (b : Ref sig .tc) : Prop := b ∉ ([main_v0, main_v1_0, main_v1_1, main_v2, main_v3, main_v4, main_v5, main_v6, main_v7, main_v8, main_v9, main_v10, main_v11_0,
  main_v11_1, main_v12, main_v13] : List (Ref sig .tc))
instance (b : Ref sig .tc) : Decidable (IsArg b) := by unfold IsArg; infer_instance

theorem IsArg.ne {b : Ref sig .tc} (h : IsArg b) (w : Ref sig .tc) (hw : ¬ IsArg w) : b ≠ w := fun e => hw (e ▸ h)

theorem V5_arg (d : Dev nD) (b : Ref sig .tc) (h : IsArg b) : V5 m d (Proc.devRef .tc b) = m ((d : Thread nD τ).loc b) := by
  rw [V5_ne m d b (h.ne main_v4 (by decide)), V4_ne m d b (h.ne main_v3 (by decide)), V3_ne m d b (h.ne main_v2 (by decide)), V2_ne m d b (h.ne main_v1_0 (by decide)) (h.ne main_v1_1 (by decide)), V1_ne m d b (h.ne main_v0 (by decide))]
theorem V6_arg (d : Dev nD) (b : Ref sig .tc) (h : IsArg b) : V6 m d (Proc.devRef .tc b) = m ((d : Thread nD τ).loc b) := by
  rw [V6_ne m d b (h.ne main_v5 (by decide)), V5_arg m d b h]
theorem V7_arg (d : Dev nD) (b : Ref sig .tc) (h : IsArg b) : V7 m d (Proc.devRef .tc b) = m ((d : Thread nD τ).loc b) := by
  rw [V7_ne m d b (h.ne main_v6 (by decide)), V6_arg m d b h]
theorem V8_arg (d : Dev nD) (b : Ref sig .tc) (h : IsArg b) : V8 m d (Proc.devRef .tc b) = m ((d : Thread nD τ).loc b) := by
  rw [V8_ne m d b (h.ne main_v7 (by decide)), V7_arg m d b h]
theorem V9_arg (d : Dev nD) (b : Ref sig .tc) (h : IsArg b) : V9 m d (Proc.devRef .tc b) = m ((d : Thread nD τ).loc b) := by
  rw [V9_ne m d b (h.ne main_v8 (by decide)), V8_arg m d b h]
theorem V11_arg (d : Dev nD) (b : Ref sig .tc) (h : IsArg b) : V11 m d (Proc.devRef .tc b) = m ((d : Thread nD τ).loc b) := by
  rw [V11_ne m d b (h.ne main_v10 (by decide)), V10_ne m d b (h.ne main_v9 (by decide)), V9_arg m d b h]
theorem V14_arg (d : Dev nD) (b : Ref sig .tc) (h : IsArg b) : V14 m d (Proc.devRef .tc b) = m ((d : Thread nD τ).loc b) := by
  rw [V14_ne m d b (h.ne main_v13 (by decide)), V13_ne m d b (h.ne main_v12 (by decide)), V12_ne m d b (h.ne main_v11_0 (by decide)) (h.ne main_v11_1 (by decide)), V11_arg m d b h]

/-- What the network call reads: the rows gathered, the table, and the points, the features, the two directions and a weight reshaped. -/
theorem V11_v5 (d : Dev nD) : V11 m d (Proc.devRef .tc main_v5) = shapeCast S16384x16x128 (G (m₁ m) d : S262144x128.Idx → Elt F .f32) shapeCasts_S262144x128_S16384x16x128 := by
  rw [V11_ne m d main_v5 (by decide), V10_ne m d main_v5 (by decide), V9_ne m d main_v5 (by decide), V8_ne m d main_v5 (by decide), V7_ne m d main_v5 (by decide)]
  have e : V5 m d (Proc.devRef .tc main_v4) = G (m₁ m) d := by unfold V5; rw [Function.update_self]
  rw [← e]
  unfold V6 opC1
  rw [StableHlo.reshape_result]; rfl
theorem V11_v6 (d : Dev nD) : V11 m d (Proc.devRef .tc main_v6) = shapeCast S1x32 (m ((d : Thread nD τ).loc main_arg18) : S32x1.Idx → Elt F .f32) shapeCasts_S32x1_S1x32 := by
  rw [V11_ne m d main_v6 (by decide), V10_ne m d main_v6 (by decide), V9_ne m d main_v6 (by decide), V8_ne m d main_v6 (by decide)]
  rw [← V6_arg m d main_arg18 (by decide)]
  unfold V7 opC2
  rw [StableHlo.reshape_result]; rfl
theorem V11_v7 (d : Dev nD) : V11 m d (Proc.devRef .tc main_v7) = shapeCast S16384x3 (m ((d : Thread nD τ).loc main_arg0) : S8x2048x3.Idx → Elt F .f32) shapeCasts_S8x2048x3_S16384x3 := by
  rw [V11_ne m d main_v7 (by decide), V10_ne m d main_v7 (by decide), V9_ne m d main_v7 (by decide)]
  rw [← V7_arg m d main_arg0 (by decide)]
  unfold V8 opC3
  rw [StableHlo.reshape_result]; rfl
theorem V11_v8 (d : Dev nD) : V11 m d (Proc.devRef .tc main_v8) = shapeCast S16384x128 (m ((d : Thread nD τ).loc main_arg1) : S8x2048x128.Idx → Elt F .f32) shapeCasts_S8x2048x128_S16384x128 := by
  rw [V11_ne m d main_v8 (by decide), V10_ne m d main_v8 (by decide)]
  rw [← V8_arg m d main_arg1 (by decide)]
  unfold V9 opC4
  rw [StableHlo.reshape_result]; rfl
theorem V11_v9 (d : Dev nD) : V11 m d (Proc.devRef .tc main_v9) = shapeCast S16384x3 (m ((d : Thread nD τ).loc main_arg2) : S8x2048x3.Idx → Elt F .f32) shapeCasts_S8x2048x3_S16384x3 := by
  rw [V11_ne m d main_v9 (by decide)]
  rw [← V9_arg m d main_arg2 (by decide)]
  unfold V10 opC5
  rw [StableHlo.reshape_result]; rfl
theorem V11_v10 (d : Dev nD) : V11 m d (Proc.devRef .tc main_v10) = shapeCast S16384x3 (m ((d : Thread nD τ).loc main_arg3) : S8x2048x3.Idx → Elt F .f32) shapeCasts_S8x2048x3_S16384x3 := by
  rw [← V9_arg m d main_arg3 (by decide), ← V10_ne m d main_arg3 (by decide)]
  unfold V11 opC6
  rw [StableHlo.reshape_result]; rfl
theorem V11_v2 (d : Dev nD) : V11 m d (Proc.devRef .tc main_v2) = m₁ m (tLoc d) := by
  rw [V11_ne m d main_v2 (by decide), V10_ne m d main_v2 (by decide), V9_ne m d main_v2 (by decide), V8_ne m d main_v2 (by decide), V7_ne m d main_v2 (by decide), V6_ne m d main_v2 (by decide), V5_ne m d main_v2 (by decide)]; rfl

/-- The two results, of what the network call leaves. -/
theorem V14_v12 (d : Dev nD) : V14 m d (Proc.devRef .tc main_v12) = shapeCast S8x2048x128 (refd (W11 m) d : S16384x128.Idx → Elt F .f32) shapeCasts_S16384x128_S8x2048x128 := by
  rw [V14_ne m d main_v12 (by decide)]
  have e : V12 m d (Proc.devRef .tc main_v11_0) = refd (W11 m) d := by unfold V12; rw [Function.update_of_ne (by decide), Function.update_self]
  rw [← e]
  unfold V13 opD1
  rw [StableHlo.reshape_result]; rfl
theorem V14_v13 (d : Dev nD) : V14 m d (Proc.devRef .tc main_v13) = shapeCast S8x2048x1 (edgs (W11 m) d : S16384x1.Idx → Elt F .f32) shapeCasts_S16384x1_S8x2048x1 := by
  have e : V13 m d (Proc.devRef .tc main_v11_1) = edgs (W11 m) d := by rw [V13_ne m d main_v11_1 (by decide)]; unfold V12; rw [Function.update_self]
  rw [← e]
  unfold V14 opD2
  rw [StableHlo.reshape_result]; rfl

end Cert.Proof.Gather

end
-- ==== Proof.Run.lean ====
/-
  The run of the three calls: the split of the gather's resources over SparseCores and tiles, the host's program from the
  launch to the last line, and what the finished memory holds.
-/
module

public import proofs.«01_k».proof.Proof.Task
public import proofs.«01_k».proof.Proof.Memory
public import Idealize.ShloMosaic.Lib.Pipeline.Frame

@[expose] public section

noncomputable section

namespace Cert.Proof.Gather

open Cert.KernelIdeal Cert.KernelIdeal.Gen Cert.Proof.Slabs
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The obligation -/

theorem defs₀_tile (c : Fin τ.nSC) (s : Fin τ.nSub) :
    defs₀ (F := F) (.scVector c s) 1 ()
      = SparseCore.onTile hcore1 hsub1 (fun c s => cc1_gather_k (coords ⟨c.val, c.isLt⟩ ⟨s.val, s.isLt⟩)
          (Memref.whole main_v2_scv) (Memref.isWhole_whole _) (Memref.whole main_v3_scv) (Memref.isWhole_whole _)
          (Memref.whole main_v4_scv) (Memref.isWhole_whole _) (Memref.whole cc1_scratch0) (Memref.isWhole_whole _)
          (Memref.whole cc1_scratch1) (Memref.isWhole_whole _) cc1_scratch2 cc1_scoped0 cc1_scoped1) ⟨⟩ c s := rfl

/-- The waits of a task, in the form the obligation states them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task takes what it is handed to what it hands back. -/
theorem tileObl (hm : RowsOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (wp_task m d (Fin.cast nCore_eq c) (Fin.cast nSub_eq i) hm O W hO).trans (wp_mono frame _ _ fun _ => obl_post)

/-- A SparseCore's resources are its tiles', at the call and after it. -/
theorem vecSplit : (K (F := F)).VecSplit' (P m) 0 := by
  intro d c
  show coreRes m d (Fin.cast nCore_eq c) (m (oLoc d)) ⊢ |={Set.univ}=> iprop(
      (bigSep Finset.univ fun i : Fin ((K (F := F)).nSub 0) => tileRes m d (Fin.cast nCore_eq c) (Fin.cast nSub_eq i) (m (oLoc d)))
      ∗ ((bigSep Finset.univ fun i : Fin ((K (F := F)).nSub 0) => tileRes m d (Fin.cast nCore_eq c) (Fin.cast nSub_eq i) (G m d))
          -∗ coreRes m d (Fin.cast nCore_eq c) (G m d)))
  rw [coreRes_tiles, coreRes_tiles]
  iintro H; imodintro
  isplitl [H]; · iexact H
  iintro H; iexact H

open Cert.Proof.TopK (nbrsOf tablOf nbrs tabl reg pdats nbrs_eq tabl_eq)
open Cert.Proof.Net (refd edgs netReg)
open Idealize.ShloMosaic.StableHlo (held)
open Idealize.ShloMosaic.Pipeline (ucRefs unscopedBufs_held)
open Idealize.ShloMosaic.TcCoe

/-! ## The launch element of the ghost state -/

abbrev adm : (p : Fin 2) → (pcfgs (F := F) p).Adm := fun p => (cfgs p).toPCfg_adm

/-- The staging cells' launch state and transfer tokens. -/
def uP : UP := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (uP (F := F), 1))

/-- What the launch hands a device's host for the staging cells of the two pipelined calls. -/
def Gh (d : Dev nD) : sProp 𝕄 :=
  iprop((bigSep Finset.univ fun p : Fin 2 => Pipeline.cellsGhost (Pipeline.pin (pcfgs (F := F)) adm) (EP (F := F)) p d)
    ∗ bigSep Finset.univ fun p : Fin 2 => Pipeline.toksInit (Pipeline.pin (pcfgs (F := F)) adm) (EP (F := F)) p d)

theorem Gh_eq (d : Dev nD) : Gh (F := F) d = (iprop((Pipeline.cellsGhost (Pipeline.pin (pcfgs (F := F)) adm) (EP (F := F)) 0 d
      ∗ Pipeline.cellsGhost (Pipeline.pin (pcfgs (F := F)) adm) (EP (F := F)) 1 d)
    ∗ (Pipeline.toksInit (Pipeline.pin (pcfgs (F := F)) adm) (EP (F := F)) 0 d
      ∗ Pipeline.toksInit (Pipeline.pin (pcfgs (F := F)) adm) (EP (F := F)) 1 d)) : sProp 𝕄) := by
  unfold Gh
  rw [bigSep_univ_two, bigSep_univ_two]

/-- It opens to the handshakes' part and the staging cells'; the transfers' part is allocated where they are. -/
theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const Finset.univ)
  have hg : (BI.own (EP (F := F) (uP (F := F))) : sProp 𝕄) ⊢ iprop(|==> (bigSep Finset.univ fun d : Dev nD => Gh (F := F) d)) := by
    refine (Pipeline.fund_ghost (Pipeline.pin (pcfgs (F := F)) adm) (EP (F := F)) cellOf_inj).trans (Entails.of_eq ?_)
    unfold Gh
    rw [bigSep_sep']
  rw [hx]
  unfold u₀
  iintro Hu
  ihave H := (ownU_pair (initOf (K (F := F)).hsCells (K (F := F)).hsToks) ((uP (F := F), 1) : UP × Counters)) $$ Hu
  icases H with ⟨HH, HR⟩
  ihave H := (own_pair_emb (embR : Emb (UP × Counters) 𝕄) (uP (F := F)) (1 : Counters)) $$ HR
  icases H with ⟨HP, -⟩
  ihave HP := (show (BI.own (((Emb.inl : Emb UP (UP × Counters)).trans (embR : Emb (UP × Counters) 𝕄)) (uP (F := F))) : sProp 𝕄)
      ⊢ BI.own (EP (F := F) (uP (F := F))) from Entails.of_eq rfl) $$ HP
  imod hg $$ HP with HP
  imodintro
  isplitl [HH]; · iexact HH
  isplitl [HP]; · iexact HP
  iempintro

/-! ## @main -/

/-- The neighbour call's region, entered with the host's debts and recorded waits. -/
theorem wp_region [∀ e, Nonempty (Elt F e)] (d : Dev nD) (Q : PUnit → sProp 𝕄) :
    iprop((iprop(boundary (d.tc : Thread nD τ) ∗ unscopedBufs d (fun b => V2 m d b) ∗ ∃ X, ⌜(K (F := F)).WBelow (T d) X 0⌝ ∗ owes (d : Thread nD τ) ((K (F := F)).Otc d 0) X)
        -∗ wp frame (wpE (D (F := F)) 𝒱 (d.tc : Thread nD τ) none) Set.univ (.ret ⟨⟩) Q)
      ∗ boundary (d.tc : Thread nD τ) ∗ (unscopedBufs d (fun b => V1 m d b) ∗ ∃ X, ⌜(K (F := F)).WBelow (T d) X 0⌝ ∗ owes (d : Thread nD τ) ((K (F := F)).Otc d 0) X)
      ∗ levAts (K (F := F)).L (K (F := F)).lev
      ∗ Pipeline.cellsGhost (Pipeline.pin (pcfgs (F := F)) adm) (EP (F := F)) 0 d ∗ Pipeline.toksInit (Pipeline.pin (pcfgs (F := F)) adm) (EP (F := F)) 0 d)
      ⊢ wp frame (wpE (D (F := F)) 𝒱 (d.tc : Thread nD τ) none) Set.univ (.op (.customCall (Pipeline.entry 0) ()) .ret) Q :=
    Pipeline.RegionSeg.wp (pcfgs (F := F)) adm (pdats (W1 m) adm) none cellOf_inj (EP (F := F)) defs₀ Variants.none (K (F := F)).L (K (F := F)).lev
      (reg (W1 m) adm (fun d b => V2 m d b)
        (fun c => by unfold V2; rw [Function.update_of_ne (by decide), Function.update_self])
        (fun c => by unfold V2; rw [Function.update_self])
        (fun c b h0 h1 => V2_ne m c b h0 h1)) d none (fun _ h => nomatch h) .ret Q

/-- The host's entry of the region is the region's, in the signature with the gather call. -/
theorem entry_lift : (SparseCore.liftProg (.op (.customCall (Pipeline.entry 0) ()) .ret : Prog (TpuEff nD τ sig (Elt F) (ΛP (F := F)) .tc) PUnit)
      : Prog (TpuEff nD τ sig (Elt F) (SparseCore.Sig (ΛP (F := F)) 1) .tc) PUnit)
    = Prog.lift (.customCall (SparseCore.inner (Pipeline.entry 0)) ()) := rfl

/-- The neighbour call: from the arrays at what the transpose leaves, to the arrays with its two results. -/
theorem wp_neighbours [∀ e, Nonempty (Elt F e)] (κ : GSem nD τ sig → ℕ) (d : Dev nD) (Q : PUnit → sProp 𝕄) :
    iprop((iprop(boundary (SparseCore.T d) ∗ held (SparseCore.T d) (ucRefs τ sig) (V2 m d) ∗ (K (F := F)).tcSt EH d 0) -∗ Q ⟨⟩)
        ∗ boundary (SparseCore.T d) ∗ held (SparseCore.T d) (ucRefs τ sig) (V1 m d) ∗ (K (F := F)).ctx EH (P (m₁ m)) κ
        ∗ (K (F := F)).tcSt EH d 0 ∗ Pipeline.cellsGhost (Pipeline.pin (pcfgs (F := F)) adm) (EP (F := F)) 0 d
        ∗ Pipeline.toksInit (Pipeline.pin (pcfgs (F := F)) adm) (EP (F := F)) 0 d)
      ⊢ wp frame (wpE ((K (F := F)).defs (D (F := F))) 𝒱 (SparseCore.T d) none) Set.univ
          (Prog.lift (.customCall (SparseCore.inner (Pipeline.entry 0)) ())) Q := by
  rw [← entry_lift]
  refine BI.Entails.trans ?_ ((K (F := F)).wp_liftProg (D (F := F)) 𝒱 (SparseCore.T d) Set.univ none _ Q)
  refine BI.Entails.trans ?_ (wp_region m d Q)
  unfold SparseCore.Cfg.tcSt
  show (_ : sProp 𝕄) ⊢ _
  iintro ⟨Hk, Hb, Hh, #Hctx, ⟨HO, Hst⟩, Hc, Ht⟩
  ihave Hlev := ((K (F := F)).ctx_levAts κ) $$ Hctx
  isplitl [Hk Hst]
  · iintro ⟨Hb, Hh, HO⟩
    rw [wp_ret]; imodintro
    iapply Hk
    isplitl [Hb]; · iexact Hb
    isplitl [Hh]
    · iapply (Entails.of_eq (unscopedBufs_held d (V2 m d))); iexact Hh
    isplitl [HO]; · iexact HO
    iexact Hst
  isplitl [Hb]; · iexact Hb
  isplitl [Hh HO]
  · isplitl [Hh]
    · iapply (Entails.of_eq (unscopedBufs_held d (V1 m d)).symm); iexact Hh
    iexact HO
  isplitl [Hlev]; · iexact Hlev
  isplitl [Hc]; · iexact Hc
  iexact Ht

/-- The network call's region, entered with the host's debts and recorded waits. -/
theorem wp_region₁ [∀ e, Nonempty (Elt F e)] (d : Dev nD) (Q : PUnit → sProp 𝕄) :
    iprop((iprop(boundary (d.tc : Thread nD τ) ∗ unscopedBufs d (fun b => V12 m d b) ∗ ∃ X, ⌜(K (F := F)).WBelow (T d) X 8⌝ ∗ owes (d : Thread nD τ) ((K (F := F)).Otc d 1) X)
        -∗ wp frame (wpE (D (F := F)) 𝒱 (d.tc : Thread nD τ) none) Set.univ (.ret ⟨⟩) Q)
      ∗ boundary (d.tc : Thread nD τ) ∗ (unscopedBufs d (fun b => V11 m d b) ∗ ∃ X, ⌜(K (F := F)).WBelow (T d) X 8⌝ ∗ owes (d : Thread nD τ) ((K (F := F)).Otc d 1) X)
      ∗ levAts (K (F := F)).L (K (F := F)).lev
      ∗ Pipeline.cellsGhost (Pipeline.pin (pcfgs (F := F)) adm) (EP (F := F)) 1 d ∗ Pipeline.toksInit (Pipeline.pin (pcfgs (F := F)) adm) (EP (F := F)) 1 d)
      ⊢ wp frame (wpE (D (F := F)) 𝒱 (d.tc : Thread nD τ) none) Set.univ (.op (.customCall (Pipeline.entry 1) ()) .ret) Q :=
    Pipeline.RegionSeg.wp (pcfgs (F := F)) adm (pdats (W11 m) adm) none cellOf_inj (EP (F := F)) defs₀ Variants.none (K (F := F)).L (K (F := F)).lev
      (netReg (W11 m) adm (fun d b => V12 m d b)
        (fun c => by unfold V12; rw [Function.update_of_ne (by decide), Function.update_self])
        (fun c => by unfold V12; rw [Function.update_self])
        (fun c b h0 h1 => V12_ne m c b h0 h1)) d none (fun _ h => nomatch h) .ret Q

/-- The host's entry of the region is the region's, in the signature with the gather call too. -/
theorem entry_lift₁ : (SparseCore.liftProg (.op (.customCall (Pipeline.entry 1) ()) .ret : Prog (TpuEff nD τ sig (Elt F) (ΛP (F := F)) .tc) PUnit)
      : Prog (TpuEff nD τ sig (Elt F) (SparseCore.Sig (ΛP (F := F)) 1) .tc) PUnit)
    = Prog.lift (.customCall (SparseCore.inner (Pipeline.entry 1)) ()) := rfl

/-- The network call: from the arrays at what the last reshape leaves, to the arrays with its two results. -/
theorem wp_network [∀ e, Nonempty (Elt F e)] (κ : GSem nD τ sig → ℕ) (d : Dev nD) (Q : PUnit → sProp 𝕄) :
    iprop((iprop(boundary (SparseCore.T d) ∗ held (SparseCore.T d) (ucRefs τ sig) (V12 m d) ∗ (K (F := F)).tcSt EH d 1) -∗ Q ⟨⟩)
        ∗ boundary (SparseCore.T d) ∗ held (SparseCore.T d) (ucRefs τ sig) (V11 m d) ∗ (K (F := F)).ctx EH (P (m₁ m)) κ
        ∗ (K (F := F)).tcSt EH d 1 ∗ Pipeline.cellsGhost (Pipeline.pin (pcfgs (F := F)) adm) (EP (F := F)) 1 d
        ∗ Pipeline.toksInit (Pipeline.pin (pcfgs (F := F)) adm) (EP (F := F)) 1 d)
      ⊢ wp frame (wpE ((K (F := F)).defs (D (F := F))) 𝒱 (SparseCore.T d) none) Set.univ
          (Prog.lift (.customCall (SparseCore.inner (Pipeline.entry 1)) ())) Q := by
  rw [← entry_lift₁]
  refine BI.Entails.trans ?_ ((K (F := F)).wp_liftProg (D (F := F)) 𝒱 (SparseCore.T d) Set.univ none _ Q)
  refine BI.Entails.trans ?_ (wp_region₁ m d Q)
  unfold SparseCore.Cfg.tcSt
  show (_ : sProp 𝕄) ⊢ _
  iintro ⟨Hk, Hb, Hh, #Hctx, ⟨HO, Hst⟩, Hc, Ht⟩
  ihave Hlev := ((K (F := F)).ctx_levAts κ) $$ Hctx
  isplitl [Hk Hst]
  · iintro ⟨Hb, Hh, HO⟩
    rw [wp_ret]; imodintro
    iapply Hk
    isplitl [Hb]; · iexact Hb
    isplitl [Hh]
    · iapply (Entails.of_eq (unscopedBufs_held d (V12 m d))); iexact Hh
    isplitl [HO]; · iexact HO
    iexact Hst
  isplitl [Hb]; · iexact Hb
  isplitl [Hh HO]
  · isplitl [Hh]
    · iapply (Entails.of_eq (unscopedBufs_held d (V11 m d)).symm); iexact Hh
    iexact HO
  isplitl [Hlev]; · iexact Hlev
  isplitl [Hc]; · iexact Hc
  iexact Ht

theorem unscopedBufs_eq (d : Dev nD) (W : (b : Ref sig .tc) → Buf (Elt F) ((d.tc : Thread nD τ).loc b)) :
    (unscopedBufs d W : sProp 𝕄) = iprop(((tLoc d ↦{fullShare} W main_v2) ∗ (xLoc d ↦{fullShare} W main_v3) ∗ oLoc d ↦{fullShare} W main_v4)
      ∗ bigSep ((Finset.univ.filter fun b : Ref sig .tc => ¬ b.isScoped) \ {main_v2, main_v3, main_v4}) fun b : Ref sig .tc => ((d : Thread nD τ).loc b ↦{fullShare} W b)) := by
  unfold unscopedBufs
  rw [SparseCore.bigSep_sdiff_split' (show {main_v2, main_v3, main_v4} ⊆ (Finset.univ.filter fun b : Ref sig .tc => ¬ b.isScoped) by decide),
    SparseCore.bigSep_insert' (show main_v2 ∉ ({main_v3, main_v4} : Finset (Ref sig .tc)) by decide),
    SparseCore.bigSep_insert' (show main_v3 ∉ ({main_v4} : Finset (Ref sig .tc)) by decide), bigSep_singleton]

/-- The gather call changes its result alone. -/
theorem rest_eq (d : Dev nD) :
    (bigSep ((Finset.univ.filter fun b : Ref sig .tc => ¬ b.isScoped) \ {main_v2, main_v3, main_v4}) fun b : Ref sig .tc => ((d : Thread nD τ).loc b ↦{fullShare} V4 m d b) : sProp 𝕄)
      = bigSep ((Finset.univ.filter fun b : Ref sig .tc => ¬ b.isScoped) \ {main_v2, main_v3, main_v4}) fun b : Ref sig .tc => ((d : Thread nD τ).loc b ↦{fullShare} V5 m d b) :=
  bigSep_congr fun b hb => by
    rw [show V5 m d b = V4 m d b from V5_ne m d b fun e => (Finset.mem_sdiff.mp hb).2 (by rw [e]; decide)]

/-- The arrays at the finish. -/
abbrev FIN (d : Dev nD) : sProp 𝕄 := unscopedBufs d (fun b => V14 m d b)

theorem st_eq (d : Dev nD) : (bigSep Finset.univ fun c : Fin ((K (F := F)).nCore 0) => (P m).st 0 d c)
    = iprop((tLoc d ↦{fullShare} m (tLoc d)) ∗ (xLoc d ↦{fullShare} m (xLoc d)) ∗ (oLoc d ↦{fullShare} m (oLoc d))) :=
  (whole_cores m d (m (oLoc d))).symm
theorem dn_eq (d : Dev nD) : (bigSep Finset.univ fun c : Fin ((K (F := F)).nCore 0) => (P m).dn 0 d c)
    = iprop((tLoc d ↦{fullShare} m (tLoc d)) ∗ (xLoc d ↦{fullShare} m (xLoc d)) ∗ (oLoc d ↦{fullShare} G m d)) :=
  (whole_cores m d (G m d)).symm

/-- The gather call: from the arrays at what the two reshapes leave, to the arrays with the rows gathered. -/
theorem wp_gather [∀ e, Nonempty (Elt F e)] (κ : GSem nD τ sig → ℕ) (d : Dev nD) (Q : PUnit → sProp 𝕄) :
    iprop((iprop(held (SparseCore.T d) (ucRefs τ sig) (V5 m d) ∗ (K (F := F)).tcSt EH d 1) -∗ Q ⟨⟩)
        ∗ held (SparseCore.T d) (ucRefs τ sig) (V4 m d) ∗ (K (F := F)).ctx EH (P (m₁ m)) κ ∗ (K (F := F)).tcSt EH d 0)
      ⊢ wp frame (wpE ((K (F := F)).defs (D (F := F))) 𝒱 (SparseCore.T d) none) Set.univ ((K (F := F)).run d 0) Q := by
  iintro ⟨Hk, Hh, #Hctx, Hst⟩
  ihave Hio := (Entails.of_eq (show held (SparseCore.T d) (ucRefs τ sig) (V4 m d) = _ from
    (unscopedBufs_held d (V4 m d)).symm.trans (unscopedBufs_eq d fun b => V4 m d b))) $$ Hh
  icases Hio with ⟨Hio, Hrest⟩
  iapply ((K (F := F)).wp_run (D (F := F)) 𝒱 (EH := EH) (P := P (m₁ m)) κ d 0) $$ [Hst Hio Hk Hrest]
  isplitr; · iexact Hctx
  isplitl [Hst]; · iexact Hst
  isplitl [Hio]
  · rw [st_eq]; iexact Hio
  iintro ⟨Hst, Hdn⟩
  ihave Hdn := (Entails.of_eq (dn_eq (m₁ m) d)) $$ Hdn
  ihave Hrest := (Entails.of_eq (rest_eq m d)) $$ Hrest
  iapply Hk
  isplitl [Hdn Hrest]
  · iapply (Entails.of_eq ((unscopedBufs_eq d fun b => V5 m d b).symm.trans (unscopedBufs_held d (V5 m d))))
    isplitl [Hdn]
    · have h2 : V5 m d (Proc.devRef .tc main_v2) = m₁ m (tLoc d) := V5_ne m d main_v2 (by decide)
      have h3 : V5 m d (Proc.devRef .tc main_v3) = m₁ m (xLoc d) := V5_ne m d main_v3 (by decide)
      have h4 : V5 m d (Proc.devRef .tc main_v4) = G (m₁ m) d := by unfold V5; rw [Function.update_self]
      rw [h2, h3, h4]; iexact Hdn
    iexact Hrest
  iexact Hst

/-- The host's program: the transpose, the neighbour call, the two reshapes, the gather call, the reshapes, the network call, the results reshaped. -/
theorem hmain [∀ e, Nonempty (Elt F e)] (κ : GSem nD τ sig → ℕ) (d : Dev nD) :
    iprop((K (F := F)).ctx EH (P (m₁ m)) κ ∗ (K (F := F)).tcSt EH d 0 ∗ (K (F := F)).tcRes m ρ d ∗ Gh (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [Gh_eq]
  simp only [main, wp_bind, wp_pure]
  iintro ⟨#Hctx, Hst, ⟨Hb, Hio, Hts, -⟩, ⟨Hc0, Hc1⟩, Ht0, Ht1⟩
  ihave Hh := (Entails.of_eq (show unscopedBufs d (fun b => m ((SparseCore.T d).loc b)) = _ from unscopedBufs_held d (V0 m d))) $$ Hio
  iapply (StableHlo.wp_hlo_within 𝒱 (SparseCore.T d) none Set.univ (op := opT) (S := ucRefs τ sig) (V := V0 m d) (Pipeline.sub_ucRefs _ (StableHlo.unary_bufs_sub ..))) $$ [Hb Hh]
  · isplitl [Hb]; · iexact Hb
    iexact Hh
  iintro ⟨Hb, Hh⟩
  rw [wp_ret]; imodintro
  iapply (wp_neighbours m κ d)
  isplitr [Hb Hh Hst Hc0 Ht0]
  swap
  · isplitl [Hb]; · iexact Hb
    isplitl [Hh]; · iexact Hh
    isplitr; · iexact Hctx
    isplitl [Hst]; · iexact Hst
    isplitl [Hc0]; · iexact Hc0
    iexact Ht0
  iintro ⟨Hb, Hh, Hst⟩
  iapply (StableHlo.wp_hlo_within 𝒱 (SparseCore.T d) none Set.univ (op := opA) (S := ucRefs τ sig) (V := V2 m d) (Pipeline.sub_ucRefs _ (StableHlo.reshape_bufs_sub ..))) $$ [Hb Hh]
  · isplitl [Hb]; · iexact Hb
    iexact Hh
  iintro ⟨Hb, Hh⟩
  rw [wp_ret]; imodintro
  iapply (StableHlo.wp_hlo_within 𝒱 (SparseCore.T d) none Set.univ (op := opB) (S := ucRefs τ sig) (V := V3 m d) (Pipeline.sub_ucRefs _ (StableHlo.reshape_bufs_sub ..))) $$ [Hb Hh]
  · isplitl [Hb]; · iexact Hb
    iexact Hh
  iintro ⟨Hb, Hh⟩
  rw [wp_ret]; imodintro
  iapply (wp_gather m κ d)
  isplitr [Hh Hst]
  swap
  · isplitl [Hh]; · iexact Hh
    isplitr; · iexact Hctx
    iexact Hst
  iintro ⟨Hh, Hst⟩
  iapply (StableHlo.wp_hlo_within 𝒱 (SparseCore.T d) none Set.univ (op := opC1) (S := ucRefs τ sig) (V := V5 m d) (Pipeline.sub_ucRefs _ (StableHlo.reshape_bufs_sub ..))) $$ [Hb Hh]
  · isplitl [Hb]; · iexact Hb
    iexact Hh
  iintro ⟨Hb, Hh⟩
  rw [wp_ret]; imodintro
  iapply (StableHlo.wp_hlo_within 𝒱 (SparseCore.T d) none Set.univ (op := opC2) (S := ucRefs τ sig) (V := V6 m d) (Pipeline.sub_ucRefs _ (StableHlo.reshape_bufs_sub ..))) $$ [Hb Hh]
  · isplitl [Hb]; · iexact Hb
    iexact Hh
  iintro ⟨Hb, Hh⟩
  rw [wp_ret]; imodintro
  iapply (StableHlo.wp_hlo_within 𝒱 (SparseCore.T d) none Set.univ (op := opC3) (S := ucRefs τ sig) (V := V7 m d) (Pipeline.sub_ucRefs _ (StableHlo.reshape_bufs_sub ..))) $$ [Hb Hh]
  · isplitl [Hb]; · iexact Hb
    iexact Hh
  iintro ⟨Hb, Hh⟩
  rw [wp_ret]; imodintro
  iapply (StableHlo.wp_hlo_within 𝒱 (SparseCore.T d) none Set.univ (op := opC4) (S := ucRefs τ sig) (V := V8 m d) (Pipeline.sub_ucRefs _ (StableHlo.reshape_bufs_sub ..))) $$ [Hb Hh]
  · isplitl [Hb]; · iexact Hb
    iexact Hh
  iintro ⟨Hb, Hh⟩
  rw [wp_ret]; imodintro
  iapply (StableHlo.wp_hlo_within 𝒱 (SparseCore.T d) none Set.univ (op := opC5) (S := ucRefs τ sig) (V := V9 m d) (Pipeline.sub_ucRefs _ (StableHlo.reshape_bufs_sub ..))) $$ [Hb Hh]
  · isplitl [Hb]; · iexact Hb
    iexact Hh
  iintro ⟨Hb, Hh⟩
  rw [wp_ret]; imodintro
  iapply (StableHlo.wp_hlo_within 𝒱 (SparseCore.T d) none Set.univ (op := opC6) (S := ucRefs τ sig) (V := V10 m d) (Pipeline.sub_ucRefs _ (StableHlo.reshape_bufs_sub ..))) $$ [Hb Hh]
  · isplitl [Hb]; · iexact Hb
    iexact Hh
  iintro ⟨Hb, Hh⟩
  rw [wp_ret]; imodintro
  iapply (wp_network m κ d)
  isplitr [Hb Hh Hst Hc1 Ht1]
  swap
  · isplitl [Hb]; · iexact Hb
    isplitl [Hh]; · iexact Hh
    isplitr; · iexact Hctx
    isplitl [Hst]; · iexact Hst
    isplitl [Hc1]; · iexact Hc1
    iexact Ht1
  iintro ⟨Hb, Hh, Hst⟩
  iapply (StableHlo.wp_hlo_within 𝒱 (SparseCore.T d) none Set.univ (op := opD1) (S := ucRefs τ sig) (V := V12 m d) (Pipeline.sub_ucRefs _ (StableHlo.reshape_bufs_sub ..))) $$ [Hb Hh]
  · isplitl [Hb]; · iexact Hb
    iexact Hh
  iintro ⟨Hb, Hh⟩
  rw [wp_ret]; imodintro
  iapply (StableHlo.wp_hlo_within 𝒱 (SparseCore.T d) none Set.univ (op := opD2) (S := ucRefs τ sig) (V := V13 m d) (Pipeline.sub_ucRefs _ (StableHlo.reshape_bufs_sub ..))) $$ [Hb Hh]
  · isplitl [Hb]; · iexact Hb
    iexact Hh
  iintro ⟨Hb, Hh⟩
  rw [wp_ret]; imodintro
  imodintro
  isplitl [Hst]; · iexact Hst
  isplitl [Hh]
  · iapply (Entails.of_eq (unscopedBufs_held d (V14 m d)).symm); iexact Hh
  isplitl [Hb] <;> iassumption

/-- What the finished memory of a device holds. -/
def finished (d : Dev nD) (s' : Phys nD τ sig (Elt F)) : Prop :=
  ∀ b : Ref sig .tc, ¬ b.isScoped → s'.mem.mem ((d : Thread nD τ).loc b) = V14 m d b

/-- An array held outright is what the memory holds. -/
theorem whole_agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜finished m d s'⌝ : sProp 𝕄) := by
  have each (b : Ref sig .tc) (hb : ¬ b.isScoped) : iprop(FIN m d ∗ SI s') ⊢ (⌜s'.mem.mem ((d : Thread nD τ).loc b) = V14 m d b⌝ : sProp 𝕄) := by
    unfold FIN unscopedBufs
    rw [SparseCore.bigSep_sdiff_split' (show {b} ⊆ (Finset.univ.filter fun b : Ref sig .tc => ¬ b.isScoped) by simpa using hb), bigSep_singleton]
    iintro ⟨⟨Hb, -⟩, HSI⟩
    ihave H := (whole_agree s' ((d : Thread nD τ).loc b) (V14 m d b)) $$ [HSI Hb]
    · isplitl [HSI] <;> iassumption
    icases H with ⟨%h, -⟩
    ipureintro
    exact h
  exact fun a hP b hb => each b hb a hP

/-- What a finished run leaves: every array of the host as the program's last line has it, every semaphore at zero. -/
def Post : PUnit × MemSt nD τ sig (Elt F) → Prop := fun r =>
  (∀ (c : Dev nD) (b : Ref sig .tc), ¬ b.isScoped → r.2.mem ((c : Thread nD τ).loc b) = V14 m c b) ∧ r.2.sem = fun _ => 0

/-- The whole program, where every neighbour the first call finds is a row of the table, runs to its finish. -/
theorem run_main [∀ e, Nonempty (Elt F e)] (hm : RowsOK (m₁ m)) :
    θ_run (Cert.KernelIdeal.defs (F := F)) (Cert.KernelIdeal.threads (F := F)) ⟨m, fun _ => 0, ρ⟩ (Post m) :=
  SparseCore.Cfg.θ_run_sc_quiescent (K := K (F := F)) (D := D (F := F)) (𝒱 := 𝒱) (EH := EH) (P := P (m₁ m)) (A := ∅) launchFacts v₀
    (fun q hq => match q with | 0 => nomatch hq)
    (fun q _ => match q with | 0 => tileObl (m₁ m) hm)
    (fun q _ => match q with | 0 => SparseCore.Cfg.VecSplit.of_plain (vecSplit (m₁ m)))
    m ρ main (fun d => Gh (F := F) d) (FIN m) (u₀ (F := F)) (sep_elim_left.trans (hu₀ (m₁ m))) (hmain m ρ) (finished m) (hfin m) (Post m) (fun _ h hz => ⟨h, hz⟩)

end Cert.Proof.Gather

end
-- ==== Proof.Heads.Row.lean ====
/-
  What the heads compute of one point, as plain sums over the extended reals: from the rows gathered for its sixteen
  neighbours, its own row, its coordinates, its features and its two directions to its edge probability and its refined
  features.  Nothing here knows of blocks or grids.
-/
module

public import proofs.«01_k».proof.Proof.Gen.NetworkIdeal.Skeleton
public import Idealize.ShloMosaic.Lib.Pointwise
public import Idealize.ShloMosaic.Lib.IdealHost

@[expose] public section

noncomputable section

namespace Cert.Proof.Heads

open Idealize.ShloMosaic

/-- The number a 32-bit float word stands for. -/
abbrev lit (w : BitVec 32) : EReal := Ideal.ofBits .f32 w

/-- The counts 16, 64 and 128, the guard 1e-12 under the distances' root and the layer norm's 1e-5. -/
abbrev c16 : EReal := lit 0x41800000#32
abbrev c64 : EReal := lit 0x42800000#32
abbrev c128 : EReal := lit 0x43000000#32
abbrev tiny : EReal := lit 0x2B8CBCCC#32
abbrev eps : EReal := lit 0x3727C5AC#32

/-- A mean over `N`. -/
def mean {n : ℕ} (N : EReal) (x : Fin n → EReal) : EReal := Ideal.div (∑ k, x k) N

/-- A linear layer. -/
def lin {n h : ℕ} (x : Fin n → EReal) (w : Fin n → Fin h → EReal) (b : Fin h → EReal) (j : Fin h) : EReal :=
  (∑ k, x k * w k j) + b j

/-- A layer norm and the positive part of it. -/
def norm {n : ℕ} (N : EReal) (x g b : Fin n → EReal) (j : Fin n) : EReal :=
  max (Ideal.div (x j - mean N x) (Ideal.sqrt (mean N (fun k => (x k - mean N x) * (x k - mean N x)) + eps)) * g j + b j) 0

/-- The weights of the two branches and the two heads. -/
structure Weights where
  geoW : Fin 10 → Fin 64 → EReal
  geoB : Fin 64 → EReal
  geoG : Fin 64 → EReal
  geoE : Fin 64 → EReal
  geoV : Fin 64 → Fin 64 → EReal
  geoC : Fin 64 → EReal
  diffB : Fin 64 → EReal
  diffG : Fin 64 → EReal
  diffE : Fin 64 → EReal
  diffV : Fin 64 → Fin 64 → EReal
  diffC : Fin 64 → EReal
  epW : Fin 128 → Fin 32 → EReal
  epB : Fin 32 → EReal
  epV : Fin 32 → EReal
  epC : EReal
  rfW : Fin 256 → Fin 128 → EReal
  rfB : Fin 128 → EReal
  rfG : Fin 128 → EReal
  rfE : Fin 128 → EReal

/-- What is given of a point: its neighbours' rows, its own row, its coordinates, its features, its two directions. -/
@[ext] structure Point where
  near : Fin 16 → Fin 128 → EReal
  own : Fin 128 → EReal
  pos : Fin 3 → EReal
  feat : Fin 128 → EReal
  normal : Fin 3 → EReal
  curv : Fin 3 → EReal

/-- The neighbours' positions from the point. -/
def rel (P : Point) (k : Fin 16) (c : Fin 3) : EReal := P.near k ⟨c.val, by omega⟩ - P.pos c

/-- The ten geometric features: the normal, the direction of curvature, the mean position and the mean distance. -/
def geo (P : Point) (j : Fin 10) : EReal :=
  if h : j.val < 3 then P.normal ⟨j.val, h⟩
  else if h : j.val < 6 then P.curv ⟨j.val - 3, by omega⟩
  else if h : j.val < 9 then mean c16 fun k => rel P k ⟨j.val - 6, by omega⟩
  else mean c16 fun k => Ideal.sqrt ((∑ c, rel P k c * rel P k c) + tiny)

/-- The geometric branch. -/
def geoOut (W : Weights) (P : Point) : Fin 64 → EReal :=
  lin (norm c64 (lin (geo P) W.geoW W.geoB) W.geoG W.geoE) W.geoV W.geoC

/-- The difference of the point's projected features and a neighbour's, with the bias. -/
def diff (W : Weights) (P : Point) (k : Fin 16) (j : Fin 64) : EReal :=
  (P.own ⟨64 + j.val, by omega⟩ - P.near k ⟨64 + j.val, by omega⟩) + W.diffB j

/-- The branch of differences: the largest over the neighbours. -/
def diffOut (W : Weights) (P : Point) (j : Fin 64) : EReal :=
  Finset.univ.fold max (lit 0xFF800000#32) fun k : Fin 16 => lin (norm c64 (diff W P k) W.diffG W.diffE) W.diffV W.diffC j

/-- Both branches side by side. -/
def both (W : Weights) (P : Point) (j : Fin 128) : EReal :=
  if h : j.val < 64 then geoOut W P ⟨j.val, h⟩ else diffOut W P ⟨j.val - 64, by omega⟩

/-- The edge probability. -/
def edge (W : Weights) (P : Point) : EReal :=
  Ideal.logistic ((∑ j, max (lin (both W P) W.epW W.epB j) 0 * W.epV j) + W.epC)

/-- The point's features beside both branches. -/
def joined (W : Weights) (P : Point) (j : Fin 256) : EReal :=
  if h : j.val < 128 then P.feat ⟨j.val, h⟩ else both W P ⟨j.val - 128, by omega⟩

/-- The refined features. -/
def refined (W : Weights) (P : Point) (j : Fin 128) : EReal :=
  P.feat j + norm c128 (lin (joined W P) W.rfW W.rfB) W.rfG W.rfE j * edge W P

/-- The weights as the arrays hold them. -/
def weights (a6 : (⟨2, ![10, 64]⟩ : Shape).Idx → EReal) (a7 a8 a9 : (⟨1, ![64]⟩ : Shape).Idx → EReal)
    (a10 : (⟨2, ![64, 64]⟩ : Shape).Idx → EReal) (a11 a12 a13 a14 : (⟨1, ![64]⟩ : Shape).Idx → EReal)
    (a15 : (⟨2, ![64, 64]⟩ : Shape).Idx → EReal) (a16 : (⟨1, ![64]⟩ : Shape).Idx → EReal)
    (a17 : (⟨2, ![128, 32]⟩ : Shape).Idx → EReal) (a18 : (⟨1, ![32]⟩ : Shape).Idx → EReal)
    (a19 : (⟨2, ![1, 32]⟩ : Shape).Idx → EReal) (a20 : (⟨1, ![1]⟩ : Shape).Idx → EReal)
    (a21 : (⟨2, ![256, 128]⟩ : Shape).Idx → EReal) (a22 a23 a24 : (⟨1, ![128]⟩ : Shape).Idx → EReal) : Weights where
  geoW i j := a6 (ix2 i j)
  geoB j := a7 (ix1 j)
  geoG j := a8 (ix1 j)
  geoE j := a9 (ix1 j)
  geoV i j := a10 (ix2 i j)
  geoC j := a11 (ix1 j)
  diffB j := a12 (ix1 j)
  diffG j := a13 (ix1 j)
  diffE j := a14 (ix1 j)
  diffV i j := a15 (ix2 i j)
  diffC j := a16 (ix1 j)
  epW i j := a17 (ix2 i j)
  epB j := a18 (ix1 j)
  epV j := a19 (ix2 0 j)
  epC := a20 (ix1 0)
  rfW i j := a21 (ix2 i j)
  rfB j := a22 (ix1 j)
  rfG j := a23 (ix1 j)
  rfE j := a24 (ix1 j)

/-- The point of row `r` of arrays of `R` rows. -/
def point {R : ℕ} (a0 : (⟨3, ![R, 16, 128]⟩ : Shape).Idx → EReal) (a1 : (⟨2, ![R, 128]⟩ : Shape).Idx → EReal)
    (a2 : (⟨2, ![R, 3]⟩ : Shape).Idx → EReal) (a3 : (⟨2, ![R, 128]⟩ : Shape).Idx → EReal)
    (a4 a5 : (⟨2, ![R, 3]⟩ : Shape).Idx → EReal) (r : Fin R) : Point where
  near k j := a0 (ix3 r k j)
  own j := a1 (ix2 r j)
  pos c := a2 (ix2 r c)
  feat j := a3 (ix2 r j)
  normal c := a4 (ix2 r c)
  curv c := a5 (ix2 r c)

end Cert.Proof.Heads

end
-- ==== Proof.Value.lean ====
/-
  The neighbours and their rows, at the exact floats: the rows the gather call leaves, the reference's neighbours where
  every coordinate of the points is finite, and the numbers of a point that the network call is given.
-/
module

public import proofs.«01_k».proof.Proof.Distance
public import proofs.«01_k».proof.Proof.Run
public import proofs.«01_k».proof.Proof.Heads.Row

@[expose] public section

noncomputable section

namespace Cert.Proof.Value

open Cert.KernelIdeal Cert.KernelIdeal.Gen
open Idealize.ShloMosaic
open Cert.Proof.TopK

/-! ## The host's sort and gather, element by element -/

/-- The places a stable sort by the greater value brings the last axis into. -/
theorem sorted_apply {A B N : ℕ} (x : FVec Ideal ⟨3, ![A, B, N]⟩ .f32) (b : Fin A) (n : Fin B) (k : Fin N) :
    (Host.sort2 ⟨3, ![A, B, N]⟩ 2 (fun l r => FloatOps.cmpfTotal (F := Ideal) (φ := .f32) CmpDirection.gt l.1 r.1)
          x (fun i => BitVec.ofNat 32 (i 2).val)).2
      (ix3 b n k) = BitVec.ofNat 32 (sortedFrom (fun a c : Fin N => decide (x (ix3 b n c) < x (ix3 b n a))) k).val := by
  have ha : ∀ j : Fin N, Shape.Idx.along (s := ⟨3, ![A, B, N]⟩) (ix3 b n k) 2 j = ix3 b n j := fun j => by
    funext a
    match a with
    | ⟨0, _⟩ => rfl
    | ⟨1, _⟩ => rfl
    | ⟨2, _⟩ => rfl
  have hf : (fun u v : Fin N => Ideal.cmp .ogt (x (Shape.Idx.along (s := ⟨3, ![A, B, N]⟩) (ix3 b n k) 2 u)) (x (Shape.Idx.along (s := ⟨3, ![A, B, N]⟩) (ix3 b n k) 2 v)) == 1#1)
      = fun u v => decide (x (ix3 b n v) < x (ix3 b n u)) := by
    funext u v
    rw [ha u, ha v]
    simp only [Ideal.cmp]
    generalize decide (x (ix3 b n v) < x (ix3 b n u)) = q
    cases q
    · decide
    · decide
  rw [← hf]
  rfl

/-- A gather of rows along a list, batch by batch. -/
theorem gather_apply {α : Type} {C : ℕ} (d : GatherDims ⟨3, ![8, 2048, C]⟩ ⟨4, ![8, 2048, 16, 1]⟩ ⟨4, ![8, 2048, 16, C]⟩)
    (h1 : d.offsetDims = [3]) (h2 : d.collapsedSliceDims = [1]) (h3 : d.operandBatchingDims = [0]) (h4 : d.startIndicesBatchingDims = [0])
    (h5 : d.startIndexMap = [1]) (h6 : d.indexVectorDim = 3) (h7 : d.sliceSizes = ![1, 1, C])
    (p : Shape.Idx ⟨3, ![8, 2048, C]⟩ → α) (st : IVec ⟨4, ![8, 2048, 16, 1]⟩ 32) (b : Fin 8) (n : Fin 2048) (k : Fin 16) (c : Fin C) :
    Host.gather d p st (ix4 b n k c) = p (ix3 b ⟨min (st (ix4 b n k 0)).toInt.toNat 2047, by omega⟩ c) := by
  obtain ⟨od, cd, ob, sb, sm, iv, ss, wf⟩ := d
  simp only at h1 h2 h3 h4 h5 h6 h7
  subst h1 h2 h3 h4 h5 h6 h7
  generalize hd : (GatherDims.mk [3] [1] [0] [0] [1] 3 ![1, 1, C] wf : GatherDims ⟨3, ![8, 2048, C]⟩ ⟨4, ![8, 2048, 16, 1]⟩ ⟨4, ![8, 2048, 16, C]⟩) = d
  unfold Host.gather
  refine congrArg p (funext fun a => Fin.ext ?_)
  show d.start (ix4 b n k c) st a + d.batchCoord (ix4 b n k c) a + d.offCoord (ix4 b n k c) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by subst hd; exact List.mem_singleton.mpr rfl), GatherDims.offCoord_eq_zero _ _ _ (fun h => ((GatherDims.mem_sKept _ _).mp h).2 (by subst hd; exact List.mem_singleton.mpr rfl)),
      Nat.zero_add, Nat.add_zero]
    subst hd
    unfold GatherDims.batchCoord
    rw [dif_pos (List.mem_singleton.mpr rfl)]
    rfl
  · rw [GatherDims.batchCoord_eq_zero _ _ _ (by subst hd; show (1 : Fin 3) ∉ [(0 : Fin 3)]; decide), GatherDims.offCoord_eq_zero _ _ _ (fun h => ((GatherDims.mem_sKept _ _).mp h).1 (by subst hd; exact List.mem_singleton.mpr rfl)),
      Nat.add_zero]
    subst hd
    unfold GatherDims.start
    rw [dif_pos (List.mem_singleton.mpr rfl)]
    refine congrArg (fun i => min (st i).toInt.toNat 2047) (funext fun a => ?_)
    match a with
    | ⟨0, _⟩ => rfl
    | ⟨1, _⟩ => rfl
    | ⟨2, _⟩ => rfl
    | ⟨3, _⟩ => exact Subsingleton.elim (α := Fin 1) _ _
  · rw [GatherDims.batchCoord_eq_zero _ _ _ (by subst hd; show (2 : Fin 3) ∉ [(0 : Fin 3)]; decide)]
    subst hd
    unfold GatherDims.start
    rw [dif_neg (show ¬ (2 : Fin 3) ∈ [(1 : Fin 3)] by decide), Nat.add_zero, Nat.zero_add]
    rfl

/-! ## The neighbours -/

/-- Neighbour `k` of point `n`: the nearest of the points not struck before. -/
def near (p : FVec Ideal S8x2048x3 .f32) (b : Fin 8) (n : Fin 2048) (k : Fin 16) : Fin 2048 :=
  pick (rowAt (fun j => away (point p b n) (point p b j)) k.val)

/-- The neighbour call names it by its row of the flattened table. -/
theorem nbrs_apply (p : FVec Ideal S8x2048x3 .f32) (b : Fin 8) (n : Fin 2048) (k : Fin 16) :
    (nbrsOf (F := Ideal) (transpose S8x3x2048 [0, 2, 1] p transposes_S8x2048x3_S8x3x2048_0_2_1) p (ix3 b n k)).toNat
      = 2048 * b.val + (near p b n k).val := by
  have h : nbrsOf (F := Ideal) (transpose S8x3x2048 [0, 2, 1] p transposes_S8x2048x3_S8x3x2048_0_2_1) p (ix3 b n k)
      = BitVec.ofNat 32 (near p b n k).val + BitVec.ofNat 32 b.val * 2048#32 := by
    have hg := gidxBlk_apply (BitVec.ofNat 32 b.val)
      (k0_pay7 (pSl p b (rowBlk n)) (xSl (transpose S8x3x2048 [0, 2, 1] p transposes_S8x2048x3_S8x3x2048_0_2_1) b)) (rowIn n) k
    rw [rowOf_pay7, rowNo_row, ix3_eq_valueIdx] at hg
    exact hg
  rw [h]
  have hb := b.isLt
  have hn := (near p b n k).isLt
  rw [BitVec.toNat_add, BitVec.toNat_mul, BitVec.toNat_ofNat, BitVec.toNat_ofNat, BitVec.toNat_ofNat]
  omega

/-- The reference names it by its number in the batch. -/
theorem nearest_apply (p : FVec Ideal S8x2048x3 .f32) (hp : ∀ i, ∃ u : ℝ, p i = u) (b : Fin 8) (n : Fin 2048) (k : Fin 16) :
    Reference.nearest (F := Ideal) p (ix3 b n k) = BitVec.ofNat 32 (near p b n k).val := by
  unfold Reference.nearest Host.topK
  pointwise
  refine (sorted_apply (Reference.dist (F := Ideal) p) b n ⟨k.val, by omega⟩).trans ?_
  have he : (fun j => Reference.dist (F := Ideal) p (ix3 b n j)) = fun j => away (point p b n) (point p b j) :=
    funext fun j => dist_apply p b n j
  have hs := pick_sorted (fun j => Reference.dist (F := Ideal) p (ix3 b n j))
    (fun j => by rw [dist_apply]; exact bot_lt_away _ _ (fun c => hp _) (fun c => hp _)) ⟨k.val, by omega⟩
  refine congrArg (fun j : Fin 2048 => BitVec.ofNat 32 j.val) (hs.trans ?_)
  rw [he]
  rfl

/-- The start of its gather. -/
theorem start_apply (p : FVec Ideal S8x2048x3 .f32) (hp : ∀ i, ∃ u : ℝ, p i = u) (b : Fin 8) (n : Fin 2048) (k : Fin 16) :
    Reference.starts (Reference.nearest (F := Ideal) p) (ix4 b n k 0) = BitVec.ofNat 32 (near p b n k).val := by
  have hn := nearest_apply p hp b n k
  have hlt := (near p b n k).isLt
  unfold Reference.starts
  pointwise
  rw [hn]
  have hi : (BitVec.ofNat 32 (near p b n k).val).toInt = ((near p b n k).val : ℤ) := by
    rw [BitVec.toInt_eq_toNat_of_lt (by rw [BitVec.toNat_ofNat]; omega), BitVec.toNat_ofNat]
    omega
  have hs : (BitVec.ofNat 32 (near p b n k).val).slt 0#32 = false := by
    rw [BitVec.slt_eq_decide, decide_eq_false_iff_not, hi]; simp
  simp only [IntOp.cmpi, hs]
  rfl

/-- What the gathers read at it. -/
theorem start_row (i : Fin 2048) : min (BitVec.ofNat 32 i.val).toInt.toNat 2047 = i.val := by
  have hlt := i.isLt
  rw [BitVec.toInt_eq_toNat_of_lt (by rw [BitVec.toNat_ofNat]; omega), BitVec.toNat_ofNat]
  omega

/-! ## The rows -/

/-- The row of a point: its coordinates, zeros, its features times the weight. -/
def row (p : FVec Ideal S8x2048x3 .f32) (f : FVec Ideal S8x2048x128 .f32) (w : FVec Ideal S128x64 .f32)
    (b : Fin 8) (n : Fin 2048) (c : Fin 128) : EReal :=
  if h : c.val < 3 then p (ix3 b n ⟨c.val, h⟩)
  else if h : c.val < 64 then 0
  else ∑ x : Fin 128, f (ix3 b n x) * w (ix2 x ⟨c.val - 64, by omega⟩)

/-- The table the neighbour call leaves holds it. -/
theorem tabl_apply (p : FVec Ideal S8x2048x3 .f32) (f : FVec Ideal S8x2048x128 .f32) (w : FVec Ideal S128x64 .f32)
    (b : Fin 8) (n : Fin 2048) (c : Fin 128) : tablOf (F := Ideal) p f w (ix3 b n c) = row p f w b n c := by
  have h2 : ∀ x : FVec Ideal S1x256x3 .f32, ∀ (r : Fin 256) (c : Fin 3), k0_pay2 (F := Ideal) (k0_pay5 x) (ix3 0 r c) = x (ix3 0 r c) := by
    intro x r c; unfold k0_pay2 k0_pay5; pointwise
  have h3 : ∀ (r : Fin 256) (c : Fin 61), k0_pay3 (F := Ideal) (ix3 0 r c) = (0 : EReal) := by
    intro r c; unfold k0_pay3; pointwise
  have h4 : ∀ x : FVec Ideal S1x256x128 .f32, ∀ (r : Fin 256) (c : Fin 64),
      k0_pay4 (F := Ideal) (k0_pay6 x) w (ix3 0 r c) = ∑ k : Fin 128, x (ix3 0 r k) * w (ix2 k c) := by
    intro x r c; unfold k0_pay4 k0_pay6; pointwise
  simp only [ix3_eq_valueIdx] at h2 h3 h4
  unfold row
  simp only [ix3_eq_valueIdx]
  unfold tablOf tabBlk
  by_cases hc : c.val < 3
  · refine (dif_pos hc).trans (Eq.trans ?_ (dif_pos hc).symm)
    refine (h2 (pSl (F := Ideal) p b (rowBlk n)) (rowIn n) ⟨c.val, hc⟩).trans ?_
    show p (ValueIdx.ix3 b (rowNo (rowBlk n) (rowIn n)) ⟨c.val, hc⟩) = _
    rw [rowNo_row]
  · refine (dif_neg hc).trans (Eq.trans ?_ (dif_neg hc).symm)
    by_cases hd : c.val < 64
    · refine (dif_pos hd).trans (Eq.trans ?_ (dif_pos hd).symm)
      exact h3 (rowIn n) ⟨c.val - 3, by omega⟩
    · refine (dif_neg hd).trans (Eq.trans ?_ (dif_neg hd).symm)
      refine (h4 (fSl (F := Ideal) f b (rowBlk n)) (rowIn n) ⟨c.val - 64, by omega⟩).trans ?_
      refine Finset.sum_congr rfl fun x _ => ?_
      show f (ValueIdx.ix3 b (rowNo (rowBlk n) (rowIn n)) x) * _ = _
      rw [rowNo_row]

/-! ## The whole arrays -/

/-- Every word of the flattened list is a row of the flattened table. -/
theorem list_lt (p : FVec Ideal S8x2048x3 .f32) (r : Fin 262144) :
    (shapeCast S262144 (nbrsOf (F := Ideal) (transpose S8x3x2048 [0, 2, 1] p transposes_S8x2048x3_S8x3x2048_0_2_1) p)
      shapeCasts_S8x2048x16_S262144 (ix1 r)).toNat
        = 2048 * (r.val / 32768) + (near p ⟨r.val / 32768, by omega⟩ ⟨r.val / 16 % 2048, by omega⟩ ⟨r.val % 16, by omega⟩).val := by
  pointwise
  rw [nbrs_apply]

/-- Row `r` the gather call copies is the row of a neighbour of the point `r / 16`. -/
theorem gath_apply (p : FVec Ideal S8x2048x3 .f32) (f : FVec Ideal S8x2048x128 .f32) (w : FVec Ideal S128x64 .f32)
    (r : Fin 262144) (c : Fin 128) :
    Cert.Proof.Slabs.gath (F := Ideal) (shapeCast S16384x128 (tablOf (F := Ideal) p f w) shapeCasts_S8x2048x128_S16384x128)
        (shapeCast S262144 (nbrsOf (F := Ideal) (transpose S8x3x2048 [0, 2, 1] p transposes_S8x2048x3_S8x3x2048_0_2_1) p)
          shapeCasts_S8x2048x16_S262144) (ix2 r c)
      = row p f w ⟨r.val / 32768, by omega⟩ (near p ⟨r.val / 32768, by omega⟩ ⟨r.val / 16 % 2048, by omega⟩ ⟨r.val % 16, by omega⟩) c := by
  have hr := r.isLt
  have ht : ∀ j : Fin 16384, shapeCast S16384x128 (tablOf (F := Ideal) p f w) shapeCasts_S8x2048x128_S16384x128 (ix2 j c)
      = row p f w ⟨j.val / 2048, by omega⟩ ⟨j.val % 2048, by omega⟩ c := fun j => by
    pointwise
    exact tabl_apply p f w _ _ c
  have hl := list_lt p r
  have hi1 : Cert.Proof.Slabs.listIx r = ix1 r := funext fun a => by
    match a with
    | ⟨0, _⟩ => rfl
  have hi2 : ∀ j : Fin 16384, Cert.Proof.Slabs.tableIx j c = ix2 j c := fun j => funext fun a => by
    match a with
    | ⟨0, _⟩ => rfl
    | ⟨1, _⟩ => rfl
  have hg : ∀ (tb : S16384x128.Idx → Elt Ideal .f32) (ix : S262144.Idx → BitVec 32),
      Cert.Proof.Slabs.gath (F := Ideal) tb ix (ix2 r c) = tb (ix2 (Cert.Proof.Slabs.rowNamed (ix (ix1 r))) c) := fun tb ix => by
    rw [← hi2, ← hi1]; rfl
  rw [hg, ht]
  have hn := (near p ⟨r.val / 32768, by omega⟩ ⟨r.val / 16 % 2048, by omega⟩ ⟨r.val % 16, by omega⟩).isLt
  refine congrArg₂ (fun b n => row p f w b n c) (Fin.ext ?_) (Fin.ext ?_)
  · show (_ % 16384) / 2048 = r.val / 32768
    rw [hl]
    omega
  · show (_ % 16384) % 2048 = _
    rw [hl]
    omega

/-- In the run: every word of the list the gather call is given is a row of its table. -/
theorem rows_ok (m : (ℓ : Loc nD τ sig) → Buf (Elt Ideal) ℓ) : Cert.Proof.Gather.RowsOK (F := Ideal) (Cert.Proof.Gather.m₁ m) := by
  intro d j
  rw [Cert.Proof.Gather.m₁_list]
  obtain ⟨r, rfl⟩ : ∃ r : Fin 262144, j = ix1 r := ⟨j 0, funext fun a => by
    match a with
    | ⟨0, _⟩ => rfl⟩
  have hr := r.isLt
  have hl := list_lt (m ((d.tc : Thread nD τ).loc main_arg0)) r
  have hn := (near (m ((d.tc : Thread nD τ).loc main_arg0)) ⟨r.val / 32768, by omega⟩ ⟨r.val / 16 % 2048, by omega⟩ ⟨r.val % 16, by omega⟩).isLt
  refine lt_of_eq_of_lt hl ?_
  omega

/-! ## The points the network call is given -/

/-- The number of point `n` of batch `b` among all points. -/
def rowNum (b : Fin 8) (n : Fin 2048) : Fin 16384 := ⟨2048 * b.val + n.val, by omega⟩

/-- What is given of a point: the rows of its neighbours, its own row, its coordinates, its features, its two directions. -/
def pointOf (p : FVec Ideal S8x2048x3 .f32) (f : FVec Ideal S8x2048x128 .f32) (u v : FVec Ideal S8x2048x3 .f32) (w : FVec Ideal S128x64 .f32)
    (b : Fin 8) (n : Fin 2048) : Heads.Point where
  near k j := row p f w b (near p b n k) j
  own j := row p f w b n j
  pos c := p (ix3 b n c)
  feat j := f (ix3 b n j)
  normal c := u (ix3 b n c)
  curv c := v (ix3 b n c)

/-- The arrays flattened, as the network call reads them. -/
theorem point_flat (p : FVec Ideal S8x2048x3 .f32) (f : FVec Ideal S8x2048x128 .f32) (u v : FVec Ideal S8x2048x3 .f32) (w : FVec Ideal S128x64 .f32)
    (b : Fin 8) (n : Fin 2048) :
    Heads.point
        (shapeCast S16384x16x128 (Cert.Proof.Slabs.gath (F := Ideal) (shapeCast S16384x128 (tablOf (F := Ideal) p f w) shapeCasts_S8x2048x128_S16384x128)
          (shapeCast S262144 (nbrsOf (F := Ideal) (transpose S8x3x2048 [0, 2, 1] p transposes_S8x2048x3_S8x3x2048_0_2_1) p)
            shapeCasts_S8x2048x16_S262144) : S262144x128.Idx → EReal) shapeCasts_S262144x128_S16384x16x128)
        (shapeCast S16384x128 (tablOf (F := Ideal) p f w) shapeCasts_S8x2048x128_S16384x128)
        (shapeCast S16384x3 p shapeCasts_S8x2048x3_S16384x3) (shapeCast S16384x128 f shapeCasts_S8x2048x128_S16384x128)
        (shapeCast S16384x3 u shapeCasts_S8x2048x3_S16384x3) (shapeCast S16384x3 v shapeCasts_S8x2048x3_S16384x3) (rowNum b n)
      = pointOf p f u v w b n := by
  have hb := b.isLt
  have hn := n.isLt
  have h1 : ∀ h, (⟨(rowNum b n).val / 2048, h⟩ : Fin 8) = b := fun h => Fin.ext (by show (2048 * b.val + n.val) / 2048 = b.val; omega)
  have h2 : ∀ h, (⟨(rowNum b n).val % 2048, h⟩ : Fin 2048) = n := fun h => Fin.ext (by show (2048 * b.val + n.val) % 2048 = n.val; omega)
  have h3 : ∀ x : FVec Ideal S8x2048x3 .f32, ∀ c : Fin 3, shapeCast S16384x3 x shapeCasts_S8x2048x3_S16384x3 (ix2 (rowNum b n) c) = x (ix3 b n c) := fun x c => by
    pointwise
    rw [h1, h2]
  have hg : ∀ (r : Fin 262144) (j : Fin 128), _ = _ := fun r j => gath_apply p f w r j
  generalize Cert.Proof.Slabs.gath (F := Ideal) _ _ = X at hg ⊢
  refine Heads.Point.ext ?_ ?_ ?_ ?_ ?_ ?_
  · funext k j
    show shapeCast S16384x16x128 X shapeCasts_S262144x128_S16384x16x128 (ix3 (rowNum b n) k j) = row p f w b (near p b n k) j
    pointwise
    rw [hg]
    have hk := k.isLt
    have e1 : ∀ h' h, (⟨(⟨(rowNum b n).val * 16 + k.val, h'⟩ : Fin 262144).val / 32768, h⟩ : Fin 8) = b :=
      fun _ _ => Fin.ext (by show ((2048 * b.val + n.val) * 16 + k.val) / 32768 = b.val; omega)
    have e2 : ∀ h' h, (⟨(⟨(rowNum b n).val * 16 + k.val, h'⟩ : Fin 262144).val / 16 % 2048, h⟩ : Fin 2048) = n :=
      fun _ _ => Fin.ext (by show ((2048 * b.val + n.val) * 16 + k.val) / 16 % 2048 = n.val; omega)
    have e3 : ∀ h' h, (⟨(⟨(rowNum b n).val * 16 + k.val, h'⟩ : Fin 262144).val % 16, h⟩ : Fin 16) = k :=
      fun _ _ => Fin.ext (by show ((2048 * b.val + n.val) * 16 + k.val) % 16 = k.val; omega)
    rw [e1, e2, e3]
  · funext j
    show shapeCast S16384x128 (tablOf (F := Ideal) p f w) shapeCasts_S8x2048x128_S16384x128 (ix2 (rowNum b n) j) = row p f w b n j
    pointwise
    rw [tabl_apply, h1, h2]
  · exact funext fun c => h3 p c
  · funext j
    show shapeCast S16384x128 f shapeCasts_S8x2048x128_S16384x128 (ix2 (rowNum b n) j) = f (ix3 b n j)
    pointwise
    rw [h1, h2]
  · exact funext fun c => h3 u c
  · exact funext fun c => h3 v c

/-- The weights of the two branches and the two heads, as the program is given them. -/
def weightsOf (a4 : FVec Ideal S10x64 .f32) (a5 a6 a7 : FVec Ideal S64 .f32) (a8 : FVec Ideal S64x64 .f32)
    (a9 a11 a12 a13 : FVec Ideal S64 .f32) (a14 : FVec Ideal S64x64 .f32) (a15 : FVec Ideal S64 .f32) (a16 : FVec Ideal S128x32 .f32)
    (a17 : FVec Ideal S32 .f32) (a18 : FVec Ideal S32x1 .f32) (a19 : FVec Ideal S1 .f32) (a20 : FVec Ideal S256x128 .f32)
    (a21 a22 a23 : FVec Ideal S128 .f32) : Heads.Weights :=
  Heads.weights a4 a5 a6 a7 a8 a9 a11 a12 a13 a14 a15 a16 a17 (fun i => a18 (ix2 (i 1) 0)) a19 a20 a21 a22 a23

/-- The second weight of the edge head as a row. -/
theorem row_flat (a : FVec Ideal S32x1 .f32) : shapeCast S1x32 a shapeCasts_S32x1_S1x32 = fun i => a (ix2 (i 1) 0) := by
  funext i
  idx_vars i
  pointwise

/-- Both results: of every point of every batch. -/
def refinedAll (W : Heads.Weights) (P : Fin 8 → Fin 2048 → Heads.Point) : FVec Ideal S8x2048x128 .f32 :=
  fun i => Heads.refined W (P (i 0) (i 1)) (i 2)
def edgeAll (W : Heads.Weights) (P : Fin 8 → Fin 2048 → Heads.Point) : FVec Ideal S8x2048x1 .f32 :=
  fun i => Heads.edge W (P (i 0) (i 1))

end Cert.Proof.Value

end
-- ==== Proof.Heads.Reference.lean ====
/-
  The heads' reference, row by row: the terms its run leaves, read at an index, are the sums of Proof/Heads/Row.lean.
-/
module

public import proofs.«01_k».proof.Proof.Heads.Row
public import proofs.«01_k».proof.Proof.Gen.HeadsIdeal.Run

@[expose] public section

set_option maxRecDepth 16384

noncomputable section

namespace Cert.Proof.Heads

open Cert.HeadsIdeal Cert.HeadsIdeal.Value Cert.HeadsIdeal.Gen
open Idealize.ShloMosaic Idealize.ShloMosaic.StableHlo Idealize.ShloMosaic.TcCoe Idealize.SL.Sem

/-- The counts as numbers. -/
theorem c64_eq : c64 = ((64 : ℝ) : EReal) := by simp [lit, Ideal.ofBits, Ideal.ieee]; rw [← EReal.coe_mul]; norm_num
theorem c128_eq : c128 = ((128 : ℝ) : EReal) := by simp [lit, Ideal.ofBits, Ideal.ieee]; rw [← EReal.coe_mul]; norm_num
theorem c64_pos : 0 < c64 := by rw [c64_eq]; exact_mod_cast (by norm_num : (0 : ℝ) < 64)
theorem c128_pos : 0 < c128 := by rw [c128_eq]; exact_mod_cast (by norm_num : (0 : ℝ) < 128)
/-- The integer nought as a float. -/
theorem sitofp_zero : (FloatOps.sitofp (F := Ideal) FTy.f32 0#32 : EReal) = 0 := by
  show (((0#32 : BitVec 32).toInt : ℝ) : EReal) = 0
  simp

variable (V0 : Valuation τ sig (Elt Ideal))

/-- The weights and the point of a row, of the reference's arguments. -/
abbrev rWeights : Weights := weights (V0 (Proc.devRef .tc main_arg6)) (V0 (Proc.devRef .tc main_arg7)) (V0 (Proc.devRef .tc main_arg8))
  (V0 (Proc.devRef .tc main_arg9)) (V0 (Proc.devRef .tc main_arg10)) (V0 (Proc.devRef .tc main_arg11)) (V0 (Proc.devRef .tc main_arg12))
  (V0 (Proc.devRef .tc main_arg13)) (V0 (Proc.devRef .tc main_arg14)) (V0 (Proc.devRef .tc main_arg15)) (V0 (Proc.devRef .tc main_arg16))
  (V0 (Proc.devRef .tc main_arg17)) (V0 (Proc.devRef .tc main_arg18)) (V0 (Proc.devRef .tc main_arg19)) (V0 (Proc.devRef .tc main_arg20))
  (V0 (Proc.devRef .tc main_arg21)) (V0 (Proc.devRef .tc main_arg22)) (V0 (Proc.devRef .tc main_arg23)) (V0 (Proc.devRef .tc main_arg24))
abbrev rPoint (r : Fin 16384) : Point := point (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5)) r

/-- The divisors of the variances. -/
theorem call0_v8 (i : S_.Idx) : (res_main_call0_v8 (F := Ideal) V0 : S_.Idx → EReal) i = c64 := by
  pointwise [res_main_call0_v8]
  rw [sitofp_zero, sub_zero]
theorem call2_v8 (i : S_.Idx) : (res_main_call2_v8 (F := Ideal) V0 : S_.Idx → EReal) i = c64 := by
  pointwise [res_main_call2_v8]
  rw [sitofp_zero, sub_zero]
theorem call5_v8 (i : S_.Idx) : (res_main_call5_v8 (F := Ideal) V0 : S_.Idx → EReal) i = c128 := by
  pointwise [res_main_call5_v8]
  rw [sitofp_zero, sub_zero]

/-- The neighbours' positions from the point. -/
theorem v3_apply (r : Fin 16384) (k : Fin 16) (c : Fin 3) :
    (res_main_v3 (F := Ideal) V0 : S16384x16x3.Idx → EReal) (ix3 r k c) = rel (rPoint V0 r) k c := by
  pointwise [res_main_v3]
  rfl

/-- The linear layer of the geometric features. -/
theorem v20_apply (r : Fin 16384) (c : Fin 64) :
    (res_main_v20 (F := Ideal) V0 : S16384x64.Idx → EReal) (ix2 r c) = lin (geo (rPoint V0 r)) (rWeights V0).geoW (rWeights V0).geoB c := by
  have hg : ∀ j : Fin 10, (concatenate S16384x10 1 [⟨S16384x3, ((V0 (Proc.devRef .tc main_arg4)) : (⟨S16384x3, .f32⟩ : BufTy).Contents (Elt Ideal))⟩, ⟨S16384x3, ((V0 (Proc.devRef .tc main_arg5)) : (⟨S16384x3, .f32⟩ : BufTy).Contents (Elt Ideal))⟩, ⟨S16384x3, ((Host.divf (Host.reduceAdd (res_main_v3 V0) (constant S_ .f32 0x00000000#32) reducesTo_S16384x16x3_S16384x3_d1 h_S_) (broadcastInDim S16384x3 ![] bcast_S_S16384x3 (constant S_ .f32 0x41800000#32))) : (⟨S16384x3, .f32⟩ : BufTy).Contents (Elt Ideal))⟩, ⟨S16384x1, ((Host.divf (broadcastInDim S16384x1 ![0] bcast_S16384_S16384x1_0 (Host.reduceAdd (Host.sqrt (addf (Host.reduceAdd (mulf (res_main_v3 V0) (res_main_v3 V0)) (constant S_ .f32 0x00000000#32) reducesTo_S16384x16x3_S16384x16_d2 h_S_) (broadcastInDim S16384x16 ![] bcast_S_S16384x16 (constant S_ .f32 0x2B8CBCCC#32)))) (constant S_ .f32 0x00000000#32) reducesTo_S16384x16_S16384_d1 h_S_)) (broadcastInDim S16384x1 ![] bcast_S_S16384x1 (constant S_ .f32 0x41800000#32))) : (⟨S16384x1, .f32⟩ : BufTy).Contents (Elt Ideal))⟩] concatenates_S16384x3_S16384x3_S16384x3_S16384x1_S16384x10_d1 : (⟨S16384x10, .f32⟩ : BufTy).Contents (Elt Ideal)) (ix2 r j)
      = geo (rPoint V0 r) j := fun j => by
    pointwise
    simp only [v3_apply]
    unfold geo
    fin_vals j with hj
    all_goals simp only [hj, Nat.reduceSub, Nat.reduceLT, ↓reduceDIte]
    all_goals rfl
  unfold res_main_v20
  generalize concatenate S16384x10 1 _ _ = X at hg ⊢
  pointwise
  simp only [hg]
  rfl

/-- The differences. -/
theorem v51_apply (r : Fin 16384) (k : Fin 16) (c : Fin 64) :
    (res_main_v51 (F := Ideal) V0 : S16384x16x64.Idx → EReal) (ix3 r k c) = diff (rWeights V0) (rPoint V0 r) k c := by
  pointwise [res_main_v51]
  rfl

/-- Both branches side by side. -/
theorem v76_apply (r : Fin 16384) (c : Fin 128) :
    (res_main_v76 (F := Ideal) V0 : S16384x128.Idx → EReal) (ix2 r c) = both (rWeights V0) (rPoint V0 r) c := by
  pointwise [res_main_v76, res_main_call0_v5, res_main_call2_v5]
  simp only [v20_apply, v51_apply, call0_v8, call2_v8, c64_pos, ↓reduceIte]
  rfl

/-- The last linear layer. -/
theorem v97_apply (r : Fin 16384) (c : Fin 128) : (res_main_v97 (F := Ideal) V0 : S16384x128.Idx → EReal) (ix2 r c)
    = lin (joined (rWeights V0) (rPoint V0 r)) (rWeights V0).rfW (rWeights V0).rfB c := by
  have hX : ∀ j : Fin 256, (concatenate S16384x256 1 [⟨S16384x128, (V0 (Proc.devRef .tc main_arg3))⟩, ⟨S16384x128, (res_main_v76 V0)⟩] concatenates_S16384x128_S16384x128_S16384x256_d1 : S16384x256.Idx → EReal) (ix2 r j)
      = joined (rWeights V0) (rPoint V0 r) j := fun j => by
    pointwise
    simp only [v76_apply]
    rfl
  unfold res_main_v97
  generalize concatenate S16384x256 1 _ _ = X at hX ⊢
  pointwise
  simp only [hX]
  rfl

/-- The arrays of both results. -/
def edgeArr (W : Weights) (P : Fin 16384 → Point) : (⟨2, ![16384, 1]⟩ : Shape).Idx → EReal := fun i => edge W (P (i 0))
def refinedArr (W : Weights) (P : Fin 16384 → Point) : (⟨2, ![16384, 128]⟩ : Shape).Idx → EReal := fun i => refined W (P (i 0)) (i 1)

/-- The reference's run: the heads' arrays of the arguments, the arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v119) = refinedArr (rWeights (launchContents m c)) (rPoint (launchContents m c))
      ∧ r.2.mem ((c.tc : Thread nD τ).loc main_v92) = edgeArr (rWeights (launchContents m c)) (rPoint (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) := by
  refine (θ_run defs _ _).mono (fun _ h c => ⟨(h c).1.trans ?_, (h c).2.1.trans ?_, (h c).2.2⟩) (Value.run (F := Ideal) m ρ)
  · funext i
    idx_vars i
    pointwise [res_main_call5_v5]
    simp only [v76_apply, v97_apply, call5_v8, c128_pos, ↓reduceIte]
    rfl
  · funext i
    idx_vars i
    pointwise
    simp only [v76_apply]
    rfl

end Cert.Proof.Heads

end
-- ==== Proof.Full.lean ====
/-
  The whole reference, point by point: the terms its run leaves, read at an index, are the sums of Proof/Heads/Row.lean of
  the rows of the point's neighbours, where the points and the first weight of the differences are finite.
-/
module

public import proofs.«01_k».proof.Proof.Value
public import proofs.«01_k».proof.Proof.Heads.Reference
public import proofs.«01_k».proof.Proof.Gen.ReferenceIdeal.Run

@[expose] public section

set_option maxRecDepth 16384

noncomputable section

namespace Cert.Proof.Full

open Cert.ReferenceIdeal Cert.ReferenceIdeal.Value Cert.ReferenceIdeal.Gen
open Cert.Proof.Value (row near pointOf weightsOf refinedAll edgeAll gather_apply start_apply start_row)
open Cert.Proof.Heads (Weights Point lin geo rel diff diffOut mean lit eps both joined refined edge c64 c128 c64_eq c64_pos c128_pos sitofp_zero)
open Idealize.ShloMosaic Idealize.ShloMosaic.StableHlo Idealize.ShloMosaic.TcCoe Idealize.SL.Sem

variable (V0 : Valuation τ sig (Elt Ideal))

/-- The weights and the points, of the reference's arguments. -/
abbrev rW : Weights := weightsOf (V0 (Proc.devRef .tc main_arg4)) (V0 (Proc.devRef .tc main_arg5)) (V0 (Proc.devRef .tc main_arg6))
  (V0 (Proc.devRef .tc main_arg7)) (V0 (Proc.devRef .tc main_arg8)) (V0 (Proc.devRef .tc main_arg9)) (V0 (Proc.devRef .tc main_arg11))
  (V0 (Proc.devRef .tc main_arg12)) (V0 (Proc.devRef .tc main_arg13)) (V0 (Proc.devRef .tc main_arg14)) (V0 (Proc.devRef .tc main_arg15))
  (V0 (Proc.devRef .tc main_arg16)) (V0 (Proc.devRef .tc main_arg17)) (V0 (Proc.devRef .tc main_arg18)) (V0 (Proc.devRef .tc main_arg19))
  (V0 (Proc.devRef .tc main_arg20)) (V0 (Proc.devRef .tc main_arg21)) (V0 (Proc.devRef .tc main_arg22)) (V0 (Proc.devRef .tc main_arg23))
abbrev rP : Fin 8 → Fin 2048 → Point := pointOf (V0 (Proc.devRef .tc main_arg0)) (V0 (Proc.devRef .tc main_arg1))
  (V0 (Proc.devRef .tc main_arg2)) (V0 (Proc.devRef .tc main_arg3)) (V0 (Proc.devRef .tc main_arg10))

/-- The points, the features and the first weight of the differences. -/
abbrev xyz : FVec Ideal S8x2048x3 .f32 := V0 (Proc.devRef .tc main_arg0)
abbrev feats : FVec Ideal S8x2048x128 .f32 := V0 (Proc.devRef .tc main_arg1)
abbrev diffW : FVec Ideal S128x64 .f32 := V0 (Proc.devRef .tc main_arg10)

/-- The divisors of the variances. -/
theorem call0_v8 (i : S_.Idx) : (res_main_call0_v8 (F := Ideal) V0 : S_.Idx → EReal) i = c64 := by
  pointwise [res_main_call0_v8]
  rw [sitofp_zero, sub_zero]
theorem call2_v8 (i : S_.Idx) : (res_main_call2_v8 (F := Ideal) V0 : S_.Idx → EReal) i = c64 := by
  pointwise [res_main_call2_v8]
  rw [sitofp_zero, sub_zero]
theorem call5_v8 (i : S_.Idx) : (res_main_call5_v8 (F := Ideal) V0 : S_.Idx → EReal) i = c128 := by
  pointwise [res_main_call5_v8]
  rw [sitofp_zero, sub_zero]

/-- A sum of products of differences, of real numbers. -/
theorem sum_diff (a b w : Fin 128 → EReal) (ha : ∀ x, ∃ u : ℝ, a x = u) (hb : ∀ x, ∃ u : ℝ, b x = u) (hw : ∀ x, ∃ u : ℝ, w x = u) :
    ∑ x, (a x - b x) * w x = (∑ x, a x * w x) - ∑ x, b x * w x := by
  have hs : ∀ e : Fin 128 → ℝ, ∑ x, ((e x : ℝ) : EReal) = ((∑ x, e x : ℝ) : EReal) := fun e =>
    (map_sum (⟨⟨fun r : ℝ => (r : EReal), EReal.coe_zero⟩, EReal.coe_add⟩ : ℝ →+ EReal) e Finset.univ).symm
  choose a' ha using ha
  choose b' hb using hb
  choose w' hw using hw
  simp only [ha, hb, hw, ← EReal.coe_mul, ← EReal.coe_sub, hs]
  congr 1
  rw [← Finset.sum_sub_distrib]
  exact Finset.sum_congr rfl fun x _ => sub_mul _ _ _

/-- Both infinities. -/
def Inf (x : EReal) : Prop := x = ⊤ ∨ x = ⊥

theorem not_inf (x : EReal) (h : ¬ Inf x) : ∃ u : ℝ, x = u :=
  ⟨x.toReal, (EReal.coe_toReal (fun e => h (.inl e)) (fun e => h (.inr e))).symm⟩

theorem inf_add (a b : EReal) (h : Inf a) : Inf (a + b) := by
  rcases h with rfl | rfl
  · by_cases e : b = ⊥
    · exact .inr (by rw [e, EReal.add_bot])
    · exact .inl (EReal.top_add_of_ne_bot e)
  · exact .inr (EReal.bot_add b)

theorem inf_add' (a b : EReal) (h : Inf b) : Inf (a + b) := by
  rw [add_comm]
  exact inf_add b a h

theorem inf_neg (a : EReal) (h : Inf a) : Inf (-a) := by
  rcases h with rfl | rfl
  · exact .inr EReal.neg_top
  · exact .inl EReal.neg_bot

theorem inf_sub (a b : EReal) (h : Inf a ∨ Inf b) : Inf (a - b) := by
  rw [sub_eq_add_neg]
  exact h.elim (inf_add a _) fun h => inf_add' a _ (inf_neg b h)

theorem inf_mul (a w : EReal) (h : Inf a) (hw : w ≠ 0) : Inf (a * w) := by
  rcases lt_or_gt_of_ne hw with h' | h' <;> rcases h with rfl | rfl
  · exact .inr (EReal.top_mul_of_neg h')
  · exact .inl (EReal.bot_mul_of_neg h')
  · exact .inl (EReal.top_mul_of_pos h')
  · exact .inr (EReal.bot_mul_of_pos h')

theorem inf_sum {n : ℕ} (x : Fin n → EReal) (k : Fin n) (h : Inf (x k)) : Inf (∑ j, x j) := by
  rw [← Finset.add_sum_erase Finset.univ x (Finset.mem_univ k)]
  exact inf_add _ _ h

theorem eps_ne_bot : eps ≠ ⊥ := by
  simp [lit, Ideal.ofBits, Ideal.ieee]
  norm_cast

theorem div_c64 (x : EReal) : Ideal.div x c64 = x * (((64 : ℝ)⁻¹ : ℝ) : EReal) := by
  have h : ((64 : ℝ) : EReal) ≠ 0 := by exact_mod_cast (by norm_num : (64 : ℝ) ≠ 0)
  rw [c64_eq, Ideal.div, if_neg h, EReal.coe_inv]

/-- A layer norm of numbers of which one is infinite is its shift alone. -/
theorem norm_inf (x g b : Fin 64 → EReal) (k : Fin 64) (h : Inf (x k)) (j : Fin 64) : Heads.norm c64 x g b j = max (b j) 0 := by
  have h6 : (0 : EReal) < (((64 : ℝ)⁻¹ : ℝ) : EReal) := by exact_mod_cast (by norm_num : (0 : ℝ) < 64⁻¹)
  have hm : Inf (mean c64 x) := by
    unfold mean
    rw [div_c64]
    exact inf_mul _ _ (inf_sum x k h) h6.ne'
  have hq : ∀ i, (x i - mean c64 x) * (x i - mean c64 x) = ⊤ := fun i => by
    rcases inf_sub (x i) (mean c64 x) (.inr hm) with e | e <;> rw [e]
    · exact EReal.top_mul_top
    · exact EReal.bot_mul_bot
  have hs : (∑ _i : Fin 64, (⊤ : EReal)) = ⊤ := by
    rcases inf_sum (fun _ : Fin 64 => (⊤ : EReal)) 0 (.inl rfl) with e | e
    · exact e
    · exact absurd (e ▸ Finset.sum_nonneg fun _ _ => le_top) (by simp)
  have hv : mean c64 (fun i => (x i - mean c64 x) * (x i - mean c64 x)) = ⊤ := by
    simp only [hq]
    unfold mean
    rw [hs, div_c64]
    exact EReal.top_mul_of_pos h6
  unfold Heads.norm
  rw [hv, EReal.top_add_of_ne_bot eps_ne_bot, show Ideal.sqrt ⊤ = ⊤ from rfl, Ideal.div, if_neg (by simp), EReal.inv_top, mul_zero, zero_mul, zero_add]

/-- A layer norm of sums of products of differences with real weights: the one of the differences of the sums of products, which
are infinite where the former are. -/
theorem norm_diff (f p : Fin 128 → EReal) (w : Fin 128 → Fin 64 → EReal) (hw : ∀ x c, ∃ u : ℝ, w x c = u) (a g e : Fin 64 → EReal) :
    Heads.norm c64 (fun c => (∑ x, (f x - p x) * w x c) + a c) g e = Heads.norm c64 (fun c => ((∑ x, f x * w x c) - ∑ x, p x * w x c) + a c) g e := by
  by_cases h : ∃ x c, w x c ≠ 0 ∧ (Inf (f x) ∨ Inf (p x))
  · obtain ⟨x, c, h0, hx⟩ := h
    have l : Inf ((∑ x, (f x - p x) * w x c) + a c) := inf_add _ _ (inf_sum _ x (inf_mul _ _ (inf_sub _ _ hx) h0))
    have r : Inf (((∑ x, f x * w x c) - ∑ x, p x * w x c) + a c) := inf_add _ _ (inf_sub _ _
      (hx.imp (fun h => inf_sum (fun x => f x * w x c) x (inf_mul _ _ h h0)) fun h => inf_sum (fun x => p x * w x c) x (inf_mul _ _ h h0)))
    funext j
    rw [norm_inf _ g e c l, norm_inf _ g e c r]
  · refine congrArg (fun y => Heads.norm c64 y g e) (funext fun c => congrArg (· + a c) ?_)
    have z : ∀ y : Fin 128 → EReal, (∀ x, w x c ≠ 0 → ¬ Inf (y x)) → ∃ y' : Fin 128 → EReal, (∀ x, ∃ u : ℝ, y' x = u) ∧ ∀ x, w x c = 0 ∨ y x = y' x :=
      fun y hy => by
        refine ⟨fun x => ((y x).toReal : ℝ), fun x => ⟨_, rfl⟩, fun x => ?_⟩
        by_cases e0 : w x c = 0
        · exact .inl e0
        · obtain ⟨u, hu⟩ := not_inf _ (hy x e0)
          exact .inr (by show y x = ((y x).toReal : EReal); rw [hu, EReal.toReal_coe])
    obtain ⟨f', hf, ef⟩ := z f fun x h0 hi => h ⟨x, c, h0, .inl hi⟩
    obtain ⟨p', hp, ep⟩ := z p fun x h0 hi => h ⟨x, c, h0, .inr hi⟩
    have s := sum_diff f' p' (fun x => w x c) hf hp fun x => hw x c
    refine (Finset.sum_congr rfl fun x _ => ?_).trans (s.trans (congrArg₂ (· - ·) (Finset.sum_congr rfl fun x _ => ?_) (Finset.sum_congr rfl fun x _ => ?_)))
    · rcases ef x with e0 | e1
      · rw [e0, mul_zero, mul_zero]
      · rcases ep x with e0 | e2
        · rw [e0, mul_zero, mul_zero]
        · rw [e1, e2]
    · rcases ef x with e0 | e1
      · rw [e0, mul_zero, mul_zero]
      · rw [e1]
    · rcases ep x with e0 | e1
      · rw [e0, mul_zero, mul_zero]
      · rw [e1]

variable (h0 : ∀ i : S8x2048x3.Idx, ∃ u : ℝ, xyz V0 i = u)

section Points

include h0

/-- The gathers read the rows of the neighbours. -/
theorem gather_near {C : ℕ} (d : GatherDims ⟨3, ![8, 2048, C]⟩ ⟨4, ![8, 2048, 16, 1]⟩ ⟨4, ![8, 2048, 16, C]⟩)
    (h1 : d.offsetDims = [3]) (h2 : d.collapsedSliceDims = [1]) (h3 : d.operandBatchingDims = [0]) (h4 : d.startIndicesBatchingDims = [0])
    (h5 : d.startIndexMap = [1]) (h6 : d.indexVectorDim = 3) (h7 : d.sliceSizes = ![1, 1, C]) (x : Shape.Idx ⟨3, ![8, 2048, C]⟩ → EReal)
    (b : Fin 8) (n : Fin 2048) (k : Fin 16) (c : Fin C) :
    Host.gather d x (Reference.starts (Reference.nearest (F := Ideal) (xyz V0))) (ix4 b n k c)
      = x (ix3 b (near (xyz V0) b n k) c) := by
  refine (gather_apply d h1 h2 h3 h4 h5 h6 h7 x _ b n k c).trans ?_
  have hst := start_apply (xyz V0) h0 b n k
  have hr := start_row (near (xyz V0) b n k)
  rw [← hst] at hr
  exact congrArg (fun r => x (ix3 b r c)) (Fin.ext hr)

/-- The neighbours' positions from the point. -/
theorem v22_apply (b : Fin 8) (n : Fin 2048) (k : Fin 16) (c : Fin 3) :
    (res_main_v22 (F := Ideal) V0 : S8x2048x16x3.Idx → EReal) (ix4 b n k c) = rel (rP V0 b n) k c := by
  have hg := gather_near V0 h0 gather_S8x2048x3_S8x2048x16x1_S8x2048x16x3_3_1_0_0_1_3_113 rfl rfl rfl rfl rfl rfl rfl (xyz V0) b n k c
  have e : (res_main_v22 (F := Ideal) V0 : FVec Ideal S8x2048x16x3 .f32) = subf (Host.gather gather_S8x2048x3_S8x2048x16x1_S8x2048x16x3_3_1_0_0_1_3_113 (xyz V0)
      (Reference.starts (Reference.nearest (F := Ideal) (xyz V0))))
      (broadcastInDim S8x2048x16x3 ![0, 1, 2, 3] bcast_S8x2048x1x3_S8x2048x16x3_0_1_2_3 (broadcastInDim S8x2048x1x3 ![0, 1, 3] bcast_S8x2048x3_S8x2048x1x3_0_1_3 (xyz V0))) := rfl
  rw [e]
  generalize Host.gather gather_S8x2048x3_S8x2048x16x1_S8x2048x16x3_3_1_0_0_1_3_113 _ _ = X at hg ⊢
  pointwise
  rw [hg]
  unfold rel
  refine congrArg (· - _) (Eq.symm ?_)
  exact dif_pos c.isLt

/-- The linear layer of the geometric features. -/
theorem v39_apply (b : Fin 8) (n : Fin 2048) (c : Fin 64) :
    (res_main_v39 (F := Ideal) V0 : S8x2048x64.Idx → EReal) (ix3 b n c) = lin (geo (rP V0 b n)) (rW V0).geoW (rW V0).geoB c := by
  have hv := v22_apply V0 h0
  have hg : ∀ j : Fin 10, (concatenate S8x2048x10 2 [⟨S8x2048x3, ((V0 (Proc.devRef .tc main_arg2)) : (⟨S8x2048x3, .f32⟩ : BufTy).Contents (Elt Ideal))⟩, ⟨S8x2048x3, ((V0 (Proc.devRef .tc main_arg3)) : (⟨S8x2048x3, .f32⟩ : BufTy).Contents (Elt Ideal))⟩, ⟨S8x2048x3, ((Host.divf (Host.reduceAdd (res_main_v22 V0) (constant S_ .f32 0x00000000#32) reducesTo_S8x2048x16x3_S8x2048x3_d2 h_S_) (broadcastInDim S8x2048x3 ![] bcast_S_S8x2048x3 (constant S_ .f32 0x41800000#32))) : (⟨S8x2048x3, .f32⟩ : BufTy).Contents (Elt Ideal))⟩, ⟨S8x2048x1, ((Host.divf (broadcastInDim S8x2048x1 ![0, 1] bcast_S8x2048_S8x2048x1_0_1 (Host.reduceAdd (Host.sqrt (addf (Host.reduceAdd (mulf (res_main_v22 V0) (res_main_v22 V0)) (constant S_ .f32 0x00000000#32) reducesTo_S8x2048x16x3_S8x2048x16_d3 h_S_) (broadcastInDim S8x2048x16 ![] bcast_S_S8x2048x16 (constant S_ .f32 0x2B8CBCCC#32)))) (constant S_ .f32 0x00000000#32) reducesTo_S8x2048x16_S8x2048_d2 h_S_)) (broadcastInDim S8x2048x1 ![] bcast_S_S8x2048x1 (constant S_ .f32 0x41800000#32))) : (⟨S8x2048x1, .f32⟩ : BufTy).Contents (Elt Ideal))⟩] concatenates_S8x2048x3_S8x2048x3_S8x2048x3_S8x2048x1_S8x2048x10_d2 : (⟨S8x2048x10, .f32⟩ : BufTy).Contents (Elt Ideal)) (ix3 b n j)
      = geo (rP V0 b n) j := fun j => by
    generalize res_main_v22 (F := Ideal) V0 = Y at hv
    pointwise
    simp only [hv]
    unfold geo
    fin_vals j with hj
    all_goals simp only [hj, Nat.reduceSub, Nat.reduceLT, ↓reduceDIte]
    all_goals rfl
  unfold res_main_v39
  generalize concatenate S8x2048x10 2 _ _ = X at hg ⊢
  pointwise
  simp only [hg]
  rfl

end Points

section Differences

variable (h10 : ∀ i : S128x64.Idx, ∃ u : ℝ, diffW V0 i = u)
include h0

/-- The weighted differences. -/
theorem v89_apply (b : Fin 8) (n : Fin 2048) (k : Fin 16) (c : Fin 64) :
    (res_main_v89 (F := Ideal) V0 : S8x2048x16x64.Idx → EReal) (ix4 b n k c)
      = (∑ x : Fin 128, (feats V0 (ix3 b n x) - feats V0 (ix3 b (near (xyz V0) b n k) x)) * diffW V0 (ix2 x c)) + (rW V0).diffB c := by
  have hg := gather_near V0 h0 gather_S8x2048x128_S8x2048x16x1_S8x2048x16x128_3_1_0_0_1_3_11128 rfl rfl rfl rfl rfl rfl rfl (feats V0) b n k
  have e : (res_main_v89 (F := Ideal) V0 : FVec Ideal S8x2048x16x64 .f32) = addf (Host.dotGeneral dot_S8x2048x16x128_S128x64_S8x2048x16x64_3_0_012_1_n_n none (subf (broadcastInDim S8x2048x16x128 ![0, 1, 2, 3] bcast_S8x2048x1x128_S8x2048x16x128_0_1_2_3 (broadcastInDim S8x2048x1x128 ![0, 1, 3] bcast_S8x2048x128_S8x2048x1x128_0_1_3 (feats V0)))
      (Host.gather gather_S8x2048x128_S8x2048x16x1_S8x2048x16x128_3_1_0_0_1_3_11128 (feats V0) (Reference.starts (Reference.nearest (F := Ideal) (xyz V0))))) (diffW V0))
      (broadcastInDim S8x2048x16x64 ![0, 1, 2, 3] bcast_S1x1x1x64_S8x2048x16x64_0_1_2_3 (broadcastInDim S1x1x1x64 ![3] bcast_S64_S1x1x1x64_3 (V0 (Proc.devRef .tc main_arg11)))) := rfl
  rw [e]
  generalize Host.gather gather_S8x2048x128_S8x2048x16x1_S8x2048x16x128_3_1_0_0_1_3_11128 _ _ = X at hg ⊢
  pointwise
  simp only [hg]
  rfl

include h10

/-- The branch of differences, of the weighted differences. -/
theorem diffOut_eq (b : Fin 8) (n : Fin 2048) (j : Fin 64) : diffOut (rW V0) (rP V0 b n) j
    = Finset.univ.fold max (lit 0xFF800000#32) fun k : Fin 16 => lin (Heads.norm c64 (fun c => (∑ x : Fin 128, (feats V0 (ix3 b n x)
        - feats V0 (ix3 b (near (xyz V0) b n k) x)) * diffW V0 (ix2 x c)) + (rW V0).diffB c) (rW V0).diffG (rW V0).diffE) (rW V0).diffV (rW V0).diffC j := by
  have hr : ∀ (r : Fin 2048) (c : Fin 64), row (xyz V0) (feats V0) (diffW V0) b r ⟨64 + c.val, by omega⟩
      = ∑ x : Fin 128, feats V0 (ix3 b r x) * diffW V0 (ix2 x c) := fun r c => by
    unfold row
    rw [dif_neg (by show ¬ 64 + c.val < 3; omega), dif_neg (by show ¬ 64 + c.val < 64; omega)]
    refine Finset.sum_congr rfl fun x _ => congrArg (fun i => _ * diffW V0 (ix2 x i)) (Fin.ext ?_)
    show 64 + c.val - 64 = c.val
    omega
  unfold diffOut
  refine congrArg (fun y => Finset.univ.fold max (lit 0xFF800000#32) y) (funext fun k => ?_)
  rw [norm_diff (fun x => feats V0 (ix3 b n x)) (fun x => feats V0 (ix3 b (near (xyz V0) b n k) x)) (fun x c => diffW V0 (ix2 x c)) fun x c => h10 _]
  refine congrArg (fun y => lin (Heads.norm c64 y _ _) _ _ j) (funext fun c => ?_)
  simp only [← hr]
  rfl

/-- Both branches side by side. -/
theorem v114_apply (b : Fin 8) (n : Fin 2048) (c : Fin 128) :
    (res_main_v114 (F := Ideal) V0 : S8x2048x128.Idx → EReal) (ix3 b n c) = both (rW V0) (rP V0 b n) c := by
  pointwise [res_main_v114, res_main_call0_v5, res_main_call2_v5]
  simp only [v39_apply V0 h0, v89_apply V0 h0, call0_v8, call2_v8, c64_pos, ↓reduceIte, both, diffOut_eq V0 h0 h10]
  rfl

/-- The last linear layer. -/
theorem v134_apply (b : Fin 8) (n : Fin 2048) (c : Fin 128) : (res_main_v134 (F := Ideal) V0 : S8x2048x128.Idx → EReal) (ix3 b n c)
    = lin (joined (rW V0) (rP V0 b n)) (rW V0).rfW (rW V0).rfB c := by
  have hX : ∀ j : Fin 256, (concatenate S8x2048x256 2 [⟨S8x2048x128, (feats V0)⟩, ⟨S8x2048x128, (res_main_v114 V0)⟩] concatenates_S8x2048x128_S8x2048x128_S8x2048x256_d2 : S8x2048x256.Idx → EReal) (ix3 b n j)
      = joined (rW V0) (rP V0 b n) j := fun j => by
    pointwise
    simp only [v114_apply V0 h0 h10]
    rfl
  unfold res_main_v134
  generalize concatenate S8x2048x256 2 _ _ = X at hX ⊢
  pointwise
  simp only [hX]
  rfl

end Differences

/-- What a launch memory holds of numbers that must be real. -/
def Real (V0 : Valuation τ sig (Elt Ideal)) : Prop :=
  (∀ i : S8x2048x3.Idx, ∃ u : ℝ, xyz V0 i = u) ∧ ∀ i : S128x64.Idx, ∃ u : ℝ, diffW V0 i = u

/-- The reference's run: both results of every point, the arguments as they were. -/
theorem reference_run (m : (ℓ : Loc nD τ sig) → Buf (Elt Ideal) ℓ) (ρ : Dev nD → PrngReg) (hf : ∀ c, Real (launchContents m c)) :
    θ_run defs (onTc (τ := τ) (main (F := Ideal))) ⟨m, fun _ => 0, ρ⟩ fun r => ∀ c : Dev nD,
      r.2.mem ((c.tc : Thread nD τ).loc main_v156) = refinedAll (rW (launchContents m c)) (rP (launchContents m c))
      ∧ r.2.mem ((c.tc : Thread nD τ).loc main_v129) = edgeAll (rW (launchContents m c)) (rP (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) := by
  refine (θ_run defs _ _).mono (fun _ h c => ⟨(h c).1.trans ?_, (h c).2.1.trans ?_, (h c).2.2⟩) (Value.run (F := Ideal) m ρ)
  all_goals
    obtain ⟨h0, h10⟩ := hf c
    funext i
    idx_vars i
  · pointwise [res_main_call5_v5]
    simp only [v114_apply _ h0 h10, v134_apply _ h0 h10, call5_v8, c128_pos, ↓reduceIte]
    rfl
  · obtain rfl : i2 = 0 := Subsingleton.elim _ _
    pointwise
    simp only [v114_apply _ h0 h10]
    rfl

end Cert.Proof.Full

end
-- ==== Proof.NetBlock.lean ====
/-
  What one grid point of the network call computes, row by row of its block: the words its body leaves, read at an index, are
  the sums of Proof/Heads/Row.lean.
-/
module

public import proofs.«01_k».proof.Proof.NetBody
public import proofs.«01_k».proof.Proof.Heads.Row

@[expose] public section

set_option maxRecDepth 16384

noncomputable section

namespace Cert.Proof.Net

open Cert.KernelIdeal Cert.KernelIdeal.Gen Cert.Proof.Heads
open Idealize.ShloMosaic

variable (a0 : FVec Ideal S128x16x128 .f32) (a1 : FVec Ideal S128x128 .f32) (a2 : FVec Ideal S128x3 .f32)
  (a3 : FVec Ideal S128x128 .f32) (a4 a5 : FVec Ideal S128x3 .f32)
  (a6 : FVec Ideal S10x64 .f32) (a7 a8 a9 : FVec Ideal S64 .f32) (a10 : FVec Ideal S64x64 .f32) (a11 a12 a13 a14 : FVec Ideal S64 .f32)
  (a15 : FVec Ideal S64x64 .f32) (a16 : FVec Ideal S64 .f32) (a17 : FVec Ideal S128x32 .f32) (a18 : FVec Ideal S32 .f32)
  (a19 : FVec Ideal S1x32 .f32) (a20 : FVec Ideal S1 .f32) (a21 : FVec Ideal S256x128 .f32) (a22 a23 a24 : FVec Ideal S128 .f32)

local notation "WW" => weights a6 a7 a8 a9 a10 a11 a12 a13 a14 a15 a16 a17 a18 a19 a20 a21 a22 a23 a24
local notation "PP" => point a0 a1 a2 a3 a4 a5

theorem pay6_apply (r : Fin 128) (k : Fin 16) : k2_pay6 (F := Ideal) a0 a2 (ix2 r k) = rel (PP r) k 0 := by
  pointwise [k2_pay6, k2_pay5, k2_pay2]; rfl
theorem pay7_apply (r : Fin 128) (k : Fin 16) : k2_pay7 (F := Ideal) a0 a2 (ix2 r k) = rel (PP r) k 1 := by
  pointwise [k2_pay7, k2_pay5, k2_pay2]; rfl
theorem pay8_apply (r : Fin 128) (k : Fin 16) : k2_pay8 (F := Ideal) a0 a2 (ix2 r k) = rel (PP r) k 2 := by
  pointwise [k2_pay8, k2_pay5, k2_pay2]; rfl

/-- The mean distance. -/
theorem pay9_apply (r : Fin 128) : k2_pay9 (F := Ideal) a0 a2 (ix2 r 0)
    = mean c16 fun k => Ideal.sqrt ((∑ c, rel (PP r) k c * rel (PP r) k c) + tiny) := by
  pointwise [k2_pay9]
  simp only [pay6_apply a0 a1 a2 a3 a4 a5, pay7_apply a0 a1 a2 a3 a4 a5, pay8_apply a0 a1 a2 a3 a4 a5, mean, Fin.sum_univ_three]
/-- The mean positions. -/
theorem pay10_apply (r : Fin 128) : k2_pay10 (F := Ideal) a0 a2 (ix2 r 0) = mean c16 fun k => rel (PP r) k 0 := by
  pointwise [k2_pay10]
  simp only [pay6_apply a0 a1 a2 a3 a4 a5, mean]
theorem pay11_apply (r : Fin 128) : k2_pay11 (F := Ideal) a0 a2 (ix2 r 0) = mean c16 fun k => rel (PP r) k 1 := by
  pointwise [k2_pay11]
  simp only [pay7_apply a0 a1 a2 a3 a4 a5, mean]
theorem pay12_apply (r : Fin 128) : k2_pay12 (F := Ideal) a0 a2 (ix2 r 0) = ∑ k, rel (PP r) k 2 := by
  pointwise [k2_pay12]
  simp only [pay8_apply a0 a1 a2 a3 a4 a5]

/-- The ten geometric features side by side. -/
theorem geo_apply (r : Fin 128) (j : Fin 10) :
    concatenate S128x10 1 [⟨S128x3, shapeCast S128x3 a4 shapeCasts_S128x3_S128x3⟩, ⟨S128x3, shapeCast S128x3 a5 shapeCasts_S128x3_S128x3⟩,
      ⟨S128x1, k2_pay10 (F := Ideal) a0 a2⟩, ⟨S128x1, k2_pay11 (F := Ideal) a0 a2⟩,
      ⟨S128x1, divf (F := Ideal) (k2_pay12 a0 a2) (broadcast S128x1 (Scalar.ofBits .f32 0x41800000#32))⟩, ⟨S128x1, k2_pay9 (F := Ideal) a0 a2⟩]
      concatenates_S128x3_S128x3_S128x1_S128x1_S128x1_S128x1_S128x10_d1 (ix2 r j) = geo (PP r) j := by
  have e12 := pay12_apply a0 a1 a2 a3 a4 a5 r
  pointwise
  unfold geo
  fin_vals j with hj
  all_goals simp only [hj, Nat.reduceSub, Nat.reduceLT, ↓reduceDIte]
  · rfl
  · rfl
  · rfl
  · rfl
  · rfl
  · rfl
  · exact pay10_apply a0 a1 a2 a3 a4 a5 r
  · exact pay11_apply a0 a1 a2 a3 a4 a5 r
  · exact congrArg (fun x => Ideal.div x c16) e12
  · exact pay9_apply a0 a1 a2 a3 a4 a5 r

/-- The geometric branch. -/
theorem geoBlk_apply (r : Fin 128) (j : Fin 64) : geoBlk (F := Ideal) a0 a2 a4 a5 a6 a7 a8 a9 a10 a11 (ix2 r j) = geoOut WW (PP r) j := by
  have hX := geo_apply a0 a1 a2 a3 a4 a5 r
  unfold geoBlk k2_pay13
  dsimp only
  generalize concatenate S128x10 1 _ _ = X at hX ⊢
  pointwise [k2_pay14]
  simp only [hX]
  rfl

local notation "DD" => diffBlk (F := Ideal) a0 a1 a12 a13 a14 a15

/-- The largest over the neighbours. -/
def topBlk (d : FVec Ideal S2048x64 .f32) (b : FVec Ideal S64 .f32) : FVec Ideal S128x64 .f32 :=
  multiReduction .maximumf [1] S128x64 (shapeCast S128x16x64 (addf d
    (broadcastTo S2048x64 (shapeCast S1x64 b shapeCasts_S64_S1x64) broadcasts_S1x64_S2048x64)) shapeCasts_S2048x64_S128x16x64)
    0xFF800000#32 reduces_S128x16x64_S128x64 (.inl rfl) rfl

/-- Both branches side by side. -/
theorem both_apply (x : FVec Ideal S128x64 .f32) (r : Fin 128) (hx : ∀ j, x (ix2 r j) = geoOut WW (PP r) j) (j : Fin 128) :
    k2_pay16 (F := Ideal) x DD a16 (ix2 r j) = both WW (PP r) j := by
  have hd : ∀ j : Fin 64, topBlk DD a16 (ix2 r j) = diffOut WW (PP r) j := fun j => by
    pointwise [topBlk, diffBlk, k2_pay15, k2_pay2, k2_pay4]
    rfl
  show concatenate S128x128 1 [⟨S128x64, x⟩, ⟨S128x64, topBlk DD a16⟩] concatenates_S128x64_S128x64_S128x128_d1 (ix2 r j) = _
  generalize topBlk DD a16 = Y at hd ⊢
  pointwise
  simp only [hx, hd, both]

/-- The edge probability. -/
theorem edgeBlk_apply (x : FVec Ideal S128x64 .f32) (r : Fin 128) (hx : ∀ j, x (ix2 r j) = geoOut WW (PP r) j) :
    edgeBlk (F := Ideal) x DD a16 a17 a18 a19 a20 (ix2 r 0) = edge WW (PP r) := by
  have hb := both_apply a0 a1 a2 a3 a4 a5 a6 a7 a8 a9 a10 a11 a12 a13 a14 a15 a16 a17 a18 a19 a20 a21 a22 a23 a24 x r hx
  pointwise [edgeBlk, k2_pay17]
  simp only [hb]
  rfl

/-- The last linear layer. -/
theorem pay18_apply (x : FVec Ideal S128x64 .f32) (r : Fin 128) (hx : ∀ j, x (ix2 r j) = geoOut WW (PP r) j) (j : Fin 128) :
    k2_pay18 (F := Ideal) (k2_pay3 a3) x DD a16 a21 a22 (ix2 r j) = lin (joined WW (PP r)) (WW).rfW (WW).rfB j := by
  have hb := both_apply a0 a1 a2 a3 a4 a5 a6 a7 a8 a9 a10 a11 a12 a13 a14 a15 a16 a17 a18 a19 a20 a21 a22 a23 a24 x r hx
  have hX : ∀ j, concatenate S128x256 1 [⟨S128x128, k2_pay3 (F := Ideal) a3⟩, ⟨S128x128, k2_pay16 (F := Ideal) x DD a16⟩] concatenates_S128x128_S128x128_S128x256_d1 (ix2 r j)
      = joined WW (PP r) j := fun j => by
    pointwise [k2_pay3]
    simp only [hb]
    rfl
  unfold k2_pay18
  generalize concatenate S128x256 1 _ _ = X at hX ⊢
  pointwise
  simp only [hX]
  rfl

/-- The refined features. -/
theorem refBlk_apply (x : FVec Ideal S128x64 .f32) (e : FVec Ideal S128x1 .f32) (r : Fin 128) (hx : ∀ j, x (ix2 r j) = geoOut WW (PP r) j)
    (he : e (ix2 r 0) = edge WW (PP r)) (j : Fin 128) :
    refBlk (F := Ideal) x DD e a3 a16 a21 a22 a23 a24 (ix2 r j) = refined WW (PP r) j := by
  have hl := pay18_apply a0 a1 a2 a3 a4 a5 a6 a7 a8 a9 a10 a11 a12 a13 a14 a15 a16 a17 a18 a19 a20 a21 a22 a23 a24 x r hx
  have h3 : k2_pay3 (F := Ideal) a3 = a3 := by
    funext i
    idx_vars i
    pointwise [k2_pay3]
  unfold refBlk
  rw [h3] at hl ⊢
  pointwise [k2_pay1, k2_pay19, k2_pay20]
  simp only [hl, he]
  rfl

/-- Both results' blocks. -/
theorem outE_apply (r : Fin 128) : outE (F := Ideal) a0 a1 a2 a4 a5 a6 a7 a8 a9 a10 a11 a12 a13 a14 a15 a16 a17 a18 a19 a20 (ix2 r 0) = edge WW (PP r) :=
  edgeBlk_apply a0 a1 a2 a3 a4 a5 a6 a7 a8 a9 a10 a11 a12 a13 a14 a15 a16 a17 a18 a19 a20 a21 a22 a23 a24 _ r (geoBlk_apply a0 a1 a2 a3 a4 a5 a6 a7 a8 a9 a10 a11 a12 a13 a14 a15 a16 a17 a18 a19 a20 a21 a22 a23 a24 r)
theorem outR_apply (r : Fin 128) (j : Fin 128) : outR (F := Ideal) a0 a1 a2 a3 a4 a5 a6 a7 a8 a9 a10 a11 a12 a13 a14 a15 a16 a17 a18 a19 a20 a21 a22 a23 a24 (ix2 r j) = refined WW (PP r) j :=
  refBlk_apply a0 a1 a2 a3 a4 a5 a6 a7 a8 a9 a10 a11 a12 a13 a14 a15 a16 a17 a18 a19 a20 a21 a22 a23 a24 _ _ r (geoBlk_apply a0 a1 a2 a3 a4 a5 a6 a7 a8 a9 a10 a11 a12 a13 a14 a15 a16 a17 a18 a19 a20 a21 a22 a23 a24 r) (edgeBlk_apply a0 a1 a2 a3 a4 a5 a6 a7 a8 a9 a10 a11 a12 a13 a14 a15 a16 a17 a18 a19 a20 a21 a22 a23 a24 _ r (geoBlk_apply a0 a1 a2 a3 a4 a5 a6 a7 a8 a9 a10 a11 a12 a13 a14 a15 a16 a17 a18 a19 a20 a21 a22 a23 a24 r)) j

end Cert.Proof.Net

end
-- ==== Proof.NetArray.lean ====
/-
  The arrays the network call leaves: every block of 128 rows is written once, at its own grid point, with the sums of
  Proof/Heads/Row.lean of the rows of the call's operands.
-/
module

public import proofs.«01_k».proof.Proof.NetBlock
public import proofs.«01_k».proof.Proof.NetReg
public import proofs.«01_k».proof.Proof.Heads.Reference
public import Idealize.ShloMosaic.Lib.Pipeline.ValueKit

@[expose] public section

set_option maxRecDepth 16384

noncomputable section

namespace Cert.Proof.Net

open Cert.KernelIdeal Cert.KernelIdeal.Gen
open Cert.Proof.Heads (Weights Point weights point edgeArr refinedArr)
open Idealize.ShloMosaic Idealize.ShloMosaic.TcCoe Idealize.SL.Sem
open Idealize.ShloMosaic.Pipeline (Dat)

variable (W : (c : Dev nD) → (b : Ref sig .tc) → Buf (Elt Ideal) ((c : Thread nD τ).loc b))

/-- Row `r` of the block of grid point `t`. -/
def rowAt (t : Fin cfg2.N) (r : Fin 128) : Fin 16384 := ⟨t.val * 128 + r.val, by have : t.val < 128 := t.isLt; omega⟩

theorem idx_0 : ∀ t : Fin cfg2.N, win2_0.index t = ![t.val, 0, 0] := (by decide +kernel : ∀ t : Fin grid2.N, _)
theorem idx_1 : ∀ t : Fin cfg2.N, win2_1.index t = ![t.val, 0] := (by decide +kernel : ∀ t : Fin grid2.N, _)
theorem idx_2 : ∀ t : Fin cfg2.N, win2_2.index t = ![t.val, 0] := (by decide +kernel : ∀ t : Fin grid2.N, _)
theorem idx_3 : ∀ t : Fin cfg2.N, win2_3.index t = ![t.val, 0] := (by decide +kernel : ∀ t : Fin grid2.N, _)
theorem idx_4 : ∀ t : Fin cfg2.N, win2_4.index t = ![t.val, 0] := (by decide +kernel : ∀ t : Fin grid2.N, _)
theorem idx_5 : ∀ t : Fin cfg2.N, win2_5.index t = ![t.val, 0] := (by decide +kernel : ∀ t : Fin grid2.N, _)
theorem idx_6 : ∀ t : Fin cfg2.N, win2_6.index t = ![0, 0] := (by decide +kernel : ∀ t : Fin grid2.N, _)
theorem idx_7 : ∀ t : Fin cfg2.N, win2_7.index t = ![0] := (by decide +kernel : ∀ t : Fin grid2.N, _)
theorem idx_8 : ∀ t : Fin cfg2.N, win2_8.index t = ![0] := (by decide +kernel : ∀ t : Fin grid2.N, _)
theorem idx_9 : ∀ t : Fin cfg2.N, win2_9.index t = ![0] := (by decide +kernel : ∀ t : Fin grid2.N, _)
theorem idx_10 : ∀ t : Fin cfg2.N, win2_10.index t = ![0, 0] := (by decide +kernel : ∀ t : Fin grid2.N, _)
theorem idx_11 : ∀ t : Fin cfg2.N, win2_11.index t = ![0] := (by decide +kernel : ∀ t : Fin grid2.N, _)
theorem idx_12 : ∀ t : Fin cfg2.N, win2_12.index t = ![0] := (by decide +kernel : ∀ t : Fin grid2.N, _)
theorem idx_13 : ∀ t : Fin cfg2.N, win2_13.index t = ![0] := (by decide +kernel : ∀ t : Fin grid2.N, _)
theorem idx_14 : ∀ t : Fin cfg2.N, win2_14.index t = ![0] := (by decide +kernel : ∀ t : Fin grid2.N, _)
theorem idx_15 : ∀ t : Fin cfg2.N, win2_15.index t = ![0, 0] := (by decide +kernel : ∀ t : Fin grid2.N, _)
theorem idx_16 : ∀ t : Fin cfg2.N, win2_16.index t = ![0] := (by decide +kernel : ∀ t : Fin grid2.N, _)
theorem idx_17 : ∀ t : Fin cfg2.N, win2_17.index t = ![0, 0] := (by decide +kernel : ∀ t : Fin grid2.N, _)
theorem idx_18 : ∀ t : Fin cfg2.N, win2_18.index t = ![0] := (by decide +kernel : ∀ t : Fin grid2.N, _)
theorem idx_19 : ∀ t : Fin cfg2.N, win2_19.index t = ![0, 0] := (by decide +kernel : ∀ t : Fin grid2.N, _)
theorem idx_20 : ∀ t : Fin cfg2.N, win2_20.index t = ![0] := (by decide +kernel : ∀ t : Fin grid2.N, _)
theorem idx_21 : ∀ t : Fin cfg2.N, win2_21.index t = ![0, 0] := (by decide +kernel : ∀ t : Fin grid2.N, _)
theorem idx_22 : ∀ t : Fin cfg2.N, win2_22.index t = ![0] := (by decide +kernel : ∀ t : Fin grid2.N, _)
theorem idx_23 : ∀ t : Fin cfg2.N, win2_23.index t = ![0] := (by decide +kernel : ∀ t : Fin grid2.N, _)
theorem idx_24 : ∀ t : Fin cfg2.N, win2_24.index t = ![0] := (by decide +kernel : ∀ t : Fin grid2.N, _)
theorem idx_25 : ∀ t : Fin cfg2.N, win2_25.index t = ![t.val, 0] := (by decide +kernel : ∀ t : Fin grid2.N, _)
theorem idx_26 : ∀ t : Fin cfg2.N, win2_26.index t = ![t.val, 0] := (by decide +kernel : ∀ t : Fin grid2.N, _)

/-- The weights and the point of a row, of the call's operands. -/
abbrev kWeights (c : Dev nD) : Weights := weights (W c main_arg4) (W c main_arg5) (W c main_arg6) (W c main_arg7) (W c main_arg8) (W c main_arg9) (W c main_arg11) (W c main_arg12) (W c main_arg13) (W c main_arg14) (W c main_arg15) (W c main_arg16) (W c main_arg17) (W c main_v6) (W c main_arg19) (W c main_arg20) (W c main_arg21) (W c main_arg22) (W c main_arg23)
abbrev kPoint (c : Dev nD) (r : Fin 16384) : Point := point (W c main_v5) (W c main_v2) (W c main_v7) (W c main_v8) (W c main_v9) (W c main_v10) r

/-- The blocks of the operands. -/
theorem blk_0 (c : Dev nD) (t : Fin cfg2.N) (r : Fin 128) (k : Fin 16) (j : Fin 128) :
    (nBlk W c 0 t : S128x16x128.Idx → EReal) (ix3 r k j) = (W c main_v5 : S16384x16x128.Idx → EReal) (ix3 (rowAt t r) k j) := by
  blk_ext [nBlk, idx_0 t]
  rfl
theorem blk_1 (c : Dev nD) (t : Fin cfg2.N) (r : Fin 128) (j : Fin 128) :
    (nBlk W c 1 t : S128x128.Idx → EReal) (ix2 r j) = (W c main_v2 : S16384x128.Idx → EReal) (ix2 (rowAt t r) j) := by
  blk_ext [nBlk, idx_1 t]
  rfl
theorem blk_2 (c : Dev nD) (t : Fin cfg2.N) (r : Fin 128) (j : Fin 3) :
    (nBlk W c 2 t : S128x3.Idx → EReal) (ix2 r j) = (W c main_v7 : S16384x3.Idx → EReal) (ix2 (rowAt t r) j) := by
  blk_ext [nBlk, idx_2 t]
  rfl
theorem blk_3 (c : Dev nD) (t : Fin cfg2.N) (r : Fin 128) (j : Fin 128) :
    (nBlk W c 3 t : S128x128.Idx → EReal) (ix2 r j) = (W c main_v8 : S16384x128.Idx → EReal) (ix2 (rowAt t r) j) := by
  blk_ext [nBlk, idx_3 t]
  rfl
theorem blk_4 (c : Dev nD) (t : Fin cfg2.N) (r : Fin 128) (j : Fin 3) :
    (nBlk W c 4 t : S128x3.Idx → EReal) (ix2 r j) = (W c main_v9 : S16384x3.Idx → EReal) (ix2 (rowAt t r) j) := by
  blk_ext [nBlk, idx_4 t]
  rfl
theorem blk_5 (c : Dev nD) (t : Fin cfg2.N) (r : Fin 128) (j : Fin 3) :
    (nBlk W c 5 t : S128x3.Idx → EReal) (ix2 r j) = (W c main_v10 : S16384x3.Idx → EReal) (ix2 (rowAt t r) j) := by
  blk_ext [nBlk, idx_5 t]
  rfl
theorem blk_6 (c : Dev nD) (t : Fin cfg2.N) : (nBlk W c 6 t : S10x64.Idx → EReal) = (W c main_arg4 : S10x64.Idx → EReal) := by
  funext y
  blk_ext [nBlk, idx_6 t]
theorem blk_7 (c : Dev nD) (t : Fin cfg2.N) : (nBlk W c 7 t : S64.Idx → EReal) = (W c main_arg5 : S64.Idx → EReal) := by
  funext y
  blk_ext [nBlk, idx_7 t]
theorem blk_8 (c : Dev nD) (t : Fin cfg2.N) : (nBlk W c 8 t : S64.Idx → EReal) = (W c main_arg6 : S64.Idx → EReal) := by
  funext y
  blk_ext [nBlk, idx_8 t]
theorem blk_9 (c : Dev nD) (t : Fin cfg2.N) : (nBlk W c 9 t : S64.Idx → EReal) = (W c main_arg7 : S64.Idx → EReal) := by
  funext y
  blk_ext [nBlk, idx_9 t]
theorem blk_10 (c : Dev nD) (t : Fin cfg2.N) : (nBlk W c 10 t : S64x64.Idx → EReal) = (W c main_arg8 : S64x64.Idx → EReal) := by
  funext y
  blk_ext [nBlk, idx_10 t]
theorem blk_11 (c : Dev nD) (t : Fin cfg2.N) : (nBlk W c 11 t : S64.Idx → EReal) = (W c main_arg9 : S64.Idx → EReal) := by
  funext y
  blk_ext [nBlk, idx_11 t]
theorem blk_12 (c : Dev nD) (t : Fin cfg2.N) : (nBlk W c 12 t : S64.Idx → EReal) = (W c main_arg11 : S64.Idx → EReal) := by
  funext y
  blk_ext [nBlk, idx_12 t]
theorem blk_13 (c : Dev nD) (t : Fin cfg2.N) : (nBlk W c 13 t : S64.Idx → EReal) = (W c main_arg12 : S64.Idx → EReal) := by
  funext y
  blk_ext [nBlk, idx_13 t]
theorem blk_14 (c : Dev nD) (t : Fin cfg2.N) : (nBlk W c 14 t : S64.Idx → EReal) = (W c main_arg13 : S64.Idx → EReal) := by
  funext y
  blk_ext [nBlk, idx_14 t]
theorem blk_15 (c : Dev nD) (t : Fin cfg2.N) : (nBlk W c 15 t : S64x64.Idx → EReal) = (W c main_arg14 : S64x64.Idx → EReal) := by
  funext y
  blk_ext [nBlk, idx_15 t]
theorem blk_16 (c : Dev nD) (t : Fin cfg2.N) : (nBlk W c 16 t : S64.Idx → EReal) = (W c main_arg15 : S64.Idx → EReal) := by
  funext y
  blk_ext [nBlk, idx_16 t]
theorem blk_17 (c : Dev nD) (t : Fin cfg2.N) : (nBlk W c 17 t : S128x32.Idx → EReal) = (W c main_arg16 : S128x32.Idx → EReal) := by
  funext y
  blk_ext [nBlk, idx_17 t]
theorem blk_18 (c : Dev nD) (t : Fin cfg2.N) : (nBlk W c 18 t : S32.Idx → EReal) = (W c main_arg17 : S32.Idx → EReal) := by
  funext y
  blk_ext [nBlk, idx_18 t]
theorem blk_19 (c : Dev nD) (t : Fin cfg2.N) : (nBlk W c 19 t : S1x32.Idx → EReal) = (W c main_v6 : S1x32.Idx → EReal) := by
  funext y
  blk_ext [nBlk, idx_19 t]
theorem blk_20 (c : Dev nD) (t : Fin cfg2.N) : (nBlk W c 20 t : S1.Idx → EReal) = (W c main_arg19 : S1.Idx → EReal) := by
  funext y
  blk_ext [nBlk, idx_20 t]
theorem blk_21 (c : Dev nD) (t : Fin cfg2.N) : (nBlk W c 21 t : S256x128.Idx → EReal) = (W c main_arg20 : S256x128.Idx → EReal) := by
  funext y
  blk_ext [nBlk, idx_21 t]
theorem blk_22 (c : Dev nD) (t : Fin cfg2.N) : (nBlk W c 22 t : S128.Idx → EReal) = (W c main_arg21 : S128.Idx → EReal) := by
  funext y
  blk_ext [nBlk, idx_22 t]
theorem blk_23 (c : Dev nD) (t : Fin cfg2.N) : (nBlk W c 23 t : S128.Idx → EReal) = (W c main_arg22 : S128.Idx → EReal) := by
  funext y
  blk_ext [nBlk, idx_23 t]
theorem blk_24 (c : Dev nD) (t : Fin cfg2.N) : (nBlk W c 24 t : S128.Idx → EReal) = (W c main_arg23 : S128.Idx → EReal) := by
  funext y
  blk_ext [nBlk, idx_24 t]

/-- The point of a block's row is the point of the array's row. -/
theorem point_blk (c : Dev nD) (t : Fin cfg2.N) (r : Fin 128) :
    point (nBlk W c 0 t) (nBlk W c 1 t) (nBlk W c 2 t) (nBlk W c 3 t) (nBlk W c 4 t) (nBlk W c 5 t) r = kPoint W c (rowAt t r) := by
  have e0 := fun k j => blk_0 W c t r k j
  have e1 := fun j => blk_1 W c t r j
  have e2 := fun j => blk_2 W c t r j
  have e3 := fun j => blk_3 W c t r j
  have e4 := fun j => blk_4 W c t r j
  have e5 := fun j => blk_5 W c t r j
  exact Point.ext (funext fun k => funext fun j => e0 k j) (funext e1) (funext e2) (funext e3) (funext e4) (funext e5)

/-- The weights of a block are the arrays. -/
theorem weights_blk (c : Dev nD) (t : Fin cfg2.N) : weights (nBlk W c 6 t) (nBlk W c 7 t) (nBlk W c 8 t) (nBlk W c 9 t) (nBlk W c 10 t) (nBlk W c 11 t) (nBlk W c 12 t) (nBlk W c 13 t) (nBlk W c 14 t) (nBlk W c 15 t) (nBlk W c 16 t) (nBlk W c 17 t) (nBlk W c 18 t) (nBlk W c 19 t) (nBlk W c 20 t) (nBlk W c 21 t) (nBlk W c 22 t) (nBlk W c 23 t) (nBlk W c 24 t) = kWeights W c := by
  unfold kWeights
  rw [← blk_6 W c t, ← blk_7 W c t, ← blk_8 W c t, ← blk_9 W c t, ← blk_10 W c t, ← blk_11 W c t, ← blk_12 W c t, ← blk_13 W c t, ← blk_14 W c t, ← blk_15 W c t, ← blk_16 W c t, ← blk_17 W c t, ← blk_18 W c t, ← blk_19 W c t, ← blk_20 W c t, ← blk_21 W c t, ← blk_22 W c t, ← blk_23 W c t, ← blk_24 W c t]

/-- Where a block's element lies. -/
theorem emb_25 (t : Fin cfg2.N) (r : Fin 128) (j : Fin 128) : (((cfg2.win 25).blk t).view.emb (ix2 r j : S128x128.Idx) : S16384x128.Idx) = ix2 (rowAt t r) j := by
  blk_ext [idx_25 t]
  rfl
theorem emb_26 (t : Fin cfg2.N) (r : Fin 128) (j : Fin 1) : (((cfg2.win 26).blk t).view.emb (ix2 r j : S128x1.Idx) : S16384x1.Idx) = ix2 (rowAt t r) j := by
  blk_ext [idx_26 t]
  rfl

/-- Both results after the call. -/
theorem edgs_eq (c : Dev nD) : edgs W c = edgeArr (kWeights W c) (kPoint W c) := by
  refine (dat W 8 c).arrAt_eq_of_covers 26 _ (by decide +kernel) fun t hf y => ?_
  obtain ⟨r, j, rfl⟩ : ∃ (r : Fin 128) (j : Fin 1), (y : S128x1.Idx) = ix2 r j := ⟨_, _, ValueIdx.eq_ix2 y⟩
  obtain rfl : j = 0 := Subsingleton.elim _ _
  refine Eq.trans ?_ (congrArg (edgeArr (kWeights W c) (kPoint W c)) (emb_26 t r 0)).symm
  refine (outE_apply (nBlk W c 0 t) (nBlk W c 1 t) (nBlk W c 2 t) (nBlk W c 3 t) (nBlk W c 4 t) (nBlk W c 5 t) (nBlk W c 6 t) (nBlk W c 7 t) (nBlk W c 8 t) (nBlk W c 9 t) (nBlk W c 10 t) (nBlk W c 11 t) (nBlk W c 12 t) (nBlk W c 13 t) (nBlk W c 14 t) (nBlk W c 15 t) (nBlk W c 16 t) (nBlk W c 17 t) (nBlk W c 18 t) (nBlk W c 19 t) (nBlk W c 20 t) (nBlk W c 21 t) (nBlk W c 22 t) (nBlk W c 23 t) (nBlk W c 24 t) r).trans ?_
  rw [point_blk, weights_blk]
  rfl

theorem refd_eq (c : Dev nD) : refd W c = refinedArr (kWeights W c) (kPoint W c) := by
  refine (dat W 8 c).arrAt_eq_of_covers 25 _ (by decide +kernel) fun t hf y => ?_
  obtain ⟨r, j, rfl⟩ : ∃ (r : Fin 128) (j : Fin 128), (y : S128x128.Idx) = ix2 r j := ⟨_, _, ValueIdx.eq_ix2 y⟩
  refine Eq.trans ?_ (congrArg (refinedArr (kWeights W c) (kPoint W c)) (emb_25 t r j)).symm
  refine (outR_apply (nBlk W c 0 t) (nBlk W c 1 t) (nBlk W c 2 t) (nBlk W c 3 t) (nBlk W c 4 t) (nBlk W c 5 t) (nBlk W c 6 t) (nBlk W c 7 t) (nBlk W c 8 t) (nBlk W c 9 t) (nBlk W c 10 t) (nBlk W c 11 t) (nBlk W c 12 t) (nBlk W c 13 t) (nBlk W c 14 t) (nBlk W c 15 t) (nBlk W c 16 t) (nBlk W c 17 t) (nBlk W c 18 t) (nBlk W c 19 t) (nBlk W c 20 t) (nBlk W c 21 t) (nBlk W c 22 t) (nBlk W c 23 t) (nBlk W c 24 t) r j).trans ?_
  rw [point_blk, weights_blk]
  rfl

end Cert.Proof.Net

end
-- ==== Proof.Whole.lean ====
/-
  The whole kernel's results: of every point the sums of Proof/Heads/Row.lean, from the rows of its neighbours.
-/
module

public import proofs.«01_k».proof.Proof.Value
public import proofs.«01_k».proof.Proof.NetArray

@[expose] public section

set_option maxRecDepth 16384

noncomputable section

namespace Cert.Proof.Value

open Cert.KernelIdeal Cert.KernelIdeal.Gen
open Idealize.ShloMosaic Idealize.ShloMosaic.TcCoe Idealize.SL.Sem
open Cert.Proof.Gather (V11 V14 W11)

variable (m : (ℓ : Loc nD τ sig) → Buf (Elt Ideal) ℓ)

/-- The weights and the points of a launch memory. -/
abbrev kW (d : Dev nD) : Heads.Weights := weightsOf (m ((d : Thread nD τ).loc main_arg4)) (m ((d : Thread nD τ).loc main_arg5))
  (m ((d : Thread nD τ).loc main_arg6)) (m ((d : Thread nD τ).loc main_arg7)) (m ((d : Thread nD τ).loc main_arg8))
  (m ((d : Thread nD τ).loc main_arg9)) (m ((d : Thread nD τ).loc main_arg11)) (m ((d : Thread nD τ).loc main_arg12))
  (m ((d : Thread nD τ).loc main_arg13)) (m ((d : Thread nD τ).loc main_arg14)) (m ((d : Thread nD τ).loc main_arg15))
  (m ((d : Thread nD τ).loc main_arg16)) (m ((d : Thread nD τ).loc main_arg17)) (m ((d : Thread nD τ).loc main_arg18))
  (m ((d : Thread nD τ).loc main_arg19)) (m ((d : Thread nD τ).loc main_arg20)) (m ((d : Thread nD τ).loc main_arg21))
  (m ((d : Thread nD τ).loc main_arg22)) (m ((d : Thread nD τ).loc main_arg23))
abbrev kP (d : Dev nD) : Fin 8 → Fin 2048 → Heads.Point := pointOf (m ((d : Thread nD τ).loc main_arg0)) (m ((d : Thread nD τ).loc main_arg1))
  (m ((d : Thread nD τ).loc main_arg2)) (m ((d : Thread nD τ).loc main_arg3)) (m ((d : Thread nD τ).loc main_arg10))

theorem points_eq (d : Dev nD) (b : Fin 8) (n : Fin 2048) : Net.kPoint (W11 m) d (rowNum b n) = kP m d b n := by
  show Heads.point (V11 m d (Proc.devRef .tc main_v5)) (V11 m d (Proc.devRef .tc main_v2)) (V11 m d (Proc.devRef .tc main_v7))
    (V11 m d (Proc.devRef .tc main_v8)) (V11 m d (Proc.devRef .tc main_v9)) (V11 m d (Proc.devRef .tc main_v10)) (rowNum b n) = _
  rw [Gather.V11_v5, Gather.V11_v2, Gather.V11_v7, Gather.V11_v8, Gather.V11_v9, Gather.V11_v10]
  unfold Cert.Proof.Gather.G
  rw [Gather.m₁_list, Gather.m₁_table]
  exact point_flat _ _ _ _ _ b n

theorem weights_eq (d : Dev nD) : Net.kWeights (W11 m) d = kW m d := by
  have ha : ∀ b, Gather.IsArg b → W11 m d b = m ((d : Thread nD τ).loc b) := fun b h => Gather.V11_arg m d b h
  have h6 : W11 m d main_v6 = _ := (Gather.V11_v6 m d).trans (row_flat _)
  unfold Net.kWeights
  rw [ha main_arg4 (by decide), ha main_arg5 (by decide), ha main_arg6 (by decide), ha main_arg7 (by decide), ha main_arg8 (by decide),
    ha main_arg9 (by decide), ha main_arg11 (by decide), ha main_arg12 (by decide), ha main_arg13 (by decide), ha main_arg14 (by decide),
    ha main_arg15 (by decide), ha main_arg16 (by decide), ha main_arg17 (by decide), ha main_arg19 (by decide), ha main_arg20 (by decide),
    ha main_arg21 (by decide), ha main_arg22 (by decide), ha main_arg23 (by decide), h6]
  rfl

theorem ix3_surj {A B C : ℕ} (i : Shape.Idx ⟨3, ![A, B, C]⟩) : ∃ (b : Fin A) (n : Fin B) (c : Fin C), i = ix3 b n c := by
  refine ⟨i 0, i 1, i 2, funext fun a => ?_⟩
  match a with
  | ⟨0, _⟩ => rfl
  | ⟨1, _⟩ => rfl
  | ⟨2, _⟩ => rfl

/-- The first result. -/
theorem refined_eq (d : Dev nD) : V14 m d (Proc.devRef .tc main_v12) = refinedAll (kW m d) (kP m d) := by
  rw [Gather.V14_v12, Net.refd_eq, weights_eq]
  funext i
  obtain ⟨b, n, c, rfl⟩ := ix3_surj i
  have h : shapeCast S8x2048x128 (Heads.refinedArr (kW m d) (Net.kPoint (W11 m) d)) shapeCasts_S16384x128_S8x2048x128 (ix3 b n c)
      = Heads.refined (kW m d) (Net.kPoint (W11 m) d (rowNum b n)) c := by
    generalize hX : Heads.refinedArr (kW m d) (Net.kPoint (W11 m) d) = X
    pointwise
    rw [← hX]
    refine congrArg (fun r => Heads.refined (kW m d) (Net.kPoint (W11 m) d r) _) (Fin.ext ?_)
    show _ * 2048 + _ = 2048 * _ + _
    rw [Nat.mul_comm]
  exact h.trans (congrArg (fun P => Heads.refined (kW m d) P c) (points_eq m d b n))

/-- The second. -/
theorem edge_eq (d : Dev nD) : V14 m d (Proc.devRef .tc main_v13) = edgeAll (kW m d) (kP m d) := by
  rw [Gather.V14_v13, Net.edgs_eq, weights_eq]
  funext i
  obtain ⟨b, n, c, rfl⟩ := ix3_surj i
  have h : shapeCast S8x2048x1 (Heads.edgeArr (kW m d) (Net.kPoint (W11 m) d)) shapeCasts_S16384x1_S8x2048x1 (ix3 b n c)
      = Heads.edge (kW m d) (Net.kPoint (W11 m) d (rowNum b n)) := by
    generalize hX : Heads.edgeArr (kW m d) (Net.kPoint (W11 m) d) = X
    pointwise
    rw [← hX]
    refine congrArg (fun r => Heads.edge (kW m d) (Net.kPoint (W11 m) d r)) (Fin.ext ?_)
    show _ * 2048 + _ = 2048 * _ + _
    rw [Nat.mul_comm]
  exact h.trans (congrArg (fun P => Heads.edge (kW m d) P) (points_eq m d b n))

end Cert.Proof.Value

end
-- ==== Proof.Call.Slabs.lean ====
/-
  The pieces a tile works on and what they hold.  The result has 262144 rows: tile (core c, subcore s) writes the 8192
  rows from 8192 * (2 s + c), a slab of 512 rows per trip; a slab is gathered in four windows of 128 rows.  `gath` is
  the gathered array: row r is the table's row named by word r of the list.
-/
module

public import proofs.«01_k».proof.Defs
public import Idealize.ShloMosaic.Lib.SparseCore.Ops
public import Idealize.ShloMosaic.Lib.SparseCore.Stream
public import Idealize.ShloMosaic.Lib.Tactic
public import proofs.«01_k».proof.Proof.Gen.GatherIdeal
public import proofs.«01_k».proof.Proof.Gen.GatherIdeal.Skeleton
public import proofs.«01_k».proof.Proof.BatchGather

@[expose] public section

noncomputable section

namespace Cert.Proof.Call.Slabs

open Cert.GatherIdeal Cert.GatherIdeal.Gen
open Idealize.ShloMosaic
open Idealize.ShloMosaic.SparseCore (gatherPayload)

variable {F : FTy → Type}

/-! ## The gathered array -/

/-- Position (r, k) of the table. -/
def tableIx (r : Fin 16384) (k : Fin 128) : S16384x128.Idx := fun a => match a with | ⟨0, _⟩ => r | ⟨1, _⟩ => k

/-- Position r of the list. -/
def listIx (r : Fin 262144) : S262144.Idx := fun a => match a with | ⟨0, _⟩ => r

/-- Position k of a trip's list. -/
def slotIx (k : Fin 512) : S512.Idx := fun a => match a with | ⟨0, _⟩ => k

/-- The row a word names: the word itself where it is a row of the table. -/
def rowNamed (w : BitVec 32) : Fin 16384 := ⟨w.toNat % 16384, Nat.mod_lt _ (by decide)⟩

/-- The gathered array: row r is the row of the table named by word r of the list. -/
def gath (tb : S16384x128.Idx → Elt F .f32) (ix : S262144.Idx → BitVec 32) : S262144x128.Idx → Elt F .f32 :=
  fun y => tb (tableIx (rowNamed (ix (listIx (y 0)))) (y 1))

/-! ## The memrefs of a trip -/

local notation "tV" => (Memref.whole Cert.GatherIdeal.main_arg0_scv : Memref Cert.GatherIdeal.sig Kind.scVector Space.hbm Cert.GatherIdeal.S16384x128 EltTy.f32)
local notation "xV" => (Memref.whole Cert.GatherIdeal.main_arg1_scv : Memref Cert.GatherIdeal.sig Kind.scVector Space.hbm Cert.GatherIdeal.S262144 EltTy.i32)
local notation "oV" => (Memref.whole Cert.GatherIdeal.main_v0_scv : Memref Cert.GatherIdeal.sig Kind.scVector Space.hbm Cert.GatherIdeal.S262144x128 EltTy.f32)
local notation "iV" => (Memref.whole Cert.GatherIdeal.cc0_scratch0 : Memref Cert.GatherIdeal.sig Kind.scVector Space.vmem Cert.GatherIdeal.S512 EltTy.i32)
local notation "rV" => (Memref.whole Cert.GatherIdeal.cc0_scratch1 : Memref Cert.GatherIdeal.sig Kind.scVector Space.vmem Cert.GatherIdeal.S512x128 EltTy.f32)

/-- The trips of a tile's loop. -/
abbrev Trip : Type := Fin k0_t1_loop.trips

theorem trips_eq : k0_t1_loop.trips = 16 := by decide

/-- The first row of window b. -/
def winOff : Fin 4 → ℕ
  | 0 => 0
  | 1 => 128
  | 2 => 256
  | 3 => 384

theorem winOff_eq (b : Fin 4) : winOff b = 128 * b.val := by
  match b with | 0 => rfl | 1 => rfl | 2 => rfl | 3 => rfl

theorem winOff_le (b : Fin 4) : winOff b + 128 ≤ 512 := by rw [winOff_eq]; omega

theorem rowWin_inb (b : Fin 4) : ∀ a, ![winOff b, 0] a + S128x128.size a ≤ S512x128.size a := fun a =>
  match a with
  | ⟨0, _⟩ => winOff_le b
  | ⟨1, _⟩ => Nat.le_refl 128

theorem listWin_inb (b : Fin 4) : ∀ a, ![winOff b] a + S128.size a ≤ S512.size a := fun a =>
  match a with | ⟨0, _⟩ => winOff_le b

/-- Window b of the row buffer, window b of the list buffer, the table as a gather names it. -/
abbrev rowWin (b : Fin 4) : Memref sig .scVector .vmem S128x128 .f32 :=
  (rV).slice (Rect.unit (s := S512x128) ![winOff b, 0] S128x128.size (rowWin_inb b)) (fun _ => rfl)
abbrev listWin (b : Fin 4) : Memref sig .scVector .vmem S128 .i32 :=
  (iV).slice (Rect.unit (s := S512) ![winOff b] S128.size (listWin_inb b)) (fun _ => rfl)
abbrev tableAll : Memref sig .scVector .hbm S16384x128 .f32 :=
  (tV).slice (Rect.unit (s := S16384x128) ![0, 0] S16384x128.size inb_S16384x128_S16384x128_0_0) (fun _ => rfl)

/-- The slab of a trip in the list and in the result. -/
abbrev listSlab (L : grid0.Coords) (t : Trip) : Memref sig .scVector .hbm S512 .i32 :=
  (xV).slice (Rect.unit (s := S262144) (k0_off1 L t) S512.size (k0_off1_inb L t)) (fun _ => rfl)
abbrev outSlab (L : grid0.Coords) (t : Trip) : Memref sig .scVector .hbm S512x128 .f32 :=
  (oV).slice (Rect.unit (s := S262144x128) (k0_off2 L t) S512x128.size (k0_off2_inb L t)) (fun _ => rfl)

/-- The number of a tile's slab, of the 512 slabs of the result. -/
def slabNo (L : grid0.Coords) (t : Trip) : ℕ := 32 * (L 1).val + 16 * (L 0).val + t.val

theorem slabNo_lt (L : grid0.Coords) (t : Trip) : slabNo L t < 512 := by
  have h0 : (L 0).val < 2 := (L 0).isLt
  have h1 : (L 1).val < 16 := (L 1).isLt
  have ht : t.val < 16 := trips_eq ▸ t.isLt
  unfold slabNo; omega

/-! ## Which positions a piece has -/

theorem mem_rowWin (b : Fin 4) (x : S512x128.Idx) : x ∈ (rowWin b).view.set ↔ (x 0).val / 128 = b.val := by
  have hx1 : (x 1).val < 128 := (x 1).isLt
  have hs := View.set_slice_whole (sig := sig) (cc0_scratch1 : Ref sig .scVector) (Rect.unit (s := S512x128) ![winOff b, 0] S128x128.size (rowWin_inb b))
  refine (iff_of_eq (congrArg (x ∈ ·) hs)).trans ?_
  rw [Rect.mem_set_unit]
  constructor
  · intro h
    have h0 : winOff b ≤ (x 0).val ∧ (x 0).val < winOff b + 128 := h 0
    rw [winOff_eq] at h0; omega
  · intro h a
    match a with
    | ⟨0, _⟩ =>
      show winOff b ≤ (x 0).val ∧ (x 0).val < winOff b + 128
      rw [winOff_eq]; omega
    | ⟨1, _⟩ =>
      show 0 ≤ (x 1).val ∧ (x 1).val < 0 + 128
      omega

theorem mem_listWin (b : Fin 4) (x : S512.Idx) : x ∈ (listWin b).view.set ↔ (x 0).val / 128 = b.val := by
  have hs := View.set_slice_whole (sig := sig) (cc0_scratch0 : Ref sig .scVector) (Rect.unit (s := S512) ![winOff b] S128.size (listWin_inb b))
  refine (iff_of_eq (congrArg (x ∈ ·) hs)).trans ?_
  rw [Rect.mem_set_unit]
  constructor
  · intro h
    have h0 : winOff b ≤ (x 0).val ∧ (x 0).val < winOff b + 128 := h 0
    rw [winOff_eq] at h0; omega
  · intro h a
    match a with
    | ⟨0, _⟩ =>
      show winOff b ≤ (x 0).val ∧ (x 0).val < winOff b + 128
      rw [winOff_eq]; omega

theorem mem_outSlab (L : grid0.Coords) (t : Trip) (x : S262144x128.Idx) :
    x ∈ (outSlab L t).view.set ↔ (x 0).val / 512 = slabNo L t := by
  have hx1 : (x 1).val < 128 := (x 1).isLt
  have hs := View.set_slice_whole (sig := sig) (main_v0_scv : Ref sig .scVector) (Rect.unit (s := S262144x128) (k0_off2 L t) S512x128.size (k0_off2_inb L t))
  refine (iff_of_eq (congrArg (x ∈ ·) hs)).trans ?_
  rw [Rect.mem_set_unit, k0_off2_eq]
  unfold slabNo
  constructor
  · intro h
    have h0 : 16384 * (L 1).val + 8192 * (L 0).val + 512 * t.val ≤ (x 0).val
      ∧ (x 0).val < 16384 * (L 1).val + 8192 * (L 0).val + 512 * t.val + 512 := h 0
    omega
  · intro h a
    match a with
    | ⟨0, _⟩ =>
      show 16384 * (L 1).val + 8192 * (L 0).val + 512 * t.val ≤ (x 0).val
        ∧ (x 0).val < 16384 * (L 1).val + 8192 * (L 0).val + 512 * t.val + 512
      omega
    | ⟨1, _⟩ =>
      show 0 ≤ (x 1).val ∧ (x 1).val < 0 + 128
      omega

/-- The windows of a buffer of 512 rows are disjoint and are all of it. -/
theorem windows_disjoint {s : Shape} (K : Fin 4 → Finset s.Idx) (f : s.Idx → ℕ) (h : ∀ b x, x ∈ K b ↔ f x / 128 = b.val) :
    ∀ b ∈ Finset.univ, ∀ b' ∈ Finset.univ, b ≠ b' → Disjoint (K b) (K b') := fun b _ b' _ hne =>
  Finset.disjoint_left.2 fun x hx hx' => hne (Fin.ext (((h b x).1 hx).symm.trans ((h b' x).1 hx')))
theorem windows_cover {s : Shape} (K : Fin 4 → Finset s.Idx) (f : s.Idx → ℕ) (h : ∀ b x, x ∈ K b ↔ f x / 128 = b.val)
    (hf : ∀ x, f x < 512) : Finset.univ = Finset.univ.biUnion K := by
  ext x
  simp only [Finset.mem_univ, Finset.mem_biUnion, true_and, true_iff]
  have := hf x
  exact ⟨⟨f x / 128, by omega⟩, (h _ x).2 rfl⟩

theorem set_tableAll : (tableAll).view.set = Finset.univ := by
  refine (View.set_slice_whole (sig := sig) (main_arg0_scv : Ref sig .scVector)
    (Rect.unit (s := S16384x128) ![0, 0] S16384x128.size inb_S16384x128_S16384x128_0_0)).trans ?_
  refine Finset.eq_univ_iff_forall.2 fun x => Rect.mem_set_unit.2 fun a => ?_
  have h0 : (x 0).val < 16384 := (x 0).isLt
  have h1 : (x 1).val < 128 := (x 1).isLt
  match a with
  | ⟨0, _⟩ =>
    show 0 ≤ (x 0).val ∧ (x 0).val < 0 + 16384
    omega
  | ⟨1, _⟩ =>
    show 0 ≤ (x 1).val ∧ (x 1).val < 0 + 128
    omega

/-! ## What the pieces hold -/

/-- The list of a trip: its slab of the list of rows. -/
def slabList (ix : S262144.Idx → BitVec 32) (L : grid0.Coords) (t : Trip) : S512.Idx → BitVec 32 :=
  fun x => ix (listIx ⟨512 * slabNo L t + (x 0).val, by have := slabNo_lt L t; have : (x 0).val < 512 := (x 0).isLt; omega⟩)

/-- The rows of a trip: the table's rows named by its list. -/
def slabRows (tb : S16384x128.Idx → Elt F .f32) (ix : S262144.Idx → BitVec 32) (L : grid0.Coords) (t : Trip) :
    S512x128.Idx → Elt F .f32 :=
  fun x => tb (tableIx (rowNamed (slabList ix L t (slotIx (x 0)))) (x 1))

/-- What the fetch of a trip's list reads is that list. -/
theorem read_listSlab (ix : S262144.Idx → BitVec 32) (L : grid0.Coords) (t : Trip) :
    (listSlab L t).view.read (Elt F) ix = slabList ix L t := by
  funext x
  refine (View.read_apply _ _).trans ((cast_eq _ _).trans (congrArg ix ?_))
  funext a
  match a with
  | ⟨0, _⟩ =>
    apply Fin.ext
    show k0_off1 L t 0 + 1 * (x 0).val = 512 * slabNo L t + (x 0).val
    rw [k0_off1_eq]; unfold slabNo
    show 16384 * (L 1).val + 8192 * (L 0).val + 512 * t.val + 1 * (x 0).val = _
    omega

/-- The result's slab holds the gathered array once its trip's rows are written there. -/
theorem write_outSlab (tb : S16384x128.Idx → Elt F .f32) (ix : S262144.Idx → BitVec 32) (f : S262144x128.Idx → Elt F .f32)
    (L : grid0.Coords) (t : Trip) :
    ∀ i ∈ (outSlab L t).view.set,
      (outSlab L t).view.write (Elt F) f (slabRows tb ix L t) Finset.univ i = gath tb ix i := by
  intro i hi
  obtain ⟨x, -, rfl⟩ := Finset.mem_map.1 hi
  refine (View.write_emb_of_mem _ _ (Finset.mem_univ x)).trans ((cast_eq _ _).trans ?_)
  have e0 : (((outSlab L t).view.emb x : S262144x128.Idx) 0).val = 512 * slabNo L t + (x 0).val := by
    show k0_off2 L t 0 + 1 * (x 0).val = _
    rw [k0_off2_eq]; unfold slabNo
    show 16384 * (L 1).val + 8192 * (L 0).val + 512 * t.val + 1 * (x 0).val = _
    omega
  have e1 : (((outSlab L t).view.emb x : S262144x128.Idx) 1) = x 1 := by
    apply Fin.ext
    show k0_off2 L t 1 + 1 * (x 1).val = _
    rw [k0_off2_eq]
    show 0 + 1 * (x 1).val = _
    omega
  unfold slabRows gath slabList
  refine congrArg tb (congrArg₂ tableIx (congrArg rowNamed (congrArg ix (congrArg listIx (Fin.ext e0.symm)))) e1.symm)

/-- Word k of window b of a trip's list. -/
theorem read_listWin (l : S512.Idx → BitVec 32) (b : Fin 4) (x : S128.Idx) :
    (listWin b).view.read (Elt F) l x
      = l (slotIx ⟨128 * b.val + (x 0).val, by have := b.isLt; have : (x 0).val < 128 := (x 0).isLt; omega⟩) := by
  refine (View.read_apply _ _).trans ((cast_eq _ _).trans (congrArg l ?_))
  funext a
  match a with
  | ⟨0, _⟩ =>
    apply Fin.ext
    show winOff b + 1 * (x 0).val = 128 * b.val + (x 0).val
    rw [winOff_eq]; omega

theorem read_tableAll (tb : S16384x128.Idx → Elt F .f32) : (tableAll).view.read (Elt F) tb = tb := by
  funext x
  refine (View.read_apply _ _).trans ((cast_eq _ _).trans (congrArg tb ?_))
  funext a
  apply Fin.ext
  match a with
  | ⟨0, _⟩ => show 0 + 1 * (x 0).val = (x 0).val; omega
  | ⟨1, _⟩ => show 0 + 1 * (x 1).val = (x 1).val; omega

/-- Window b of the row buffer holds its part of the trip's rows once window b of the list is gathered there, the words
    of the list being rows of the table. -/
theorem write_rowWin (tb : S16384x128.Idx → Elt F .f32) (ix : S262144.Idx → BitVec 32) (L : grid0.Coords) (t : Trip)
    (f : S512x128.Idx → Elt F .f32) (b : Fin 4)
    (hin : ∀ x, ((listWin b).view.read (Elt F) (slabList ix L t) x).toNat < S16384x128.size gathers_S16384x128_S128x128.axis) :
    ∀ i ∈ (rowWin b).view.set,
      (rowWin b).view.write (Elt F) f
        (gatherPayload gathers_S16384x128_S128x128 ((tableAll).view.read (Elt F) tb)
          (SparseCore.rows (F := F) (si := S128) ((listWin b).view.read (Elt F) (slabList ix L t)) rfl hin)) Finset.univ i
        = slabRows tb ix L t i := by
  intro i hi
  obtain ⟨x, -, rfl⟩ := Finset.mem_map.1 hi
  refine (View.write_emb_of_mem _ _ (Finset.mem_univ x)).trans ((cast_eq _ _).trans ?_)
  unfold gatherPayload slabRows
  rw [read_tableAll]
  refine congrArg tb ?_
  have e0 : (((rowWin b).view.emb x : S512x128.Idx) 0).val = 128 * b.val + (x 0).val := by
    show winOff b + 1 * (x 0).val = _
    rw [winOff_eq]; omega
  have e1 : (((rowWin b).view.emb x : S512x128.Idx) 1) = x 1 := by
    apply Fin.ext
    show 0 + 1 * (x 1).val = _
    omega
  have hx0 : (x 0).val < 128 := (x 0).isLt
  have hb := b.isLt
  have hrow : ∀ k : Fin 128, (SparseCore.rows (F := F) (si := S128) (o := 128) (z := 16384)
      ((listWin b).view.read (Elt F) (slabList ix L t)) rfl hin k) = rowNamed (slabList ix L t (slotIx ⟨128 * b.val + k.val, by omega⟩)) := fun k => by
    have hk : ((listWin b).view.read (Elt F) (slabList ix L t) (S128.rowMajor.symm k))
        = slabList ix L t (slotIx ⟨128 * b.val + k.val, by omega⟩) := by
      rw [read_listWin]
      refine congrArg _ (congrArg slotIx (Fin.ext ?_))
      show 128 * b.val + ((S128.rowMajor.symm k) 0).val = _
      have := Shape.rowMajor_val_one (d := S128.size) (S128.rowMajor.symm k)
      have h2 : (S128.rowMajor (S128.rowMajor.symm k)) = k := Equiv.apply_symm_apply _ _
      have h3 : ((S128.rowMajor.symm k) 0).val = k.val := this.symm.trans (congrArg Fin.val h2)
      rw [h3]
    have hlt := hin (S128.rowMajor.symm k)
    apply Fin.ext
    show ((listWin b).view.read (Elt F) (slabList ix L t) (S128.rowMajor.symm k)).toNat = _
    rw [hk] at hlt ⊢
    exact (Nat.mod_eq_of_lt hlt).symm
  funext a
  match a with
  | ⟨0, _⟩ =>
    refine (Shape.Gathers.idx_axis gathers_S16384x128_S128x128 _ x).trans ((hrow (x 0)).trans ?_)
    exact congrArg rowNamed (congrArg _ (congrArg slotIx (Fin.ext e0.symm)))
  | ⟨1, _⟩ =>
    apply Fin.ext
    refine (Shape.Gathers.idx_of_ne gathers_S16384x128_S128x128 _ x ⟨1, by decide⟩ (by decide)).trans ?_
    exact congrArg Fin.val e1.symm

end Cert.Proof.Call.Slabs

end
-- ==== Proof.Call.Launch.lean ====
/-
  The launch of the gather call: the program as the launch theorem sees it, the ghost state of the handshakes and of the
  transfers, the arrays' locations, the shares of the table and of the list a tile reads at, and what the call, its two
  SparseCores and their tiles are handed and hand back.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Call.Slabs

@[expose] public section

noncomputable section

namespace Cert.Proof.Call.Gather

open Cert.GatherIdeal Cert.GatherIdeal.Gen Cert.Proof.Call.Slabs
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq : (K (F := F)).nSub 0 = 16 := rfl
theorem nCore_eq : (K (F := F)).nCore 0 = 2 := rfl

/-- The launch semaphores are pairwise apart where they must be, none of them is scoped, and no buffer of a SparseCore is
    shared between its tasks. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## Ghost state -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Arrays, shares, slabs -/

variable (m : (ℓ : Loc nD τ sig) → Buf (Elt F) ℓ)

abbrev tLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- The gathered array of the launch memory. -/
abbrev G (d : Dev nD) : Buf (Elt F) (oLoc d) := gath (F := F) (m (tLoc d)) (m (xLoc d))

/-- Coordinates of a tile. -/
def coords (c : Fin 2) (s : Fin 16) : grid0.Coords :=
  fun | 0 => (⟨c.val, c.isLt⟩ : Fin (grid0.bound 0)) | 1 => (⟨s.val, s.isLt⟩ : Fin (grid0.bound 1)) | ⟨_ + 2, h⟩ => absurd h (Nat.not_lt.2 (Nat.le_add_left _ _))

/-- The share SparseCore c reads the table and the list at, and its tile s's. -/
def coreShare (c : Fin 2) : PosShare TreeShare := pieceOf fullShare 2 (by decide) c
def tileShare (c : Fin 2) (s : Fin 16) : PosShare TreeShare := pieceOf (coreShare c) 16 (by decide) s

/-- A slab of the result held outright. -/
abbrev slabPts (d : Dev nD) (L : grid0.Coords) (t : Trip) (f : Buf (Elt F) (oLoc d)) : sProp 𝕄 :=
  oLoc d ↦[(outSlab L t).view.set]{fullShare} f

/-- What a tile is handed and hands back: its shares of the table and of the list, its slabs of the result holding f. -/
def tileRes (d : Dev nD) (c : Fin 2) (s : Fin 16) (f : Buf (Elt F) (oLoc d)) : sProp 𝕄 :=
  iprop((tLoc d ↦{tileShare c s} m (tLoc d)) ∗ (xLoc d ↦{tileShare c s} m (xLoc d))
    ∗ bigSep Finset.univ fun t : Trip => slabPts d (coords c s) t f)

/-- What a SparseCore is handed and hands back: its shares, and all its tiles' slabs. -/
def coreRes (d : Dev nD) (c : Fin 2) (f : Buf (Elt F) (oLoc d)) : sProp 𝕄 :=
  iprop((tLoc d ↦{coreShare c} m (tLoc d)) ∗ (xLoc d ↦{coreShare c} m (xLoc d))
    ∗ bigSep Finset.univ fun s : Fin 16 => bigSep Finset.univ fun t : Trip => slabPts d (coords c s) t f)

instance tileRes_storable (d : Dev nD) (c : Fin 2) (s : Fin 16) (f : Buf (Elt F) (oLoc d)) :
    BI.Storable (upEmb : UEmb _ 𝕄) (tileRes m d c s f) := by unfold tileRes; infer_instance
instance coreRes_storable (d : Dev nD) (c : Fin 2) (f : Buf (Elt F) (oLoc d)) :
    BI.Storable (upEmb : UEmb _ 𝕄) (coreRes m d c f) := by unfold coreRes; infer_instance

/-- The resources of a SparseCore are those of its sixteen tiles. -/
theorem coreRes_tiles (d : Dev nD) (c : Fin 2) (f : Buf (Elt F) (oLoc d)) :
    (coreRes m d c f : sProp 𝕄) = bigSep Finset.univ fun s : Fin 16 => tileRes m d c s f := by
  unfold coreRes tileRes
  rw [pointsTo_piecesOf Finset.univ (m (tLoc d)) (show 0 < 16 by decide) (coreShare c),
    pointsTo_piecesOf Finset.univ (m (xLoc d)) (show 0 < 16 by decide) (coreShare c), bigSep_sep', bigSep_sep']
  rfl

theorem coords_slabNo (c : Fin 2) (s : Fin 16) (t : Trip) : slabNo (coords c s) t = 32 * s.val + 16 * c.val + t.val := rfl

/-- Every row of the result lies in a slab. -/
theorem slab_of (r : ℕ) (hr : r < 262144) : ∃ p : Fin 2 × Fin 16 × Trip, r / 512 = slabNo (coords p.1 p.2.1) p.2.2 := by
  refine ⟨(⟨(r / 8192) % 2, by omega⟩, ⟨r / 16384, by omega⟩, ⟨(r / 512) % 16, by rw [trips_eq]; omega⟩), ?_⟩
  rw [coords_slabNo]
  dsimp only
  omega

/-- Two slabs of the same number are the same slab of the same tile. -/
theorem slab_inj {p p' : Fin 2 × Fin 16 × Trip}
    (h : slabNo (coords p.1 p.2.1) p.2.2 = slabNo (coords p'.1 p'.2.1) p'.2.2) : p = p' := by
  obtain ⟨c, s, t⟩ := p
  obtain ⟨c', s', t'⟩ := p'
  rw [coords_slabNo, coords_slabNo] at h
  have ht : t.val < 16 := trips_eq ▸ t.isLt
  have ht' : t'.val < 16 := trips_eq ▸ t'.isLt
  have hc := c.isLt
  have hc' := c'.isLt
  dsimp only at h
  refine Prod.ext (Fin.ext ?_) (Prod.ext (Fin.ext ?_) (Fin.ext ?_)) <;> dsimp only <;> omega

theorem slabs_cover : (Finset.univ : Finset (Fin 2 × Fin 16 × Trip)).biUnion
      (fun p => (outSlab (coords p.1 p.2.1) p.2.2).view.set) = (Finset.univ : Finset S262144x128.Idx) := by
  refine Finset.eq_univ_iff_forall.2 fun x => Finset.mem_biUnion.2 ?_
  obtain ⟨p, hp⟩ := slab_of (x 0).val (x 0).isLt
  exact ⟨p, Finset.mem_univ _, (mem_outSlab _ _ x).2 hp⟩

theorem slabs_disjoint : ∀ p ∈ (Finset.univ : Finset (Fin 2 × Fin 16 × Trip)),
    ∀ p' ∈ (Finset.univ : Finset (Fin 2 × Fin 16 × Trip)), p ≠ p' →
      Disjoint ((outSlab (coords p.1 p.2.1) p.2.2).view.set) ((outSlab (coords p'.1 p'.2.1) p'.2.2).view.set) := by
  intro p _ p' _ hne
  exact Finset.disjoint_left.2 fun x hx hx' =>
    hne (slab_inj (((mem_outSlab _ _ x).1 hx).symm.trans ((mem_outSlab _ _ x).1 hx')))

/-- The result held outright is the slabs of all the tiles of both SparseCores. -/
theorem out_slabs (d : Dev nD) (f : Buf (Elt F) (oLoc d)) :
    (oLoc d ↦{fullShare} f : sProp 𝕄)
      = bigSep Finset.univ fun c : Fin 2 => bigSep Finset.univ fun s : Fin 16 => bigSep Finset.univ fun t : Trip =>
          slabPts d (coords c s) t f := by
  have h : (oLoc d ↦{fullShare} f : sProp 𝕄)
      = oLoc d ↦[(Finset.univ : Finset (Fin 2 × Fin 16 × Trip)).biUnion
          fun p => (outSlab (coords p.1 p.2.1) p.2.2).view.set]{fullShare} f :=
    congrArg (fun I : Finset S262144x128.Idx => (oLoc d ↦[I]{fullShare} f : sProp 𝕄)) slabs_cover.symm
  rw [h, pointsTo_biUnion Finset.univ _ slabs_disjoint, bigSep_univ_prod]
  refine bigSep_congr fun c _ => ?_
  rw [bigSep_univ_prod]

/-- The table, the list and the result held outright are the resources of the two SparseCores. -/
theorem whole_cores (d : Dev nD) (f : Buf (Elt F) (oLoc d)) :
    iprop((tLoc d ↦{fullShare} m (tLoc d)) ∗ (xLoc d ↦{fullShare} m (xLoc d)) ∗ (oLoc d ↦{fullShare} f))
      = (bigSep Finset.univ fun c : Fin 2 => coreRes m d c f : sProp 𝕄) := by
  unfold coreRes
  rw [pointsTo_piecesOf Finset.univ (m (tLoc d)) (show 0 < 2 by decide) fullShare,
    pointsTo_piecesOf Finset.univ (m (xLoc d)) (show 0 < 2 by decide) fullShare, out_slabs, bigSep_sep', bigSep_sep']
  rfl

/-! ## What the handshakes carry -/

/-- The call hands each SparseCore its shares and slabs, each SparseCore hands each tile its own; they come back with the
    slabs holding the gathered array. -/
def P : (K (F := F)).Pay (nD := nD) (Val := Elt F) (Name := ℕ) (U := UU) where
  st := fun q d c => match q with | 0 => coreRes m d (Fin.cast nCore_eq c) (m (oLoc d))
  dn := fun q d c => match q with | 0 => coreRes m d (Fin.cast nCore_eq c) (G m d)
  go := fun q d c i => match q with | 0 => tileRes m d (Fin.cast nCore_eq c) (Fin.cast nSub_eq i) (m (oLoc d))
  td := fun q d c i => match q with | 0 => tileRes m d (Fin.cast nCore_eq c) (Fin.cast nSub_eq i) (G m d)
  x := fun _ _ => iprop(emp)

instance P_storable : (P (F := F) m).IsStorable where
  st q d c := match q with | 0 => coreRes_storable m d (Fin.cast nCore_eq c) (m (oLoc d))
  dn q d c := match q with | 0 => coreRes_storable m d (Fin.cast nCore_eq c) (G m d)
  go q d c i := match q with | 0 => tileRes_storable m d (Fin.cast nCore_eq c) (Fin.cast nSub_eq i) (m (oLoc d))
  td q d c i := match q with | 0 => tileRes_storable m d (Fin.cast nCore_eq c) (Fin.cast nSub_eq i) (G m d)

/-- Every word of the list is a row of the table. -/
def RowsOK : Prop := ∀ (d : Dev nD) (j : S262144.Idx), BitVec.toNat (m (xLoc d) j : BitVec 32) < 16384

end Cert.Proof.Call.Gather

end
-- ==== Proof.Call.Tile.lean ====
/-
  The run of the gather's body on one tile, at symbolic coordinates: each trip fetches its slab of the list, gathers the
  named rows of the table into the row buffer by four streams on one semaphore, drains them, and writes the rows out to
  its slab of the result.
-/
module

public import proofs.«01_k».proof.Proof.Call.Launch

@[expose] public section

noncomputable section

namespace Cert.Proof.Call.Gather

open Cert.GatherIdeal Cert.GatherIdeal.Gen Cert.Proof.Call.Slabs Cert.Proof.BatchGather
open Idealize.ShloMosaic
open Idealize.ShloMosaic.SparseCore (S V T gatherPayload)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.GatherIdeal.main_arg0_scv : Memref Cert.GatherIdeal.sig Kind.scVector Space.hbm Cert.GatherIdeal.S16384x128 EltTy.f32)
local notation "xV" => (Memref.whole Cert.GatherIdeal.main_arg1_scv : Memref Cert.GatherIdeal.sig Kind.scVector Space.hbm Cert.GatherIdeal.S262144 EltTy.i32)
local notation "oV" => (Memref.whole Cert.GatherIdeal.main_v0_scv : Memref Cert.GatherIdeal.sig Kind.scVector Space.hbm Cert.GatherIdeal.S262144x128 EltTy.f32)
local notation "iV" => (Memref.whole Cert.GatherIdeal.cc0_scratch0 : Memref Cert.GatherIdeal.sig Kind.scVector Space.vmem Cert.GatherIdeal.S512 EltTy.i32)
local notation "rV" => (Memref.whole Cert.GatherIdeal.cc0_scratch1 : Memref Cert.GatherIdeal.sig Kind.scVector Space.vmem Cert.GatherIdeal.S512x128 EltTy.f32)

variable (m : (ℓ : Loc nD τ sig) → Buf (Elt F) ℓ) (d : Dev nD) (L : grid0.Coords)

/-- A tile's SparseCore and subcore, its thread, its two scratch buffers and its three semaphores. -/
abbrev cV (L : grid0.Coords) : Fin τ.nSC := (L 0).castLE hcore0
abbrev jV (L : grid0.Coords) : Fin τ.nSub := (L 1).castLE hsub0
abbrev thr : Thread nD τ := V d (cV L) (jV L)
abbrev iLoc : Loc nD τ sig := (thr d L).loc cc0_scratch0
abbrev rLoc : Loc nD τ sig := (thr d L).loc cc0_scratch1
abbrev gatherCell : GSem nD τ sig := (thr d L, .dma cc0_scratch2.sem)
abbrev fetchCell : GSem nD τ sig := (thr d L, .dma cc0_scoped0.sem)
abbrev writeCell : GSem nD τ sig := (thr d L, .dma cc0_scoped1.sem)

/-! ## A trip as a program -/

/-- One of the four streams of a trip, and the wait for one of them. -/
abbrev stream (b : Fin 4) : Prog (TpuEff nD τ sig (Elt F) Λ₀ (.scVector (cV L) (jV L))) PUnit :=
  SparseCore.enqueueIndirectGather rfl tableAll (rowWin b) gathers_S16384x128_S128x128 (listWin b) rfl cc0_scratch2.sem
    (View.wordExact_bits rfl) rfl (Or.inl rfl)

/-- A trip with its operations in order. -/
def trip (t : Trip) : Prog (TpuEff nD τ sig (Elt F) Λ₀ (.scVector (cV L) (jV L))) Unit :=
  .op (.enqueueDma (listSlab L t) (.here iV) (.dma cc0_scoped0.sem) (View.wordExact_bits rfl)
    (Memref.isWhole_whole cc0_scratch0).wordExact ⟨Or.inl rfl, trivial⟩) fun _ =>
  .op (.waitDma2 cc0_scoped0.sem (listSlab L t) iV (View.wordExact_bits rfl) (Memref.isWhole_whole cc0_scratch0).wordExact) fun _ =>
  stream L 0 >>= fun _ => stream L 1 >>= fun _ => stream L 2 >>= fun _ => stream L 3 >>= fun _ =>
  .op (.waitDma2 cc0_scratch2.sem tableAll (rowWin 0) (View.wordExact_bits rfl) (View.wordExact_bits rfl)) fun _ =>
  .op (.waitDma2 cc0_scratch2.sem tableAll (rowWin 1) (View.wordExact_bits rfl) (View.wordExact_bits rfl)) fun _ =>
  .op (.waitDma2 cc0_scratch2.sem tableAll (rowWin 2) (View.wordExact_bits rfl) (View.wordExact_bits rfl)) fun _ =>
  .op (.waitDma2 cc0_scratch2.sem tableAll (rowWin 3) (View.wordExact_bits rfl) (View.wordExact_bits rfl)) fun _ =>
  .op (.enqueueDma rV (.here (outSlab L t)) (.dma cc0_scoped1.sem) (Memref.isWhole_whole cc0_scratch1).wordExact
    (View.wordExact_bits rfl) ⟨Or.inl rfl, trivial⟩) fun _ =>
  .op (.waitDma2 cc0_scoped1.sem rV (outSlab L t) (Memref.isWhole_whole cc0_scratch1).wordExact (View.wordExact_bits rfl)) fun _ =>
  .ret ()

set_option maxRecDepth 65536 in
/-- The loop's body is that program. -/
theorem body_eq_trip (v : BitVec 32) (t : Trip) (acc : Unit) :
    k0_t1_body (F := F) L tV (Memref.isWhole_whole _) xV (Memref.isWhole_whole _) oV (Memref.isWhole_whole _)
      iV (Memref.isWhole_whole _) rV (Memref.isWhole_whole _) cc0_scratch2 cc0_scoped0 cc0_scoped1 v t acc = trip L t := rfl

/-! ## The streams of a trip as one batch -/

/-- The words of every window of a trip's list are rows of the table. -/
def WindowsOK (l : S512.Idx → BitVec 32) : Prop :=
  ∀ b x, ((listWin b).view.read (Elt F) l x : BitVec 32).toNat < S16384x128.size gathers_S16384x128_S128x128.axis

theorem windowsOK (h : RowsOK m) (t : Trip) : WindowsOK (F := F) (slabList (m (xLoc d)) L t) := fun b x => by
  rw [read_listWin]; exact h d _

theorem rows_pos : 0 < S128x128.size gathers_S16384x128_S128x128.axis' := by decide

set_option maxRecDepth 65536 in
/-- A row of a window is a transfer of 4096 units. -/
theorem row_credit (b : Fin 4) (j : Fin (S128x128.size gathers_S16384x128_S128x128.axis')) :
    ((rowWin b).slice (S128x128.rowRect gathers_S16384x128_S128x128.axis' j)
      (S128x128.stride_rowRect gathers_S16384x128_S128x128.axis' j)).view.dmaCredit = 4096 := by
  show RefSig.bitCredit (S128x128.rowShape gathers_S16384x128_S128x128.axis') EltTy.f32 = 4096
  decide

set_option maxRecDepth 65536 in
/-- A window is 128 of them. -/
theorem win_credit (b : Fin 4) : (rowWin b).view.dmaCredit = 128 * 4096 := rfl

/-- The share of the table each of a trip's four streams reads at. -/
def streamShare (q : PosShare TreeShare) (b : Fin 4) : PosShare TreeShare := pieceOf q 4 (by decide) b

section Batch

variable (q : PosShare TreeShare) (tb : S16384x128.Idx → Elt F .f32) (l : S512.Idx → BitVec 32)
  (fr : S512x128.Idx → Elt F .f32) (hw : WindowsOK (F := F) l)

/-- What row k of stream b hands back. -/
def back (b : Fin 4) (k : Fin 128) : sProp 𝕄 :=
  rowBack (F := F) (Ix := HIx 1) (Name := ℕ) (U := UU) (Lvl := ℕ) (thr d L) tableAll (rowWin b) gathers_S16384x128_S128x128 (listWin b) rfl
    (streamShare q b) fullShare tb fr l (SparseCore.rows (F := F) (si := S128) ((listWin b).view.read (Elt F) l) rfl (hw b)) rows_pos k

/-- Transfer r of the batch is row r % 128 of stream r / 128. -/
def given (r : Fin (4 * 128)) : sProp 𝕄 :=
  back d L q tb l fr hw (finProdFinEquiv.symm r).1 (finProdFinEquiv.symm r).2

instance given_storable (r : Fin (4 * 128)) : BI.Storable (upEmb : UEmb _ 𝕄) (given d L q tb l fr hw r) := by
  unfold given back; apply rowBack_storable

theorem given_at (b : Fin 4) (k : Fin 128) (h : 128 * b.val + k.val < 4 * 128) :
    given d L q tb l fr hw ⟨128 * b.val + k.val, h⟩ = back d L q tb l fr hw b k := by
  have e : finProdFinEquiv.symm (⟨128 * b.val + k.val, h⟩ : Fin (4 * 128)) = (b, k) :=
    (Equiv.symm_apply_eq _).2 (Fin.ext (Nat.add_comm _ _))
  unfold given; rw [e]

abbrev batch (j u : ℕ) : sProp 𝕄 :=
  Transfers.Batch (countersEmb : UEmb Counters 𝕄) (thr d L) (.dma cc0_scratch2.sem) (default : HIx 1) 4096 (given d L q tb l fr hw) j u

variable {α : Type} {Q : α → sProp (MT nD τ sig (HIx 1) (Elt F) ℕ UU ℕ)}

set_option maxRecDepth 65536 in
set_option maxHeartbeats 400000 in
/-- Stream b issued: the batch's transfers up to its last row are issued. -/
theorem wp_stream (b : Fin 4) (j j' : ℕ) (hj : j = 128 * b.val) (hj' : j' = j + 128)
    {k : PUnit → Prog (TpuEff nD τ sig (Elt F) Λ₀ (thr d L).2) α} :
    iprop(((tLoc d : Loc nD τ sig) ↦[(tableAll).view.set]{streamShare q b} tb) ∗ (rLoc d L ↦[(rowWin b).view.set]{fullShare} fr)
        ∗ (iLoc d L ↦[(listWin b).view.set]{fullShare} l) ∗ batch d L q tb l fr hw j 0)
      ⊢ iprop((batch d L q tb l fr hw j' 0 -∗ wp frame (wpE (defs₀ (F := F)) 𝒱₀ (thr d L) none) Set.univ (k ⟨⟩) Q)
          -∗ wp frame (wpE (defs₀ (F := F)) 𝒱₀ (thr d L) none) Set.univ (stream L b >>= k) Q) := by
  have hb := b.isLt
  subst hj
  subst hj'
  have hD : ∀ i : Fin (S128x128.size gathers_S16384x128_S128x128.axis'),
      rowBack (F := F) (Ix := HIx 1) (Name := ℕ) (U := UU) (Lvl := ℕ) (thr d L) tableAll (rowWin b) gathers_S16384x128_S128x128 (listWin b) rfl
        (streamShare q b) fullShare tb fr l (SparseCore.rows (F := F) (si := S128) ((listWin b).view.read (Elt F) l) rfl (hw b)) rows_pos i
      ⊢ given d L q tb l fr hw ⟨128 * b.val + i.val, by have : i.val < 128 := i.isLt; omega⟩ := fun i =>
    Entails.of_eq (given_at d L q tb l fr hw b i (by have : i.val < 128 := i.isLt; omega)).symm
  have hj : 128 * b.val + S128x128.size gathers_S16384x128_S128x128.axis' ≤ 4 * 128 := by
    show 128 * b.val + 128 ≤ 4 * 128
    omega
  have h := wp_gather_into_batch (thr d L) (countersEmb : UEmb Counters 𝕄) 𝒱₀ none (defs := defs₀ (F := F)) (Q := Q) (k := k)
    (src := tableAll) (dst := rowWin b) (hg := gathers_S16384x128_S128x128) (offs := listWin b) (hn := rfl) (sem := cc0_scratch2.sem)
    (hp := rfl) (hsrc := View.wordExact_bits rfl) (he := rfl) (hsp := Or.inl rfl) (hr := by decide)
    (q := streamShare q b) (qo := fullShare) (fs := tb) (fd := fr) (fo := l)
    (default : HIx 1) 4096 (row_credit b) rows_pos (hw b) (D := given d L q tb l fr hw) (j := 128 * b.val) (u := 0)
    (Nat.zero_le _) hj hD
  exact h

/-- The batch's deliveries are the streams': the windows of the row buffer written, and the table's and the list's
    pieces back. -/
theorem given_join :
    bigSep Finset.univ (given d L q tb l fr hw) ⊢ iprop(
      (bigSep Finset.univ fun b : Fin 4 => (rLoc d L ↦[(rowWin b).view.set]{fullShare}
        ((rowWin b).view.write (Elt F) fr (gatherPayload gathers_S16384x128_S128x128 ((tableAll).view.read (Elt F) tb)
          (SparseCore.rows (F := F) (si := S128) ((listWin b).view.read (Elt F) l) rfl (hw b))) Finset.univ) : sProp 𝕄))
      ∗ (bigSep Finset.univ fun b : Fin 4 => ((tLoc d : Loc nD τ sig) ↦[(tableAll).view.set]{streamShare q b} tb : sProp 𝕄))
      ∗ (bigSep Finset.univ fun b : Fin 4 => (iLoc d L ↦[(listWin b).view.set]{fullShare} l : sProp 𝕄))) := by
  have h1 : bigSep Finset.univ (given d L q tb l fr hw)
      = bigSep Finset.univ fun b : Fin 4 => bigSep Finset.univ fun k : Fin 128 => back d L q tb l fr hw b k := by
    rw [bigSep_univ_equiv (finProdFinEquiv (m := 4) (n := 128)), bigSep_univ_prod]
    refine bigSep_congr fun b _ => bigSep_congr fun k _ => ?_
    unfold given; rw [Equiv.symm_apply_apply]
  rw [h1]
  refine (bigSep_mono fun b _ => gather_rows_join (thr d L) tableAll (rowWin b) gathers_S16384x128_S128x128 (listWin b) rfl
    (streamShare q b) fullShare tb fr l _ rows_pos).trans ?_
  exact (Transfers.bigSep_sep_out _ _ _).trans (sep_mono .rfl (Transfers.bigSep_sep_out _ _ _))

end Batch

/-! ## The pieces of a trip's buffers -/

theorem bigSep_four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide,
    SparseCore.bigSep_insert' (by decide), SparseCore.bigSep_insert' (by decide), SparseCore.bigSep_insert' (by decide), bigSep_singleton]

/-- The list buffer is its four windows. -/
theorem list_windows (l : S512.Idx → BitVec 32) :
    (iLoc d L ↦{fullShare} l : sProp 𝕄) = bigSep Finset.univ fun b : Fin 4 => iLoc d L ↦[(listWin b).view.set]{fullShare} l := by
  have hK := fun b x => mem_listWin b x
  have h : (iLoc d L ↦{fullShare} l : sProp 𝕄)
      = iLoc d L ↦[(Finset.univ : Finset (Fin 4)).biUnion fun b => (listWin b).view.set]{fullShare} l :=
    congrArg (fun I : Finset S512.Idx => (iLoc d L ↦[I]{fullShare} l : sProp 𝕄))
      (windows_cover (fun b => (listWin b).view.set) (fun x : S512.Idx => (x 0).val) hK fun x => (x 0).isLt)
  rw [h]
  exact pointsTo_biUnion Finset.univ _ (windows_disjoint (fun b => (listWin b).view.set) (fun x : S512.Idx => (x 0).val) hK)

/-- The row buffer is its four windows. -/
theorem row_windows (f : S512x128.Idx → Elt F .f32) :
    (rLoc d L ↦{fullShare} f : sProp 𝕄) = bigSep Finset.univ fun b : Fin 4 => rLoc d L ↦[(rowWin b).view.set]{fullShare} f := by
  have hK := fun b x => mem_rowWin b x
  have h : (rLoc d L ↦{fullShare} f : sProp 𝕄)
      = rLoc d L ↦[(Finset.univ : Finset (Fin 4)).biUnion fun b => (rowWin b).view.set]{fullShare} f :=
    congrArg (fun I : Finset S512x128.Idx => (rLoc d L ↦[I]{fullShare} f : sProp 𝕄))
      (windows_cover (fun b => (rowWin b).view.set) (fun x : S512x128.Idx => (x 0).val) hK fun x => (x 0).isLt)
  rw [h]
  exact pointsTo_biUnion Finset.univ _ (windows_disjoint (fun b => (rowWin b).view.set) (fun x : S512x128.Idx => (x 0).val) hK)

set_option maxRecDepth 65536 in
/-- A share of the table is the four streams' shares of it. -/
theorem table_shares (q : PosShare TreeShare) (tb : S16384x128.Idx → Elt F .f32) :
    (tLoc d ↦{q} tb : sProp 𝕄) = bigSep Finset.univ fun b : Fin 4 => tLoc d ↦[(tableAll).view.set]{streamShare q b} tb := by
  have h : (tLoc d ↦{q} tb : sProp 𝕄) = tLoc d ↦[(tableAll).view.set]{q} tb :=
    congrArg (fun I : Finset S16384x128.Idx => (tLoc d ↦[I]{q} tb : sProp 𝕄)) set_tableAll.symm
  exact h.trans (pointsTo_piecesOf (ℓ := tLoc d) (tableAll).view.set tb (show 0 < 4 by decide) q)

set_option maxRecDepth 65536 in
/-- The windows of the row buffer, each holding its stream's gather, are the row buffer holding the trip's rows. -/
theorem gathered_rows (tb : S16384x128.Idx → Elt F .f32) (ix : S262144.Idx → BitVec 32) (t : Trip) (fr : S512x128.Idx → Elt F .f32)
    (hw : WindowsOK (F := F) (slabList ix L t)) :
    (bigSep Finset.univ fun b : Fin 4 => (rLoc d L ↦[(rowWin b).view.set]{fullShare}
        ((rowWin b).view.write (Elt F) fr (gatherPayload gathers_S16384x128_S128x128 ((tableAll).view.read (Elt F) tb)
          (SparseCore.rows (F := F) (si := S128) ((listWin b).view.read (Elt F) (slabList ix L t)) rfl (hw b))) Finset.univ) : sProp 𝕄))
      = (rLoc d L ↦{fullShare} slabRows tb ix L t : sProp 𝕄) := by
  have h : ∀ b : Fin 4, (rLoc d L ↦[(rowWin b).view.set]{fullShare}
        ((rowWin b).view.write (Elt F) fr (gatherPayload gathers_S16384x128_S128x128 ((tableAll).view.read (Elt F) tb)
          (SparseCore.rows (F := F) (si := S128) ((listWin b).view.read (Elt F) (slabList ix L t)) rfl (hw b))) Finset.univ) : sProp 𝕄)
      = (rLoc d L ↦[(rowWin b).view.set]{fullShare} slabRows tb ix L t : sProp 𝕄) := fun b =>
    pointsTo_congr (ℓ := rLoc d L) (I := (rowWin b).view.set) (write_rowWin tb ix L t fr b (hw b))
  exact (bigSep_congr fun b _ => h b).trans (row_windows d L _).symm

/-! ## A trip -/

/-- A tile may wait on any of its semaphores for its own transfers, owing nothing at their index. -/
theorem mayWait (sm : DmaSem sig) (O : CellTallies nD τ sig (HIx 1)) (hO : ∀ g, O g none = 0) :
    (levAts (K (F := F)).L (K (F := F)).lev : sProp 𝕄) ⊢ MayWait (thr d L) (.dma sm) (default : HIx 1) O :=
  ((K (F := F)).mayWaits_none (thr := thr d L) hO).trans (Transfers.MayWaits.elim (SemLoc.dma sm))

/-- What a tile's waits leave: the waits before, and waits at the transfers' index. -/
def WaitsOK (W W' : Waits sig (HIx 1)) : Prop := ∀ p ∈ W', p ∈ W ∨ p.2 = none

theorem WaitsOK.refl (W : Waits sig (HIx 1)) : WaitsOK W W := fun _ h => .inl h
theorem WaitsOK.insert {W W' : Waits sig (HIx 1)} (h : WaitsOK W W') (s : SemLoc sig) : WaitsOK W (Insert.insert (s, (default : HIx 1)) W') := fun p hp =>
  (Finset.mem_insert.1 hp).elim (fun e => .inr (e ▸ rfl)) (h p)

/-- A tile between trips: its shares of the table and of the list, its scratch at any contents, its semaphores at zero,
    and its waits. -/
def between (q : PosShare TreeShare) (O : CellTallies nD τ sig (HIx 1)) (W : Waits sig (HIx 1)) : sProp 𝕄 :=
  iprop((tLoc d ↦{q} m (tLoc d)) ∗ (xLoc d ↦{q} m (xLoc d)) ∗ (∃ f, iLoc d L ↦{fullShare} f) ∗ (∃ f, rLoc d L ↦{fullShare} f)
    ∗ semVal (gatherCell d L) 0 ∗ semVal (fetchCell d L) 0 ∗ semVal (writeCell d L) 0
    ∗ ∃ W', ⌜WaitsOK W W'⌝ ∗ owes (thr d L) O W')

set_option maxRecDepth 65536 in
set_option maxHeartbeats 4000000 in
/-- A trip writes its slab of the gathered array to the result. -/
theorem wp_trip (hm : RowsOK m) (q : PosShare TreeShare) (O : CellTallies nD τ sig (HIx 1)) (W : Waits sig (HIx 1))
    (hO : ∀ g, O g none = 0) (t : Trip) (fo : Buf (Elt F) (oLoc d)) :
    iprop(levAts (K (F := F)).L (K (F := F)).lev ∗ between m d L q O W ∗ slabPts d L t fo)
      ⊢ wp frame (wpE (defs₀ (F := F)) 𝒱₀ (thr d L) none) Set.univ (trip L t)
          fun _ => iprop(between m d L q O W ∗ slabPts d L t (G m d)) := by
  have hw : WindowsOK (F := F) (slabList (m (xLoc d)) L t) := windowsOK m d L hm t
  unfold between trip
  iintro ⟨#Hlv, ⟨Ht, Hx, ⟨%fi, Hi⟩, ⟨%fr, Hr⟩, Hgc, Hfc, Hwc, %W1, %hW1, HO⟩, Ho⟩
  -- the trip's list
  ihave Hx := (pointsTo_split_subset (q := q) (f := m (xLoc d)) (S := Finset.univ) (Finset.subset_univ (listSlab L t).view.set)).1 $$ Hx
  icases Hx with ⟨Hxs, Hxr⟩
  iapply (Transfers.wp_dmaLocal countersEmb 𝒱₀ (thr d L) none (src := listSlab L t) (dst := iV) (via := .same) (q := q)
    (fs := m (xLoc d)) (fd := fi) (Sd := Finset.univ) (default : HIx 1) _ rfl (View.amount_pos _ _ (by decide)) (Finset.subset_univ _)) $$ [Hxs Hi Hfc]
  · isplitl [Hxs]; · iexact Hxs
    isplitl [Hi]; · iexact Hi
    iexact Hfc
  iintro Hfl
  iapply (Transfers.wp_waitLocalO countersEmb 𝒱₀ (thr d L) none (default : HIx 1) rfl) $$ [Hfl HO]
  · isplitl [Hfl]; · iexact Hfl
    isplitl [HO]; · iexact HO
    iapply (mayWait (F := F) d L cc0_scoped0.sem O hO) $$ Hlv
  iintro ⟨⟨Hi, Hxs⟩, Hfc, HO⟩
  have hlist : (iLoc d L ↦{fullShare} ((iV).view.write (Elt F) fi (ReadAs.same.apply ((listSlab L t).view.read (Elt F) (m (xLoc d)))) Finset.univ) : sProp 𝕄)
      = bigSep Finset.univ fun b : Fin 4 => iLoc d L ↦[(listWin b).view.set]{fullShare} slabList (m (xLoc d)) L t := by
    rw [← list_windows, ReadAs.apply_same, View.write_whole_univ, read_listSlab]
  ihave Hi := (Entails.of_eq (hlist.trans (bigSep_four _))) $$ Hi
  icases Hi with ⟨Hi0, Hi1, Hi2, Hi3⟩
  ihave Hr := (Entails.of_eq ((row_windows d L fr).trans (bigSep_four _))) $$ Hr
  icases Hr with ⟨Hr0, Hr1, Hr2, Hr3⟩
  ihave Ht := (Entails.of_eq ((table_shares d q (m (tLoc d))).trans (bigSep_four _))) $$ Ht
  icases Ht with ⟨Ht0, Ht1, Ht2, Ht3⟩
  -- the four streams
  imod (Transfers.batch_alloc' (countersEmb : UEmb Counters 𝕄) (thr d L) (sm := .dma cc0_scratch2.sem) (default : HIx 1) 4096
    (given d L q (m (tLoc d)) (slabList (m (xLoc d)) L t) fr hw) (E := Set.univ)) $$ Hgc with Hb
  iapply (wp_stream d L q (m (tLoc d)) (slabList (m (xLoc d)) L t) fr hw 0 0 128 (by decide) (by decide)) $$ [Ht0 Hr0 Hi0 Hb]
  · isplitl [Ht0]; · iexact Ht0
    isplitl [Hr0]; · iexact Hr0
    isplitl [Hi0] <;> iassumption
  iintro Hb
  iapply (wp_stream d L q (m (tLoc d)) (slabList (m (xLoc d)) L t) fr hw 1 128 256 (by decide) (by decide)) $$ [Ht1 Hr1 Hi1 Hb]
  · isplitl [Ht1]; · iexact Ht1
    isplitl [Hr1]; · iexact Hr1
    isplitl [Hi1] <;> iassumption
  iintro Hb
  iapply (wp_stream d L q (m (tLoc d)) (slabList (m (xLoc d)) L t) fr hw 2 256 384 (by decide) (by decide)) $$ [Ht2 Hr2 Hi2 Hb]
  · isplitl [Ht2]; · iexact Ht2
    isplitl [Hr2]; · iexact Hr2
    isplitl [Hi2] <;> iassumption
  iintro Hb
  iapply (wp_stream d L q (m (tLoc d)) (slabList (m (xLoc d)) L t) fr hw 3 384 512 (by decide) (by decide)) $$ [Ht3 Hr3 Hi3 Hb]
  · isplitl [Ht3]; · iexact Ht3
    isplitl [Hr3]; · iexact Hr3
    isplitl [Hi3] <;> iassumption
  iintro Hb
  -- the four waits
  iapply (Transfers.wp_waitBatchMulO (countersEmb : UEmb Counters 𝕄) 𝒱₀ (thr d L) none (default : HIx 1) 128 (win_credit 0)
    (D := given d L q (m (tLoc d)) (slabList (m (xLoc d)) L t) fr hw) (j := 512) (u := 0) (by decide)) $$ [Hb HO]
  · isplitl [Hb]; · iexact Hb
    isplitl [HO]; · iexact HO
    iapply (mayWait (F := F) d L cc0_scratch2.sem O hO) $$ Hlv
  iintro ⟨Hb, HO⟩
  iapply (Transfers.wp_waitBatchMulO (countersEmb : UEmb Counters 𝕄) 𝒱₀ (thr d L) none (default : HIx 1) 128 (win_credit 1)
    (D := given d L q (m (tLoc d)) (slabList (m (xLoc d)) L t) fr hw) (j := 512) (u := 0 + 128 * 4096) (by decide)) $$ [Hb HO]
  · isplitl [Hb]; · iexact Hb
    isplitl [HO]; · iexact HO
    iapply (mayWait (F := F) d L cc0_scratch2.sem O hO) $$ Hlv
  iintro ⟨Hb, HO⟩
  iapply (Transfers.wp_waitBatchMulO (countersEmb : UEmb Counters 𝕄) 𝒱₀ (thr d L) none (default : HIx 1) 128 (win_credit 2)
    (D := given d L q (m (tLoc d)) (slabList (m (xLoc d)) L t) fr hw) (j := 512) (u := 0 + 128 * 4096 + 128 * 4096) (by decide)) $$ [Hb HO]
  · isplitl [Hb]; · iexact Hb
    isplitl [HO]; · iexact HO
    iapply (mayWait (F := F) d L cc0_scratch2.sem O hO) $$ Hlv
  iintro ⟨Hb, HO⟩
  iapply (Transfers.wp_waitBatchAllO (countersEmb : UEmb Counters 𝕄) 𝒱₀ (thr d L) none (default : HIx 1) (N := 4096) (win_credit 3) (by decide)
    (D := given d L q (m (tLoc d)) (slabList (m (xLoc d)) L t) fr hw) (u := 0 + 128 * 4096 + 128 * 4096 + 128 * 4096) (by decide)) $$ [Hb HO]
  · isplitl [Hb]; · iexact Hb
    isplitl [HO]; · iexact HO
    iapply (mayWait (F := F) d L cc0_scratch2.sem O hO) $$ Hlv
  iintro ⟨Hb, Hgc, HO⟩
  ihave Hb := (given_join d L q (m (tLoc d)) (slabList (m (xLoc d)) L t) fr hw) $$ Hb
  icases Hb with ⟨Hr, Ht, Hi⟩
  ihave Hr := (Entails.of_eq (gathered_rows d L (m (tLoc d)) (m (xLoc d)) t fr hw)) $$ Hr
  ihave Ht := (Entails.of_eq (table_shares d q (m (tLoc d))).symm) $$ Ht
  ihave Hi := (Entails.of_eq (list_windows d L (slabList (m (xLoc d)) L t)).symm) $$ Hi
  -- the trip's rows out
  ihave Hr := (Entails.of_eq (congrArg (fun I : Finset S512x128.Idx => (rLoc d L ↦[I]{fullShare} slabRows (m (tLoc d)) (m (xLoc d)) L t : sProp 𝕄))
    (View.set_whole (cc0_scratch1 : Ref sig .scVector)).symm)) $$ Hr
  iapply (Transfers.wp_dmaLocal countersEmb 𝒱₀ (thr d L) none (src := rV) (dst := outSlab L t) (via := .same) (q := fullShare)
    (fs := slabRows (m (tLoc d)) (m (xLoc d)) L t) (fd := fo) (Sd := (outSlab L t).view.set) (default : HIx 1) _ rfl
    (View.amount_pos _ _ (by decide)) (Finset.Subset.refl _)) $$ [Hr Ho Hwc]
  · isplitl [Hr]; · iexact Hr
    isplitl [Ho]; · iexact Ho
    iexact Hwc
  iintro Hfl
  iapply (Transfers.wp_waitLocalO countersEmb 𝒱₀ (thr d L) none (default : HIx 1) rfl) $$ [Hfl HO]
  · isplitl [Hfl]; · iexact Hfl
    isplitl [HO]; · iexact HO
    iapply (mayWait (F := F) d L cc0_scoped1.sem O hO) $$ Hlv
  iintro ⟨⟨Ho, Hr⟩, Hwc, HO⟩
  ihave Hr := (Entails.of_eq (congrArg (fun I : Finset S512x128.Idx => (rLoc d L ↦[I]{fullShare} slabRows (m (tLoc d)) (m (xLoc d)) L t : sProp 𝕄))
    (View.set_whole (cc0_scratch1 : Ref sig .scVector)))) $$ Hr
  have hout : (oLoc d ↦[(outSlab L t).view.set]{fullShare} ((outSlab L t).view.write (Elt F) fo
        (ReadAs.same.apply ((rV).view.read (Elt F) (slabRows (m (tLoc d)) (m (xLoc d)) L t))) Finset.univ) : sProp 𝕄)
      = slabPts d L t (G m d) := by
    have hread : (rV).view.read (Elt F) (slabRows (m (tLoc d)) (m (xLoc d)) L t) = slabRows (m (tLoc d)) (m (xLoc d)) L t :=
      View.read_whole (cc0_scratch1 : Ref sig .scVector) _
    rw [ReadAs.apply_same, hread]
    exact pointsTo_congr (write_outSlab (m (tLoc d)) (m (xLoc d)) fo L t)
  ihave Ho := (Entails.of_eq hout) $$ Ho
  ihave Hx := (pointsTo_split_subset (q := q) (f := m (xLoc d)) (S := Finset.univ) (Finset.subset_univ (listSlab L t).view.set)).2 $$ [Hxs Hxr]
  · isplitl [Hxs] <;> iassumption
  iapply (Entails.of_eq (wp_ret _ _ _ _ _).symm)
  imodintro
  isplitr [Ho]
  · isplitl [Ht]; · iexact Ht
    isplitl [Hx]; · iexact Hx
    isplitl [Hi]; · iexists _; iexact Hi
    isplitl [Hr]; · iexists _; iexact Hr
    isplitl [Hgc]; · iexact Hgc
    isplitl [Hfc]; · iexact Hfc
    isplitl [Hwc]; · iexact Hwc
    iexists _
    isplitr
    rotate_left
    · iexact HO
    · ipureintro
      exact (((((hW1.insert _).insert _).insert _).insert _).insert _).insert _
  · iexact Ho

end Cert.Proof.Call.Gather

end
-- ==== Proof.Call.Task.lean ====
/-
  The whole of a tile's task: its sixteen trips, and the obligation the launch theorem asks of the call.
-/
module

public import proofs.«01_k».proof.Proof.Call.Tile

@[expose] public section

noncomputable section

namespace Cert.Proof.Call.Gather

open Cert.GatherIdeal Cert.GatherIdeal.Gen Cert.Proof.Call.Slabs
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.GatherIdeal.main_arg0_scv : Memref Cert.GatherIdeal.sig Kind.scVector Space.hbm Cert.GatherIdeal.S16384x128 EltTy.f32)
local notation "xV" => (Memref.whole Cert.GatherIdeal.main_arg1_scv : Memref Cert.GatherIdeal.sig Kind.scVector Space.hbm Cert.GatherIdeal.S262144 EltTy.i32)
local notation "oV" => (Memref.whole Cert.GatherIdeal.main_v0_scv : Memref Cert.GatherIdeal.sig Kind.scVector Space.hbm Cert.GatherIdeal.S262144x128 EltTy.f32)
local notation "iV" => (Memref.whole Cert.GatherIdeal.cc0_scratch0 : Memref Cert.GatherIdeal.sig Kind.scVector Space.vmem Cert.GatherIdeal.S512 EltTy.i32)
local notation "rV" => (Memref.whole Cert.GatherIdeal.cc0_scratch1 : Memref Cert.GatherIdeal.sig Kind.scVector Space.vmem Cert.GatherIdeal.S512x128 EltTy.f32)

variable (m : (ℓ : Loc nD τ sig) → Buf (Elt F) ℓ) (d : Dev nD) (L : grid0.Coords)

/-! ## The slabs of a tile through its loop -/

/-- What a slab holds before trip n: the gathered array where its trip is done, else what it held. -/
def slabAt (fo : Buf (Elt F) (oLoc d)) (n : ℕ) (t : Trip) : Buf (Elt F) (oLoc d) := if t.val < n then G m d else fo

/-- The slabs of a tile before trip n. -/
def slabsAt (fo : Buf (Elt F) (oLoc d)) (n : ℕ) : sProp 𝕄 :=
  bigSep Finset.univ fun t : Trip => slabPts d L t (slabAt m d fo n t)

theorem slabsAt_zero (fo : Buf (Elt F) (oLoc d)) :
    slabsAt m d L fo 0 = (bigSep Finset.univ fun t : Trip => slabPts d L t fo : sProp 𝕄) :=
  bigSep_congr fun t _ => by unfold slabAt; rw [if_neg (Nat.not_lt_zero _)]

theorem slabsAt_last (fo : Buf (Elt F) (oLoc d)) :
    slabsAt m d L fo k0_t1_loop.trips = (bigSep Finset.univ fun t : Trip => slabPts d L t (G m d) : sProp 𝕄) :=
  bigSep_congr fun t _ => by unfold slabAt; rw [if_pos t.isLt]

/-- Before trip t its slab is as it was; the others are as they will be after it. -/
theorem slabsAt_take (fo : Buf (Elt F) (oLoc d)) (t : Trip) :
    slabsAt m d L fo t.val = (iprop(slabPts d L t fo
      ∗ bigSep (Finset.univ.erase t) fun t' : Trip => slabPts d L t' (slabAt m d fo (t.val + 1) t')) : sProp 𝕄) := by
  unfold slabsAt
  rw [SparseCore.bigSep_erase' (Finset.mem_univ t)]
  congr 1
  · unfold slabAt; rw [if_neg (Nat.lt_irrefl _)]
  · refine bigSep_congr fun t' ht' => ?_
    have hne : t'.val ≠ t.val := fun e => (Finset.mem_erase.1 ht').1 (Fin.ext e)
    have : (t'.val < t.val) ↔ (t'.val < t.val + 1) := by omega
    unfold slabAt; simp only [this]

/-- After trip t its slab is gathered. -/
theorem slabsAt_put (fo : Buf (Elt F) (oLoc d)) (t : Trip) :
    slabsAt m d L fo (t.val + 1) = (iprop(slabPts d L t (G m d)
      ∗ bigSep (Finset.univ.erase t) fun t' : Trip => slabPts d L t' (slabAt m d fo (t.val + 1) t')) : sProp 𝕄) := by
  unfold slabsAt
  rw [SparseCore.bigSep_erase' (Finset.mem_univ t)]
  congr 1
  unfold slabAt; rw [if_pos (Nat.lt_succ_self _)]

/-- The loop's invariant at trip n. -/
def inv (q : PosShare TreeShare) (O : CellTallies nD τ sig (HIx 1)) (W : Waits sig (HIx 1)) (fo : Buf (Elt F) (oLoc d)) (n : ℕ) : sProp 𝕄 :=
  iprop(levAts (K (F := F)).L (K (F := F)).lev ∗ between m d L q O W ∗ slabsAt m d L fo n)

theorem inv_step (hm : RowsOK m) (q : PosShare TreeShare) (O : CellTallies nD τ sig (HIx 1)) (W : Waits sig (HIx 1))
    (hO : ∀ g, O g none = 0) (fo : Buf (Elt F) (oLoc d)) (t : Trip) :
    inv m d L q O W fo t.val ⊢ wp frame (wpE (defs₀ (F := F)) 𝒱₀ (thr d L) none) Set.univ (trip L t)
      fun _ => inv m d L q O W fo (t.val + 1) := by
  unfold inv
  rw [slabsAt_take, slabsAt_put]
  iintro ⟨#Hlv, Hb, Ho, Hrest⟩
  iapply (wp_wand frame) $$ [Hb Ho]
  · iapply (wp_trip m d L hm q O W hO t fo)
    isplitr; · iexact Hlv
    isplitl [Hb] <;> iassumption
  iintro %u ⟨Hb, Ho⟩
  isplitr; · iexact Hlv
  isplitl [Hb]; · iexact Hb
  isplitl [Ho] <;> iassumption

/-! ## The task's own semaphores and buffers -/

theorem ownSems_tile :
    (ownSems0 (thr d L) : sProp 𝕄)
      = iprop(semVal (gatherCell d L) 0 ∗ semVal (fetchCell d L) 0 ∗ semVal (writeCell d L) 0
          ∗ bigSep ((((ownCells (thr d L)).erase (gatherCell d L)).erase (fetchCell d L)).erase (writeCell d L)) fun g => semVal g 0) := by
  unfold SparseCore.Cfg.ownSems0
  rw [SparseCore.bigSep_erase' ((mem_ownCells (g := gatherCell d L)).mpr ⟨rfl, by
      show (SemLoc.dma cc0_scratch2.sem : SemLoc sig).isScoped .scVector = true; decide⟩),
    SparseCore.bigSep_erase' (Finset.mem_erase.mpr ⟨by simp [gatherCell, fetchCell]; decide, (mem_ownCells (g := fetchCell d L)).mpr ⟨rfl, by
      show (SemLoc.dma cc0_scoped0.sem : SemLoc sig).isScoped .scVector = true; decide⟩⟩),
    SparseCore.bigSep_erase' (Finset.mem_erase.mpr ⟨by simp [fetchCell, writeCell]; decide, Finset.mem_erase.mpr ⟨by simp [gatherCell, writeCell]; decide,
      (mem_ownCells (g := writeCell d L)).mpr ⟨rfl, by show (SemLoc.dma cc0_scoped1.sem : SemLoc sig).isScoped .scVector = true; decide⟩⟩⟩)]

theorem ownBufs_tile :
    (ownBufs (thr d L) : sProp 𝕄)
      = iprop((∃ f, iLoc d L ↦{fullShare} f) ∗ (∃ f, rLoc d L ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

set_option maxHeartbeats 4000000 in
/-- The task of tile (c, s): from its resources, with its slabs at what they hold at the launch, it hands them back with
    its slabs gathered. -/
theorem wp_task [FloatOps F] (c : Fin 2) (s : Fin 16) (hm : RowsOK m) (O : CellTallies nD τ sig (HIx 1)) (W : Waits sig (HIx 1))
    (hO : ∀ g, O g none = 0) :
    iprop(levAts (K (F := F)).L (K (F := F)).lev ∗ emp ∗ tileRes m d c s (m (oLoc d))
        ∗ scopedBufs (thr d (coords c s)) ∗ scopedSems0 (thr d (coords c s)) ∗ owes (thr d (coords c s)) O W)
      ⊢ wp frame (wpE (defs₀ (F := F)) 𝒱₀ (thr d (coords c s)) none) Set.univ
          (cc0_gather_k (coords c s) tV (Memref.isWhole_whole _) xV (Memref.isWhole_whole _) oV (Memref.isWhole_whole _)
            iV (Memref.isWhole_whole _) rV (Memref.isWhole_whole _) cc0_scratch2 cc0_scoped0 cc0_scoped1)
          fun _ => iprop(tileRes m d c s (G m d)
            ∗ scopedBufs (thr d (coords c s)) ∗ scopedSems0 (thr d (coords c s))
            ∗ ∃ W', ⌜∀ p ∈ W', p ∈ W ∨ p.2 = none⌝ ∗ owes (thr d (coords c s)) O W') := by
  simp only [cc0_gather_k_eq_skeleton]; unfold cc0_gather_k_skel
  rw [(K (F := F)).scopedBufs_V launchFacts d (cV (coords c s)) (jV (coords c s)),
    SparseCore.Cfg.scopedSems0_V (Val := Elt F) d (cV (coords c s)) (jV (coords c s)), ownSems_tile, ownBufs_tile]
  unfold tileRes
  iintro ⟨#Hlv, -, ⟨Ht, Hx, Ho⟩, ⟨Hi, Hr, Hbufs⟩, ⟨Hgc, Hfc, Hwc, Hsems⟩, HO⟩
  ihave Ho := (Entails.of_eq (slabsAt_zero m d (coords c s) (m (oLoc d))).symm) $$ Ho
  iapply (Scf.wp_for_bind frame (wpE (defs₀ (F := F)) 𝒱₀ (thr d (coords c s)) none) Set.univ k0_t1_loop.lb k0_t1_loop.ub k0_t1_loop.st k0_t1_ok PUnit.unit _
    (fun n _ => inv m d (coords c s) (tileShare c s) O W (m (oLoc d)) n)
    (fun t acc => by rw [body_eq_trip]; exact inv_step m d (coords c s) hm (tileShare c s) O W hO (m (oLoc d)) t)) $$ [Ht Hx Ho Hi Hr Hgc Hfc Hwc HO]
  · unfold inv between
    isplitr; · iexact Hlv
    isplitr [Ho]
    · isplitl [Ht]; · iexact Ht
      isplitl [Hx]; · iexact Hx
      isplitl [Hi]; · iexact Hi
      isplitl [Hr]; · iexact Hr
      isplitl [Hgc]; · iexact Hgc
      isplitl [Hfc]; · iexact Hfc
      isplitl [Hwc]; · iexact Hwc
      iexists W
      isplitr
      · ipureintro; exact WaitsOK.refl W
      · iexact HO
    · iexact Ho
  iintro %acc Hinv
  unfold inv between
  icases Hinv with ⟨-, ⟨Ht, Hx, Hi, Hr, Hgc, Hfc, Hwc, %W', %hW', HO⟩, Ho⟩
  ihave Ho := (Entails.of_eq (slabsAt_last m d (coords c s) (m (oLoc d)))) $$ Ho
  iapply (Entails.of_eq (wp_ret _ _ _ _ _).symm)
  imodintro
  isplitl [Ht Hx Ho]
  · isplitl [Ht]; · iexact Ht
    isplitl [Hx] <;> iassumption
  isplitl [Hi Hr Hbufs]
  · isplitl [Hi]; · iexact Hi
    isplitl [Hr] <;> iassumption
  isplitl [Hgc Hfc Hwc Hsems]
  · isplitl [Hgc]; · iexact Hgc
    isplitl [Hfc]; · iexact Hfc
    isplitl [Hwc] <;> iassumption
  iexists W'
  isplitr
  · ipureintro; exact hW'
  · iexact HO

end Cert.Proof.Call.Gather

end
-- ==== Proof.Call.Run.lean ====
/-
  The run of the gather call: the split of the call's resources over SparseCores and tiles, the host's one call, and
  what the finished memory holds.
-/
module

public import proofs.«01_k».proof.Proof.Call.Task

@[expose] public section

noncomputable section

namespace Cert.Proof.Call.Gather

open Cert.GatherIdeal Cert.GatherIdeal.Gen Cert.Proof.Call.Slabs
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The obligation -/

theorem defs₀_tile (c : Fin τ.nSC) (s : Fin τ.nSub) :
    defs₀ (F := F) (.scVector c s) 0 ()
      = SparseCore.onTile hcore0 hsub0 (fun c s => cc0_gather_k (coords ⟨c.val, c.isLt⟩ ⟨s.val, s.isLt⟩)
          (Memref.whole main_arg0_scv) (Memref.isWhole_whole _) (Memref.whole main_arg1_scv) (Memref.isWhole_whole _)
          (Memref.whole main_v0_scv) (Memref.isWhole_whole _) (Memref.whole cc0_scratch0) (Memref.isWhole_whole _)
          (Memref.whole cc0_scratch1) (Memref.isWhole_whole _) cc0_scratch2 cc0_scoped0 cc0_scoped1) ⟨⟩ c s := rfl

/-- The waits of a task, in the form the obligation states them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task takes what it is handed to what it hands back. -/
theorem tileObl (hm : RowsOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (wp_task m d (Fin.cast nCore_eq c) (Fin.cast nSub_eq i) hm O W hO).trans (wp_mono frame _ _ fun _ => obl_post)

/-- A SparseCore's resources are its tiles', at the call and after it. -/
theorem vecSplit : (K (F := F)).VecSplit' (P m) 0 := by
  intro d c
  show coreRes m d (Fin.cast nCore_eq c) (m (oLoc d)) ⊢ |={Set.univ}=> iprop(
      (bigSep Finset.univ fun i : Fin ((K (F := F)).nSub 0) => tileRes m d (Fin.cast nCore_eq c) (Fin.cast nSub_eq i) (m (oLoc d)))
      ∗ ((bigSep Finset.univ fun i : Fin ((K (F := F)).nSub 0) => tileRes m d (Fin.cast nCore_eq c) (Fin.cast nSub_eq i) (G m d))
          -∗ coreRes m d (Fin.cast nCore_eq c) (G m d)))
  rw [coreRes_tiles, coreRes_tiles]
  iintro H; imodintro
  isplitl [H]; · iexact H
  iintro H; iexact H

/-! ## The launch element of the ghost state -/

def u₀ : UU := (initOf (K (F := F)).hsCells (K (F := F)).hsToks, 1)

/-- It opens to the handshakes' part; the transfers' part is allocated where they are. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const Finset.univ)
  have hd : (bigSep Finset.univ fun _ : Dev nD => iprop(emp)) = (iprop(emp) : sProp 𝕄) := bigSep_emp_const Finset.univ
  rw [hx, hd]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main -/

theorem unscopedBufs_eq (d : Dev nD) (W : (b : Ref sig .tc) → Buf (Elt F) ((d.tc : Thread nD τ).loc b)) :
    (unscopedBufs d W : sProp 𝕄) = iprop((tLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The three arrays at the finish: the table and the list as launched, the result gathered. -/
abbrev FIN (d : Dev nD) : sProp 𝕄 :=
  iprop((tLoc d ↦{fullShare} m (tLoc d)) ∗ (xLoc d ↦{fullShare} m (xLoc d)) ∗ (oLoc d ↦{fullShare} G m d))

theorem st_eq (d : Dev nD) : (bigSep Finset.univ fun c : Fin ((K (F := F)).nCore 0) => (P m).st 0 d c)
    = iprop((tLoc d ↦{fullShare} m (tLoc d)) ∗ (xLoc d ↦{fullShare} m (xLoc d)) ∗ (oLoc d ↦{fullShare} m (oLoc d))) :=
  (whole_cores m d (m (oLoc d))).symm
theorem dn_eq (d : Dev nD) : (bigSep Finset.univ fun c : Fin ((K (F := F)).nCore 0) => (P m).dn 0 d c) = FIN m d :=
  (whole_cores m d (G m d)).symm

/-- The host's one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hio, Hts, -⟩, -⟩
  iapply ((K (F := F)).wp_run (D (F := F)) 𝒱 (EH := EH) (P := P m) κ d 0) $$ [Hst Hio Hb Hts]
  isplitr; · iexact Hctx
  isplitl [Hst]; · iexact Hst
  isplitl [Hio]
  · rw [st_eq]; iexact Hio
  iintro ⟨Hst, Hdn⟩
  ihave Hdn := (Entails.of_eq (dn_eq m d)) $$ Hdn
  imodintro
  isplitl [Hst]; · iexact Hst
  isplitl [Hdn]; · iexact Hdn
  isplitl [Hb] <;> iassumption

/-- What the finished memory of a device holds. -/
def finished (d : Dev nD) (s' : Phys nD τ sig (Elt F)) : Prop :=
  s'.mem.mem (tLoc d) = m (tLoc d) ∧ s'.mem.mem (xLoc d) = m (xLoc d) ∧ s'.mem.mem (oLoc d) = G m d

set_option maxRecDepth 16384 in
theorem hfin (d : Dev nD) (s' : Phys nD τ sig (Elt F)) : iprop(FIN m d ∗ SI s') ⊢ (⌜finished m d s'⌝ : sProp 𝕄) := by
  iintro ⟨⟨Ht, Hx, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- What a finished run leaves: the table and the list as launched, the result gathered, every semaphore at zero. -/
def Post : PUnit × MemSt nD τ sig (Elt F) → Prop := fun r =>
  (∀ c : Dev nD, r.2.mem (tLoc c) = m (tLoc c) ∧ r.2.mem (xLoc c) = m (xLoc c) ∧ r.2.mem (oLoc c) = G m c) ∧ r.2.sem = fun _ => 0

/-- The gather call, run from a memory whose list names rows of the table, gathers them. -/
theorem run_main [∀ e, Nonempty (Elt F e)] (hm : RowsOK m) :
    θ_run (Cert.GatherIdeal.defs (F := F)) (Cert.GatherIdeal.threads (F := F)) ⟨m, fun _ => 0, ρ⟩ (Post m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m hm)
    (fun q _ => match q with | 0 => SparseCore.Cfg.VecSplit.of_plain (vecSplit m))
    m ρ main (fun _ => iprop(emp)) (FIN m) (u₀ (F := F)) (sep_elim_left.trans (hu₀ m)) (hmain m ρ) (finished m) (hfin m) (Post m) (fun _ h hz => ⟨h, hz⟩)

end Cert.Proof.Call.Gather

end
-- ==== Proof.Call.Rows.lean ====
/-
  The reference, `table[idx]`: nine host operations in a straight line.  Its result, where every word of the list is a
  row of the table, is the array the tiles gather.
-/
module

public import proofs.«01_k».proof.Defs
public import Idealize.ShloMosaic.Lib.StableHlo.Run
public import Idealize.ShloMosaic.Lib.Quiescent
public import Idealize.ShloMosaic.Lib.Tactic
public import proofs.«01_k».proof.Proof.Gen.RowsIdeal
public import proofs.«01_k».proof.Proof.Gen.Pre_rows_in_table
public import proofs.«01_k».proof.Proof.Call.Slabs

@[expose] public section

noncomputable section

namespace Cert.Proof.Call.Rows

open Cert.RowsIdeal Cert.RowsIdeal.Gen
open Idealize.ShloMosaic Idealize.ShloMosaic.TcCoe Idealize.ShloMosaic.StableHlo Idealize.SL.Sem

variable {F : FTy → Type} [FloatOps F]

/-! ## The run -/

/-- The reference's operations, in order. -/
abbrev ops : List (HloOp τ sig (Elt F)) :=
  [ nullary main_c (constantI S_ 32 0#32),
    unary main_c main_v0 (broadcastInDim S262144 ![] bcast_S_S262144),
    binary main_arg1 main_v0 main_v1 (cmpi .slt),
    nullary main_c_0 (constantI S_ 32 16384#32),
    unary main_c_0 main_v2 (broadcastInDim S262144 ![] bcast_S_S262144),
    binary main_arg1 main_v2 main_v3 addi,
    ternary main_v1 main_v3 main_arg1 main_v4 select,
    unary main_v4 main_v5 (broadcastInDim S262144x1 ![0] bcast_S262144_S262144x1_0),
    binary main_arg0 main_v5 main_v6 (fun x i => Host.gather gather_S16384x128_S262144x1_S262144x128_1_0_n_n_0_1_1128 x i) ]

/-- What the reference leaves in its result, of the table and the list. -/
def value (tb : S16384x128.Idx → Elt F .f32) (ix : S262144.Idx → BitVec 32) : S262144x128.Idx → Elt F .f32 :=
  Host.gather gather_S16384x128_S262144x1_S262144x128_1_0_n_n_0_1_1128 tb
    (broadcastInDim S262144x1 ![0] bcast_S262144_S262144x1_0
      (select (cmpi .slt ix (broadcastInDim S262144 ![] bcast_S_S262144 (constantI S_ 32 0#32)))
        (addi ix (broadcastInDim S262144 ![] bcast_S_S262144 (constantI S_ 32 16384#32))) ix))

theorem main_eq (c : Dev nD) : main (F := F) c = seq ops := rfl

theorem result_eq (V : Valuation τ sig (Elt F)) :
    after ops V (main_v6 : DevRef τ sig) = value (V (main_arg0 : DevRef τ sig)) (V (main_arg1 : DevRef τ sig)) := by
  after_results_simp
  rfl

theorem table_eq (V : Valuation τ sig (Elt F)) :
    after ops V (main_arg0 : DevRef τ sig) = V (main_arg0 : DevRef τ sig) := by
  simp only [after_cons, after_nil]
  rfl

theorem list_eq (V : Valuation τ sig (Elt F)) :
    after ops V (main_arg1 : DevRef τ sig) = V (main_arg1 : DevRef τ sig) := by
  simp only [after_cons, after_nil]
  rfl

theorem ops_sub : (ops : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub ..⟩

/-- The reference ends with `value` of its arguments in its result, its arguments as they were, and no counter raised. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v6)
            = value (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono
    (fun r h => ⟨fun c => ⟨(h c main_v6).trans (result_eq _), (h c main_arg0).trans (table_eq _),
      (h c main_arg1).trans (list_eq _)⟩, sem_eq_zero_of_no_sems (by decide) r.2⟩)
    (run_seq (by decide) (by decide) defs main (fun _ => ops) main_eq (fun _ => ops_sub) m ρ)

/-! ## The value -/

/-- Position (r, 0) of the column of starts. -/
def startIx (r : Fin 262144) : S262144x1.Idx := fun a => match a with | ⟨0, _⟩ => r | ⟨1, _⟩ => (0 : Fin 1)

local notation "gd" => gather_S16384x128_S262144x1_S262144x128_1_0_n_n_0_1_1128

/-- The gather along rows: position (r, k) of the result is column k of the table's row at start r, read signed and
    clamped to the table. -/
theorem gather_rows {α : Type} (tb : S16384x128.Idx → α) (st : IVec S262144x1 32) (y : S262144x128.Idx) :
    Host.gather gd tb st y
      = tb (Slabs.tableIx ⟨min (st (startIx (y 0))).toInt.toNat 16383, by omega⟩ (y 1)) := by
  unfold Host.gather
  refine congrArg tb (funext fun a => Fin.ext ?_)
  show (gd).start y st a + (gd).batchCoord y a + (gd).offCoord y a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (gd).startIndexMap from List.mem_singleton.mpr rfl)]
    have hs : (gd).siIdx y ⟨List.idxOf (0 : Fin 2) (gd).startIndexMap,
        List.idxOf_lt_length_iff.2 (List.mem_singleton.mpr rfl)⟩ = startIx (y 0) := by
      funext b
      match b with
      | ⟨0, _⟩ => rfl
      | ⟨1, _⟩ => exact Subsingleton.elim (α := Fin 1) _ _
    rw [hs]
    rfl
  · have h0 : (gd).start y st 1 = 0 := by
      unfold GatherDims.start
      rw [dif_neg (show ¬ (1 : Fin 2) ∈ (gd).startIndexMap from fun h => by cases List.mem_singleton.mp h)]
    rw [h0, Nat.zero_add]
    rfl

/-- A word below the table's height is non-negative, so the reference leaves it as it is and clamps nothing. -/
theorem start_of_row (w : BitVec 32) (h : w.toNat < 16384) :
    (if IntOp.cmpi .slt w 0#32 = 1#1 then IntOp.addi w 16384#32 else w) = w ∧ w.toInt.toNat = w.toNat := by
  have hi : w.toInt = w.toNat := by rw [BitVec.toInt_eq_toNat_cond]; split <;> omega
  refine ⟨if_neg ?_, by omega⟩
  have hs : w.slt 0#32 = false := by
    rw [BitVec.slt_eq_decide, decide_eq_false_iff_not, hi]; simp
  simp only [IntOp.cmpi, hs]
  decide

/-- The column of starts holds the list. -/
theorem column_start (x : S262144.Idx → BitVec 32) (r : Fin 262144) :
    broadcastInDim S262144x1 ![0] bcast_S262144_S262144x1_0 x (startIx r) = x (Slabs.listIx r) :=
  congrArg x (funext fun a => by
    match a with
    | ⟨0, _⟩ => rfl)

/-- Where every word of the list is a row of the table, the reference's result is the gathered array. -/
theorem value_eq (tb : S16384x128.Idx → Elt F .f32) (ix : S262144.Idx → BitVec 32) (h : ∀ j, (ix j).toNat < 16384) :
    value tb ix = Slabs.gath tb ix := by
  funext y
  refine (gather_rows _ _ y).trans ?_
  have hw := h (Slabs.listIx (y 0))
  obtain ⟨h1, h2⟩ := start_of_row _ hw
  have hst : (broadcastInDim S262144x1 ![0] bcast_S262144_S262144x1_0
      (select (cmpi .slt ix (broadcastInDim S262144 ![] bcast_S_S262144 (constantI S_ 32 0#32)))
        (addi ix (broadcastInDim S262144 ![] bcast_S_S262144 (constantI S_ 32 16384#32))) ix) : IVec S262144x1 32)
        (startIx (y 0)) = ix (Slabs.listIx (y 0)) := by
    refine Eq.trans ?_ h1
    exact column_start _ _
  refine congrArg (fun r => tb (Slabs.tableIx r (y 1))) (Fin.ext ?_)
  refine (congrArg (fun w : BitVec 32 => min w.toInt.toNat 16383) hst).trans ?_
  show min (ix (Slabs.listIx (y 0))).toInt.toNat 16383 = (ix (Slabs.listIx (y 0))).toNat % 16384
  rw [h2, Nat.mod_eq_of_lt hw]
  omega

end Cert.Proof.Call.Rows

end
-- ==== Proof.Heads.Block.lean ====
/-
  What one grid point of the heads' kernel computes, row by row of its block: the payloads read at an index are the sums of
  Proof/Heads/Row.lean.
-/
module

public import proofs.«01_k».proof.Proof.Heads.Row

@[expose] public section

set_option maxRecDepth 16384

noncomputable section

namespace Cert.Proof.Heads

open Cert.NetworkIdeal Cert.NetworkIdeal.Gen
open Idealize.ShloMosaic

variable (a0 : FVec Ideal S128x16x128 .f32) (a1 : FVec Ideal S128x128 .f32) (a2 : FVec Ideal S128x3 .f32)
  (a3 : FVec Ideal S128x128 .f32) (a4 a5 : FVec Ideal S128x3 .f32)
  (a6 : FVec Ideal S10x64 .f32) (a7 a8 a9 : FVec Ideal S64 .f32) (a10 : FVec Ideal S64x64 .f32) (a11 a12 a13 a14 : FVec Ideal S64 .f32)
  (a15 : FVec Ideal S64x64 .f32) (a16 : FVec Ideal S64 .f32) (a17 : FVec Ideal S128x32 .f32) (a18 : FVec Ideal S32 .f32)
  (a19 : FVec Ideal S1x32 .f32) (a20 : FVec Ideal S1 .f32) (a21 : FVec Ideal S256x128 .f32) (a22 a23 a24 : FVec Ideal S128 .f32)

local notation "WW" => weights a6 a7 a8 a9 a10 a11 a12 a13 a14 a15 a16 a17 a18 a19 a20 a21 a22 a23 a24
local notation "PP" => point a0 a1 a2 a3 a4 a5

theorem pay4_apply (r : Fin 128) (k : Fin 16) : k0_pay4 (F := Ideal) a0 a2 (ix2 r k) = rel (PP r) k 0 := by
  pointwise [k0_pay4, k0_pay3]; rfl
theorem pay5_apply (r : Fin 128) (k : Fin 16) : k0_pay5 (F := Ideal) a0 a2 (ix2 r k) = rel (PP r) k 1 := by
  pointwise [k0_pay5, k0_pay3]; rfl
theorem pay6_apply (r : Fin 128) (k : Fin 16) : k0_pay6 (F := Ideal) a0 a2 (ix2 r k) = rel (PP r) k 2 := by
  pointwise [k0_pay6, k0_pay3]; rfl

/-- The mean distance. -/
theorem pay7_apply (r : Fin 128) : k0_pay7 (F := Ideal) a0 a2 (ix2 r 0)
    = mean c16 fun k => Ideal.sqrt ((∑ c, rel (PP r) k c * rel (PP r) k c) + tiny) := by
  pointwise [k0_pay7]
  simp only [pay4_apply a0 a1 a2 a3 a4 a5, pay5_apply a0 a1 a2 a3 a4 a5, pay6_apply a0 a1 a2 a3 a4 a5, mean, Fin.sum_univ_three]
/-- The mean positions. -/
theorem pay8_apply (r : Fin 128) : k0_pay8 (F := Ideal) a0 a2 (ix2 r 0) = mean c16 fun k => rel (PP r) k 0 := by
  pointwise [k0_pay8]
  simp only [pay4_apply a0 a1 a2 a3 a4 a5, mean]
theorem pay9_apply (r : Fin 128) : k0_pay9 (F := Ideal) a0 a2 (ix2 r 0) = mean c16 fun k => rel (PP r) k 1 := by
  pointwise [k0_pay9]
  simp only [pay5_apply a0 a1 a2 a3 a4 a5, mean]
theorem pay10_apply (r : Fin 128) : k0_pay10 (F := Ideal) a0 a2 (ix2 r 0) = mean c16 fun k => rel (PP r) k 2 := by
  pointwise [k0_pay10]
  simp only [pay6_apply a0 a1 a2 a3 a4 a5, mean]

/-- The ten geometric features side by side. -/
theorem geo_apply (r : Fin 128) (j : Fin 10) :
    concatenate S128x10 1 [⟨S128x3, a4⟩, ⟨S128x3, a5⟩, ⟨S128x1, k0_pay8 (F := Ideal) a0 a2⟩, ⟨S128x1, k0_pay9 (F := Ideal) a0 a2⟩,
      ⟨S128x1, k0_pay10 (F := Ideal) a0 a2⟩, ⟨S128x1, k0_pay7 (F := Ideal) a0 a2⟩]
      concatenates_S128x3_S128x3_S128x1_S128x1_S128x1_S128x1_S128x10_d1 (ix2 r j) = geo (PP r) j := by
  pointwise
  unfold geo
  fin_vals j with hj
  all_goals simp only [hj, Nat.reduceSub, Nat.reduceLT, ↓reduceDIte]
  · rfl
  · rfl
  · rfl
  · rfl
  · rfl
  · rfl
  · exact pay8_apply a0 a1 a2 a3 a4 a5 r
  · exact pay9_apply a0 a1 a2 a3 a4 a5 r
  · exact pay10_apply a0 a1 a2 a3 a4 a5 r
  · exact pay7_apply a0 a1 a2 a3 a4 a5 r

/-- The geometric branch. -/
theorem pay13_apply (r : Fin 128) (j : Fin 64) :
    k0_pay13 (F := Ideal) (k0_pay11 (k0_pay7 a0 a2) (k0_pay8 a0 a2) (k0_pay9 a0 a2) (k0_pay10 a0 a2) a4 a5 a6 a7 a8 a9 a10) (k0_pay12 a11) (ix2 r j)
      = geoOut WW (PP r) j := by
  have hX := geo_apply a0 a1 a2 a3 a4 a5 r
  unfold k0_pay11
  dsimp only
  generalize concatenate S128x10 1 _ _ = X at hX ⊢
  pointwise [k0_pay13, k0_pay12]
  simp only [hX]
  rfl

/-- The branch of differences. -/
theorem pay14_apply (r : Fin 128) (j : Fin 64) :
    k0_pay14 (F := Ideal) a0 (k0_pay2 a1) a12 a13 a14 a15 a16 (ix2 r j) = diffOut WW (PP r) j := by
  pointwise [k0_pay14, k0_pay2]
  rfl

/-- Both side by side. -/
theorem pay15_apply (x y : FVec Ideal S128x64 .f32) (r : Fin 128) (hx : ∀ j, x (ix2 r j) = geoOut WW (PP r) j)
    (hy : ∀ j, y (ix2 r j) = diffOut WW (PP r) j) (j : Fin 128) : k0_pay15 (F := Ideal) x y (ix2 r j) = both WW (PP r) j := by
  pointwise [k0_pay15]
  simp only [hx, hy, both]

/-- The edge probability. -/
theorem pay16_apply (x y : FVec Ideal S128x64 .f32) (r : Fin 128) (hx : ∀ j, x (ix2 r j) = geoOut WW (PP r) j)
    (hy : ∀ j, y (ix2 r j) = diffOut WW (PP r) j) : k0_pay16 (F := Ideal) x y a17 a18 a19 a20 (ix2 r 0) = edge WW (PP r) := by
  have hb := pay15_apply a0 a1 a2 a3 a4 a5 a6 a7 a8 a9 a10 a11 a12 a13 a14 a15 a16 a17 a18 a19 a20 a21 a22 a23 a24 x y r hx hy
  pointwise [k0_pay16]
  simp only [hb]
  rfl

/-- The last linear layer. -/
theorem pay17_apply (x y : FVec Ideal S128x64 .f32) (r : Fin 128) (hx : ∀ j, x (ix2 r j) = geoOut WW (PP r) j)
    (hy : ∀ j, y (ix2 r j) = diffOut WW (PP r) j) (j : Fin 128) :
    k0_pay17 (F := Ideal) a3 x y a21 a22 (ix2 r j) = lin (joined WW (PP r)) (WW).rfW (WW).rfB j := by
  have hb := pay15_apply a0 a1 a2 a3 a4 a5 a6 a7 a8 a9 a10 a11 a12 a13 a14 a15 a16 a17 a18 a19 a20 a21 a22 a23 a24 x y r hx hy
  have hX : ∀ j, concatenate S128x256 1 [⟨S128x128, a3⟩, ⟨S128x128, k0_pay15 (F := Ideal) x y⟩] concatenates_S128x128_S128x128_S128x256_d1 (ix2 r j)
      = joined WW (PP r) j := fun j => by
    pointwise
    simp only [hb]
    rfl
  unfold k0_pay17
  generalize concatenate S128x256 1 _ _ = X at hX ⊢
  pointwise
  simp only [hX]
  rfl

/-- The refined features. -/
theorem pay1_apply (x y : FVec Ideal S128x64 .f32) (e : FVec Ideal S128x1 .f32) (r : Fin 128) (hx : ∀ j, x (ix2 r j) = geoOut WW (PP r) j)
    (hy : ∀ j, y (ix2 r j) = diffOut WW (PP r) j) (he : e (ix2 r 0) = edge WW (PP r)) (j : Fin 128) :
    k0_pay1 (F := Ideal) a3 e a23 a24 (k0_pay19 a3 x y a21 a22) (k0_pay20 a3 x y a21 a22) (ix2 r j) = refined WW (PP r) j := by
  have hl := pay17_apply a0 a1 a2 a3 a4 a5 a6 a7 a8 a9 a10 a11 a12 a13 a14 a15 a16 a17 a18 a19 a20 a21 a22 a23 a24 x y r hx hy
  pointwise [k0_pay1, k0_pay19, k0_pay20, k0_pay18]
  simp only [hl, he]
  rfl

end Cert.Proof.Heads

end
-- ==== Proof.Heads.Array.lean ====
/-
  The arrays the heads' kernel leaves: every block of 128 rows is written once, at its own grid point, with the sums of
  Proof/Heads/Row.lean of the arguments' rows.
-/
module

public import proofs.«01_k».proof.Proof.Heads.Block
public import proofs.«01_k».proof.Proof.Heads.Reference
public import proofs.«01_k».proof.Proof.Gen.NetworkIdeal.Frame
public import Idealize.ShloMosaic.Lib.Pipeline.ValueKit

@[expose] public section

set_option maxRecDepth 16384

noncomputable section

namespace Cert.Proof.Heads

open Cert.NetworkIdeal Cert.NetworkIdeal.Gen
open Idealize.ShloMosaic Idealize.ShloMosaic.TcCoe Idealize.SL.Sem
open Idealize.ShloMosaic.Pipeline (Dat)

section

variable (a0 : FVec Ideal S128x16x128 .f32) (a1 : FVec Ideal S128x128 .f32) (a2 : FVec Ideal S128x3 .f32)
  (a3 : FVec Ideal S128x128 .f32) (a4 a5 : FVec Ideal S128x3 .f32)
  (a6 : FVec Ideal S10x64 .f32) (a7 a8 a9 : FVec Ideal S64 .f32) (a10 : FVec Ideal S64x64 .f32) (a11 a12 a13 a14 : FVec Ideal S64 .f32)
  (a15 : FVec Ideal S64x64 .f32) (a16 : FVec Ideal S64 .f32) (a17 : FVec Ideal S128x32 .f32) (a18 : FVec Ideal S32 .f32)
  (a19 : FVec Ideal S1x32 .f32) (a20 : FVec Ideal S1 .f32) (a21 : FVec Ideal S256x128 .f32) (a22 a23 a24 : FVec Ideal S128 .f32)

local notation "WW" => weights a6 a7 a8 a9 a10 a11 a12 a13 a14 a15 a16 a17 a18 a19 a20 a21 a22 a23 a24
local notation "PP" => point a0 a1 a2 a3 a4 a5

/-- The words of the generated run are these. -/
theorem pay21_apply (r : Fin 128) (j : Fin 64) : k0_pay21 (F := Ideal) a0 a1 a2 a3 a4 a5 a6 a7 a8 a9 a10 a11 a12 a13 a14 a15 a16 a17 a18 a19 a20 a21 a22 a23 a24 (ix2 r j) = geoOut WW (PP r) j := by
  unfold k0_pay21
  frame_out
  exact pay13_apply a0 a1 a2 a3 a4 a5 a6 a7 a8 a9 a10 a11 a12 a13 a14 a15 a16 a17 a18 a19 a20 a21 a22 a23 a24 r j
theorem pay22_apply (r : Fin 128) (j : Fin 64) : k0_pay22 (F := Ideal) a0 a1 a2 a3 a4 a5 a6 a7 a8 a9 a10 a11 a12 a13 a14 a15 a16 a17 a18 a19 a20 a21 a22 a23 a24 (ix2 r j) = diffOut WW (PP r) j := by
  unfold k0_pay22
  frame_out
  exact pay14_apply a0 a1 a2 a3 a4 a5 a6 a7 a8 a9 a10 a11 a12 a13 a14 a15 a16 a17 a18 a19 a20 a21 a22 a23 a24 r j
theorem pay23_apply (r : Fin 128) : k0_pay23 (F := Ideal) a0 a1 a2 a3 a4 a5 a6 a7 a8 a9 a10 a11 a12 a13 a14 a15 a16 a17 a18 a19 a20 a21 a22 a23 a24 (ix2 r 0) = edge WW (PP r) := by
  unfold k0_pay23
  frame_out
  exact pay16_apply a0 a1 a2 a3 a4 a5 a6 a7 a8 a9 a10 a11 a12 a13 a14 a15 a16 a17 a18 a19 a20 a21 a22 a23 a24 _ _ r
    (pay21_apply a0 a1 a2 a3 a4 a5 a6 a7 a8 a9 a10 a11 a12 a13 a14 a15 a16 a17 a18 a19 a20 a21 a22 a23 a24 r) (pay22_apply a0 a1 a2 a3 a4 a5 a6 a7 a8 a9 a10 a11 a12 a13 a14 a15 a16 a17 a18 a19 a20 a21 a22 a23 a24 r)

/-- The block of refined features. -/
theorem block_refined (r : Fin 128) (j : Fin 128) :
    k0_pay1 (F := Ideal) a3 (k0_pay23 a0 a1 a2 a3 a4 a5 a6 a7 a8 a9 a10 a11 a12 a13 a14 a15 a16 a17 a18 a19 a20 a21 a22 a23 a24) a23 a24
      (k0_pay19 a3 (k0_pay21 a0 a1 a2 a3 a4 a5 a6 a7 a8 a9 a10 a11 a12 a13 a14 a15 a16 a17 a18 a19 a20 a21 a22 a23 a24) (k0_pay22 a0 a1 a2 a3 a4 a5 a6 a7 a8 a9 a10 a11 a12 a13 a14 a15 a16 a17 a18 a19 a20 a21 a22 a23 a24) a21 a22)
      (k0_pay20 a3 (k0_pay21 a0 a1 a2 a3 a4 a5 a6 a7 a8 a9 a10 a11 a12 a13 a14 a15 a16 a17 a18 a19 a20 a21 a22 a23 a24) (k0_pay22 a0 a1 a2 a3 a4 a5 a6 a7 a8 a9 a10 a11 a12 a13 a14 a15 a16 a17 a18 a19 a20 a21 a22 a23 a24) a21 a22) (ix2 r j) = refined WW (PP r) j :=
  pay1_apply a0 a1 a2 a3 a4 a5 a6 a7 a8 a9 a10 a11 a12 a13 a14 a15 a16 a17 a18 a19 a20 a21 a22 a23 a24 _ _ _ r
    (pay21_apply a0 a1 a2 a3 a4 a5 a6 a7 a8 a9 a10 a11 a12 a13 a14 a15 a16 a17 a18 a19 a20 a21 a22 a23 a24 r) (pay22_apply a0 a1 a2 a3 a4 a5 a6 a7 a8 a9 a10 a11 a12 a13 a14 a15 a16 a17 a18 a19 a20 a21 a22 a23 a24 r) (pay23_apply a0 a1 a2 a3 a4 a5 a6 a7 a8 a9 a10 a11 a12 a13 a14 a15 a16 a17 a18 a19 a20 a21 a22 a23 a24 r) j

end

variable (m : (ℓ : Loc nD τ sig) → Buf (Elt Ideal) ℓ)

/-- Row `r` of the block of grid point `t`. -/
def rowAt (t : Fin cfg0.N) (r : Fin 128) : Fin 16384 := ⟨t.val * 128 + r.val, by have : t.val < 128 := t.isLt; omega⟩

theorem idx_0 : ∀ t : Fin cfg0.N, win0_0.index t = ![t.val, 0, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0] := (by decide +kernel : ∀ t : Fin grid0.N, _)
theorem idx_8 : ∀ t : Fin cfg0.N, win0_8.index t = ![0] := (by decide +kernel : ∀ t : Fin grid0.N, _)
theorem idx_9 : ∀ t : Fin cfg0.N, win0_9.index t = ![0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0] := (by decide +kernel : ∀ t : Fin grid0.N, _)
theorem idx_12 : ∀ t : Fin cfg0.N, win0_12.index t = ![0] := (by decide +kernel : ∀ t : Fin grid0.N, _)
theorem idx_13 : ∀ t : Fin cfg0.N, win0_13.index t = ![0] := (by decide +kernel : ∀ t : Fin grid0.N, _)
theorem idx_14 : ∀ t : Fin cfg0.N, win0_14.index t = ![0] := (by decide +kernel : ∀ t : Fin grid0.N, _)
theorem idx_15 : ∀ t : Fin cfg0.N, win0_15.index t = ![0, 0] := (by decide +kernel : ∀ t : Fin grid0.N, _)
theorem idx_16 : ∀ t : Fin cfg0.N, win0_16.index t = ![0] := (by decide +kernel : ∀ t : Fin grid0.N, _)
theorem idx_17 : ∀ t : Fin cfg0.N, win0_17.index t = ![0, 0] := (by decide +kernel : ∀ t : Fin grid0.N, _)
theorem idx_18 : ∀ t : Fin cfg0.N, win0_18.index t = ![0] := (by decide +kernel : ∀ t : Fin grid0.N, _)
theorem idx_19 : ∀ t : Fin cfg0.N, win0_19.index t = ![0, 0] := (by decide +kernel : ∀ t : Fin grid0.N, _)
theorem idx_20 : ∀ t : Fin cfg0.N, win0_20.index t = ![0] := (by decide +kernel : ∀ t : Fin grid0.N, _)
theorem idx_21 : ∀ t : Fin cfg0.N, win0_21.index t = ![0, 0] := (by decide +kernel : ∀ t : Fin grid0.N, _)
theorem idx_22 : ∀ t : Fin cfg0.N, win0_22.index t = ![0] := (by decide +kernel : ∀ t : Fin grid0.N, _)
theorem idx_23 : ∀ t : Fin cfg0.N, win0_23.index t = ![0] := (by decide +kernel : ∀ t : Fin grid0.N, _)
theorem idx_24 : ∀ t : Fin cfg0.N, win0_24.index t = ![0] := (by decide +kernel : ∀ t : Fin grid0.N, _)
theorem idx_25 : ∀ t : Fin cfg0.N, win0_25.index t = ![t.val, 0] := (by decide +kernel : ∀ t : Fin grid0.N, _)
theorem idx_26 : ∀ t : Fin cfg0.N, win0_26.index t = ![t.val, 0] := (by decide +kernel : ∀ t : Fin grid0.N, _)

/-- The weights and the point of a row, of the kernel's arguments. -/
abbrev kWeights (c : Dev nD) : Weights := weights (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))
abbrev kPoint (c : Dev nD) (r : Fin 16384) : Point := point (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r

/-- The blocks of the arguments. -/
theorem blk_0 (c : Dev nD) (t : Fin cfg0.N) (r : Fin 128) (k : Fin 16) (j : Fin 128) :
    (iblk m c 0 t : S128x16x128.Idx → EReal) (ix3 r k j) = (m ((c : Thread nD τ).loc main_arg0) : S16384x16x128.Idx → EReal) (ix3 (rowAt t r) k j) := by
  blk_ext [iblk, V, idx_0 t]
  rfl
theorem blk_1 (c : Dev nD) (t : Fin cfg0.N) (r : Fin 128) (j : Fin 128) :
    (iblk m c 1 t : S128x128.Idx → EReal) (ix2 r j) = (m ((c : Thread nD τ).loc main_arg1) : S16384x128.Idx → EReal) (ix2 (rowAt t r) j) := by
  blk_ext [iblk, V, idx_1 t]
  rfl
theorem blk_2 (c : Dev nD) (t : Fin cfg0.N) (r : Fin 128) (j : Fin 3) :
    (iblk m c 2 t : S128x3.Idx → EReal) (ix2 r j) = (m ((c : Thread nD τ).loc main_arg2) : S16384x3.Idx → EReal) (ix2 (rowAt t r) j) := by
  blk_ext [iblk, V, idx_2 t]
  rfl
theorem blk_3 (c : Dev nD) (t : Fin cfg0.N) (r : Fin 128) (j : Fin 128) :
    (iblk m c 3 t : S128x128.Idx → EReal) (ix2 r j) = (m ((c : Thread nD τ).loc main_arg3) : S16384x128.Idx → EReal) (ix2 (rowAt t r) j) := by
  blk_ext [iblk, V, idx_3 t]
  rfl
theorem blk_4 (c : Dev nD) (t : Fin cfg0.N) (r : Fin 128) (j : Fin 3) :
    (iblk m c 4 t : S128x3.Idx → EReal) (ix2 r j) = (m ((c : Thread nD τ).loc main_arg4) : S16384x3.Idx → EReal) (ix2 (rowAt t r) j) := by
  blk_ext [iblk, V, idx_4 t]
  rfl
theorem blk_5 (c : Dev nD) (t : Fin cfg0.N) (r : Fin 128) (j : Fin 3) :
    (iblk m c 5 t : S128x3.Idx → EReal) (ix2 r j) = (m ((c : Thread nD τ).loc main_arg5) : S16384x3.Idx → EReal) (ix2 (rowAt t r) j) := by
  blk_ext [iblk, V, idx_5 t]
  rfl
theorem blk_6 (c : Dev nD) (t : Fin cfg0.N) : (iblk m c 6 t : S10x64.Idx → EReal) = (m ((c : Thread nD τ).loc main_arg6) : S10x64.Idx → EReal) := by
  funext y
  blk_ext [iblk, V, idx_6 t]
theorem blk_7 (c : Dev nD) (t : Fin cfg0.N) : (iblk m c 7 t : S64.Idx → EReal) = (m ((c : Thread nD τ).loc main_arg7) : S64.Idx → EReal) := by
  funext y
  blk_ext [iblk, V, idx_7 t]
theorem blk_8 (c : Dev nD) (t : Fin cfg0.N) : (iblk m c 8 t : S64.Idx → EReal) = (m ((c : Thread nD τ).loc main_arg8) : S64.Idx → EReal) := by
  funext y
  blk_ext [iblk, V, idx_8 t]
theorem blk_9 (c : Dev nD) (t : Fin cfg0.N) : (iblk m c 9 t : S64.Idx → EReal) = (m ((c : Thread nD τ).loc main_arg9) : S64.Idx → EReal) := by
  funext y
  blk_ext [iblk, V, idx_9 t]
theorem blk_10 (c : Dev nD) (t : Fin cfg0.N) : (iblk m c 10 t : S64x64.Idx → EReal) = (m ((c : Thread nD τ).loc main_arg10) : S64x64.Idx → EReal) := by
  funext y
  blk_ext [iblk, V, idx_10 t]
theorem blk_11 (c : Dev nD) (t : Fin cfg0.N) : (iblk m c 11 t : S64.Idx → EReal) = (m ((c : Thread nD τ).loc main_arg11) : S64.Idx → EReal) := by
  funext y
  blk_ext [iblk, V, idx_11 t]
theorem blk_12 (c : Dev nD) (t : Fin cfg0.N) : (iblk m c 12 t : S64.Idx → EReal) = (m ((c : Thread nD τ).loc main_arg12) : S64.Idx → EReal) := by
  funext y
  blk_ext [iblk, V, idx_12 t]
theorem blk_13 (c : Dev nD) (t : Fin cfg0.N) : (iblk m c 13 t : S64.Idx → EReal) = (m ((c : Thread nD τ).loc main_arg13) : S64.Idx → EReal) := by
  funext y
  blk_ext [iblk, V, idx_13 t]
theorem blk_14 (c : Dev nD) (t : Fin cfg0.N) : (iblk m c 14 t : S64.Idx → EReal) = (m ((c : Thread nD τ).loc main_arg14) : S64.Idx → EReal) := by
  funext y
  blk_ext [iblk, V, idx_14 t]
theorem blk_15 (c : Dev nD) (t : Fin cfg0.N) : (iblk m c 15 t : S64x64.Idx → EReal) = (m ((c : Thread nD τ).loc main_arg15) : S64x64.Idx → EReal) := by
  funext y
  blk_ext [iblk, V, idx_15 t]
theorem blk_16 (c : Dev nD) (t : Fin cfg0.N) : (iblk m c 16 t : S64.Idx → EReal) = (m ((c : Thread nD τ).loc main_arg16) : S64.Idx → EReal) := by
  funext y
  blk_ext [iblk, V, idx_16 t]
theorem blk_17 (c : Dev nD) (t : Fin cfg0.N) : (iblk m c 17 t : S128x32.Idx → EReal) = (m ((c : Thread nD τ).loc main_arg17) : S128x32.Idx → EReal) := by
  funext y
  blk_ext [iblk, V, idx_17 t]
theorem blk_18 (c : Dev nD) (t : Fin cfg0.N) : (iblk m c 18 t : S32.Idx → EReal) = (m ((c : Thread nD τ).loc main_arg18) : S32.Idx → EReal) := by
  funext y
  blk_ext [iblk, V, idx_18 t]
theorem blk_19 (c : Dev nD) (t : Fin cfg0.N) : (iblk m c 19 t : S1x32.Idx → EReal) = (m ((c : Thread nD τ).loc main_arg19) : S1x32.Idx → EReal) := by
  funext y
  blk_ext [iblk, V, idx_19 t]
theorem blk_20 (c : Dev nD) (t : Fin cfg0.N) : (iblk m c 20 t : S1.Idx → EReal) = (m ((c : Thread nD τ).loc main_arg20) : S1.Idx → EReal) := by
  funext y
  blk_ext [iblk, V, idx_20 t]
theorem blk_21 (c : Dev nD) (t : Fin cfg0.N) : (iblk m c 21 t : S256x128.Idx → EReal) = (m ((c : Thread nD τ).loc main_arg21) : S256x128.Idx → EReal) := by
  funext y
  blk_ext [iblk, V, idx_21 t]
theorem blk_22 (c : Dev nD) (t : Fin cfg0.N) : (iblk m c 22 t : S128.Idx → EReal) = (m ((c : Thread nD τ).loc main_arg22) : S128.Idx → EReal) := by
  funext y
  blk_ext [iblk, V, idx_22 t]
theorem blk_23 (c : Dev nD) (t : Fin cfg0.N) : (iblk m c 23 t : S128.Idx → EReal) = (m ((c : Thread nD τ).loc main_arg23) : S128.Idx → EReal) := by
  funext y
  blk_ext [iblk, V, idx_23 t]
theorem blk_24 (c : Dev nD) (t : Fin cfg0.N) : (iblk m c 24 t : S128.Idx → EReal) = (m ((c : Thread nD τ).loc main_arg24) : S128.Idx → EReal) := by
  funext y
  blk_ext [iblk, V, idx_24 t]

/-- The point of a block's row is the point of the array's row. -/
theorem point_blk (c : Dev nD) (t : Fin cfg0.N) (r : Fin 128) :
    point (iblk m c 0 t) (iblk m c 1 t) (iblk m c 2 t) (iblk m c 3 t) (iblk m c 4 t) (iblk m c 5 t) r = kPoint m c (rowAt t r) := by
  have e0 := fun k j => blk_0 m c t r k j
  have e1 := fun j => blk_1 m c t r j
  have e2 := fun j => blk_2 m c t r j
  have e3 := fun j => blk_3 m c t r j
  have e4 := fun j => blk_4 m c t r j
  have e5 := fun j => blk_5 m c t r j
  exact Point.ext (funext fun k => funext fun j => e0 k j) (funext e1) (funext e2) (funext e3) (funext e4) (funext e5)

/-- The weights of a block are the arrays. -/
theorem weights_blk (c : Dev nD) (t : Fin cfg0.N) : weights (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) = kWeights m c := by
  unfold kWeights
  rw [← blk_6 m c t, ← blk_7 m c t, ← blk_8 m c t, ← blk_9 m c t, ← blk_10 m c t, ← blk_11 m c t, ← blk_12 m c t, ← blk_13 m c t, ← blk_14 m c t, ← blk_15 m c t, ← blk_16 m c t, ← blk_17 m c t, ← blk_18 m c t, ← blk_19 m c t, ← blk_20 m c t, ← blk_21 m c t, ← blk_22 m c t, ← blk_23 m c t, ← blk_24 m c t]

/-- Where a block's element lies. -/
theorem emb_25 (t : Fin cfg0.N) (r : Fin 128) (j : Fin 128) : (((cfg0.win 25).blk t).view.emb (ix2 r j : S128x128.Idx) : S16384x128.Idx) = ix2 (rowAt t r) j := by
  blk_ext [idx_25 t]
  rfl
theorem emb_26 (t : Fin cfg0.N) (r : Fin 128) (j : Fin 1) : (((cfg0.win 26).blk t).view.emb (ix2 r j : S128x1.Idx) : S16384x1.Idx) = ix2 (rowAt t r) j := by
  blk_ext [idx_26 t]
  rfl

/-- Both results after the run. -/
theorem edge_arr (c : Dev nD) : (dats m 0 c).arrAt 26 cfg0.N = edgeArr (kWeights m c) (kPoint m c) := by
  refine (dats m 0 c).arrAt_eq_of_covers 26 _ (by decide +kernel) fun t hf y => ?_
  rw [after0_26]
  frame_out
  obtain ⟨r, j, rfl⟩ : ∃ (r : Fin 128) (j : Fin 1), (y : S128x1.Idx) = ix2 r j := ⟨_, _, ValueIdx.eq_ix2 y⟩
  obtain rfl : j = 0 := Subsingleton.elim _ _
  refine Eq.trans ?_ (congrArg (edgeArr (kWeights m c) (kPoint m c)) (emb_26 t r 0)).symm
  refine (pay23_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) r).trans ?_
  rw [point_blk, weights_blk]
  rfl

theorem refined_arr (c : Dev nD) : (dats m 0 c).arrAt 25 cfg0.N = refinedArr (kWeights m c) (kPoint m c) := by
  refine (dats m 0 c).arrAt_eq_of_covers 25 _ (by decide +kernel) fun t hf y => ?_
  rw [after0_25]
  frame_out
  obtain ⟨r, j, rfl⟩ : ∃ (r : Fin 128) (j : Fin 128), (y : S128x128.Idx) = ix2 r j := ⟨_, _, ValueIdx.eq_ix2 y⟩
  refine Eq.trans ?_ (congrArg (refinedArr (kWeights m c) (kPoint m c)) (emb_25 t r j)).symm
  refine (block_refined (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) r j).trans ?_
  rw [point_blk, weights_blk]
  rfl

theorem post_25 (r : PUnit × MemSt nD τ sig (Elt Ideal)) (h : Pipeline.FramePost cfgs (dats m) 0 (V m) r) (c : Dev nD) :
    r.2.mem ((c.tc : Thread nD τ).loc main_v0_0) = refinedArr (kWeights m c) (kPoint m c) :=
  ((h c).1 25).trans (refined_arr m c)
theorem post_26 (r : PUnit × MemSt nD τ sig (Elt Ideal)) (h : Pipeline.FramePost cfgs (dats m) 0 (V m) r) (c : Dev nD) :
    r.2.mem ((c.tc : Thread nD τ).loc main_v0_1) = edgeArr (kWeights m c) (kPoint m c) :=
  ((h c).1 26).trans (edge_arr m c)

/-- The arguments after the run. -/
theorem kept_0 (r : PUnit × MemSt nD τ sig (Elt Ideal)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
theorem kept_1 (r : PUnit × MemSt nD τ sig (Elt Ideal)) (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
theorem kept_2 (r : PUnit × MemSt nD τ sig (Elt Ideal)) (h : Pipeline.FramePost cfgs (dats m) 0 (V m) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))
theorem kept_3 (r : PUnit × MemSt nD τ sig (Elt Ideal)) (h : Pipeline.FramePost cfgs (dats m) 0 (V m) r) (c : Dev nD) :
    r.2.mem ((c.tc : Thread nD τ).loc main_arg3) = m ((c.tc : Thread nD τ).loc main_arg3) :=
  ((h c).1 3).trans (((dats m 0 c).arrAt_in 3 rfl _).trans ((A_eq m c 3).trans (V_main_arg3 m c)))
theorem kept_4 (r : PUnit × MemSt nD τ sig (Elt Ideal)) (h : Pipeline.FramePost cfgs (dats m) 0 (V m) r) (c : Dev nD) :
    r.2.mem ((c.tc : Thread nD τ).loc main_arg4) = m ((c.tc : Thread nD τ).loc main_arg4) :=
  ((h c).1 4).trans (((dats m 0 c).arrAt_in 4 rfl _).trans ((A_eq m c 4).trans (V_main_arg4 m c)))
theorem kept_5 (r : PUnit × MemSt nD τ sig (Elt Ideal)) (h : Pipeline.FramePost cfgs (dats m) 0 (V m) r) (c : Dev nD) :
    r.2.mem ((c.tc : Thread nD τ).loc main_arg5) = m ((c.tc : Thread nD τ).loc main_arg5) :=
  ((h c).1 5).trans (((dats m 0 c).arrAt_in 5 rfl _).trans ((A_eq m c 5).trans (V_main_arg5 m c)))
theorem kept_6 (r : PUnit × MemSt nD τ sig (Elt Ideal)) (h : Pipeline.FramePost cfgs (dats m) 0 (V m) r) (c : Dev nD) :
    r.2.mem ((c.tc : Thread nD τ).loc main_arg6) = m ((c.tc : Thread nD τ).loc main_arg6) :=
  ((h c).1 6).trans (((dats m 0 c).arrAt_in 6 rfl _).trans ((A_eq m c 6).trans (V_main_arg6 m c)))
theorem kept_7 (r : PUnit × MemSt nD τ sig (Elt Ideal)) (h : Pipeline.FramePost cfgs (dats m) 0 (V m) r) (c : Dev nD) :
    r.2.mem ((c.tc : Thread nD τ).loc main_arg7) = m ((c.tc : Thread nD τ).loc main_arg7) :=
  ((h c).1 7).trans (((dats m 0 c).arrAt_in 7 rfl _).trans ((A_eq m c 7).trans (V_main_arg7 m c)))
theorem kept_8 (r : PUnit × MemSt nD τ sig (Elt Ideal)) (h : Pipeline.FramePost cfgs (dats m) 0 (V m) r) (c : Dev nD) :
    r.2.mem ((c.tc : Thread nD τ).loc main_arg8) = m ((c.tc : Thread nD τ).loc main_arg8) :=
  ((h c).1 8).trans (((dats m 0 c).arrAt_in 8 rfl _).trans ((A_eq m c 8).trans (V_main_arg8 m c)))
theorem kept_9 (r : PUnit × MemSt nD τ sig (Elt Ideal)) (h : Pipeline.FramePost cfgs (dats m) 0 (V m) r) (c : Dev nD) :
    r.2.mem ((c.tc : Thread nD τ).loc main_arg9) = m ((c.tc : Thread nD τ).loc main_arg9) :=
  ((h c).1 9).trans (((dats m 0 c).arrAt_in 9 rfl _).trans ((A_eq m c 9).trans (V_main_arg9 m c)))
theorem kept_10 (r : PUnit × MemSt nD τ sig (Elt Ideal)) (h : Pipeline.FramePost cfgs (dats m) 0 (V m) r) (c : Dev nD) :
    r.2.mem ((c.tc : Thread nD τ).loc main_arg10) = m ((c.tc : Thread nD τ).loc main_arg10) :=
  ((h c).1 10).trans (((dats m 0 c).arrAt_in 10 rfl _).trans ((A_eq m c 10).trans (V_main_arg10 m c)))
theorem kept_11 (r : PUnit × MemSt nD τ sig (Elt Ideal)) (h : Pipeline.FramePost cfgs (dats m) 0 (V m) r) (c : Dev nD) :
    r.2.mem ((c.tc : Thread nD τ).loc main_arg11) = m ((c.tc : Thread nD τ).loc main_arg11) :=
  ((h c).1 11).trans (((dats m 0 c).arrAt_in 11 rfl _).trans ((A_eq m c 11).trans (V_main_arg11 m c)))
theorem kept_12 (r : PUnit × MemSt nD τ sig (Elt Ideal)) (h : Pipeline.FramePost cfgs (dats m) 0 (V m) r) (c : Dev nD) :
    r.2.mem ((c.tc : Thread nD τ).loc main_arg12) = m ((c.tc : Thread nD τ).loc main_arg12) :=
  ((h c).1 12).trans (((dats m 0 c).arrAt_in 12 rfl _).trans ((A_eq m c 12).trans (V_main_arg12 m c)))
theorem kept_13 (r : PUnit × MemSt nD τ sig (Elt Ideal)) (h : Pipeline.FramePost cfgs (dats m) 0 (V m) r) (c : Dev nD) :
    r.2.mem ((c.tc : Thread nD τ).loc main_arg13) = m ((c.tc : Thread nD τ).loc main_arg13) :=
  ((h c).1 13).trans (((dats m 0 c).arrAt_in 13 rfl _).trans ((A_eq m c 13).trans (V_main_arg13 m c)))
theorem kept_14 (r : PUnit × MemSt nD τ sig (Elt Ideal)) (h : Pipeline.FramePost cfgs (dats m) 0 (V m) r) (c : Dev nD) :
    r.2.mem ((c.tc : Thread nD τ).loc main_arg14) = m ((c.tc : Thread nD τ).loc main_arg14) :=
  ((h c).1 14).trans (((dats m 0 c).arrAt_in 14 rfl _).trans ((A_eq m c 14).trans (V_main_arg14 m c)))
theorem kept_15 (r : PUnit × MemSt nD τ sig (Elt Ideal)) (h : Pipeline.FramePost cfgs (dats m) 0 (V m) r) (c : Dev nD) :
    r.2.mem ((c.tc : Thread nD τ).loc main_arg15) = m ((c.tc : Thread nD τ).loc main_arg15) :=
  ((h c).1 15).trans (((dats m 0 c).arrAt_in 15 rfl _).trans ((A_eq m c 15).trans (V_main_arg15 m c)))
theorem kept_16 (r : PUnit × MemSt nD τ sig (Elt Ideal)) (h : Pipeline.FramePost cfgs (dats m) 0 (V m) r) (c : Dev nD) :
    r.2.mem ((c.tc : Thread nD τ).loc main_arg16) = m ((c.tc : Thread nD τ).loc main_arg16) :=
  ((h c).1 16).trans (((dats m 0 c).arrAt_in 16 rfl _).trans ((A_eq m c 16).trans (V_main_arg16 m c)))
theorem kept_17 (r : PUnit × MemSt nD τ sig (Elt Ideal)) (h : Pipeline.FramePost cfgs (dats m) 0 (V m) r) (c : Dev nD) :
    r.2.mem ((c.tc : Thread nD τ).loc main_arg17) = m ((c.tc : Thread nD τ).loc main_arg17) :=
  ((h c).1 17).trans (((dats m 0 c).arrAt_in 17 rfl _).trans ((A_eq m c 17).trans (V_main_arg17 m c)))
theorem kept_18 (r : PUnit × MemSt nD τ sig (Elt Ideal)) (h : Pipeline.FramePost cfgs (dats m) 0 (V m) r) (c : Dev nD) :
    r.2.mem ((c.tc : Thread nD τ).loc main_arg18) = m ((c.tc : Thread nD τ).loc main_arg18) :=
  ((h c).1 18).trans (((dats m 0 c).arrAt_in 18 rfl _).trans ((A_eq m c 18).trans (V_main_arg18 m c)))
theorem kept_19 (r : PUnit × MemSt nD τ sig (Elt Ideal)) (h : Pipeline.FramePost cfgs (dats m) 0 (V m) r) (c : Dev nD) :
    r.2.mem ((c.tc : Thread nD τ).loc main_arg19) = m ((c.tc : Thread nD τ).loc main_arg19) :=
  ((h c).1 19).trans (((dats m 0 c).arrAt_in 19 rfl _).trans ((A_eq m c 19).trans (V_main_arg19 m c)))
theorem kept_20 (r : PUnit × MemSt nD τ sig (Elt Ideal)) (h : Pipeline.FramePost cfgs (dats m) 0 (V m) r) (c : Dev nD) :
    r.2.mem ((c.tc : Thread nD τ).loc main_arg20) = m ((c.tc : Thread nD τ).loc main_arg20) :=
  ((h c).1 20).trans (((dats m 0 c).arrAt_in 20 rfl _).trans ((A_eq m c 20).trans (V_main_arg20 m c)))
theorem kept_21 (r : PUnit × MemSt nD τ sig (Elt Ideal)) (h : Pipeline.FramePost cfgs (dats m) 0 (V m) r) (c : Dev nD) :
    r.2.mem ((c.tc : Thread nD τ).loc main_arg21) = m ((c.tc : Thread nD τ).loc main_arg21) :=
  ((h c).1 21).trans (((dats m 0 c).arrAt_in 21 rfl _).trans ((A_eq m c 21).trans (V_main_arg21 m c)))
theorem kept_22 (r : PUnit × MemSt nD τ sig (Elt Ideal)) (h : Pipeline.FramePost cfgs (dats m) 0 (V m) r) (c : Dev nD) :
    r.2.mem ((c.tc : Thread nD τ).loc main_arg22) = m ((c.tc : Thread nD τ).loc main_arg22) :=
  ((h c).1 22).trans (((dats m 0 c).arrAt_in 22 rfl _).trans ((A_eq m c 22).trans (V_main_arg22 m c)))
theorem kept_23 (r : PUnit × MemSt nD τ sig (Elt Ideal)) (h : Pipeline.FramePost cfgs (dats m) 0 (V m) r) (c : Dev nD) :
    r.2.mem ((c.tc : Thread nD τ).loc main_arg23) = m ((c.tc : Thread nD τ).loc main_arg23) :=
  ((h c).1 23).trans (((dats m 0 c).arrAt_in 23 rfl _).trans ((A_eq m c 23).trans (V_main_arg23 m c)))
theorem kept_24 (r : PUnit × MemSt nD τ sig (Elt Ideal)) (h : Pipeline.FramePost cfgs (dats m) 0 (V m) r) (c : Dev nD) :
    r.2.mem ((c.tc : Thread nD τ).loc main_arg24) = m ((c.tc : Thread nD τ).loc main_arg24) :=
  ((h c).1 24).trans (((dats m 0 c).arrAt_in 24 rfl _).trans ((A_eq m c 24).trans (V_main_arg24 m c)))

/-- The kernel's run: the heads' arrays of the arguments, the arguments as they were. -/
theorem network_run (ρ : Dev nD → PrngReg) :
    θ_run defs (onTc (τ := τ) (main (F := Ideal))) ⟨m, fun _ => 0, ρ⟩ fun r => ∀ c : Dev nD,
      r.2.mem ((c.tc : Thread nD τ).loc main_v0_0) = refinedArr (kWeights m c) (kPoint m c)
      ∧ r.2.mem ((c.tc : Thread nD τ).loc main_v0_1) = edgeArr (kWeights m c) (kPoint m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) := by
  refine (θ_run defs _ _).mono (fun r h c => ⟨post_25 m r h c, post_26 m r h c,
    kept_0 m r h c, kept_1 m r h c, kept_2 m r h c, kept_3 m r h c, kept_4 m r h c, kept_5 m r h c, kept_6 m r h c, kept_7 m r h c, kept_8 m r h c, kept_9 m r h c, kept_10 m r h c, kept_11 m r h c, kept_12 m r h c, kept_13 m r h c, kept_14 m r h c, kept_15 m r h c, kept_16 m r h c, kept_17 m r h c, kept_18 m r h c, kept_19 m r h c, kept_20 m r h c, kept_21 m r h c, kept_22 m r h c, kept_23 m r h c, kept_24 m r h c⟩) (run_main m ρ)

end Cert.Proof.Heads

end
-- ==== Proof.lean ====
/-
  The claims (proofs.«01_k».proof.Defs).  The whole kernel: one run of its three calls (Proof/Run.lean), of which both
  results are of every point the sums of Proof/Heads/Row.lean (Proof/Whole.lean), as the reference's are where the points
  and the first weight of the differences are finite (Proof/Full.lean).  The gather call alone: one run at any
  float values (Proof/Call/Run.lean), so the frame at the device's floats, the frame at the exact ones and the value all
  come of the one theorem; its two printed programs are one text.  The network call alone: both programs leave the arrays
  of Proof/Heads/Row.lean (Proof/Heads/Array.lean, Proof/Heads/Reference.lean).
-/
module

public import proofs.«01_k».proof.Defs
public import proofs.«01_k».proof.Proof.Gen.KernelIdeal
public import proofs.«01_k».proof.Proof.Gen.ReferenceIdeal
public import proofs.«01_k».proof.Proof.Gen.Gather
public import proofs.«01_k».proof.Proof.Gen.Gather.Skeleton
public import proofs.«01_k».proof.Proof.Gen.GatherIdeal
public import proofs.«01_k».proof.Proof.Gen.RowsIdeal
public import proofs.«01_k».proof.Proof.Gen.Network
public import proofs.«01_k».proof.Proof.Gen.Network.Frame
public import proofs.«01_k».proof.Proof.Gen.NetworkIdeal
public import proofs.«01_k».proof.Proof.Gen.HeadsIdeal
public import proofs.«01_k».proof.Proof.Gen.Pre_finite
public import proofs.«01_k».proof.Proof.Gen.Pre_rows_in_table
public import proofs.«01_k».proof.Proof.Value
public import proofs.«01_k».proof.Proof.Full
public import proofs.«01_k».proof.Proof.Whole
public import proofs.«01_k».proof.Proof.Call.Run
public import proofs.«01_k».proof.Proof.Call.Rows
public import proofs.«01_k».proof.Proof.Heads.Array

@[expose] public section

noncomputable section

namespace Cert.Proof

open Idealize.ShloMosaic Idealize.SL.Sem

/-! ## What the list's precondition says -/

theorem andi_ofBool (p q : Bool) : IntOp.andi (BitVec.ofBool p) (BitVec.ofBool q) = BitVec.ofBool (p && q) := by
  cases p <;> cases q <;> rfl

theorem ofBool_one (p : Bool) : BitVec.ofBool p = 1#1 ↔ p = true := by cases p <;> decide

/-- A word that is at least zero and below 16384, both read signed, is below 16384 read unsigned. -/
theorem row_of_bounds (w : BitVec 32)
    (h : IntOp.andi (IntOp.cmpi .sge w 0#32) (IntOp.cmpi .slt w 16384#32) = 1#1) : w.toNat < 16384 := by
  simp only [IntOp.cmpi, andi_ofBool, ofBool_one, Bool.and_eq_true, BitVec.sle_eq_decide, BitVec.slt_eq_decide,
    decide_eq_true_eq, BitVec.toInt_eq_toNat_cond, BitVec.toNat_ofNat, Nat.reducePow, Nat.reduceMod] at h
  omega

/-- Where `rows_in_table` holds of a table and a list, every word of the list is a row of the table. -/
theorem rows_of_pre {F : FTy → Type} [FloatOps F] (tb : Cert.Pre_rows_in_table.S16384x128.Idx → Elt F .f32)
    (ix : Cert.Pre_rows_in_table.S262144.Idx → BitVec 32)
    (h : Cert.Pre_rows_in_table.fn (F := F) tb ix = fun _ => 1#1) (j : Cert.Pre_rows_in_table.S262144.Idx) :
    (ix j).toNat < 16384 := by
  have e := congrFun h j
  simp only [Cert.Pre_rows_in_table.fn, andi, cmpi, broadcastInDim, constantI] at e
  exact row_of_bounds _ e

/-! ## The whole kernel -/

/-- What the kernel's run leaves in its arguments. -/
theorem kernel_args (m : (ℓ : Loc Cert.KernelIdeal.nD Cert.KernelIdeal.τ Cert.KernelIdeal.sig) → Buf (Elt Ideal) ℓ)
    (s : (ℓ : Loc Cert.KernelIdeal.nD Cert.KernelIdeal.τ Cert.KernelIdeal.sig) → Buf (Elt Ideal) ℓ) (c : Dev Cert.KernelIdeal.nD)
    (h : ∀ b : Ref Cert.KernelIdeal.sig .tc, ¬ b.isScoped → s ((c.tc : Thread Cert.KernelIdeal.nD Cert.KernelIdeal.τ).loc b) = Gather.V14 m c (Proc.devRef .tc b))
    (b : Ref Cert.KernelIdeal.sig .tc) (hb : ¬ b.isScoped) (ha : Gather.IsArg b) :
    s ((c.tc : Thread Cert.KernelIdeal.nD Cert.KernelIdeal.τ).loc b) = m ((c.tc : Thread Cert.KernelIdeal.nD Cert.KernelIdeal.τ).loc b) :=
  (h b hb).trans (Gather.V14_arg m c b ha)

/-- The kernel's frame, at the exact floats, of any arguments. -/
theorem frame_kernel : Cert.quiescent_KernelIdeal := fun m ρ _ => by
  refine (θ_run Cert.KernelIdeal.defs _ _).mono (fun r h => ⟨fun c => ?_, h.2⟩) (Gather.run_main (F := Ideal) m ρ (Value.rows_ok m))
  have k := kernel_args m r.2.mem c (h.1 c)
  exact ⟨k Cert.KernelIdeal.main_arg0 (by decide) (by decide),
    k Cert.KernelIdeal.main_arg1 (by decide) (by decide),
    k Cert.KernelIdeal.main_arg2 (by decide) (by decide),
    k Cert.KernelIdeal.main_arg3 (by decide) (by decide),
    k Cert.KernelIdeal.main_arg4 (by decide) (by decide),
    k Cert.KernelIdeal.main_arg5 (by decide) (by decide),
    k Cert.KernelIdeal.main_arg6 (by decide) (by decide),
    k Cert.KernelIdeal.main_arg7 (by decide) (by decide),
    k Cert.KernelIdeal.main_arg8 (by decide) (by decide),
    k Cert.KernelIdeal.main_arg9 (by decide) (by decide),
    k Cert.KernelIdeal.main_arg10 (by decide) (by decide),
    k Cert.KernelIdeal.main_arg11 (by decide) (by decide),
    k Cert.KernelIdeal.main_arg12 (by decide) (by decide),
    k Cert.KernelIdeal.main_arg13 (by decide) (by decide),
    k Cert.KernelIdeal.main_arg14 (by decide) (by decide),
    k Cert.KernelIdeal.main_arg15 (by decide) (by decide),
    k Cert.KernelIdeal.main_arg16 (by decide) (by decide),
    k Cert.KernelIdeal.main_arg17 (by decide) (by decide),
    k Cert.KernelIdeal.main_arg18 (by decide) (by decide),
    k Cert.KernelIdeal.main_arg19 (by decide) (by decide),
    k Cert.KernelIdeal.main_arg20 (by decide) (by decide),
    k Cert.KernelIdeal.main_arg21 (by decide) (by decide),
    k Cert.KernelIdeal.main_arg22 (by decide) (by decide),
    k Cert.KernelIdeal.main_arg23 (by decide) (by decide)⟩

/-- The kernel's frame, where the points and the weight are finite. -/
theorem frame_kernel_pre : Cert.quiescent_KernelIdeal_pre_finite := fun m ρ _ => frame_kernel m ρ trivial

/-- The reference's frame, of any arguments. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The reference's frame, where the points and the weight are finite. -/
theorem frame_reference_pre : Cert.quiescent_ReferenceIdeal_pre_finite := fun m ρ _ => frame_reference m ρ trivial

/-- The kernel and the reference leave the same two arrays, where the points and the weight are finite. -/
theorem algebraic : Cert.algebraic_KernelIdeal_ReferenceIdeal_pre_finite := by
  intro m ρ m' ρ' hpre hagree
  refine ⟨fun c => Value.refinedAll (Value.kW m c) (Value.kP m c), fun c => Value.edgeAll (Value.kW m c) (Value.kP m c), ?_, ?_⟩
  · refine (θ_run Cert.KernelIdeal.defs _ _).mono (fun r h c => ?_) (Gather.run_main (F := Ideal) m ρ (Value.rows_ok m))
    have k := kernel_args m r.2.mem c (h.1 c)
    exact ⟨(h.1 c Cert.KernelIdeal.main_v12 (by decide)).trans (Value.refined_eq m c), (h.1 c Cert.KernelIdeal.main_v13 (by decide)).trans (Value.edge_eq m c),
    k Cert.KernelIdeal.main_arg0 (by decide) (by decide),
    k Cert.KernelIdeal.main_arg1 (by decide) (by decide),
    k Cert.KernelIdeal.main_arg2 (by decide) (by decide),
    k Cert.KernelIdeal.main_arg3 (by decide) (by decide),
    k Cert.KernelIdeal.main_arg4 (by decide) (by decide),
    k Cert.KernelIdeal.main_arg5 (by decide) (by decide),
    k Cert.KernelIdeal.main_arg6 (by decide) (by decide),
    k Cert.KernelIdeal.main_arg7 (by decide) (by decide),
    k Cert.KernelIdeal.main_arg8 (by decide) (by decide),
    k Cert.KernelIdeal.main_arg9 (by decide) (by decide),
    k Cert.KernelIdeal.main_arg10 (by decide) (by decide),
    k Cert.KernelIdeal.main_arg11 (by decide) (by decide),
    k Cert.KernelIdeal.main_arg12 (by decide) (by decide),
    k Cert.KernelIdeal.main_arg13 (by decide) (by decide),
    k Cert.KernelIdeal.main_arg14 (by decide) (by decide),
    k Cert.KernelIdeal.main_arg15 (by decide) (by decide),
    k Cert.KernelIdeal.main_arg16 (by decide) (by decide),
    k Cert.KernelIdeal.main_arg17 (by decide) (by decide),
    k Cert.KernelIdeal.main_arg18 (by decide) (by decide),
    k Cert.KernelIdeal.main_arg19 (by decide) (by decide),
    k Cert.KernelIdeal.main_arg20 (by decide) (by decide),
    k Cert.KernelIdeal.main_arg21 (by decide) (by decide),
    k Cert.KernelIdeal.main_arg22 (by decide) (by decide),
    k Cert.KernelIdeal.main_arg23 (by decide) (by decide)⟩
  · have e : ∀ c, Full.rW (StableHlo.launchContents m' c) = Value.kW m c ∧ Full.rP (StableHlo.launchContents m' c) = Value.kP m c := fun c => by
      obtain ⟨e0, e1, e2, e3, e4, e5, e6, e7, e8, e9, e10, e11, e12, e13, e14, e15, e16, e17, e18, e19, e20, e21, e22, e23⟩ := hagree c
      unfold Value.kW Value.kP
      rw [← e0, ← e1, ← e2, ← e3, ← e4, ← e5, ← e6, ← e7, ← e8, ← e9, ← e10, ← e11, ← e12, ← e13, ← e14, ← e15, ← e16, ← e17, ← e18, ← e19, ← e20, ← e21, ← e22, ← e23]
      exact ⟨rfl, rfl⟩
    have hf : ∀ c, Full.Real (StableHlo.launchContents m' c) := fun c => by
      have hp := hpre c
      obtain ⟨e0, e1, e2, e3, e4, e5, e6, e7, e8, e9, e10, e11, e12, e13, e14, e15, e16, e17, e18, e19, e20, e21, e22, e23⟩ := hagree c
      obtain ⟨h0, h10⟩ := TopK.finite_of_pre _ _ _ _ _ _ _ _ _ _ _ _ _ _ _ _ _ _ _ _ _ _ _ _ hp
      rw [← e0] at h0
      rw [← e10] at h10
      exact ⟨h0, h10⟩
    refine (θ_run Cert.ReferenceIdeal.defs _ _).mono (fun _ h c => ⟨(h c).1.trans ?_, (h c).2.1.trans ?_, (h c).2.2⟩) (Full.reference_run m' ρ' hf)
    · rw [(e c).1, (e c).2]
    · rw [(e c).1, (e c).2]

/-! ## The gather call alone -/

/-- The gather call's frame, at the device's floats. -/
theorem frame_gather : Cert.quiescent_Gather := fun m ρ hpre =>
  (θ_run Cert.GatherIdeal.defs _ _).mono (fun _ h => ⟨fun c => ⟨(h.1 c).1, (h.1 c).2.1⟩, h.2⟩)
    (Call.Gather.run_main (F := Bits) m ρ fun d => rows_of_pre _ _ (hpre d))

/-- The gather call's frame, at the exact floats. -/
theorem frame_gather_ideal : Cert.quiescent_GatherIdeal := fun m ρ hpre =>
  (θ_run Cert.GatherIdeal.defs _ _).mono (fun _ h => ⟨fun c => ⟨(h.1 c).1, (h.1 c).2.1⟩, h.2⟩)
    (Call.Gather.run_main (F := Ideal) m ρ fun d => rows_of_pre _ _ (hpre d))

/-- The frame of its reference, of any arguments. -/
theorem frame_rows : Cert.quiescent_RowsIdeal := fun m ρ _ =>
  (θ_run Cert.RowsIdeal.defs _ _).mono (fun _ h => ⟨fun c => (h.1 c).2, h.2⟩) (Call.Rows.run_main (F := Ideal) m ρ)

/-- The frame of its reference, where the list is in range. -/
theorem frame_rows_pre : Cert.quiescent_RowsIdeal_pre_rows_in_table := fun m ρ _ => frame_rows m ρ trivial

/-- The gather call and its reference leave the same array: both the gathered one. -/
theorem algebraic_gather : Cert.algebraic_GatherIdeal_RowsIdeal := by
  intro m ρ m' ρ' hpre hagree
  refine ⟨fun c => Call.Gather.G m c, ?_, ?_⟩
  · exact (θ_run Cert.GatherIdeal.defs _ _).mono (fun _ h c => ⟨(h.1 c).2.2, (h.1 c).1, (h.1 c).2.1⟩)
      (Call.Gather.run_main (F := Ideal) m ρ fun d => rows_of_pre _ _ (hpre d))
  · refine (θ_run Cert.RowsIdeal.defs _ _).mono
      (fun _ h c => ⟨(h.1 c).1.trans ?_, (h.1 c).2.1, (h.1 c).2.2⟩) (Call.Rows.run_main (F := Ideal) m' ρ')
    rw [(hagree c).1, (hagree c).2]
    exact Call.Rows.value_eq _ _ (rows_of_pre _ _ (hpre c))

/-! ## The heads of the network call -/

/-- The frames of the heads and of their reference. -/
theorem frame_network : Cert.quiescent_Network := fun m ρ _ => Cert.Network.Gen.frame m ρ
theorem frame_network_ideal : Cert.quiescent_NetworkIdeal := fun m ρ _ => Cert.NetworkIdeal.Gen.frame m ρ
theorem frame_heads : Cert.quiescent_HeadsIdeal := fun m ρ _ =>
  (θ_run Cert.HeadsIdeal.defs _ _).mono (fun r h => ⟨fun c => (h c).2.2, sem_eq_zero_of_no_sems (by decide) r.2⟩)
    (Heads.reference_run m ρ)

/-- The heads and their reference leave the same two arrays. -/
theorem algebraic_heads : Cert.algebraic_NetworkIdeal_HeadsIdeal := by
  intro m ρ m' ρ' hpre hagree
  refine ⟨fun c => Heads.refinedArr (Heads.kWeights m c) (Heads.kPoint m c),
    fun c => Heads.edgeArr (Heads.kWeights m c) (Heads.kPoint m c), Heads.network_run m ρ, ?_⟩
  refine (θ_run Cert.HeadsIdeal.defs _ _).mono (fun _ h c => ⟨(h c).1.trans ?_, (h c).2.1.trans ?_, (h c).2.2⟩)
    (Heads.reference_run m' ρ')
  all_goals
    obtain ⟨e0, e1, e2, e3, e4, e5, e6, e7, e8, e9, e10, e11, e12, e13, e14, e15, e16, e17, e18, e19, e20, e21, e22, e23, e24⟩ := hagree c
  · show Heads.refinedArr (Heads.weights (m' ((c.tc : Thread Cert.HeadsIdeal.nD Cert.HeadsIdeal.τ).loc Cert.HeadsIdeal.main_arg6)) (m' ((c.tc : Thread Cert.HeadsIdeal.nD Cert.HeadsIdeal.τ).loc Cert.HeadsIdeal.main_arg7)) (m' ((c.tc : Thread Cert.HeadsIdeal.nD Cert.HeadsIdeal.τ).loc Cert.HeadsIdeal.main_arg8)) (m' ((c.tc : Thread Cert.HeadsIdeal.nD Cert.HeadsIdeal.τ).loc Cert.HeadsIdeal.main_arg9)) (m' ((c.tc : Thread Cert.HeadsIdeal.nD Cert.HeadsIdeal.τ).loc Cert.HeadsIdeal.main_arg10)) (m' ((c.tc : Thread Cert.HeadsIdeal.nD Cert.HeadsIdeal.τ).loc Cert.HeadsIdeal.main_arg11)) (m' ((c.tc : Thread Cert.HeadsIdeal.nD Cert.HeadsIdeal.τ).loc Cert.HeadsIdeal.main_arg12)) (m' ((c.tc : Thread Cert.HeadsIdeal.nD Cert.HeadsIdeal.τ).loc Cert.HeadsIdeal.main_arg13)) (m' ((c.tc : Thread Cert.HeadsIdeal.nD Cert.HeadsIdeal.τ).loc Cert.HeadsIdeal.main_arg14)) (m' ((c.tc : Thread Cert.HeadsIdeal.nD Cert.HeadsIdeal.τ).loc Cert.HeadsIdeal.main_arg15)) (m' ((c.tc : Thread Cert.HeadsIdeal.nD Cert.HeadsIdeal.τ).loc Cert.HeadsIdeal.main_arg16)) (m' ((c.tc : Thread Cert.HeadsIdeal.nD Cert.HeadsIdeal.τ).loc Cert.HeadsIdeal.main_arg17)) (m' ((c.tc : Thread Cert.HeadsIdeal.nD Cert.HeadsIdeal.τ).loc Cert.HeadsIdeal.main_arg18)) (m' ((c.tc : Thread Cert.HeadsIdeal.nD Cert.HeadsIdeal.τ).loc Cert.HeadsIdeal.main_arg19)) (m' ((c.tc : Thread Cert.HeadsIdeal.nD Cert.HeadsIdeal.τ).loc Cert.HeadsIdeal.main_arg20)) (m' ((c.tc : Thread Cert.HeadsIdeal.nD Cert.HeadsIdeal.τ).loc Cert.HeadsIdeal.main_arg21)) (m' ((c.tc : Thread Cert.HeadsIdeal.nD Cert.HeadsIdeal.τ).loc Cert.HeadsIdeal.main_arg22)) (m' ((c.tc : Thread Cert.HeadsIdeal.nD Cert.HeadsIdeal.τ).loc Cert.HeadsIdeal.main_arg23)) (m' ((c.tc : Thread Cert.HeadsIdeal.nD Cert.HeadsIdeal.τ).loc Cert.HeadsIdeal.main_arg24))) (Heads.point (m' ((c.tc : Thread Cert.HeadsIdeal.nD Cert.HeadsIdeal.τ).loc Cert.HeadsIdeal.main_arg0)) (m' ((c.tc : Thread Cert.HeadsIdeal.nD Cert.HeadsIdeal.τ).loc Cert.HeadsIdeal.main_arg1)) (m' ((c.tc : Thread Cert.HeadsIdeal.nD Cert.HeadsIdeal.τ).loc Cert.HeadsIdeal.main_arg2)) (m' ((c.tc : Thread Cert.HeadsIdeal.nD Cert.HeadsIdeal.τ).loc Cert.HeadsIdeal.main_arg3)) (m' ((c.tc : Thread Cert.HeadsIdeal.nD Cert.HeadsIdeal.τ).loc Cert.HeadsIdeal.main_arg4)) (m' ((c.tc : Thread Cert.HeadsIdeal.nD Cert.HeadsIdeal.τ).loc Cert.HeadsIdeal.main_arg5))) = _
    rw [e0, e1, e2, e3, e4, e5, e6, e7, e8, e9, e10, e11, e12, e13, e14, e15, e16, e17, e18, e19, e20, e21, e22, e23, e24]
  · show Heads.edgeArr (Heads.weights (m' ((c.tc : Thread Cert.HeadsIdeal.nD Cert.HeadsIdeal.τ).loc Cert.HeadsIdeal.main_arg6)) (m' ((c.tc : Thread Cert.HeadsIdeal.nD Cert.HeadsIdeal.τ).loc Cert.HeadsIdeal.main_arg7)) (m' ((c.tc : Thread Cert.HeadsIdeal.nD Cert.HeadsIdeal.τ).loc Cert.HeadsIdeal.main_arg8)) (m' ((c.tc : Thread Cert.HeadsIdeal.nD Cert.HeadsIdeal.τ).loc Cert.HeadsIdeal.main_arg9)) (m' ((c.tc : Thread Cert.HeadsIdeal.nD Cert.HeadsIdeal.τ).loc Cert.HeadsIdeal.main_arg10)) (m' ((c.tc : Thread Cert.HeadsIdeal.nD Cert.HeadsIdeal.τ).loc Cert.HeadsIdeal.main_arg11)) (m' ((c.tc : Thread Cert.HeadsIdeal.nD Cert.HeadsIdeal.τ).loc Cert.HeadsIdeal.main_arg12)) (m' ((c.tc : Thread Cert.HeadsIdeal.nD Cert.HeadsIdeal.τ).loc Cert.HeadsIdeal.main_arg13)) (m' ((c.tc : Thread Cert.HeadsIdeal.nD Cert.HeadsIdeal.τ).loc Cert.HeadsIdeal.main_arg14)) (m' ((c.tc : Thread Cert.HeadsIdeal.nD Cert.HeadsIdeal.τ).loc Cert.HeadsIdeal.main_arg15)) (m' ((c.tc : Thread Cert.HeadsIdeal.nD Cert.HeadsIdeal.τ).loc Cert.HeadsIdeal.main_arg16)) (m' ((c.tc : Thread Cert.HeadsIdeal.nD Cert.HeadsIdeal.τ).loc Cert.HeadsIdeal.main_arg17)) (m' ((c.tc : Thread Cert.HeadsIdeal.nD Cert.HeadsIdeal.τ).loc Cert.HeadsIdeal.main_arg18)) (m' ((c.tc : Thread Cert.HeadsIdeal.nD Cert.HeadsIdeal.τ).loc Cert.HeadsIdeal.main_arg19)) (m' ((c.tc : Thread Cert.HeadsIdeal.nD Cert.HeadsIdeal.τ).loc Cert.HeadsIdeal.main_arg20)) (m' ((c.tc : Thread Cert.HeadsIdeal.nD Cert.HeadsIdeal.τ).loc Cert.HeadsIdeal.main_arg21)) (m' ((c.tc : Thread Cert.HeadsIdeal.nD Cert.HeadsIdeal.τ).loc Cert.HeadsIdeal.main_arg22)) (m' ((c.tc : Thread Cert.HeadsIdeal.nD Cert.HeadsIdeal.τ).loc Cert.HeadsIdeal.main_arg23)) (m' ((c.tc : Thread Cert.HeadsIdeal.nD Cert.HeadsIdeal.τ).loc Cert.HeadsIdeal.main_arg24))) (Heads.point (m' ((c.tc : Thread Cert.HeadsIdeal.nD Cert.HeadsIdeal.τ).loc Cert.HeadsIdeal.main_arg0)) (m' ((c.tc : Thread Cert.HeadsIdeal.nD Cert.HeadsIdeal.τ).loc Cert.HeadsIdeal.main_arg1)) (m' ((c.tc : Thread Cert.HeadsIdeal.nD Cert.HeadsIdeal.τ).loc Cert.HeadsIdeal.main_arg2)) (m' ((c.tc : Thread Cert.HeadsIdeal.nD Cert.HeadsIdeal.τ).loc Cert.HeadsIdeal.main_arg3)) (m' ((c.tc : Thread Cert.HeadsIdeal.nD Cert.HeadsIdeal.τ).loc Cert.HeadsIdeal.main_arg4)) (m' ((c.tc : Thread Cert.HeadsIdeal.nD Cert.HeadsIdeal.τ).loc Cert.HeadsIdeal.main_arg5))) = _
    rw [e0, e1, e2, e3, e4, e5, e6, e7, e8, e9, e10, e11, e12, e13, e14, e15, e16, e17, e18, e19, e20, e21, e22, e23, e24]

/-- All of them. -/
theorem claim : Cert.Claim :=
  ⟨Cert.KernelIdeal.Gen.facts, Cert.ReferenceIdeal.Gen.facts, Cert.Gather.Gen.facts, Cert.GatherIdeal.Gen.facts,
    Cert.RowsIdeal.Gen.facts, Cert.Network.Gen.facts, Cert.NetworkIdeal.Gen.facts, Cert.HeadsIdeal.Gen.facts, Cert.Pre_finite.Gen.facts, Cert.Pre_rows_in_table.Gen.facts,
    frame_kernel, frame_kernel_pre, frame_reference, frame_reference_pre, frame_gather, frame_gather_ideal, frame_rows,
    frame_rows_pre, frame_network, frame_network_ideal, frame_heads, algebraic, trivial, algebraic_gather, trivial,
    algebraic_heads⟩

end Cert.Proof

end
